-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_operands [hPre_finite_operands : Cert.Pre_finite_operands.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_operands.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))).1 = (fun _ => 1#1)
    ∧ (Cert.Pre_finite_operands.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))).2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_operands [hPre_finite_operands : Cert.Pre_finite_operands.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_operands.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))).1 = (fun _ => 1#1)
    ∧ (Cert.Pre_finite_operands.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))).2 = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_finite_operands [hKernel23Ideal : Cert.Kernel23Ideal.Facts] [hPre_finite_operands : Cert.Pre_finite_operands.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_operands m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_finite_operands [hReference23Ideal : Cert.Reference23Ideal.Facts] [hPre_finite_operands : Cert.Pre_finite_operands.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_operands m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_4)) (v1 : (c : Dev Cert.Kernel6Ideal.nD) → Buf (Elt Ideal) ((c.tc : Thread Cert.Kernel6Ideal.nD Cert.Kernel6Ideal.τ).loc Cert.Kernel6Ideal.main_v5_0)) (v2 : (c : Dev Cert.Kernel6Ideal.nD) → Buf (Elt Ideal) ((c.tc : Thread Cert.Kernel6Ideal.nD Cert.Kernel6Ideal.τ).loc Cert.Kernel6Ideal.main_v5_1)) (v3 : (c : Dev Cert.Kernel6Ideal.nD) → Buf (Elt Ideal) ((c.tc : Thread Cert.Kernel6Ideal.nD Cert.Kernel6Ideal.τ).loc Cert.Kernel6Ideal.main_v5_2)) (v4 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_4) = v0 c
          ∧ r.2.mem ((c.tc : Thread Cert.Kernel6Ideal.nD Cert.Kernel6Ideal.τ).loc Cert.Kernel6Ideal.main_v5_0) = v1 c
          ∧ r.2.mem ((c.tc : Thread Cert.Kernel6Ideal.nD Cert.Kernel6Ideal.τ).loc Cert.Kernel6Ideal.main_v5_1) = v2 c
          ∧ r.2.mem ((c.tc : Thread Cert.Kernel6Ideal.nD Cert.Kernel6Ideal.τ).loc Cert.Kernel6Ideal.main_v5_2) = v3 c
          ∧ r.2.mem ((c.tc : Thread Cert.Kernel6Ideal.nD Cert.Kernel6Ideal.τ).loc Cert.Kernel6Ideal.main_v5_3) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v40) = v3 c
          ∧ r.2.mem ((c.tc : Thread Cert.Reference6Ideal.nD Cert.Reference6Ideal.τ).loc Cert.Reference6Ideal.main_v42) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_v37) = v2 c
          ∧ r.2.mem ((c.tc : Thread Cert.Reference7Ideal.nD Cert.Reference7Ideal.τ).loc Cert.Reference7Ideal.main_v39) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v35) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)) (v3 : (c : Dev Cert.Kernel12Ideal.nD) → Buf (Elt Ideal) ((c.tc : Thread Cert.Kernel12Ideal.nD Cert.Kernel12Ideal.τ).loc Cert.Kernel12Ideal.main_v8_3)) (v4 : (c : Dev Cert.Kernel12Ideal.nD) → Buf (Elt Ideal) ((c.tc : Thread Cert.Kernel12Ideal.nD Cert.Kernel12Ideal.τ).loc Cert.Kernel12Ideal.main_v8_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_v8_3) = v3 c
          ∧ r.2.mem ((c.tc : Thread Cert.Kernel12Ideal.nD Cert.Kernel12Ideal.τ).loc Cert.Kernel12Ideal.main_v8_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v29) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v51) = v2 c
          ∧ r.2.mem ((c.tc : Thread Cert.Reference12Ideal.nD Cert.Reference12Ideal.τ).loc Cert.Reference12Ideal.main_v67) = v3 c
          ∧ r.2.mem ((c.tc : Thread Cert.Reference12Ideal.nD Cert.Reference12Ideal.τ).loc Cert.Reference12Ideal.main_v68) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v35) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_v53) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v10_0)) (v1 : (c : Dev Cert.Kernel14Ideal.nD) → Buf (Elt Ideal) ((c.tc : Thread Cert.Kernel14Ideal.nD Cert.Kernel14Ideal.τ).loc Cert.Kernel14Ideal.main_v10_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_0) = v0 c
          ∧ r.2.mem ((c.tc : Thread Cert.Kernel14Ideal.nD Cert.Kernel14Ideal.τ).loc Cert.Kernel14Ideal.main_v10_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v14)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v14) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)) (v3 : (c : Dev Cert.Kernel20Ideal.nD) → Buf (Elt Ideal) ((c.tc : Thread Cert.Kernel20Ideal.nD Cert.Kernel20Ideal.τ).loc Cert.Kernel20Ideal.main_v5_3)) (v4 : (c : Dev Cert.Kernel20Ideal.nD) → Buf (Elt Ideal) ((c.tc : Thread Cert.Kernel20Ideal.nD Cert.Kernel20Ideal.τ).loc Cert.Kernel20Ideal.main_v5_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_v5_3) = v3 c
          ∧ r.2.mem ((c.tc : Thread Cert.Kernel20Ideal.nD Cert.Kernel20Ideal.τ).loc Cert.Kernel20Ideal.main_v5_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v33) = v0 c
          ∧ r.2.mem ((c.tc : Thread Cert.Reference20Ideal.nD Cert.Reference20Ideal.τ).loc Cert.Reference20Ideal.main_v41) = v1 c
          ∧ r.2.mem ((c.tc : Thread Cert.Reference20Ideal.nD Cert.Reference20Ideal.τ).loc Cert.Reference20Ideal.main_v19) = v2 c
          ∧ r.2.mem ((c.tc : Thread Cert.Reference20Ideal.nD Cert.Reference20Ideal.τ).loc Cert.Reference20Ideal.main_v43) = v3 c
          ∧ r.2.mem ((c.tc : Thread Cert.Reference20Ideal.nD Cert.Reference20Ideal.τ).loc Cert.Reference20Ideal.main_v46) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v32_0)) (v1 : (c : Dev Cert.Kernel21Ideal.nD) → Buf (Elt Ideal) ((c.tc : Thread Cert.Kernel21Ideal.nD Cert.Kernel21Ideal.τ).loc Cert.Kernel21Ideal.main_v32_1)) (v2 : (c : Dev Cert.Kernel21Ideal.nD) → Buf (Elt Ideal) ((c.tc : Thread Cert.Kernel21Ideal.nD Cert.Kernel21Ideal.τ).loc Cert.Kernel21Ideal.main_v32_2)) (v3 : (c : Dev Cert.Kernel21Ideal.nD) → Buf (Elt Ideal) ((c.tc : Thread Cert.Kernel21Ideal.nD Cert.Kernel21Ideal.τ).loc Cert.Kernel21Ideal.main_v32_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v32_0) = v0 c
          ∧ r.2.mem ((c.tc : Thread Cert.Kernel21Ideal.nD Cert.Kernel21Ideal.τ).loc Cert.Kernel21Ideal.main_v32_1) = v1 c
          ∧ r.2.mem ((c.tc : Thread Cert.Kernel21Ideal.nD Cert.Kernel21Ideal.τ).loc Cert.Kernel21Ideal.main_v32_2) = v2 c
          ∧ r.2.mem ((c.tc : Thread Cert.Kernel21Ideal.nD Cert.Kernel21Ideal.τ).loc Cert.Kernel21Ideal.main_v32_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v67) = v0 c
          ∧ r.2.mem ((c.tc : Thread Cert.Reference21Ideal.nD Cert.Reference21Ideal.τ).loc Cert.Reference21Ideal.main_v82) = v1 c
          ∧ r.2.mem ((c.tc : Thread Cert.Reference21Ideal.nD Cert.Reference21Ideal.τ).loc Cert.Reference21Ideal.main_v83) = v2 c
          ∧ r.2.mem ((c.tc : Thread Cert.Reference21Ideal.nD Cert.Reference21Ideal.τ).loc Cert.Reference21Ideal.main_v84) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal_pre_finite_operands [hKernel23Ideal : Cert.Kernel23Ideal.Facts] [hReference23Ideal : Cert.Reference23Ideal.Facts] [hPre_finite_operands : Cert.Pre_finite_operands.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_operands m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v29) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v47) = v0 c
          ∧ r.2.mem ((c.tc : Thread Cert.Reference24Ideal.nD Cert.Reference24Ideal.τ).loc Cert.Reference24Ideal.main_v48) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v46) = v0 c
          ∧ r.2.mem ((c.tc : Thread Cert.Reference25Ideal.nD Cert.Reference25Ideal.τ).loc Cert.Reference25Ideal.main_v47) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v42) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_v14) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel27 : Cert.Kernel27.Facts) (hKernel27Ideal : Cert.Kernel27Ideal.Facts) (hReference27Ideal : Cert.Reference27Ideal.Facts) (hKernel26 : Cert.Kernel26.Facts) (hKernel26Ideal : Cert.Kernel26Ideal.Facts) (hReference26Ideal : Cert.Reference26Ideal.Facts) (hPre_all_finite : Cert.Pre_all_finite.Facts) (hPre_finite_operands : Cert.Pre_finite_operands.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_operands (hKernel23Ideal := hKernel23Ideal) (hPre_finite_operands := hPre_finite_operands)
    ∧ quiescent_Reference23Ideal (hReference23Ideal := hReference23Ideal)
    ∧ quiescent_Reference23Ideal_pre_finite_operands (hReference23Ideal := hReference23Ideal) (hPre_finite_operands := hPre_finite_operands)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_operands (hKernel23Ideal := hKernel23Ideal) (hReference23Ideal := hReference23Ideal) (hPre_finite_operands := hPre_finite_operands)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel27_Kernel27Ideal
    ∧ algebraic_Kernel27Ideal_Reference27Ideal (hKernel27Ideal := hKernel27Ideal) (hReference27Ideal := hReference27Ideal)
    ∧ preserves_Kernel26_Kernel26Ideal
    ∧ algebraic_Kernel26Ideal_Reference26Ideal (hKernel26Ideal := hKernel26Ideal) (hReference26Ideal := hReference26Ideal)
-- ==== Pre_all_finite.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn_part1 {F : FTy → Type} [FloatOps F] (main_arg3 : FVec F S2048x1024 .bf16) (main_v4 : IVec S2048x1024 1) (main_v9 : IVec S2048x1024 1) (main_v14 : IVec S2048x1024 1) (main_v16 : IVec S2048x1024 1) : IVec S2048x1024 1 × IVec S2048x1024 1 × IVec S2048x1024 1 × IVec S2048x1024 1 :=
  let main_cst_6 : FVec F S_ .bf16 := constant S_ .bf16 0x7F80#16
  let main_v17 : FVec F S2048x1024 .bf16 := broadcastInDim S2048x1024 ![] bcast_S_S2048x1024 main_cst_6
  let main_v18 : IVec S2048x1024 1 := cmpf .olt main_arg3 main_v17
  let main_v19 : IVec S2048x1024 1 := andi main_v16 main_v18
  (main_v4, main_v9, main_v14, main_v19)

def fn {F : FTy → Type} [FloatOps F] (main_arg0 : FVec F S2048x1024 .bf16) (main_arg1 : FVec F S2048x1024 .bf16) (main_arg2 : FVec F S2048x1024 .bf16) (main_arg3 : FVec F S2048x1024 .bf16) : IVec S2048x1024 1 × IVec S2048x1024 1 × IVec S2048x1024 1 × IVec S2048x1024 1 :=
  let main_cst : FVec F S_ .bf16 := constant S_ .bf16 0xFF80#16
  let main_v0 : FVec F S2048x1024 .bf16 := broadcastInDim S2048x1024 ![] bcast_S_S2048x1024 main_cst
  let main_v1 : IVec S2048x1024 1 := cmpf .ogt main_arg0 main_v0
  let main_cst_0 : FVec F S_ .bf16 := constant S_ .bf16 0x7F80#16
  let main_v2 : FVec F S2048x1024 .bf16 := broadcastInDim S2048x1024 ![] bcast_S_S2048x1024 main_cst_0
  let main_v3 : IVec S2048x1024 1 := cmpf .olt main_arg0 main_v2
  let main_v4 : IVec S2048x1024 1 := andi main_v1 main_v3
  let main_cst_1 : FVec F S_ .bf16 := constant S_ .bf16 0xFF80#16
  let main_v5 : FVec F S2048x1024 .bf16 := broadcastInDim S2048x1024 ![] bcast_S_S2048x1024 main_cst_1
  let main_v6 : IVec S2048x1024 1 := cmpf .ogt main_arg1 main_v5
  let main_cst_2 : FVec F S_ .bf16 := constant S_ .bf16 0x7F80#16
  let main_v7 : FVec F S2048x1024 .bf16 := broadcastInDim S2048x1024 ![] bcast_S_S2048x1024 main_cst_2
  let main_v8 : IVec S2048x1024 1 := cmpf .olt main_arg1 main_v7
  let main_v9 : IVec S2048x1024 1 := andi main_v6 main_v8
  let main_cst_3 : FVec F S_ .bf16 := constant S_ .bf16 0xFF80#16
  let main_v10 : FVec F S2048x1024 .bf16 := broadcastInDim S2048x1024 ![] bcast_S_S2048x1024 main_cst_3
  let main_v11 : IVec S2048x1024 1 := cmpf .ogt main_arg2 main_v10
  let main_cst_4 : FVec F S_ .bf16 := constant S_ .bf16 0x7F80#16
  let main_v12 : FVec F S2048x1024 .bf16 := broadcastInDim S2048x1024 ![] bcast_S_S2048x1024 main_cst_4
  let main_v13 : IVec S2048x1024 1 := cmpf .olt main_arg2 main_v12
  let main_v14 : IVec S2048x1024 1 := andi main_v11 main_v13
  let main_cst_5 : FVec F S_ .bf16 := constant S_ .bf16 0xFF80#16
  let main_v15 : FVec F S2048x1024 .bf16 := broadcastInDim S2048x1024 ![] bcast_S_S2048x1024 main_cst_5
  let main_v16 : IVec S2048x1024 1 := cmpf .ogt main_arg3 main_v15
  fn_part1 (F := F) main_arg3 main_v4 main_v9 main_v14 main_v16
-- ==== Pre_finite_operands.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .bf16) (main_arg1 : FVec F S2048x1024 .bf16) (main_arg2 : FVec F S2048x1024 .bf16) : IVec S2048x1024 1 × IVec S2048x1024 1 :=
  let main_cst : FVec F S_ .bf16 := constant S_ .bf16 0xFF80#16
  let main_v0 : FVec F S2048x1024 .bf16 := broadcastInDim S2048x1024 ![] bcast_S_S2048x1024 main_cst
  let main_v1 : IVec S2048x1024 1 := cmpf .ogt main_arg0 main_v0
  let main_cst_0 : FVec F S_ .bf16 := constant S_ .bf16 0x7F80#16
  let main_v2 : FVec F S2048x1024 .bf16 := broadcastInDim S2048x1024 ![] bcast_S_S2048x1024 main_cst_0
  let main_v3 : IVec S2048x1024 1 := cmpf .olt main_arg0 main_v2
  let main_v4 : IVec S2048x1024 1 := andi main_v1 main_v3
  let main_cst_1 : FVec F S_ .bf16 := constant S_ .bf16 0xFF80#16
  let main_v5 : FVec F S2048x1024 .bf16 := broadcastInDim S2048x1024 ![] bcast_S_S2048x1024 main_cst_1
  let main_v6 : IVec S2048x1024 1 := cmpf .ogt main_arg1 main_v5
  let main_cst_2 : FVec F S_ .bf16 := constant S_ .bf16 0x7F80#16
  let main_v7 : FVec F S2048x1024 .bf16 := broadcastInDim S2048x1024 ![] bcast_S_S2048x1024 main_cst_2
  let main_v8 : IVec S2048x1024 1 := cmpf .olt main_arg1 main_v7
  let main_v9 : IVec S2048x1024 1 := andi main_v6 main_v8
  (main_v4, main_v9)
-- ==== Kernel.lean ====
abbrev S2048x1024 : Shape := ⟨2, ![2048, 1024]⟩
abbrev S512x128 : Shape := ⟨2, ![512, 128]⟩
abbrev S2048x128 : Shape := ⟨2, ![2048, 128]⟩
abbrev S8x1024x256 : Shape := ⟨3, ![8, 1024, 256]⟩
abbrev S256x256 : Shape := ⟨2, ![256, 256]⟩
abbrev S1024x128 : Shape := ⟨2, ![1024, 128]⟩
abbrev S1024x1 : Shape := ⟨2, ![1024, 1]⟩
abbrev S1024x256 : Shape := ⟨2, ![1024, 256]⟩
abbrev S256x128 : Shape := ⟨2, ![256, 128]⟩
abbrev S1x1024x256 : Shape := ⟨3, ![1, 1024, 256]⟩
abbrev S1024 : Shape := ⟨1, ![1024]⟩

abbrev nBuf : Space → Nat
  | .hbm => 7
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8x1024x256, .f32⟩
  | .local _ .vmem, ⟨15, _⟩ => ⟨S8x1024x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c2_i32 : BitVec 32 := 2#32
  let arg1 : BitVec 32 := BitVec.ofNat 32 (i 1).val
  let v30 : BitVec 32 := Scalar.muli c2_i32 arg1
  let c1_i32 : BitVec 32 := 1#32
  let v32 : BitVec 32 := Scalar.addi v30 c1_i32
  let c256_i32_11 : BitVec 32 := 256#32
  let v43 : BitVec 32 := Scalar.muli v32 c256_i32_11
  v43
def k0_off1 (i : grid0.Coords) (c1_i32 : BitVec 32) : Fin 2 → Nat :=
  let c2_i32 : BitVec 32 := 2#32
  let arg1 : BitVec 32 := BitVec.ofNat 32 (i 1).val
  let v30 : BitVec 32 := Scalar.muli c2_i32 arg1
  let v32 : BitVec 32 := Scalar.addi v30 c1_i32
  let c256_i32_11 : BitVec 32 := 256#32
  let v43 : BitVec 32 := Scalar.muli v32 c256_i32_11
  let v44 : BitVec 32 := v43
  let v45 : Index := Scalar.indexCast v44
  let c0_12 : Index := 0#32
  ![v45.toNat, 0]
def k0_off2 (i : grid0.Coords) (c1_i32 : BitVec 32) : Fin 3 → Nat :=
  let c2_i32 : BitVec 32 := 2#32
  let arg1 : BitVec 32 := BitVec.ofNat 32 (i 1).val
  let v30 : BitVec 32 := Scalar.muli c2_i32 arg1
  let v32 : BitVec 32 := Scalar.addi v30 c1_i32
  let v66 : Index := Scalar.indexCast v32
  let c0_19 : Index := 0#32
  let c0_20 : Index := 0#32
  ![v66.toNat, 0, 0]
def k0_mult2 (i : grid0.Coords) : BitVec 32 :=
  let c2_i32 : BitVec 32 := 2#32
  let arg1 : BitVec 32 := BitVec.ofNat 32 (i 1).val
  let v30 : BitVec 32 := Scalar.muli c2_i32 arg1
  let c0_i32_24 : BitVec 32 := 0#32
  let v78 : BitVec 32 := Scalar.addi v30 c0_i32_24
  let c256_i32_28 : BitVec 32 := 256#32
  let v89 : BitVec 32 := Scalar.muli v78 c256_i32_28
  v89
@[reducible] def k0_t1_loop (i : grid0.Coords) : Scf.Loop 32 :=
  let c0_i32_48 : BitVec 32 := 0#32
  let c2_i32 : BitVec 32 := 2#32
  let arg1 : BitVec 32 := BitVec.ofNat 32 (i 1).val
  let v30 : BitVec 32 := Scalar.muli c2_i32 arg1
  let c0_i32_42 : BitVec 32 := 0#32
  let v125 : BitVec 1 := Scalar.cmpi .sgt v30 c0_i32_42
  let v126 : BitVec 32 := Scalar.extui v125
  let c0_i32_43 : BitVec 32 := 0#32
  let v127 : BitVec 1 := Scalar.cmpi .slt v30 c0_i32_43
  let v128 : BitVec 32 := Scalar.extui v127
  let v129 : BitVec 32 := Scalar.subi v126 v128
  let c2_i32_41 : BitVec 32 := 2#32
  let c0_i32_44 : BitVec 32 := 0#32
  let v130 : BitVec 1 := Scalar.cmpi .sgt c2_i32_41 c0_i32_44
  let v131 : BitVec 32 := Scalar.extui v130
  let c0_i32_45 : BitVec 32 := 0#32
  let v132 : BitVec 1 := Scalar.cmpi .slt c2_i32_41 c0_i32_45
  let v133 : BitVec 32 := Scalar.extui v132
  let v134 : BitVec 32 := Scalar.subi v131 v133
  let v135 : BitVec 1 := Scalar.cmpi .ne v129 v134
  let v136 : BitVec 32 := Scalar.remsi v30 c2_i32_41
  let c0_i32_46 : BitVec 32 := 0#32
  let v137 : BitVec 1 := Scalar.cmpi .ne v136 c0_i32_46
  let v138 : BitVec 1 := Scalar.andi v135 v137
  let v124 : BitVec 32 := Scalar.divsi v30 c2_i32_41
  let c1_i32_47 : BitVec 32 := 1#32
  let v139 : BitVec 32 := Scalar.subi v124 c1_i32_47
  let v140 : BitVec 32 := Scalar.select v138 v139 v124
  let v141 : BitVec 32 := Scalar.subi v140 c0_i32_48
  let c1_i32_49 : BitVec 32 := 1#32
  let v143 : BitVec 32 := Scalar.divsi v141 c1_i32_49
  let v144 : BitVec 32 := Scalar.muli v143 c1_i32_49
  let v145 : BitVec 32 := Scalar.addi c0_i32_48 v144
  let c1_i32_50 : BitVec 32 := 1#32
  ⟨c0_i32_48, v145, c1_i32_50⟩
def k0_mult3 (i : grid0.Coords) (k0_t1 : Fin (k0_t1_loop i).trips) : BitVec 32 :=
  let c2_i32 : BitVec 32 := 2#32
  let arg1 : BitVec 32 := BitVec.ofNat 32 (i 1).val
  let v30 : BitVec 32 := Scalar.muli c2_i32 arg1
  let c1_i32_134 : BitVec 32 := 1#32
  let v328 : BitVec 32 := Scalar.subi v30 c1_i32_134
  let c2_i32_135 : BitVec 32 := 2#32
  let c0_i32_48 : BitVec 32 := 0#32
  let c1_i32_50 : BitVec 32 := 1#32
  let arg11 : BitVec 32 := Scf.iv c0_i32_48 c1_i32_50 k0_t1
  let v329 : BitVec 32 := Scalar.muli c2_i32_135 arg11
  let v330 : BitVec 32 := Scalar.subi v328 v329
  let c256_i32_136 : BitVec 32 := 256#32
  let v331 : BitVec 32 := Scalar.muli v330 c256_i32_136
  v331
def k0_off3 (i : grid0.Coords) (k0_t1 : Fin (k0_t1_loop i).trips) (c1_i32_134 : BitVec 32) : Fin 2 → Nat :=
  let c2_i32 : BitVec 32 := 2#32
  let arg1 : BitVec 32 := BitVec.ofNat 32 (i 1).val
  let v30 : BitVec 32 := Scalar.muli c2_i32 arg1
  let v328 : BitVec 32 := Scalar.subi v30 c1_i32_134
  let c2_i32_135 : BitVec 32 := 2#32
  let c0_i32_48 : BitVec 32 := 0#32
  let c1_i32_50 : BitVec 32 := 1#32
  let arg11 : BitVec 32 := Scf.iv c0_i32_48 c1_i32_50 k0_t1
  let v329 : BitVec 32 := Scalar.muli c2_i32_135 arg11
  let v330 : BitVec 32 := Scalar.subi v328 v329
  let c256_i32_136 : BitVec 32 := 256#32
  let v331 : BitVec 32 := Scalar.muli v330 c256_i32_136
  let v332 : BitVec 32 := v331
  let v333 : Index := Scalar.indexCast v332
  let c0_137 : Index := 0#32
  ![v333.toNat, 0]
def k0_off4 (i : grid0.Coords) (k0_t1 : Fin (k0_t1_loop i).trips) (c1_i32_134 : BitVec 32) : Fin 3 → Nat :=
  let c2_i32 : BitVec 32 := 2#32
  let arg1 : BitVec 32 := BitVec.ofNat 32 (i 1).val
  let v30 : BitVec 32 := Scalar.muli c2_i32 arg1
  let v328 : BitVec 32 := Scalar.subi v30 c1_i32_134
  let c2_i32_135 : BitVec 32 := 2#32
  let c0_i32_48 : BitVec 32 := 0#32
  let c1_i32_50 : BitVec 32 := 1#32
  let arg11 : BitVec 32 := Scf.iv c0_i32_48 c1_i32_50 k0_t1
  let v329 : BitVec 32 := Scalar.muli c2_i32_135 arg11
  let v330 : BitVec 32 := Scalar.subi v328 v329
  let v352 : Index := Scalar.indexCast v330
  let c0_143 : Index := 0#32
  let c0_144 : Index := 0#32
  ![v352.toNat, 0, 0]
def k0_mult4 (i : grid0.Coords) (k0_t1 : Fin (k0_t1_loop i).trips) : BitVec 32 :=
  let c2_i32 : BitVec 32 := 2#32
  let arg1 : BitVec 32 := BitVec.ofNat 32 (i 1).val
  let v30 : BitVec 32 := Scalar.muli c2_i32 arg1
  let c2_i32_132 : BitVec 32 := 2#32
  let v325 : BitVec 32 := Scalar.subi v30 c2_i32_132
  let c2_i32_133 : BitVec 32 := 2#32
  let c0_i32_48 : BitVec 32 := 0#32
  let c1_i32_50 : BitVec 32 := 1#32
  let arg11 : BitVec 32 := Scf.iv c0_i32_48 c1_i32_50 k0_t1
  let v326 : BitVec 32 := Scalar.muli c2_i32_133 arg11
  let v327 : BitVec 32 := Scalar.subi v325 v326
  let c256_i32_148 : BitVec 32 := 256#32
  let v364 : BitVec 32 := Scalar.muli v327 c256_i32_148
  v364
@[reducible] def k0_t2_loop (i : grid0.Coords) : Scf.Loop 32 :=
  let c0_i32_48 : BitVec 32 := 0#32
  let c2_i32 : BitVec 32 := 2#32
  let arg1 : BitVec 32 := BitVec.ofNat 32 (i 1).val
  let v30 : BitVec 32 := Scalar.muli c2_i32 arg1
  let c0_i32_42 : BitVec 32 := 0#32
  let v125 : BitVec 1 := Scalar.cmpi .sgt v30 c0_i32_42
  let v126 : BitVec 32 := Scalar.extui v125
  let c0_i32_43 : BitVec 32 := 0#32
  let v127 : BitVec 1 := Scalar.cmpi .slt v30 c0_i32_43
  let v128 : BitVec 32 := Scalar.extui v127
  let v129 : BitVec 32 := Scalar.subi v126 v128
  let c2_i32_41 : BitVec 32 := 2#32
  let c0_i32_44 : BitVec 32 := 0#32
  let v130 : BitVec 1 := Scalar.cmpi .sgt c2_i32_41 c0_i32_44
  let v131 : BitVec 32 := Scalar.extui v130
  let c0_i32_45 : BitVec 32 := 0#32
  let v132 : BitVec 1 := Scalar.cmpi .slt c2_i32_41 c0_i32_45
  let v133 : BitVec 32 := Scalar.extui v132
  let v134 : BitVec 32 := Scalar.subi v131 v133
  let v135 : BitVec 1 := Scalar.cmpi .ne v129 v134
  let v136 : BitVec 32 := Scalar.remsi v30 c2_i32_41
  let c0_i32_46 : BitVec 32 := 0#32
  let v137 : BitVec 1 := Scalar.cmpi .ne v136 c0_i32_46
  let v138 : BitVec 1 := Scalar.andi v135 v137
  let v124 : BitVec 32 := Scalar.divsi v30 c2_i32_41
  let c1_i32_47 : BitVec 32 := 1#32
  let v139 : BitVec 32 := Scalar.subi v124 c1_i32_47
  let v140 : BitVec 32 := Scalar.select v138 v139 v124
  let v141 : BitVec 32 := Scalar.subi v140 c0_i32_48
  let c1_i32_49 : BitVec 32 := 1#32
  let v143 : BitVec 32 := Scalar.divsi v141 c1_i32_49
  let v144 : BitVec 32 := Scalar.muli v143 c1_i32_49
  let v145 : BitVec 32 := Scalar.addi c0_i32_48 v144
  let v142 : BitVec 32 := Scalar.addi c0_i32_48 v141
  let c1_i32_51 : BitVec 32 := 1#32
  ⟨v145, v142, c1_i32_51⟩
def k0_mult5 (i : grid0.Coords) (k0_t2 : Fin (k0_t2_loop i).trips) : BitVec 32 :=
  let c2_i32 : BitVec 32 := 2#32
  let arg1 : BitVec 32 := BitVec.ofNat 32 (i 1).val
  let v30 : BitVec 32 := Scalar.muli c2_i32 arg1
  let c1_i32_134 : BitVec 32 := 1#32
  let v328 : BitVec 32 := Scalar.subi v30 c1_i32_134
  let c2_i32_135 : BitVec 32 := 2#32
  let c0_i32_48 : BitVec 32 := 0#32
  let c0_i32_42 : BitVec 32 := 0#32
  let v125 : BitVec 1 := Scalar.cmpi .sgt v30 c0_i32_42
  let v126 : BitVec 32 := Scalar.extui v125
  let c0_i32_43 : BitVec 32 := 0#32
  let v127 : BitVec 1 := Scalar.cmpi .slt v30 c0_i32_43
  let v128 : BitVec 32 := Scalar.extui v127
  let v129 : BitVec 32 := Scalar.subi v126 v128
  let c2_i32_41 : BitVec 32 := 2#32
  let c0_i32_44 : BitVec 32 := 0#32
  let v130 : BitVec 1 := Scalar.cmpi .sgt c2_i32_41 c0_i32_44
  let v131 : BitVec 32 := Scalar.extui v130
  let c0_i32_45 : BitVec 32 := 0#32
  let v132 : BitVec 1 := Scalar.cmpi .slt c2_i32_41 c0_i32_45
  let v133 : BitVec 32 := Scalar.extui v132
  let v134 : BitVec 32 := Scalar.subi v131 v133
  let v135 : BitVec 1 := Scalar.cmpi .ne v129 v134
  let v136 : BitVec 32 := Scalar.remsi v30 c2_i32_41
  let c0_i32_46 : BitVec 32 := 0#32
  let v137 : BitVec 1 := Scalar.cmpi .ne v136 c0_i32_46
  let v138 : BitVec 1 := Scalar.andi v135 v137
  let v124 : BitVec 32 := Scalar.divsi v30 c2_i32_41
  let c1_i32_47 : BitVec 32 := 1#32
  let v139 : BitVec 32 := Scalar.subi v124 c1_i32_47
  let v140 : BitVec 32 := Scalar.select v138 v139 v124
  let v141 : BitVec 32 := Scalar.subi v140 c0_i32_48
  let c1_i32_49 : BitVec 32 := 1#32
  let v143 : BitVec 32 := Scalar.divsi v141 c1_i32_49
  let v144 : BitVec 32 := Scalar.muli v143 c1_i32_49
  let v145 : BitVec 32 := Scalar.addi c0_i32_48 v144
  let c1_i32_51 : BitVec 32 := 1#32
  let arg11 : BitVec 32 := Scf.iv v145 c1_i32_51 k0_t2
  let v329 : BitVec 32 := Scalar.muli c2_i32_135 arg11
  let v330 : BitVec 32 := Scalar.subi v328 v329
  let c256_i32_136 : BitVec 32 := 256#32
  let v331 : BitVec 32 := Scalar.muli v330 c256_i32_136
  v331
def k0_off5 (i : grid0.Coords) (k0_t2 : Fin (k0_t2_loop i).trips) (c1_i32_134 : BitVec 32) : Fin 2 → Nat :=
  let c2_i32 : BitVec 32 := 2#32
  let arg1 : BitVec 32 := BitVec.ofNat 32 (i 1).val
  let v30 : BitVec 32 := Scalar.muli c2_i32 arg1
  let v328 : BitVec 32 := Scalar.subi v30 c1_i32_134
  let c2_i32_135 : BitVec 32 := 2#32
  let c0_i32_48 : BitVec 32 := 0#32
  let c0_i32_42 : BitVec 32 := 0#32
  let v125 : BitVec 1 := Scalar.cmpi .sgt v30 c0_i32_42
  let v126 : BitVec 32 := Scalar.extui v125
  let c0_i32_43 : BitVec 32 := 0#32
  let v127 : BitVec 1 := Scalar.cmpi .slt v30 c0_i32_43
  let v128 : BitVec 32 := Scalar.extui v127
  let v129 : BitVec 32 := Scalar.subi v126 v128
  let c2_i32_41 : BitVec 32 := 2#32
  let c0_i32_44 : BitVec 32 := 0#32
  let v130 : BitVec 1 := Scalar.cmpi .sgt c2_i32_41 c0_i32_44
  let v131 : BitVec 32 := Scalar.extui v130
  let c0_i32_45 : BitVec 32 := 0#32
  let v132 : BitVec 1 := Scalar.cmpi .slt c2_i32_41 c0_i32_45
  let v133 : BitVec 32 := Scalar.extui v132
  let v134 : BitVec 32 := Scalar.subi v131 v133
  let v135 : BitVec 1 := Scalar.cmpi .ne v129 v134
  let v136 : BitVec 32 := Scalar.remsi v30 c2_i32_41
  let c0_i32_46 : BitVec 32 := 0#32
  let v137 : BitVec 1 := Scalar.cmpi .ne v136 c0_i32_46
  let v138 : BitVec 1 := Scalar.andi v135 v137
  let v124 : BitVec 32 := Scalar.divsi v30 c2_i32_41
  let c1_i32_47 : BitVec 32 := 1#32
  let v139 : BitVec 32 := Scalar.subi v124 c1_i32_47
  let v140 : BitVec 32 := Scalar.select v138 v139 v124
  let v141 : BitVec 32 := Scalar.subi v140 c0_i32_48
  let c1_i32_49 : BitVec 32 := 1#32
  let v143 : BitVec 32 := Scalar.divsi v141 c1_i32_49
  let v144 : BitVec 32 := Scalar.muli v143 c1_i32_49
  let v145 : BitVec 32 := Scalar.addi c0_i32_48 v144
  let c1_i32_51 : BitVec 32 := 1#32
  let arg11 : BitVec 32 := Scf.iv v145 c1_i32_51 k0_t2
  let v329 : BitVec 32 := Scalar.muli c2_i32_135 arg11
  let v330 : BitVec 32 := Scalar.subi v328 v329
  let c256_i32_136 : BitVec 32 := 256#32
  let v331 : BitVec 32 := Scalar.muli v330 c256_i32_136
  let v332 : BitVec 32 := v331
  let v333 : Index := Scalar.indexCast v332
  let c0_137 : Index := 0#32
  ![v333.toNat, 0]
def k0_off6 (i : grid0.Coords) (k0_t2 : Fin (k0_t2_loop i).trips) (c1_i32_134 : BitVec 32) : Fin 3 → Nat :=
  let c2_i32 : BitVec 32 := 2#32
  let arg1 : BitVec 32 := BitVec.ofNat 32 (i 1).val
  let v30 : BitVec 32 := Scalar.muli c2_i32 arg1
  let v328 : BitVec 32 := Scalar.subi v30 c1_i32_134
  let c2_i32_135 : BitVec 32 := 2#32
  let c0_i32_48 : BitVec 32 := 0#32
  let c0_i32_42 : BitVec 32 := 0#32
  let v125 : BitVec 1 := Scalar.cmpi .sgt v30 c0_i32_42
  let v126 : BitVec 32 := Scalar.extui v125
  let c0_i32_43 : BitVec 32 := 0#32
  let v127 : BitVec 1 := Scalar.cmpi .slt v30 c0_i32_43
  let v128 : BitVec 32 := Scalar.extui v127
  let v129 : BitVec 32 := Scalar.subi v126 v128
  let c2_i32_41 : BitVec 32 := 2#32
  let c0_i32_44 : BitVec 32 := 0#32
  let v130 : BitVec 1 := Scalar.cmpi .sgt c2_i32_41 c0_i32_44
  let v131 : BitVec 32 := Scalar.extui v130
  let c0_i32_45 : BitVec 32 := 0#32
  let v132 : BitVec 1 := Scalar.cmpi .slt c2_i32_41 c0_i32_45
  let v133 : BitVec 32 := Scalar.extui v132
  let v134 : BitVec 32 := Scalar.subi v131 v133
  let v135 : BitVec 1 := Scalar.cmpi .ne v129 v134
  let v136 : BitVec 32 := Scalar.remsi v30 c2_i32_41
  let c0_i32_46 : BitVec 32 := 0#32
  let v137 : BitVec 1 := Scalar.cmpi .ne v136 c0_i32_46
  let v138 : BitVec 1 := Scalar.andi v135 v137
  let v124 : BitVec 32 := Scalar.divsi v30 c2_i32_41
  let c1_i32_47 : BitVec 32 := 1#32
  let v139 : BitVec 32 := Scalar.subi v124 c1_i32_47
  let v140 : BitVec 32 := Scalar.select v138 v139 v124
  let v141 : BitVec 32 := Scalar.subi v140 c0_i32_48
  let c1_i32_49 : BitVec 32 := 1#32
  let v143 : BitVec 32 := Scalar.divsi v141 c1_i32_49
  let v144 : BitVec 32 := Scalar.muli v143 c1_i32_49
  let v145 : BitVec 32 := Scalar.addi c0_i32_48 v144
  let c1_i32_51 : BitVec 32 := 1#32
  let arg11 : BitVec 32 := Scf.iv v145 c1_i32_51 k0_t2
  let v329 : BitVec 32 := Scalar.muli c2_i32_135 arg11
  let v330 : BitVec 32 := Scalar.subi v328 v329
  let v352 : Index := Scalar.indexCast v330
  let c0_143 : Index := 0#32
  let c0_144 : Index := 0#32
  ![v352.toNat, 0, 0]
def k0_mult6 (i : grid0.Coords) (k0_t2 : Fin (k0_t2_loop i).trips) : BitVec 32 :=
  let c2_i32 : BitVec 32 := 2#32
  let arg1 : BitVec 32 := BitVec.ofNat 32 (i 1).val
  let v30 : BitVec 32 := Scalar.muli c2_i32 arg1
  let c2_i32_132 : BitVec 32 := 2#32
  let v325 : BitVec 32 := Scalar.subi v30 c2_i32_132
  let c2_i32_133 : BitVec 32 := 2#32
  let c0_i32_48 : BitVec 32 := 0#32
  let c0_i32_42 : BitVec 32 := 0#32
  let v125 : BitVec 1 := Scalar.cmpi .sgt v30 c0_i32_42
  let v126 : BitVec 32 := Scalar.extui v125
  let c0_i32_43 : BitVec 32 := 0#32
  let v127 : BitVec 1 := Scalar.cmpi .slt v30 c0_i32_43
  let v128 : BitVec 32 := Scalar.extui v127
  let v129 : BitVec 32 := Scalar.subi v126 v128
  let c2_i32_41 : BitVec 32 := 2#32
  let c0_i32_44 : BitVec 32 := 0#32
  let v130 : BitVec 1 := Scalar.cmpi .sgt c2_i32_41 c0_i32_44
  let v131 : BitVec 32 := Scalar.extui v130
  let c0_i32_45 : BitVec 32 := 0#32
  let v132 : BitVec 1 := Scalar.cmpi .slt c2_i32_41 c0_i32_45
  let v133 : BitVec 32 := Scalar.extui v132
  let v134 : BitVec 32 := Scalar.subi v131 v133
  let v135 : BitVec 1 := Scalar.cmpi .ne v129 v134
  let v136 : BitVec 32 := Scalar.remsi v30 c2_i32_41
  let c0_i32_46 : BitVec 32 := 0#32
  let v137 : BitVec 1 := Scalar.cmpi .ne v136 c0_i32_46
  let v138 : BitVec 1 := Scalar.andi v135 v137
  let v124 : BitVec 32 := Scalar.divsi v30 c2_i32_41
  let c1_i32_47 : BitVec 32 := 1#32
  let v139 : BitVec 32 := Scalar.subi v124 c1_i32_47
  let v140 : BitVec 32 := Scalar.select v138 v139 v124
  let v141 : BitVec 32 := Scalar.subi v140 c0_i32_48
  let c1_i32_49 : BitVec 32 := 1#32
  let v143 : BitVec 32 := Scalar.divsi v141 c1_i32_49
  let v144 : BitVec 32 := Scalar.muli v143 c1_i32_49
  let v145 : BitVec 32 := Scalar.addi c0_i32_48 v144
  let c1_i32_51 : BitVec 32 := 1#32
  let arg11 : BitVec 32 := Scf.iv v145 c1_i32_51 k0_t2
  let v326 : BitVec 32 := Scalar.muli c2_i32_133 arg11
  let v327 : BitVec 32 := Scalar.subi v325 v326
  let c256_i32_148 : BitVec 32 := 256#32
  let v364 : BitVec 32 := Scalar.muli v327 c256_i32_148
  v364
@[reducible] def k0_t3_loop (i : grid0.Coords) : Scf.Loop 32 :=
  let c0_i32_58 : BitVec 32 := 0#32
  let c2_i32 : BitVec 32 := 2#32
  let arg1 : BitVec 32 := BitVec.ofNat 32 (i 1).val
  let v30 : BitVec 32 := Scalar.muli c2_i32 arg1
  let c2_i32_52 : BitVec 32 := 2#32
  let c0_i32_53 : BitVec 32 := 0#32
  let v148 : BitVec 1 := Scalar.cmpi .eq c2_i32_52 c0_i32_53
  let c1_i32_54 : BitVec 32 := 1#32
  let v149 : BitVec 32 := Scalar.select v148 c1_i32_54 c2_i32_52
  let v150 : BitVec 32 := Scalar.remsi v30 v149
  let c0_i32_56 : BitVec 32 := 0#32
  let v152 : BitVec 1 := Scalar.cmpi .slt v150 c0_i32_56
  let c0_i32_57 : BitVec 32 := 0#32
  let v153 : BitVec 1 := Scalar.cmpi .slt v149 c0_i32_57
  let v154 : BitVec 1 := Scalar.xori v152 v153
  let c0_i32_55 : BitVec 32 := 0#32
  let v151 : BitVec 1 := Scalar.cmpi .ne v150 c0_i32_55
  let v155 : BitVec 1 := Scalar.andi v154 v151
  let v156 : BitVec 32 := Scalar.addi v150 v149
  let v157 : BitVec 32 := Scalar.select v155 v156 v150
  let v158 : BitVec 32 := Scalar.subi v157 c0_i32_58
  let c1_i32_59 : BitVec 32 := 1#32
  let v160 : BitVec 32 := Scalar.divsi v158 c1_i32_59
  let v161 : BitVec 32 := Scalar.muli v160 c1_i32_59
  let v162 : BitVec 32 := Scalar.addi c0_i32_58 v161
  let c1_i32_60 : BitVec 32 := 1#32
  ⟨c0_i32_58, v162, c1_i32_60⟩
def k0_mult7 : BitVec 32 :=
  let c0_i32_132 : BitVec 32 := 0#32
  c0_i32_132
@[reducible] def k0_t4_loop (i : grid0.Coords) : Scf.Loop 32 :=
  let c0_i32_58 : BitVec 32 := 0#32
  let c2_i32 : BitVec 32 := 2#32
  let arg1 : BitVec 32 := BitVec.ofNat 32 (i 1).val
  let v30 : BitVec 32 := Scalar.muli c2_i32 arg1
  let c2_i32_52 : BitVec 32 := 2#32
  let c0_i32_53 : BitVec 32 := 0#32
  let v148 : BitVec 1 := Scalar.cmpi .eq c2_i32_52 c0_i32_53
  let c1_i32_54 : BitVec 32 := 1#32
  let v149 : BitVec 32 := Scalar.select v148 c1_i32_54 c2_i32_52
  let v150 : BitVec 32 := Scalar.remsi v30 v149
  let c0_i32_56 : BitVec 32 := 0#32
  let v152 : BitVec 1 := Scalar.cmpi .slt v150 c0_i32_56
  let c0_i32_57 : BitVec 32 := 0#32
  let v153 : BitVec 1 := Scalar.cmpi .slt v149 c0_i32_57
  let v154 : BitVec 1 := Scalar.xori v152 v153
  let c0_i32_55 : BitVec 32 := 0#32
  let v151 : BitVec 1 := Scalar.cmpi .ne v150 c0_i32_55
  let v155 : BitVec 1 := Scalar.andi v154 v151
  let v156 : BitVec 32 := Scalar.addi v150 v149
  let v157 : BitVec 32 := Scalar.select v155 v156 v150
  let v158 : BitVec 32 := Scalar.subi v157 c0_i32_58
  let c1_i32_59 : BitVec 32 := 1#32
  let v160 : BitVec 32 := Scalar.divsi v158 c1_i32_59
  let v161 : BitVec 32 := Scalar.muli v160 c1_i32_59
  let v162 : BitVec 32 := Scalar.addi c0_i32_58 v161
  let v159 : BitVec 32 := Scalar.addi c0_i32_58 v158
  let c1_i32_61 : BitVec 32 := 1#32
  ⟨v162, v159, c1_i32_61⟩
def k0_mult8 : BitVec 32 :=
  let c0_i32_132 : BitVec 32 := 0#32
  c0_i32_132
@[reducible] def k0_t5_loop (i : grid0.Coords) : Scf.Loop 32 :=
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_73 : BitVec 32 := 1#32
  ⟨c0_i32_71, v188, c1_i32_73⟩
def k0_mult9 (i : grid0.Coords) (k0_t5 : Fin (k0_t5_loop i).trips) : BitVec 32 :=
  let c2_i32_132 : BitVec 32 := 2#32
  let c0_i32_71 : BitVec 32 := 0#32
  let c1_i32_73 : BitVec 32 := 1#32
  let arg11 : BitVec 32 := Scf.iv c0_i32_71 c1_i32_73 k0_t5
  let v325 : BitVec 32 := Scalar.muli c2_i32_132 arg11
  let c256_i32_133 : BitVec 32 := 256#32
  let v326 : BitVec 32 := Scalar.muli v325 c256_i32_133
  v326
def k0_off7 (i : grid0.Coords) (k0_t5 : Fin (k0_t5_loop i).trips) : Fin 3 → Nat :=
  let c2_i32_132 : BitVec 32 := 2#32
  let c0_i32_71 : BitVec 32 := 0#32
  let c1_i32_73 : BitVec 32 := 1#32
  let arg11 : BitVec 32 := Scf.iv c0_i32_71 c1_i32_73 k0_t5
  let v325 : BitVec 32 := Scalar.muli c2_i32_132 arg11
  let v328 : Index := Scalar.indexCast v325
  let c0_134 : Index := 0#32
  let c0_135 : Index := 0#32
  ![v328.toNat, 0, 0]
def k0_off8 (i : grid0.Coords) (k0_t5 : Fin (k0_t5_loop i).trips) : Fin 2 → Nat :=
  let c2_i32_132 : BitVec 32 := 2#32
  let c0_i32_71 : BitVec 32 := 0#32
  let c1_i32_73 : BitVec 32 := 1#32
  let arg11 : BitVec 32 := Scf.iv c0_i32_71 c1_i32_73 k0_t5
  let v325 : BitVec 32 := Scalar.muli c2_i32_132 arg11
  let c256_i32_133 : BitVec 32 := 256#32
  let v326 : BitVec 32 := Scalar.muli v325 c256_i32_133
  let v327 : BitVec 32 := v326
  let v335 : Index := Scalar.indexCast v327
  let c0_138 : Index := 0#32
  ![v335.toNat, 0]
def k0_mult10 (i : grid0.Coords) (k0_t5 : Fin (k0_t5_loop i).trips) : BitVec 32 :=
  let c2_i32_150 : BitVec 32 := 2#32
  let c0_i32_71 : BitVec 32 := 0#32
  let c1_i32_73 : BitVec 32 := 1#32
  let arg11 : BitVec 32 := Scf.iv c0_i32_71 c1_i32_73 k0_t5
  let v369 : BitVec 32 := Scalar.muli c2_i32_150 arg11
  let c1_i32_151 : BitVec 32 := 1#32
  let v370 : BitVec 32 := Scalar.addi v369 c1_i32_151
  let c256_i32_152 : BitVec 32 := 256#32
  let v371 : BitVec 32 := Scalar.muli v370 c256_i32_152
  v371
def k0_off9 (i : grid0.Coords) (k0_t5 : Fin (k0_t5_loop i).trips) : Fin 3 → Nat :=
  let c2_i32_150 : BitVec 32 := 2#32
  let c0_i32_71 : BitVec 32 := 0#32
  let c1_i32_73 : BitVec 32 := 1#32
  let arg11 : BitVec 32 := Scf.iv c0_i32_71 c1_i32_73 k0_t5
  let v369 : BitVec 32 := Scalar.muli c2_i32_150 arg11
  let c1_i32_151 : BitVec 32 := 1#32
  let v370 : BitVec 32 := Scalar.addi v369 c1_i32_151
  let v373 : Index := Scalar.indexCast v370
  let c0_153 : Index := 0#32
  let c0_154 : Index := 0#32
  ![v373.toNat, 0, 0]
def k0_off10 (i : grid0.Coords) (k0_t5 : Fin (k0_t5_loop i).trips) : Fin 2 → Nat :=
  let c2_i32_150 : BitVec 32 := 2#32
  let c0_i32_71 : BitVec 32 := 0#32
  let c1_i32_73 : BitVec 32 := 1#32
  let arg11 : BitVec 32 := Scf.iv c0_i32_71 c1_i32_73 k0_t5
  let v369 : BitVec 32 := Scalar.muli c2_i32_150 arg11
  let c1_i32_151 : BitVec 32 := 1#32
  let v370 : BitVec 32 := Scalar.addi v369 c1_i32_151
  let c256_i32_152 : BitVec 32 := 256#32
  let v371 : BitVec 32 := Scalar.muli v370 c256_i32_152
  let v372 : BitVec 32 := v371
  let v380 : Index := Scalar.indexCast v372
  let c0_157 : Index := 0#32
  ![v380.toNat, 0]
@[reducible] def k0_t6_loop (i : grid0.Coords) : Scf.Loop 32 :=
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let v185 : BitVec 32 := Scalar.addi c0_i32_71 v184
  let c1_i32_74 : BitVec 32 := 1#32
  ⟨v188, v185, c1_i32_74⟩
def k0_mult11 (i : grid0.Coords) (k0_t6 : Fin (k0_t6_loop i).trips) : BitVec 32 :=
  let c2_i32_132 : BitVec 32 := 2#32
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_74 : BitVec 32 := 1#32
  let arg11 : BitVec 32 := Scf.iv v188 c1_i32_74 k0_t6
  let v325 : BitVec 32 := Scalar.muli c2_i32_132 arg11
  let c256_i32_133 : BitVec 32 := 256#32
  let v326 : BitVec 32 := Scalar.muli v325 c256_i32_133
  v326
def k0_off11 (i : grid0.Coords) (k0_t6 : Fin (k0_t6_loop i).trips) : Fin 3 → Nat :=
  let c2_i32_132 : BitVec 32 := 2#32
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_74 : BitVec 32 := 1#32
  let arg11 : BitVec 32 := Scf.iv v188 c1_i32_74 k0_t6
  let v325 : BitVec 32 := Scalar.muli c2_i32_132 arg11
  let v328 : Index := Scalar.indexCast v325
  let c0_134 : Index := 0#32
  let c0_135 : Index := 0#32
  ![v328.toNat, 0, 0]
def k0_off12 (i : grid0.Coords) (k0_t6 : Fin (k0_t6_loop i).trips) : Fin 2 → Nat :=
  let c2_i32_132 : BitVec 32 := 2#32
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_74 : BitVec 32 := 1#32
  let arg11 : BitVec 32 := Scf.iv v188 c1_i32_74 k0_t6
  let v325 : BitVec 32 := Scalar.muli c2_i32_132 arg11
  let c256_i32_133 : BitVec 32 := 256#32
  let v326 : BitVec 32 := Scalar.muli v325 c256_i32_133
  let v327 : BitVec 32 := v326
  let v335 : Index := Scalar.indexCast v327
  let c0_138 : Index := 0#32
  ![v335.toNat, 0]
def k0_mult12 (i : grid0.Coords) (k0_t6 : Fin (k0_t6_loop i).trips) : BitVec 32 :=
  let c2_i32_150 : BitVec 32 := 2#32
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_74 : BitVec 32 := 1#32
  let arg11 : BitVec 32 := Scf.iv v188 c1_i32_74 k0_t6
  let v369 : BitVec 32 := Scalar.muli c2_i32_150 arg11
  let c1_i32_151 : BitVec 32 := 1#32
  let v370 : BitVec 32 := Scalar.addi v369 c1_i32_151
  let c256_i32_152 : BitVec 32 := 256#32
  let v371 : BitVec 32 := Scalar.muli v370 c256_i32_152
  v371
def k0_off13 (i : grid0.Coords) (k0_t6 : Fin (k0_t6_loop i).trips) : Fin 3 → Nat :=
  let c2_i32_150 : BitVec 32 := 2#32
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_74 : BitVec 32 := 1#32
  let arg11 : BitVec 32 := Scf.iv v188 c1_i32_74 k0_t6
  let v369 : BitVec 32 := Scalar.muli c2_i32_150 arg11
  let c1_i32_151 : BitVec 32 := 1#32
  let v370 : BitVec 32 := Scalar.addi v369 c1_i32_151
  let v373 : Index := Scalar.indexCast v370
  let c0_153 : Index := 0#32
  let c0_154 : Index := 0#32
  ![v373.toNat, 0, 0]
def k0_off14 (i : grid0.Coords) (k0_t6 : Fin (k0_t6_loop i).trips) : Fin 2 → Nat :=
  let c2_i32_150 : BitVec 32 := 2#32
  let c0_i32_71 : BitVec 32 := 0#32
  let c2_i32 : BitVec 32 := 2#32
  let arg1 : BitVec 32 := BitVec.ofNat 32 (i 1).val
  let v30 : BitVec 32 := Scalar.muli c2_i32 arg1
  let c0_i32_63 : BitVec 32 := 0#32
  let v166 : BitVec 1 := Scalar.cmpi .sgt v30 c0_i32_63
  let v167 : BitVec 32 := Scalar.extui v166
  let c0_i32_64 : BitVec 32 := 0#32
  let v168 : BitVec 1 := Scalar.cmpi .slt v30 c0_i32_64
  let v169 : BitVec 32 := Scalar.extui v168
  let v170 : BitVec 32 := Scalar.subi v167 v169
  let c2_i32_62 : BitVec 32 := 2#32
  let c0_i32_65 : BitVec 32 := 0#32
  let v171 : BitVec 1 := Scalar.cmpi .sgt c2_i32_62 c0_i32_65
  let v172 : BitVec 32 := Scalar.extui v171
  let c0_i32_66 : BitVec 32 := 0#32
  let v173 : BitVec 1 := Scalar.cmpi .slt c2_i32_62 c0_i32_66
  let v174 : BitVec 32 := Scalar.extui v173
  let v175 : BitVec 32 := Scalar.subi v172 v174
  let v176 : BitVec 1 := Scalar.cmpi .ne v170 v175
  let v177 : BitVec 32 := Scalar.remsi v30 c2_i32_62
  let c0_i32_67 : BitVec 32 := 0#32
  let v178 : BitVec 1 := Scalar.cmpi .ne v177 c0_i32_67
  let v179 : BitVec 1 := Scalar.andi v176 v178
  let v165 : BitVec 32 := Scalar.divsi v30 c2_i32_62
  let c1_i32_68 : BitVec 32 := 1#32
  let v180 : BitVec 32 := Scalar.subi v165 c1_i32_68
  let v181 : BitVec 32 := Scalar.select v179 v180 v165
  let v184 : BitVec 32 := Scalar.subi v181 c0_i32_71
  let c1_i32_72 : BitVec 32 := 1#32
  let v186 : BitVec 32 := Scalar.divsi v184 c1_i32_72
  let v187 : BitVec 32 := Scalar.muli v186 c1_i32_72
  let v188 : BitVec 32 := Scalar.addi c0_i32_71 v187
  let c1_i32_74 : BitVec 32 := 1#32
  let arg11 : BitVec 32 := Scf.iv v188 c1_i32_74 k0_t6
  let v369 : BitVec 32 := Scalar.muli c2_i32_150 arg11
  let c1_i32_151 : BitVec 32 := 1#32
  let v370 : BitVec 32 := Scalar.addi v369 c1_i32_151
  let c256_i32_152 : BitVec 32 := 256#32
  let v371 : BitVec 32 := Scalar.muli v370 c256_i32_152
  let v372 : BitVec 32 := v371
  let v380 : Index := Scalar.indexCast v372
  let c0_157 : Index := 0#32
  ![v380.toNat, 0]
@[reducible] def k0_t7_loop (i : grid0.Coords) : Scf.Loop 32 :=
  let c0_i32_81 : BitVec 32 := 0#32
  let c2_i32 : BitVec 32 := 2#32
  let arg1 : BitVec 32 := BitVec.ofNat 32 (i 1).val
  let v30 : BitVec 32 := Scalar.muli c2_i32 arg1
  let c2_i32_75 : BitVec 32 := 2#32
  let c0_i32_76 : BitVec 32 := 0#32
  let v191 : BitVec 1 := Scalar.cmpi .eq c2_i32_75 c0_i32_76
  let c1_i32_77 : BitVec 32 := 1#32
  let v192 : BitVec 32 := Scalar.select v191 c1_i32_77 c2_i32_75
  let v193 : BitVec 32 := Scalar.remsi v30 v192
  let c0_i32_79 : BitVec 32 := 0#32
  let v195 : BitVec 1 := Scalar.cmpi .slt v193 c0_i32_79
  let c0_i32_80 : BitVec 32 := 0#32
  let v196 : BitVec 1 := Scalar.cmpi .slt v192 c0_i32_80
  let v197 : BitVec 1 := Scalar.xori v195 v196
  let c0_i32_78 : BitVec 32 := 0#32
  let v194 : BitVec 1 := Scalar.cmpi .ne v193 c0_i32_78
  let v198 : BitVec 1 := Scalar.andi v197 v194
  let v199 : BitVec 32 := Scalar.addi v193 v192
  let v200 : BitVec 32 := Scalar.select v198 v199 v193
  let v201 : BitVec 32 := Scalar.subi v200 c0_i32_81
  let c1_i32_82 : BitVec 32 := 1#32
  let v203 : BitVec 32 := Scalar.divsi v201 c1_i32_82
  let v204 : BitVec 32 := Scalar.muli v203 c1_i32_82
  let v205 : BitVec 32 := Scalar.addi c0_i32_81 v204
  let c1_i32_83 : BitVec 32 := 1#32
  ⟨c0_i32_81, v205, c1_i32_83⟩
def k0_mult13 (i : grid0.Coords) : BitVec 32 :=
  let c2_i32 : BitVec 32 := 2#32
  let arg1 : BitVec 32 := BitVec.ofNat 32 (i 1).val
  let v30 : BitVec 32 := Scalar.muli c2_i32 arg1
  let c1_i32_132 : BitVec 32 := 1#32
  let v325 : BitVec 32 := Scalar.subi v30 c1_i32_132
  let c256_i32_133 : BitVec 32 := 256#32
  let v326 : BitVec 32 := Scalar.muli v325 c256_i32_133
  v326
def k0_off15 (i : grid0.Coords) : Fin 3 → Nat :=
  let c2_i32 : BitVec 32 := 2#32
  let arg1 : BitVec 32 := BitVec.ofNat 32 (i 1).val
  let v30 : BitVec 32 := Scalar.muli c2_i32 arg1
  let c1_i32_132 : BitVec 32 := 1#32
  let v325 : BitVec 32 := Scalar.subi v30 c1_i32_132
  let v328 : Index := Scalar.indexCast v325
  let c0_134 : Index := 0#32
  let c0_135 : Index := 0#32
  ![v328.toNat, 0, 0]
def k0_off16 (i : grid0.Coords) : Fin 2 → Nat :=
  let c2_i32 : BitVec 32 := 2#32
  let arg1 : BitVec 32 := BitVec.ofNat 32 (i 1).val
  let v30 : BitVec 32 := Scalar.muli c2_i32 arg1
  let c1_i32_132 : BitVec 32 := 1#32
  let v325 : BitVec 32 := Scalar.subi v30 c1_i32_132
  let c256_i32_133 : BitVec 32 := 256#32
  let v326 : BitVec 32 := Scalar.muli v325 c256_i32_133
  let v327 : BitVec 32 := v326
  let v335 : Index := Scalar.indexCast v327
  let c0_138 : Index := 0#32
  ![v335.toNat, 0]
@[reducible] def k0_t8_loop (i : grid0.Coords) : Scf.Loop 32 :=
  let c0_i32_81 : BitVec 32 := 0#32
  let c2_i32 : BitVec 32 := 2#32
  let arg1 : BitVec 32 := BitVec.ofNat 32 (i 1).val
  let v30 : BitVec 32 := Scalar.muli c2_i32 arg1
  let c2_i32_75 : BitVec 32 := 2#32
  let c0_i32_76 : BitVec 32 := 0#32
  let v191 : BitVec 1 := Scalar.cmpi .eq c2_i32_75 c0_i32_76
  let c1_i32_77 : BitVec 32 := 1#32
  let v192 : BitVec 32 := Scalar.select v191 c1_i32_77 c2_i32_75
  let v193 : BitVec 32 := Scalar.remsi v30 v192
  let c0_i32_79 : BitVec 32 := 0#32
  let v195 : BitVec 1 := Scalar.cmpi .slt v193 c0_i32_79
  let c0_i32_80 : BitVec 32 := 0#32
  let v196 : BitVec 1 := Scalar.cmpi .slt v192 c0_i32_80
  let v197 : BitVec 1 := Scalar.xori v195 v196
  let c0_i32_78 : BitVec 32 := 0#32
  let v194 : BitVec 1 := Scalar.cmpi .ne v193 c0_i32_78
  let v198 : BitVec 1 := Scalar.andi v197 v194
  let v199 : BitVec 32 := Scalar.addi v193 v192
  let v200 : BitVec 32 := Scalar.select v198 v199 v193
  let v201 : BitVec 32 := Scalar.subi v200 c0_i32_81
  let c1_i32_82 : BitVec 32 := 1#32
  let v203 : BitVec 32 := Scalar.divsi v201 c1_i32_82
  let v204 : BitVec 32 := Scalar.muli v203 c1_i32_82
  let v205 : BitVec 32 := Scalar.addi c0_i32_81 v204
  let v202 : BitVec 32 := Scalar.addi c0_i32_81 v201
  let c1_i32_84 : BitVec 32 := 1#32
  ⟨v205, v202, c1_i32_84⟩
def k0_mult14 (i : grid0.Coords) : BitVec 32 :=
  let c2_i32 : BitVec 32 := 2#32
  let arg1 : BitVec 32 := BitVec.ofNat 32 (i 1).val
  let v30 : BitVec 32 := Scalar.muli c2_i32 arg1
  let c1_i32_132 : BitVec 32 := 1#32
  let v325 : BitVec 32 := Scalar.subi v30 c1_i32_132
  let c256_i32_133 : BitVec 32 := 256#32
  let v326 : BitVec 32 := Scalar.muli v325 c256_i32_133
  v326
def k0_off17 (i : grid0.Coords) : Fin 3 → Nat :=
  let c2_i32 : BitVec 32 := 2#32
  let arg1 : BitVec 32 := BitVec.ofNat 32 (i 1).val
  let v30 : BitVec 32 := Scalar.muli c2_i32 arg1
  let c1_i32_132 : BitVec 32 := 1#32
  let v325 : BitVec 32 := Scalar.subi v30 c1_i32_132
  let v328 : Index := Scalar.indexCast v325
  let c0_134 : Index := 0#32
  let c0_135 : Index := 0#32
  ![v328.toNat, 0, 0]
def k0_off18 (i : grid0.Coords) : Fin 2 → Nat :=
  let c2_i32 : BitVec 32 := 2#32
  let arg1 : BitVec 32 := BitVec.ofNat 32 (i 1).val
  let v30 : BitVec 32 := Scalar.muli c2_i32 arg1
  let c1_i32_132 : BitVec 32 := 1#32
  let v325 : BitVec 32 := Scalar.subi v30 c1_i32_132
  let c256_i32_133 : BitVec 32 := 256#32
  let v326 : BitVec 32 := Scalar.muli v325 c256_i32_133
  let v327 : BitVec 32 := v326
  let v335 : Index := Scalar.indexCast v327
  let c0_138 : Index := 0#32
  ![v335.toNat, 0]
def k0_mult15 (i : grid0.Coords) : BitVec 32 :=
  let c2_i32 : BitVec 32 := 2#32
  let arg1 : BitVec 32 := BitVec.ofNat 32 (i 1).val
  let v30 : BitVec 32 := Scalar.muli c2_i32 arg1
  let c0_i32_85 : BitVec 32 := 0#32
  let v208 : BitVec 32 := Scalar.addi v30 c0_i32_85
  let c256_i32_89 : BitVec 32 := 256#32
  let v219 : BitVec 32 := Scalar.muli v208 c256_i32_89
  v219
def k0_mult16 (i : grid0.Coords) : BitVec 32 :=
  let c2_i32 : BitVec 32 := 2#32
  let arg1 : BitVec 32 := BitVec.ofNat 32 (i 1).val
  let v30 : BitVec 32 := Scalar.muli c2_i32 arg1
  let c1_i32_108 : BitVec 32 := 1#32
  let v266 : BitVec 32 := Scalar.addi v30 c1_i32_108
  let c256_i32_112 : BitVec 32 := 256#32
  let v277 : BitVec 32 := Scalar.muli v266 c256_i32_112
  v277
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x1024 : Shape := ⟨2, ![2048, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x64x2048 : Shape := ⟨3, ![16, 64, 2048]⟩

abbrev nBuf : Space → Nat
  | .hbm => 175
  | .vmem => 0
  | .smem => 0
  | _ => 0

abbrev hbmTy0_0 (i : Nat) : BufTy := match i % 128 with
  | 0 => ⟨S2048x1024, .bf16⟩
  | 1 => ⟨S2048x1024, .bf16⟩
  | 2 => ⟨S2048x1024, .bf16⟩
  | 3 => ⟨S2048x1024, .bf16⟩
  | 4 => ⟨S2048x1024, .f32⟩
  | 5 => ⟨S2048x1024, .f32⟩
  | 6 => ⟨S2048x1024, .f32⟩
  | 7 => ⟨S2048x16x64, .f32⟩
  | 8 => ⟨S16x2048x64, .f32⟩
  | 9 => ⟨S2048x16x64, .f32⟩
  | 10 => ⟨S16x2048x64, .f32⟩
  | 11 => ⟨S2048x16x64, .f32⟩
  | 12 => ⟨S16x2048x64, .f32⟩
  | 13 => ⟨S16x2048x2048, .f32⟩
  | 14 => ⟨S2048, .i32⟩
  | 15 => ⟨S1x2048, .i32⟩
  | 16 => ⟨S2048, .i32⟩
  | 17 => ⟨S2048x1, .i32⟩
  | 18 => ⟨S2048x2048, .i32⟩
  | 19 => ⟨S2048x2048, .i32⟩
  | 20 => ⟨S2048x2048, .i1⟩
  | 21 => ⟨S16x2048x2048, .f32⟩
  | 22 => ⟨S16x2048x2048, .f32⟩
  | 23 => ⟨S_, .f32⟩
  | 24 => ⟨S16x2048x2048, .f32⟩
  | 25 => ⟨S16x2048x2048, .f32⟩
  | 26 => ⟨S16x2048x2048, .f32⟩
  | 27 => ⟨S16x2048x2048, .f32⟩
  | 28 => ⟨S16x2048x2048, .i1⟩
  | 29 => ⟨S16x2048x2048, .f32⟩
  | 30 => ⟨S16x2048x2048, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S_, .f32⟩
  | 38 => ⟨S16x2048x2048, .f32⟩
  | 39 => ⟨S16x2048x2048, .i1⟩
  | 40 => ⟨S_, .f32⟩
  | 41 => ⟨S16x2048x2048, .f32⟩
  | 42 => ⟨S16x2048x2048, .f32⟩
  | 43 => ⟨S_, .f32⟩
  | 44 => ⟨S16x2048x2048, .f32⟩
  | 45 => ⟨S16x2048x2048, .i1⟩
  | 46 => ⟨S_, .f32⟩
  | 47 => ⟨S16x2048x2048, .f32⟩
  | 48 => ⟨S16x2048x2048, .f32⟩
  | 49 => ⟨S16x2048x2048, .f32⟩
  | 50 => ⟨S16x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x2048x2048, .f32⟩
  | 59 => ⟨S16x2048x2048, .i1⟩
  | 60 => ⟨S_, .f32⟩
  | 61 => ⟨S16x2048x2048, .f32⟩
  | 62 => ⟨S16x2048x2048, .f32⟩
  | 63 => ⟨S16x2048x2048, .f32⟩
  | 64 => ⟨S16x2048x2048, .f32⟩
  | 65 => ⟨S16x2048x2048, .f32⟩
  | 66 => ⟨S_, .f32⟩
  | 67 => ⟨S16x2048x2048, .f32⟩
  | 68 => ⟨S16x2048x2048, .f32⟩
  | 69 => ⟨S16x2048x2048, .f32⟩
  | 70 => ⟨S_, .f32⟩
  | 71 => ⟨S_, .f32⟩
  | 72 => ⟨S16x2048x2048, .i1⟩
  | 73 => ⟨S16x2048x2048, .f32⟩
  | 74 => ⟨S16x2048x2048, .f32⟩
  | 75 => ⟨S_, .f32⟩
  | 76 => ⟨S16x2048x2048, .f32⟩
  | 77 => ⟨S_, .f32⟩
  | 78 => ⟨S_, .f32⟩
  | 79 => ⟨S16x2048x2048, .f32⟩
  | 80 => ⟨S16x2048x2048, .f32⟩
  | 81 => ⟨S16x2048x2048, .f32⟩
  | 82 => ⟨S_, .f32⟩
  | 83 => ⟨S16x2048x2048, .f32⟩
  | 84 => ⟨S16x2048x2048, .f32⟩
  | 85 => ⟨S16x2048x2048, .f32⟩
  | 86 => ⟨S16x2048x2048, .f32⟩
  | 87 => ⟨S16x2048x2048, .i1⟩
  | 88 => ⟨S16x2048x2048, .f32⟩
  | 89 => ⟨S16x2048x2048, .f32⟩
  | 90 => ⟨S16x2048x2048, .f32⟩
  | 91 => ⟨S16x2048x2048, .f32⟩
  | 92 => ⟨S16x2048x2048, .f32⟩
  | 93 => ⟨S16x2048x2048, .f32⟩
  | 94 => ⟨S16x2048x2048, .f32⟩
  | 95 => ⟨S16x2048x2048, .f32⟩
  | 96 => ⟨S_, .f32⟩
  | 97 => ⟨S16x2048x2048, .f32⟩
  | 98 => ⟨S16x2048x2048, .i1⟩
  | 99 => ⟨S_, .f32⟩
  | 100 => ⟨S16x2048x2048, .f32⟩
  | 101 => ⟨S16x2048x2048, .f32⟩
  | 102 => ⟨S_, .f32⟩
  | 103 => ⟨S16x2048x2048, .f32⟩
  | 104 => ⟨S16x2048x2048, .i1⟩
  | 105 => ⟨S_, .f32⟩
  | 106 => ⟨S16x2048x2048, .f32⟩
  | 107 => ⟨S16x2048x2048, .f32⟩
  | 108 => ⟨S16x2048x2048, .f32⟩
  | 109 => ⟨S16x2048x2048, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x2048x2048, .f32⟩
  | 118 => ⟨S16x2048x2048, .i1⟩
  | 119 => ⟨S_, .f32⟩
  | 120 => ⟨S16x2048x2048, .f32⟩
  | 121 => ⟨S16x2048x2048, .f32⟩
  | 122 => ⟨S16x2048x2048, .f32⟩
  | 123 => ⟨S16x2048x2048, .f32⟩
  | 124 => ⟨S16x2048x2048, .f32⟩
  | 125 => ⟨S_, .f32⟩
  | 126 => ⟨S16x2048x2048, .f32⟩
  | 127 => ⟨S16x2048x2048, .f32⟩
  | _ => ⟨S2048x1024, .bf16⟩

abbrev hbmTy0_1 (i : Nat) : BufTy := match i % 128 with
  | 0 => ⟨S16x2048x2048, .f32⟩
  | 1 => ⟨S16x2048x2048, .f32⟩
  | 2 => ⟨S16x2048x2048, .f32⟩
  | 3 => ⟨S_, .f32⟩
  | 4 => ⟨S_, .f32⟩
  | 5 => ⟨S16x2048x2048, .i1⟩
  | 6 => ⟨S16x2048x2048, .f32⟩
  | 7 => ⟨S16x2048x2048, .f32⟩
  | 8 => ⟨S_, .f32⟩
  | 9 => ⟨S16x2048x2048, .f32⟩
  | 10 => ⟨S16x2048x64, .f32⟩
  | 11 => ⟨S2048x16x64, .f32⟩
  | 12 => ⟨S2048x1024, .f32⟩
  | 13 => ⟨S2048x1024, .f32⟩
  | 14 => ⟨S2048x16x64, .f32⟩
  | 15 => ⟨S16x2048x64, .f32⟩
  | 16 => ⟨S16x64x2048, .f32⟩
  | 17 => ⟨S16x2048x64, .f32⟩
  | 18 => ⟨S16x2048x2048, .f32⟩
  | 19 => ⟨S_, .f32⟩
  | 20 => ⟨S16x2048x2048, .f32⟩
  | 21 => ⟨S16x2048x2048, .f32⟩
  | 22 => ⟨S16x2048x2048, .f32⟩
  | 23 => ⟨S16x2048x2048, .f32⟩
  | 24 => ⟨S16x2048x2048, .f32⟩
  | 25 => ⟨S16x2048x2048, .f32⟩
  | 26 => ⟨S16x2048x2048, .f32⟩
  | 27 => ⟨S_, .f32⟩
  | 28 => ⟨S_, .f32⟩
  | 29 => ⟨S16x2048x2048, .f32⟩
  | 30 => ⟨S16x2048x2048, .f32⟩
  | 31 => ⟨S_, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x64, .f32⟩
  | 40 => ⟨S16x2048x64, .f32⟩
  | 41 => ⟨S2048x16x64, .f32⟩
  | 42 => ⟨S2048x1024, .f32⟩
  | 43 => ⟨S2048x16x64, .f32⟩
  | 44 => ⟨S2048x1024, .f32⟩
  | 45 => ⟨S2048x16x64, .f32⟩
  | 46 => ⟨S2048x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v18_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v18_2 : Ref sig .tc := ⟨.hbm, 68, rfl⟩
abbrev main_v18_0 : Ref sig .tc := ⟨.hbm, 69, rfl⟩
abbrev main_cst : Ref sig .tc := ⟨.hbm, 70, rfl⟩
abbrev main_call1_v0 : Ref sig .tc := ⟨.hbm, 71, rfl⟩
abbrev main_v19_1 : Ref sig .tc := ⟨.hbm, 72, rfl⟩
abbrev main_call1_v2 : Ref sig .tc := ⟨.hbm, 73, rfl⟩
abbrev main_v19_0 : Ref sig .tc := ⟨.hbm, 74, rfl⟩
abbrev main_call1_cst : Ref sig .tc := ⟨.hbm, 75, rfl⟩
abbrev main_v19_2 : Ref sig .tc := ⟨.hbm, 76, rfl⟩
abbrev main_call2_cst : Ref sig .tc := ⟨.hbm, 77, rfl⟩
abbrev main_call2_v0 : Ref sig .tc := ⟨.hbm, 78, rfl⟩
abbrev main_v20 : Ref sig .tc := ⟨.hbm, 79, rfl⟩
abbrev main_v21 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v22_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v22_2 : Ref sig .tc := ⟨.hbm, 127, rfl⟩
abbrev main_v22_0 : Ref sig .tc := ⟨.hbm, 128, rfl⟩
abbrev main_v23 : Ref sig .tc := ⟨.hbm, 129, rfl⟩
abbrev main_v24 : Ref sig .tc := ⟨.hbm, 130, rfl⟩
abbrev main_cst_0 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_call5_cst : Ref sig .tc := ⟨.hbm, 147, rfl⟩
abbrev main_call5_v0 : Ref sig .tc := ⟨.hbm, 148, rfl⟩
abbrev main_v35 : Ref sig .tc := ⟨.hbm, 149, rfl⟩
abbrev main_v36 : Ref sig .tc := ⟨.hbm, 150, rfl⟩
abbrev main_call6_v0 : Ref sig .tc := ⟨.hbm, 151, rfl⟩
abbrev main_call6_v1 : Ref sig .tc := ⟨.hbm, 152, rfl⟩
abbrev main_v37 : Ref sig .tc := ⟨.hbm, 153, rfl⟩
abbrev main_v38 : Ref sig .tc := ⟨.hbm, 154, rfl⟩
abbrev main_call7_cst : Ref sig .tc := ⟨.hbm, 155, rfl⟩
abbrev main_call7_v0 : Ref sig .tc := ⟨.hbm, 156, rfl⟩
abbrev main_v39 : Ref sig .tc := ⟨.hbm, 157, rfl⟩
abbrev main_v40 : Ref sig .tc := ⟨.hbm, 158, rfl⟩
abbrev main_call8_cst : Ref sig .tc := ⟨.hbm, 159, rfl⟩
abbrev main_call8_v0 : Ref sig .tc := ⟨.hbm, 160, rfl⟩
abbrev main_v41 : Ref sig .tc := ⟨.hbm, 161, rfl⟩
abbrev main_call9_v0 : Ref sig .tc := ⟨.hbm, 162, rfl⟩
abbrev main_call9_v1 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S512x1024 : Shape := ⟨2, ![512, 1024]⟩
abbrev S512x4096 : Shape := ⟨2, ![512, 4096]⟩

abbrev nBuf : Space → Nat
  | .hbm => 28
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .bf16⟩
  | .hbm, ⟨26, _⟩ => ⟨S4096x1024, .bf16⟩
  | .hbm, ⟨27, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .i1⟩
  | .hbm, ⟨28, _⟩ => ⟨S_, .f32⟩
  | .hbm, ⟨29, _⟩ => ⟨S2048x4096, .f32⟩
  | .hbm, ⟨30, _⟩ => ⟨S2048x4096, .f32⟩
  | .hbm, ⟨31, _⟩ => ⟨S2048x1024, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S2048x512 : Shape := ⟨2, ![2048, 512]⟩
abbrev S512x1024 : Shape := ⟨2, ![512, 1024]⟩

abbrev nBuf : Space → Nat
  | .hbm => 28
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .bf16⟩
  | .hbm, ⟨27, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x1024, .f32⟩
  | .hbm, ⟨27, _⟩ => ⟨S1024x4096, .f32⟩
  | .hbm, ⟨28, _⟩ => ⟨S4096x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x4096 : Shape := ⟨2, ![512, 4096]⟩
abbrev S512x1024 : Shape := ⟨2, ![512, 1024]⟩
abbrev S512x1 : Shape := ⟨2, ![512, 1]⟩
abbrev S1x1024x1024 : Shape := ⟨3, ![1, 1024, 1024]⟩
abbrev S1024x1024 : Shape := ⟨2, ![1024, 1024]⟩
abbrev S512 : Shape := ⟨1, ![512]⟩

abbrev nBuf : Space → Nat
  | .hbm => 22
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S1024x4x1024, .f32⟩
  | .hbm, ⟨17, _⟩ => ⟨S4x1024x1024, .f32⟩
  | .hbm, ⟨18, _⟩ => ⟨S4x1024x1024, .bf16⟩
  | .hbm, ⟨19, _⟩ => ⟨S1x1024, .f32⟩
  | .hbm, ⟨20, _⟩ => ⟨S2048x1024, .f32⟩
  | .hbm, ⟨21, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S2048x1 : Shape := ⟨2, ![2048, 1]⟩
abbrev S2048x4096 : Shape := ⟨2, ![2048, 4096]⟩
abbrev S256x1024 : Shape := ⟨2, ![256, 1024]⟩
abbrev S256x1 : Shape := ⟨2, ![256, 1]⟩
abbrev S256x4096 : Shape := ⟨2, ![256, 4096]⟩
abbrev S256 : Shape := ⟨1, ![256]⟩
abbrev S1x1024x1024 : Shape := ⟨3, ![1, 1024, 1024]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x1024, .bf16⟩
  | .hbm, ⟨9, _⟩ => ⟨S2048x1024, .bf16⟩
  | .hbm, ⟨10, _⟩ => ⟨S2048x1, .f32⟩
  | .hbm, ⟨11, _⟩ => ⟨S2048x4096, .bf16⟩
  | .hbm, ⟨12, _⟩ => ⟨S2048x4096, .bf16⟩
  | .hbm, ⟨13, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1, .f32⟩
  | .local _ .vmem, ⟨8, _⟩ => ⟨S256x1, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1, .f32⟩
  | .hbm, ⟨55, _⟩ => ⟨S2048x4096, .bf16⟩
  | .hbm, ⟨56, _⟩ => ⟨S2048x4096, .f32⟩
  | .hbm, ⟨57, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel7.lean ====
abbrev S2048x1024 : Shape := ⟨2, ![2048, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S2048x1 : Shape := ⟨2, ![2048, 1]⟩
abbrev S2048x4096 : Shape := ⟨2, ![2048, 4096]⟩
abbrev S512x1024 : Shape := ⟨2, ![512, 1024]⟩
abbrev S512x1 : Shape := ⟨2, ![512, 1]⟩
abbrev S512x4096 : Shape := ⟨2, ![512, 4096]⟩
abbrev S512 : Shape := ⟨1, ![512]⟩
abbrev S1x1024x1024 : Shape := ⟨3, ![1, 1024, 1024]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S2048x1024, .bf16⟩
  | .hbm, ⟨8, _⟩ => ⟨S2048x1, .f32⟩
  | .hbm, ⟨9, _⟩ => ⟨S2048x4096, .bf16⟩
  | .hbm, ⟨10, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x4096, .bf16⟩
  | .hbm, ⟨52, _⟩ => ⟨S2048x4096, .f32⟩
  | .hbm, ⟨53, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel8.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S512x4096 : Shape := ⟨2, ![512, 4096]⟩
abbrev S512x1024 : Shape := ⟨2, ![512, 1024]⟩

abbrev nBuf : Space → Nat
  | .hbm => 28
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .bf16⟩
  | .hbm, ⟨26, _⟩ => ⟨S4096x1024, .bf16⟩
  | .hbm, ⟨27, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel9.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S1024x4x512 : Shape := ⟨3, ![1024, 4, 512]⟩
abbrev S4x1024x512 : Shape := ⟨3, ![4, 1024, 512]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x2048 : Shape := ⟨2, ![512, 2048]⟩
abbrev S512x1024 : Shape := ⟨2, ![512, 1024]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩

abbrev nBuf : Space → Nat
  | .hbm => 22
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x2048, .bf16⟩
  | .hbm, ⟨4, _⟩ => ⟨S2048x1024, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x2048, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2048, .f32⟩
  | .hbm, ⟨26, _⟩ => ⟨S2048x2048, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x2048, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S4x1024x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x4x512 : Shape := ⟨3, ![1024, 4, 512]⟩
abbrev S4x1024x512 : Shape := ⟨3, ![4, 1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x2048, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x2048, .f32⟩
  | .hbm, ⟨22, _⟩ => ⟨S2048x1024, .f32⟩
  | .hbm, ⟨23, _⟩ => ⟨S1024x2048, .f32⟩
  | .hbm, ⟨24, _⟩ => ⟨S1024x4x512, .f32⟩
  | .hbm, ⟨25, _⟩ => ⟨S4x1024x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel11.lean ====
abbrev S2048x1024 : Shape := ⟨2, ![2048, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S2048x1 : Shape := ⟨2, ![2048, 1]⟩
abbrev S2048x2048 : Shape := ⟨2, ![2048, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x4x512, .f32⟩
  | .hbm, ⟨5, _⟩ => ⟨S4x1024x512, .f32⟩
  | .hbm, ⟨6, _⟩ => ⟨S4x1024x512, .bf16⟩
  | .hbm, ⟨7, _⟩ => ⟨S2048x1024, .bf16⟩
  | .hbm, ⟨8, _⟩ => ⟨S2048x1, .f32⟩
  | .hbm, ⟨9, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x2048, .f32⟩
  | .local _ .vmem, ⟨9, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x1024 : Shape := ⟨2, ![2048, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel12.lean ====
abbrev S2048x1024 : Shape := ⟨2, ![2048, 1024]⟩
abbrev S1024 : Shape := ⟨1, ![1024]⟩
abbrev S1024x2048 : Shape := ⟨2, ![1024, 2048]⟩
abbrev S64 : Shape := ⟨1, ![64]⟩
abbrev S1x1024 : Shape := ⟨2, ![1, 1024]⟩
abbrev S1024x4x512 : Shape := ⟨3, ![1024, 4, 512]⟩
abbrev S4x1024x512 : Shape := ⟨3, ![4, 1024, 512]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x1 : Shape := ⟨2, ![2048, 1]⟩
abbrev S2048x2048 : Shape := ⟨2, ![2048, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩

abbrev nBuf : Space → Nat
  | .hbm => 17
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S1x1024, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S1x64, .f32⟩
  | .hbm, ⟨9, _⟩ => ⟨S1x1x1x64, .f32⟩
  | .hbm, ⟨10, _⟩ => ⟨S1x1x2x64, .f32⟩
  | .hbm, ⟨11, _⟩ => ⟨S1x128, .f32⟩
  | .hbm, ⟨12, _⟩ => ⟨S2048x1024, .bf16⟩
  | .hbm, ⟨13, _⟩ => ⟨S2048x1, .f32⟩
  | .hbm, ⟨14, _⟩ => ⟨S2048x2048, .f32⟩
  | .hbm, ⟨15, _⟩ => ⟨S2048x1024, .bf16⟩
  | .hbm, ⟨16, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x1, .f32⟩
  | .local _ .vmem, ⟨8, _⟩ => ⟨S512x1, .f32⟩
  | .local _ .vmem, ⟨9, _⟩ => ⟨S512x2048, .f32⟩
  | .local _ .vmem, ⟨10, _⟩ => ⟨S512x2048, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v8_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S2048x1024 : Shape := ⟨2, ![2048, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩
abbrev S2048x16x64 : Shape := ⟨3, ![2048, 16, 64]⟩
abbrev S2048x16 : Shape := ⟨2, ![2048, 16]⟩
abbrev S2048x16x1 : Shape := ⟨3, ![2048, 16, 1]⟩
abbrev S1x1x64 : Shape := ⟨3, ![1, 1, 64]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S2048x2048, .f32⟩
  | .hbm, ⟨68, _⟩ => ⟨S2048x16x64, .f32⟩
  | .hbm, ⟨69, _⟩ => ⟨S2048x16x64, .f32⟩
  | .hbm, ⟨70, _⟩ => ⟨S_, .f32⟩
  | .hbm, ⟨71, _⟩ => ⟨S2048x16, .f32⟩
  | .hbm, ⟨72, _⟩ => ⟨S2048x16x1, .f32⟩
  | .hbm, ⟨73, _⟩ => ⟨S_, .f32⟩
  | .hbm, ⟨74, _⟩ => ⟨S2048x16x1, .f32⟩
  | .hbm, ⟨75, _⟩ => ⟨S2048x16x1, .f32⟩
  | .hbm, ⟨76, _⟩ => ⟨S_, .f32⟩
  | .hbm, ⟨77, _⟩ => ⟨S2048x16x1, .f32⟩
  | .hbm, ⟨78, _⟩ => ⟨S2048x16x1, .f32⟩
  | .hbm, ⟨79, _⟩ => ⟨S2048x16x1, .f32⟩
  | .hbm, ⟨80, _⟩ => ⟨S2048x16x64, .f32⟩
  | .hbm, ⟨81, _⟩ => ⟨S2048x16x64, .f32⟩
  | .hbm, ⟨82, _⟩ => ⟨S1x1x64, .f32⟩
  | .hbm, ⟨83, _⟩ => ⟨S2048x16x64, .f32⟩
  | .hbm, ⟨84, _⟩ => ⟨S2048x16x64, .f32⟩
  | .hbm, ⟨85, _⟩ => ⟨S2048x1024, .f32⟩
  | .hbm, ⟨86, _⟩ => ⟨S2048x1024, .bf16⟩
  | .hbm, ⟨87, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel13.lean ====
abbrev S2048x1024 : Shape := ⟨2, ![2048, 1024]⟩
abbrev S1024 : Shape := ⟨1, ![1024]⟩
abbrev S1024x1024 : Shape := ⟨2, ![1024, 1024]⟩
abbrev S64 : Shape := ⟨1, ![64]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩
abbrev S512x128 : Shape := ⟨2, ![512, 128]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S1x1024, .f32⟩
  | .hbm, ⟨5, _⟩ => ⟨S1024x1024, .bf16⟩
  | .hbm, ⟨6, _⟩ => ⟨S1x64, .f32⟩
  | .hbm, ⟨7, _⟩ => ⟨S1x1x1x64, .f32⟩
  | .hbm, ⟨8, _⟩ => ⟨S1x1x2x64, .f32⟩
  | .hbm, ⟨9, _⟩ => ⟨S1x128, .f32⟩
  | .hbm, ⟨10, _⟩ => ⟨S2048x1024, .bf16⟩
  | .hbm, ⟨11, _⟩ => ⟨S2048x1, .f32⟩
  | .hbm, ⟨12, _⟩ => ⟨S2048x1024, .f32⟩
  | .hbm, ⟨13, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x1, .f32⟩
  | .local _ .vmem, ⟨8, _⟩ => ⟨S512x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x1024 : Shape := ⟨2, ![2048, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x16x64 : Shape := ⟨3, ![2048, 16, 64]⟩
abbrev S2048x16 : Shape := ⟨2, ![2048, 16]⟩
abbrev S2048x16x1 : Shape := ⟨3, ![2048, 16, 1]⟩
abbrev S1x1x64 : Shape := ⟨3, ![1, 1, 64]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x16x64, .f32⟩
  | .hbm, ⟨50, _⟩ => ⟨S2048x16x64, .f32⟩
  | .hbm, ⟨51, _⟩ => ⟨S_, .f32⟩
  | .hbm, ⟨52, _⟩ => ⟨S2048x16, .f32⟩
  | .hbm, ⟨53, _⟩ => ⟨S2048x16x1, .f32⟩
  | .hbm, ⟨54, _⟩ => ⟨S_, .f32⟩
  | .hbm, ⟨55, _⟩ => ⟨S2048x16x1, .f32⟩
  | .hbm, ⟨56, _⟩ => ⟨S2048x16x1, .f32⟩
  | .hbm, ⟨57, _⟩ => ⟨S_, .f32⟩
  | .hbm, ⟨58, _⟩ => ⟨S2048x16x1, .f32⟩
  | .hbm, ⟨59, _⟩ => ⟨S2048x16x1, .f32⟩
  | .hbm, ⟨60, _⟩ => ⟨S2048x16x1, .f32⟩
  | .hbm, ⟨61, _⟩ => ⟨S2048x16x64, .f32⟩
  | .hbm, ⟨62, _⟩ => ⟨S2048x16x64, .f32⟩
  | .hbm, ⟨63, _⟩ => ⟨S1x1x64, .f32⟩
  | .hbm, ⟨64, _⟩ => ⟨S2048x16x64, .f32⟩
  | .hbm, ⟨65, _⟩ => ⟨S2048x16x64, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel14.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 20
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .bf16⟩
  | .hbm, ⟨4, _⟩ => ⟨S2048x1024, .f32⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel15.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S512x1024 : Shape := ⟨2, ![512, 1024]⟩

abbrev nBuf : Space → Nat
  | .hbm => 22
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024x1024, .f32⟩
  | .hbm, ⟨23, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S2048x1024 : Shape := ⟨2, ![2048, 1024]⟩
abbrev S1024 : Shape := ⟨1, ![1024]⟩
abbrev S1024x1024 : Shape := ⟨2, ![1024, 1024]⟩
abbrev S2048x256 : Shape := ⟨2, ![2048, 256]⟩
abbrev S256x1024 : Shape := ⟨2, ![256, 1024]⟩
abbrev S1x1024 : Shape := ⟨2, ![1, 1024]⟩
abbrev S256x4x256 : Shape := ⟨3, ![256, 4, 256]⟩
abbrev S4x256x256 : Shape := ⟨3, ![4, 256, 256]⟩
abbrev S2048x1 : Shape := ⟨2, ![2048, 1]⟩
abbrev S256x256 : Shape := ⟨2, ![256, 256]⟩
abbrev S256x1 : Shape := ⟨2, ![256, 1]⟩
abbrev S256 : Shape := ⟨1, ![256]⟩
abbrev S1x256x256 : Shape := ⟨3, ![1, 256, 256]⟩

abbrev nBuf : Space → Nat
  | .hbm => 15
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x256, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x4x256, .f32⟩
  | .hbm, ⟨8, _⟩ => ⟨S4x256x256, .f32⟩
  | .hbm, ⟨9, _⟩ => ⟨S4x256x256, .bf16⟩
  | .hbm, ⟨10, _⟩ => ⟨S2048x1024, .bf16⟩
  | .hbm, ⟨11, _⟩ => ⟨S2048x1, .f32⟩
  | .hbm, ⟨12, _⟩ => ⟨S2048x1024, .f32⟩
  | .hbm, ⟨13, _⟩ => ⟨S2048x1024, .bf16⟩
  | .hbm, ⟨14, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x256, .f32⟩
  | .local _ .vmem, ⟨5, _⟩ => ⟨S256x256, .f32⟩
  | .local _ .vmem, ⟨6, _⟩ => ⟨S4x256x256, .bf16⟩
  | .local _ .vmem, ⟨7, _⟩ => ⟨S256x1024, .bf16⟩
  | .local _ .vmem, ⟨8, _⟩ => ⟨S256x1024, .bf16⟩
  | .local _ .vmem, ⟨9, _⟩ => ⟨S256x1, .f32⟩
  | .local _ .vmem, ⟨10, _⟩ => ⟨S256x1, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference20Ideal.lean ====
abbrev S2048x1024 : Shape := ⟨2, ![2048, 1024]⟩
abbrev S1024 : Shape := ⟨1, ![1024]⟩
abbrev S1024x1024 : Shape := ⟨2, ![1024, 1024]⟩
abbrev S2048x256 : Shape := ⟨2, ![2048, 256]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x1024, .bf16⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .bf16⟩
  | .hbm, ⟨60, _⟩ => ⟨S2048x1024, .f32⟩
  | .hbm, ⟨61, _⟩ => ⟨S2048x1024, .f32⟩
  | .hbm, ⟨62, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel21.lean ====
abbrev S2048x1024 : Shape := ⟨2, ![2048, 1024]⟩
abbrev S1024 : Shape := ⟨1, ![1024]⟩
abbrev S1024x1024 : Shape := ⟨2, ![1024, 1024]⟩
abbrev S2048x256 : Shape := ⟨2, ![2048, 256]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 50
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S1024x1024, .bf16⟩
  | .hbm, ⟨34, _⟩ => ⟨S1x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S1x1024, .f32⟩
  | .hbm, ⟨48, _⟩ => ⟨S2048x1024, .bf16⟩
  | .hbm, ⟨49, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_v32_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference21Ideal.lean ====
abbrev S2048x1024 : Shape := ⟨2, ![2048, 1024]⟩
abbrev S1024 : Shape := ⟨1, ![1024]⟩
abbrev S1024x1024 : Shape := ⟨2, ![1024, 1024]⟩
abbrev S2048x256 : Shape := ⟨2, ![2048, 256]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S1x1024, .f32⟩
  | .hbm, ⟨107, _⟩ => ⟨S2048x1024, .bf16⟩
  | .hbm, ⟨108, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel22.lean ====
abbrev S2048x256 : Shape := ⟨2, ![2048, 256]⟩
abbrev S256x1024 : Shape := ⟨2, ![256, 1024]⟩
abbrev S2048x1024 : Shape := ⟨2, ![2048, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .bf16⟩
  | .hbm, ⟨3, _⟩ => ⟨S4x256x256, .f32⟩
  | .local _ .vmem, ⟨0, _⟩ => ⟨S2048x256, .f32⟩
  | .local _ .vmem, ⟨1, _⟩ => ⟨S2048x256, .bf16⟩
  | .local _ .vmem, ⟨2, _⟩ => ⟨S2048x256, .bf16⟩
  | .local _ .vmem, ⟨3, _⟩ => ⟨S1x256x256, .f32⟩
  | .local _ .vmem, ⟨4, _⟩ => ⟨S1x256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S2048x256 : Shape := ⟨2, ![2048, 256]⟩
abbrev S256x1024 : Shape := ⟨2, ![256, 1024]⟩
abbrev S2048x1024 : Shape := ⟨2, ![2048, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S2048x1024 : Shape := ⟨2, ![2048, 1024]⟩
abbrev S512x128 : Shape := ⟨2, ![512, 128]⟩
abbrev S2048x128 : Shape := ⟨2, ![2048, 128]⟩
abbrev S256x256 : Shape := ⟨2, ![256, 256]⟩
abbrev S1024x128 : Shape := ⟨2, ![1024, 128]⟩
abbrev S1024x1 : Shape := ⟨2, ![1024, 1]⟩
abbrev S1024x256 : Shape := ⟨2, ![1024, 256]⟩
abbrev S256x128 : Shape := ⟨2, ![256, 128]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c2_i32 : BitVec 32 := 2#32
  let arg1 : BitVec 32 := BitVec.ofNat 32 (i 1).val
  let v17 : BitVec 32 := Scalar.muli c2_i32 arg1
  let c1_i32 : BitVec 32 := 1#32
  let v18 : BitVec 32 := Scalar.addi v17 c1_i32
  let c256_i32_6 : BitVec 32 := 256#32
  let v29 : BitVec 32 := Scalar.muli v18 c256_i32_6
  v29
def k0_off1 (i : grid0.Coords) (c1_i32 : BitVec 32) : Fin 2 → Nat :=
  let c2_i32 : BitVec 32 := 2#32
  let arg1 : BitVec 32 := BitVec.ofNat 32 (i 1).val
  let v17 : BitVec 32 := Scalar.muli c2_i32 arg1
  let v18 : BitVec 32 := Scalar.addi v17 c1_i32
  let c256_i32_6 : BitVec 32 := 256#32
  let v29 : BitVec 32 := Scalar.muli v18 c256_i32_6
  let v30 : BitVec 32 := v29
  let v31 : Index := Scalar.indexCast v30
  let c0_7 : Index := 0#32
  ![v31.toNat, 0]
def k0_mult2 (i : grid0.Coords) : BitVec 32 :=
  let c2_i32_18 : BitVec 32 := 2#32
  let arg1 : BitVec 32 := BitVec.ofNat 32 (i 1).val
  let v63 : BitVec 32 := Scalar.muli c2_i32_18 arg1
  let c0_i32 : BitVec 32 := 0#32
  let v64 : BitVec 32 := Scalar.addi v63 c0_i32
  let c256_i32_22 : BitVec 32 := 256#32
  let v75 : BitVec 32 := Scalar.muli v64 c256_i32_22
  v75
@[reducible] def k0_t1_loop (i : grid0.Coords) : Scf.Loop 32 :=
  let c0_i32_42 : BitVec 32 := 0#32
  let c2_i32_34 : BitVec 32 := 2#32
  let arg1 : BitVec 32 := BitVec.ofNat 32 (i 1).val
  let v109 : BitVec 32 := Scalar.muli c2_i32_34 arg1
  let c0_i32_36 : BitVec 32 := 0#32
  let v111 : BitVec 1 := Scalar.cmpi .sgt v109 c0_i32_36
  let v112 : BitVec 32 := Scalar.extui v111
  let c0_i32_37 : BitVec 32 := 0#32
  let v113 : BitVec 1 := Scalar.cmpi .slt v109 c0_i32_37
  let v114 : BitVec 32 := Scalar.extui v113
  let v115 : BitVec 32 := Scalar.subi v112 v114
  let c2_i32_35 : BitVec 32 := 2#32
  let c0_i32_38 : BitVec 32 := 0#32
  let v116 : BitVec 1 := Scalar.cmpi .sgt c2_i32_35 c0_i32_38
  let v117 : BitVec 32 := Scalar.extui v116
  let c0_i32_39 : BitVec 32 := 0#32
  let v118 : BitVec 1 := Scalar.cmpi .slt c2_i32_35 c0_i32_39
  let v119 : BitVec 32 := Scalar.extui v118
  let v120 : BitVec 32 := Scalar.subi v117 v119
  let v121 : BitVec 1 := Scalar.cmpi .ne v115 v120
  let v122 : BitVec 32 := Scalar.remsi v109 c2_i32_35
  let c0_i32_40 : BitVec 32 := 0#32
  let v123 : BitVec 1 := Scalar.cmpi .ne v122 c0_i32_40
  let v124 : BitVec 1 := Scalar.andi v121 v123
  let v110 : BitVec 32 := Scalar.divsi v109 c2_i32_35
  let c1_i32_41 : BitVec 32 := 1#32
  let v125 : BitVec 32 := Scalar.subi v110 c1_i32_41
  let v126 : BitVec 32 := Scalar.select v124 v125 v110
  let v127 : BitVec 32 := Scalar.subi v126 c0_i32_42
  let c1_i32_43 : BitVec 32 := 1#32
  let v129 : BitVec 32 := Scalar.divsi v127 c1_i32_43
  let v130 : BitVec 32 := Scalar.muli v129 c1_i32_43
  let v131 : BitVec 32 := Scalar.addi c0_i32_42 v130
  let c1_i32_44 : BitVec 32 := 1#32
  ⟨c0_i32_42, v131, c1_i32_44⟩
def k0_mult3 (i : grid0.Coords) (k0_t1 : Fin (k0_t1_loop i).trips) : BitVec 32 :=
  let c2_i32_34 : BitVec 32 := 2#32
  let arg1 : BitVec 32 := BitVec.ofNat 32 (i 1).val
  let v109 : BitVec 32 := Scalar.muli c2_i32_34 arg1
  let c1_i32_58 : BitVec 32 := 1#32
  let v156 : BitVec 32 := Scalar.subi v109 c1_i32_58
  let c2_i32_59 : BitVec 32 := 2#32
  let c0_i32_42 : BitVec 32 := 0#32
  let c1_i32_44 : BitVec 32 := 1#32
  let arg6 : BitVec 32 := Scf.iv c0_i32_42 c1_i32_44 k0_t1
  let v157 : BitVec 32 := Scalar.muli c2_i32_59 arg6
  let v158 : BitVec 32 := Scalar.subi v156 v157
  let c256_i32_60 : BitVec 32 := 256#32
  let v159 : BitVec 32 := Scalar.muli v158 c256_i32_60
  v159
def k0_off2 (i : grid0.Coords) (k0_t1 : Fin (k0_t1_loop i).trips) (c1_i32_58 : BitVec 32) : Fin 2 → Nat :=
  let c2_i32_34 : BitVec 32 := 2#32
  let arg1 : BitVec 32 := BitVec.ofNat 32 (i 1).val
  let v109 : BitVec 32 := Scalar.muli c2_i32_34 arg1
  let v156 : BitVec 32 := Scalar.subi v109 c1_i32_58
  let c2_i32_59 : BitVec 32 := 2#32
  let c0_i32_42 : BitVec 32 := 0#32
  let c1_i32_44 : BitVec 32 := 1#32
  let arg6 : BitVec 32 := Scf.iv c0_i32_42 c1_i32_44 k0_t1
  let v157 : BitVec 32 := Scalar.muli c2_i32_59 arg6
  let v158 : BitVec 32 := Scalar.subi v156 v157
  let c256_i32_60 : BitVec 32 := 256#32
  let v159 : BitVec 32 := Scalar.muli v158 c256_i32_60
  let v160 : BitVec 32 := v159
  let v161 : Index := Scalar.indexCast v160
  let c0_61 : Index := 0#32
  ![v161.toNat, 0]
def k0_mult4 (i : grid0.Coords) (k0_t1 : Fin (k0_t1_loop i).trips) : BitVec 32 :=
  let c2_i32_34 : BitVec 32 := 2#32
  let arg1 : BitVec 32 := BitVec.ofNat 32 (i 1).val
  let v109 : BitVec 32 := Scalar.muli c2_i32_34 arg1
  let c2_i32_70 : BitVec 32 := 2#32
  let v189 : BitVec 32 := Scalar.subi v109 c2_i32_70
  let c2_i32_71 : BitVec 32 := 2#32
  let c0_i32_42 : BitVec 32 := 0#32
  let c1_i32_44 : BitVec 32 := 1#32
  let arg6 : BitVec 32 := Scf.iv c0_i32_42 c1_i32_44 k0_t1
  let v190 : BitVec 32 := Scalar.muli c2_i32_71 arg6
  let v191 : BitVec 32 := Scalar.subi v189 v190
  let c256_i32_72 : BitVec 32 := 256#32
  let v192 : BitVec 32 := Scalar.muli v191 c256_i32_72
  v192
@[reducible] def k0_t2_loop (i : grid0.Coords) : Scf.Loop 32 :=
  let c0_i32_42 : BitVec 32 := 0#32
  let c2_i32_34 : BitVec 32 := 2#32
  let arg1 : BitVec 32 := BitVec.ofNat 32 (i 1).val
  let v109 : BitVec 32 := Scalar.muli c2_i32_34 arg1
  let c0_i32_36 : BitVec 32 := 0#32
  let v111 : BitVec 1 := Scalar.cmpi .sgt v109 c0_i32_36
  let v112 : BitVec 32 := Scalar.extui v111
  let c0_i32_37 : BitVec 32 := 0#32
  let v113 : BitVec 1 := Scalar.cmpi .slt v109 c0_i32_37
  let v114 : BitVec 32 := Scalar.extui v113
  let v115 : BitVec 32 := Scalar.subi v112 v114
  let c2_i32_35 : BitVec 32 := 2#32
  let c0_i32_38 : BitVec 32 := 0#32
  let v116 : BitVec 1 := Scalar.cmpi .sgt c2_i32_35 c0_i32_38
  let v117 : BitVec 32 := Scalar.extui v116
  let c0_i32_39 : BitVec 32 := 0#32
  let v118 : BitVec 1 := Scalar.cmpi .slt c2_i32_35 c0_i32_39
  let v119 : BitVec 32 := Scalar.extui v118
  let v120 : BitVec 32 := Scalar.subi v117 v119
  let v121 : BitVec 1 := Scalar.cmpi .ne v115 v120
  let v122 : BitVec 32 := Scalar.remsi v109 c2_i32_35
  let c0_i32_40 : BitVec 32 := 0#32
  let v123 : BitVec 1 := Scalar.cmpi .ne v122 c0_i32_40
  let v124 : BitVec 1 := Scalar.andi v121 v123
  let v110 : BitVec 32 := Scalar.divsi v109 c2_i32_35
  let c1_i32_41 : BitVec 32 := 1#32
  let v125 : BitVec 32 := Scalar.subi v110 c1_i32_41
  let v126 : BitVec 32 := Scalar.select v124 v125 v110
  let v127 : BitVec 32 := Scalar.subi v126 c0_i32_42
  let c1_i32_43 : BitVec 32 := 1#32
  let v129 : BitVec 32 := Scalar.divsi v127 c1_i32_43
  let v130 : BitVec 32 := Scalar.muli v129 c1_i32_43
  let v131 : BitVec 32 := Scalar.addi c0_i32_42 v130
  let v128 : BitVec 32 := Scalar.addi c0_i32_42 v127
  let c1_i32_45 : BitVec 32 := 1#32
  ⟨v131, v128, c1_i32_45⟩
def k0_mult5 (i : grid0.Coords) (k0_t2 : Fin (k0_t2_loop i).trips) : BitVec 32 :=
  let c2_i32_34 : BitVec 32 := 2#32
  let arg1 : BitVec 32 := BitVec.ofNat 32 (i 1).val
  let v109 : BitVec 32 := Scalar.muli c2_i32_34 arg1
  let c1_i32_58 : BitVec 32 := 1#32
  let v156 : BitVec 32 := Scalar.subi v109 c1_i32_58
  let c2_i32_59 : BitVec 32 := 2#32
  let c0_i32_42 : BitVec 32 := 0#32
  let c0_i32_36 : BitVec 32 := 0#32
  let v111 : BitVec 1 := Scalar.cmpi .sgt v109 c0_i32_36
  let v112 : BitVec 32 := Scalar.extui v111
  let c0_i32_37 : BitVec 32 := 0#32
  let v113 : BitVec 1 := Scalar.cmpi .slt v109 c0_i32_37
  let v114 : BitVec 32 := Scalar.extui v113
  let v115 : BitVec 32 := Scalar.subi v112 v114
  let c2_i32_35 : BitVec 32 := 2#32
  let c0_i32_38 : BitVec 32 := 0#32
  let v116 : BitVec 1 := Scalar.cmpi .sgt c2_i32_35 c0_i32_38
  let v117 : BitVec 32 := Scalar.extui v116
  let c0_i32_39 : BitVec 32 := 0#32
  let v118 : BitVec 1 := Scalar.cmpi .slt c2_i32_35 c0_i32_39
  let v119 : BitVec 32 := Scalar.extui v118
  let v120 : BitVec 32 := Scalar.subi v117 v119
  let v121 : BitVec 1 := Scalar.cmpi .ne v115 v120
  let v122 : BitVec 32 := Scalar.remsi v109 c2_i32_35
  let c0_i32_40 : BitVec 32 := 0#32
  let v123 : BitVec 1 := Scalar.cmpi .ne v122 c0_i32_40
  let v124 : BitVec 1 := Scalar.andi v121 v123
  let v110 : BitVec 32 := Scalar.divsi v109 c2_i32_35
  let c1_i32_41 : BitVec 32 := 1#32
  let v125 : BitVec 32 := Scalar.subi v110 c1_i32_41
  let v126 : BitVec 32 := Scalar.select v124 v125 v110
  let v127 : BitVec 32 := Scalar.subi v126 c0_i32_42
  let c1_i32_43 : BitVec 32 := 1#32
  let v129 : BitVec 32 := Scalar.divsi v127 c1_i32_43
  let v130 : BitVec 32 := Scalar.muli v129 c1_i32_43
  let v131 : BitVec 32 := Scalar.addi c0_i32_42 v130
  let c1_i32_45 : BitVec 32 := 1#32
  let arg6 : BitVec 32 := Scf.iv v131 c1_i32_45 k0_t2
  let v157 : BitVec 32 := Scalar.muli c2_i32_59 arg6
  let v158 : BitVec 32 := Scalar.subi v156 v157
  let c256_i32_60 : BitVec 32 := 256#32
  let v159 : BitVec 32 := Scalar.muli v158 c256_i32_60
  v159
def k0_off3 (i : grid0.Coords) (k0_t2 : Fin (k0_t2_loop i).trips) (c1_i32_58 : BitVec 32) : Fin 2 → Nat :=
  let c2_i32_34 : BitVec 32 := 2#32
  let arg1 : BitVec 32 := BitVec.ofNat 32 (i 1).val
  let v109 : BitVec 32 := Scalar.muli c2_i32_34 arg1
  let v156 : BitVec 32 := Scalar.subi v109 c1_i32_58
  let c2_i32_59 : BitVec 32 := 2#32
  let c0_i32_42 : BitVec 32 := 0#32
  let c0_i32_36 : BitVec 32 := 0#32
  let v111 : BitVec 1 := Scalar.cmpi .sgt v109 c0_i32_36
  let v112 : BitVec 32 := Scalar.extui v111
  let c0_i32_37 : BitVec 32 := 0#32
  let v113 : BitVec 1 := Scalar.cmpi .slt v109 c0_i32_37
  let v114 : BitVec 32 := Scalar.extui v113
  let v115 : BitVec 32 := Scalar.subi v112 v114
  let c2_i32_35 : BitVec 32 := 2#32
  let c0_i32_38 : BitVec 32 := 0#32
  let v116 : BitVec 1 := Scalar.cmpi .sgt c2_i32_35 c0_i32_38
  let v117 : BitVec 32 := Scalar.extui v116
  let c0_i32_39 : BitVec 32 := 0#32
  let v118 : BitVec 1 := Scalar.cmpi .slt c2_i32_35 c0_i32_39
  let v119 : BitVec 32 := Scalar.extui v118
  let v120 : BitVec 32 := Scalar.subi v117 v119
  let v121 : BitVec 1 := Scalar.cmpi .ne v115 v120
  let v122 : BitVec 32 := Scalar.remsi v109 c2_i32_35
  let c0_i32_40 : BitVec 32 := 0#32
  let v123 : BitVec 1 := Scalar.cmpi .ne v122 c0_i32_40
  let v124 : BitVec 1 := Scalar.andi v121 v123
  let v110 : BitVec 32 := Scalar.divsi v109 c2_i32_35
  let c1_i32_41 : BitVec 32 := 1#32
  let v125 : BitVec 32 := Scalar.subi v110 c1_i32_41
  let v126 : BitVec 32 := Scalar.select v124 v125 v110
  let v127 : BitVec 32 := Scalar.subi v126 c0_i32_42
  let c1_i32_43 : BitVec 32 := 1#32
  let v129 : BitVec 32 := Scalar.divsi v127 c1_i32_43
  let v130 : BitVec 32 := Scalar.muli v129 c1_i32_43
  let v131 : BitVec 32 := Scalar.addi c0_i32_42 v130
  let c1_i32_45 : BitVec 32 := 1#32
  let arg6 : BitVec 32 := Scf.iv v131 c1_i32_45 k0_t2
  let v157 : BitVec 32 := Scalar.muli c2_i32_59 arg6
  let v158 : BitVec 32 := Scalar.subi v156 v157
  let c256_i32_60 : BitVec 32 := 256#32
  let v159 : BitVec 32 := Scalar.muli v158 c256_i32_60
  let v160 : BitVec 32 := v159
  let v161 : Index := Scalar.indexCast v160
  let c0_61 : Index := 0#32
  ![v161.toNat, 0]
def k0_mult6 (i : grid0.Coords) (k0_t2 : Fin (k0_t2_loop i).trips) : BitVec 32 :=
  let c2_i32_34 : BitVec 32 := 2#32
  let arg1 : BitVec 32 := BitVec.ofNat 32 (i 1).val
  let v109 : BitVec 32 := Scalar.muli c2_i32_34 arg1
  let c2_i32_70 : BitVec 32 := 2#32
  let v189 : BitVec 32 := Scalar.subi v109 c2_i32_70
  let c2_i32_71 : BitVec 32 := 2#32
  let c0_i32_42 : BitVec 32 := 0#32
  let c0_i32_36 : BitVec 32 := 0#32
  let v111 : BitVec 1 := Scalar.cmpi .sgt v109 c0_i32_36
  let v112 : BitVec 32 := Scalar.extui v111
  let c0_i32_37 : BitVec 32 := 0#32
  let v113 : BitVec 1 := Scalar.cmpi .slt v109 c0_i32_37
  let v114 : BitVec 32 := Scalar.extui v113
  let v115 : BitVec 32 := Scalar.subi v112 v114
  let c2_i32_35 : BitVec 32 := 2#32
  let c0_i32_38 : BitVec 32 := 0#32
  let v116 : BitVec 1 := Scalar.cmpi .sgt c2_i32_35 c0_i32_38
  let v117 : BitVec 32 := Scalar.extui v116
  let c0_i32_39 : BitVec 32 := 0#32
  let v118 : BitVec 1 := Scalar.cmpi .slt c2_i32_35 c0_i32_39
  let v119 : BitVec 32 := Scalar.extui v118
  let v120 : BitVec 32 := Scalar.subi v117 v119
  let v121 : BitVec 1 := Scalar.cmpi .ne v115 v120
  let v122 : BitVec 32 := Scalar.remsi v109 c2_i32_35
  let c0_i32_40 : BitVec 32 := 0#32
  let v123 : BitVec 1 := Scalar.cmpi .ne v122 c0_i32_40
  let v124 : BitVec 1 := Scalar.andi v121 v123
  let v110 : BitVec 32 := Scalar.divsi v109 c2_i32_35
  let c1_i32_41 : BitVec 32 := 1#32
  let v125 : BitVec 32 := Scalar.subi v110 c1_i32_41
  let v126 : BitVec 32 := Scalar.select v124 v125 v110
  let v127 : BitVec 32 := Scalar.subi v126 c0_i32_42
  let c1_i32_43 : BitVec 32 := 1#32
  let v129 : BitVec 32 := Scalar.divsi v127 c1_i32_43
  let v130 : BitVec 32 := Scalar.muli v129 c1_i32_43
  let v131 : BitVec 32 := Scalar.addi c0_i32_42 v130
  let c1_i32_45 : BitVec 32 := 1#32
  let arg6 : BitVec 32 := Scf.iv v131 c1_i32_45 k0_t2
  let v190 : BitVec 32 := Scalar.muli c2_i32_71 arg6
  let v191 : BitVec 32 := Scalar.subi v189 v190
  let c256_i32_72 : BitVec 32 := 256#32
  let v192 : BitVec 32 := Scalar.muli v191 c256_i32_72
  v192
@[reducible] def k0_t3_loop (i : grid0.Coords) : Scf.Loop 32 :=
  let c0_i32_52 : BitVec 32 := 0#32
  let c2_i32_34 : BitVec 32 := 2#32
  let arg1 : BitVec 32 := BitVec.ofNat 32 (i 1).val
  let v109 : BitVec 32 := Scalar.muli c2_i32_34 arg1
  let c2_i32_46 : BitVec 32 := 2#32
  let c0_i32_47 : BitVec 32 := 0#32
  let v134 : BitVec 1 := Scalar.cmpi .eq c2_i32_46 c0_i32_47
  let c1_i32_48 : BitVec 32 := 1#32
  let v135 : BitVec 32 := Scalar.select v134 c1_i32_48 c2_i32_46
  let v136 : BitVec 32 := Scalar.remsi v109 v135
  let c0_i32_50 : BitVec 32 := 0#32
  let v138 : BitVec 1 := Scalar.cmpi .slt v136 c0_i32_50
  let c0_i32_51 : BitVec 32 := 0#32
  let v139 : BitVec 1 := Scalar.cmpi .slt v135 c0_i32_51
  let v140 : BitVec 1 := Scalar.xori v138 v139
  let c0_i32_49 : BitVec 32 := 0#32
  let v137 : BitVec 1 := Scalar.cmpi .ne v136 c0_i32_49
  let v141 : BitVec 1 := Scalar.andi v140 v137
  let v142 : BitVec 32 := Scalar.addi v136 v135
  let v143 : BitVec 32 := Scalar.select v141 v142 v136
  let v144 : BitVec 32 := Scalar.subi v143 c0_i32_52
  let c1_i32_53 : BitVec 32 := 1#32
  let v146 : BitVec 32 := Scalar.divsi v144 c1_i32_53
  let v147 : BitVec 32 := Scalar.muli v146 c1_i32_53
  let v148 : BitVec 32 := Scalar.addi c0_i32_52 v147
  let c1_i32_54 : BitVec 32 := 1#32
  ⟨c0_i32_52, v148, c1_i32_54⟩
def k0_mult7 : BitVec 32 :=
  let c0_i32_58 : BitVec 32 := 0#32
  c0_i32_58
@[reducible] def k0_t4_loop (i : grid0.Coords) : Scf.Loop 32 :=
  let c0_i32_52 : BitVec 32 := 0#32
  let c2_i32_34 : BitVec 32 := 2#32
  let arg1 : BitVec 32 := BitVec.ofNat 32 (i 1).val
  let v109 : BitVec 32 := Scalar.muli c2_i32_34 arg1
  let c2_i32_46 : BitVec 32 := 2#32
  let c0_i32_47 : BitVec 32 := 0#32
  let v134 : BitVec 1 := Scalar.cmpi .eq c2_i32_46 c0_i32_47
  let c1_i32_48 : BitVec 32 := 1#32
  let v135 : BitVec 32 := Scalar.select v134 c1_i32_48 c2_i32_46
  let v136 : BitVec 32 := Scalar.remsi v109 v135
  let c0_i32_50 : BitVec 32 := 0#32
  let v138 : BitVec 1 := Scalar.cmpi .slt v136 c0_i32_50
  let c0_i32_51 : BitVec 32 := 0#32
  let v139 : BitVec 1 := Scalar.cmpi .slt v135 c0_i32_51
  let v140 : BitVec 1 := Scalar.xori v138 v139
  let c0_i32_49 : BitVec 32 := 0#32
  let v137 : BitVec 1 := Scalar.cmpi .ne v136 c0_i32_49
  let v141 : BitVec 1 := Scalar.andi v140 v137
  let v142 : BitVec 32 := Scalar.addi v136 v135
  let v143 : BitVec 32 := Scalar.select v141 v142 v136
  let v144 : BitVec 32 := Scalar.subi v143 c0_i32_52
  let c1_i32_53 : BitVec 32 := 1#32
  let v146 : BitVec 32 := Scalar.divsi v144 c1_i32_53
  let v147 : BitVec 32 := Scalar.muli v146 c1_i32_53
  let v148 : BitVec 32 := Scalar.addi c0_i32_52 v147
  let v145 : BitVec 32 := Scalar.addi c0_i32_52 v144
  let c1_i32_55 : BitVec 32 := 1#32
  ⟨v148, v145, c1_i32_55⟩
def k0_mult8 : BitVec 32 :=
  let c0_i32_58 : BitVec 32 := 0#32
  c0_i32_58
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S2048x1024 : Shape := ⟨2, ![2048, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x16x64, .f32⟩
  | .hbm, ⟨7, _⟩ => ⟨S16x2048x64, .f32⟩
  | .hbm, ⟨8, _⟩ => ⟨S2048x16x64, .f32⟩
  | .hbm, ⟨9, _⟩ => ⟨S16x2048x64, .f32⟩
  | .hbm, ⟨10, _⟩ => ⟨S2048x16x64, .f32⟩
  | .hbm, ⟨11, _⟩ => ⟨S16x2048x64, .f32⟩
  | .hbm, ⟨12, _⟩ => ⟨S16x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .i1⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S_, .f32⟩
  | .hbm, ⟨39, _⟩ => ⟨S16x2048x2048, .i1⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S_, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S_, .f32⟩
  | .hbm, ⟨48, _⟩ => ⟨S16x2048x2048, .f32⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S16x2048x2048, .i1⟩
  | .hbm, ⟨53, _⟩ => ⟨S16x2048x2048, .f32⟩
  | .hbm, ⟨54, _⟩ => ⟨S16x2048x2048, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S_, .f32⟩
  | .hbm, ⟨66, _⟩ => ⟨S16x2048x2048, .i1⟩
  | .hbm, ⟨67, _⟩ => ⟨S16x2048x2048, .f32⟩
  | .hbm, ⟨68, _⟩ => ⟨S16x2048x2048, .f32⟩
  | .hbm, ⟨69, _⟩ => ⟨S16x2048x64, .f32⟩
  | .hbm, ⟨70, _⟩ => ⟨S2048x16x64, .f32⟩
  | .hbm, ⟨71, _⟩ => ⟨S2048x1024, .f32⟩
  | .hbm, ⟨72, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== Kernel24.lean ====
abbrev S2048x1024 : Shape := ⟨2, ![2048, 1024]⟩
abbrev S64 : Shape := ⟨1, ![64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 9
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S64, .f32⟩
  | .hbm, ⟨2, _⟩ => ⟨S2048x1024, .f32⟩
  | .hbm, ⟨3, _⟩ => ⟨S1x64, .f32⟩
  | .hbm, ⟨4, _⟩ => ⟨S1x1x1x64, .f32⟩
  | .hbm, ⟨5, _⟩ => ⟨S1x1x2x64, .f32⟩
  | .hbm, ⟨6, _⟩ => ⟨S1x128, .f32⟩
  | .hbm, ⟨7, _⟩ => ⟨S2048x1024, .bf16⟩
  | .hbm, ⟨8, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference24Ideal.lean ====
abbrev S2048x1024 : Shape := ⟨2, ![2048, 1024]⟩
abbrev S64 : Shape := ⟨1, ![64]⟩
abbrev S1x64 : Shape := ⟨2, ![1, 64]⟩
abbrev S2x64 : Shape := ⟨2, ![2, 64]⟩
abbrev S2048x8x2x64 : Shape := ⟨4, ![2048, 8, 2, 64]⟩
abbrev S_ : Shape := ⟨0, ![]⟩
abbrev S2048x8x2 : Shape := ⟨3, ![2048, 8, 2]⟩
abbrev S2048x8x2x1 : Shape := ⟨4, ![2048, 8, 2, 1]⟩
abbrev S1x1x2x64 : Shape := ⟨4, ![1, 1, 2, 64]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64, .f32⟩
  | .hbm, ⟨2, _⟩ => ⟨S2048x1024, .f32⟩
  | .hbm, ⟨3, _⟩ => ⟨S1x64, .f32⟩
  | .hbm, ⟨4, _⟩ => ⟨S1x64, .f32⟩
  | .hbm, ⟨5, _⟩ => ⟨S2x64, .f32⟩
  | .hbm, ⟨6, _⟩ => ⟨S2048x8x2x64, .f32⟩
  | .hbm, ⟨7, _⟩ => ⟨S2048x8x2x64, .f32⟩
  | .hbm, ⟨8, _⟩ => ⟨S_, .f32⟩
  | .hbm, ⟨9, _⟩ => ⟨S2048x8x2, .f32⟩
  | .hbm, ⟨10, _⟩ => ⟨S2048x8x2x1, .f32⟩
  | .hbm, ⟨11, _⟩ => ⟨S_, .f32⟩
  | .hbm, ⟨12, _⟩ => ⟨S2048x8x2x1, .f32⟩
  | .hbm, ⟨13, _⟩ => ⟨S2048x8x2x1, .f32⟩
  | .hbm, ⟨14, _⟩ => ⟨S_, .f32⟩
  | .hbm, ⟨15, _⟩ => ⟨S2048x8x2x1, .f32⟩
  | .hbm, ⟨16, _⟩ => ⟨S2048x8x2x1, .f32⟩
  | .hbm, ⟨17, _⟩ => ⟨S2048x8x2x1, .f32⟩
  | .hbm, ⟨18, _⟩ => ⟨S2048x8x2x1, .f32⟩
  | .hbm, ⟨19, _⟩ => ⟨S_, .f32⟩
  | .hbm, ⟨20, _⟩ => ⟨S2048x8x2x1, .f32⟩
  | .hbm, ⟨21, _⟩ => ⟨S2048x8x2x1, .f32⟩
  | .hbm, ⟨22, _⟩ => ⟨S2048x8x2x64, .f32⟩
  | .hbm, ⟨23, _⟩ => ⟨S2048x8x2x64, .f32⟩
  | .hbm, ⟨24, _⟩ => ⟨S1x1x2x64, .f32⟩
  | .hbm, ⟨25, _⟩ => ⟨S2048x8x2x64, .f32⟩
  | .hbm, ⟨26, _⟩ => ⟨S2048x8x2x64, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x8x2x64, .f32⟩
  | .hbm, ⟨35, _⟩ => ⟨S2048x8x2x64, .f32⟩
  | .hbm, ⟨36, _⟩ => ⟨S_, .f32⟩
  | .hbm, ⟨37, _⟩ => ⟨S2x64, .f32⟩
  | .hbm, ⟨38, _⟩ => ⟨S1x1x2x64, .f32⟩
  | .hbm, ⟨39, _⟩ => ⟨S2048x8x2x64, .f32⟩
  | .hbm, ⟨40, _⟩ => ⟨S2048x8x2x64, .f32⟩
  | .hbm, ⟨41, _⟩ => ⟨S_, .f32⟩
  | .hbm, ⟨42, _⟩ => ⟨S2x64, .f32⟩
  | .hbm, ⟨43, _⟩ => ⟨S2048x8x2x64, .f32⟩
  | .hbm, ⟨44, _⟩ => ⟨S_, .f32⟩
  | .hbm, ⟨45, _⟩ => ⟨S2048x8x2, .f32⟩
  | .hbm, ⟨46, _⟩ => ⟨S2048x8x2x1, .f32⟩
  | .hbm, ⟨47, _⟩ => ⟨S2048x8x2x64, .f32⟩
  | .hbm, ⟨48, _⟩ => ⟨S2048x8x2x64, .f32⟩
  | .hbm, ⟨49, _⟩ => ⟨S2048x8x2x1, .f32⟩
  | .hbm, ⟨50, _⟩ => ⟨S_, .f32⟩
  | .hbm, ⟨51, _⟩ => ⟨S2048x8x2x1, .f32⟩
  | .hbm, ⟨52, _⟩ => ⟨S2048x8x2x1, .f32⟩
  | .hbm, ⟨53, _⟩ => ⟨S_, .f32⟩
  | .hbm, ⟨54, _⟩ => ⟨S2048x8x2, .f32⟩
  | .hbm, ⟨55, _⟩ => ⟨S2048x8x2x64, .f32⟩
  | .hbm, ⟨56, _⟩ => ⟨S2048x8x2x64, .f32⟩
  | .hbm, ⟨57, _⟩ => ⟨S2048x8x2x64, .f32⟩
  | .hbm, ⟨58, _⟩ => ⟨S2048x8x2x64, .f32⟩
  | .hbm, ⟨59, _⟩ => ⟨S2048x8x2x64, .f32⟩
  | .hbm, ⟨60, _⟩ => ⟨S2048x1024, .f32⟩
  | .hbm, ⟨61, _⟩ => ⟨S2048x1024, .bf16⟩
  | .hbm, ⟨62, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel25.lean ====
abbrev S2048x2048 : Shape := ⟨2, ![2048, 2048]⟩
abbrev S64 : Shape := ⟨1, ![64]⟩
abbrev S2048x1024 : Shape := ⟨2, ![2048, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 10
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S64, .f32⟩
  | .hbm, ⟨2, _⟩ => ⟨S2048x1024, .f32⟩
  | .hbm, ⟨3, _⟩ => ⟨S2048x1024, .f32⟩
  | .hbm, ⟨4, _⟩ => ⟨S1x64, .f32⟩
  | .hbm, ⟨5, _⟩ => ⟨S1x1x1x64, .f32⟩
  | .hbm, ⟨6, _⟩ => ⟨S1x1x2x64, .f32⟩
  | .hbm, ⟨7, _⟩ => ⟨S1x128, .f32⟩
  | .hbm, ⟨8, _⟩ => ⟨S2048x2048, .bf16⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | .local _ .vmem, ⟨8, _⟩ => ⟨S512x2048, .bf16⟩
  | .local _ .vmem, ⟨9, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S2048x2048 : Shape := ⟨2, ![2048, 2048]⟩
abbrev S64 : Shape := ⟨1, ![64]⟩
abbrev S2048x1024 : Shape := ⟨2, ![2048, 1024]⟩
abbrev S1x64 : Shape := ⟨2, ![1, 64]⟩
abbrev S2x64 : Shape := ⟨2, ![2, 64]⟩
abbrev S2048x8x2x64 : Shape := ⟨4, ![2048, 8, 2, 64]⟩
abbrev S_ : Shape := ⟨0, ![]⟩
abbrev S2048x8x2 : Shape := ⟨3, ![2048, 8, 2]⟩
abbrev S2048x8x2x1 : Shape := ⟨4, ![2048, 8, 2, 1]⟩
abbrev S1x1x2x64 : Shape := ⟨4, ![1, 1, 2, 64]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S64, .f32⟩
  | .hbm, ⟨2, _⟩ => ⟨S2048x1024, .f32⟩
  | .hbm, ⟨3, _⟩ => ⟨S2048x1024, .f32⟩
  | .hbm, ⟨4, _⟩ => ⟨S1x64, .f32⟩
  | .hbm, ⟨5, _⟩ => ⟨S1x64, .f32⟩
  | .hbm, ⟨6, _⟩ => ⟨S2x64, .f32⟩
  | .hbm, ⟨7, _⟩ => ⟨S2048x1024, .f32⟩
  | .hbm, ⟨8, _⟩ => ⟨S2048x1024, .f32⟩
  | .hbm, ⟨9, _⟩ => ⟨S2048x8x2x64, .f32⟩
  | .hbm, ⟨10, _⟩ => ⟨S2048x8x2x64, .f32⟩
  | .hbm, ⟨11, _⟩ => ⟨S_, .f32⟩
  | .hbm, ⟨12, _⟩ => ⟨S2048x8x2, .f32⟩
  | .hbm, ⟨13, _⟩ => ⟨S2048x8x2x1, .f32⟩
  | .hbm, ⟨14, _⟩ => ⟨S_, .f32⟩
  | .hbm, ⟨15, _⟩ => ⟨S2048x8x2x1, .f32⟩
  | .hbm, ⟨16, _⟩ => ⟨S2048x8x2x1, .f32⟩
  | .hbm, ⟨17, _⟩ => ⟨S_, .f32⟩
  | .hbm, ⟨18, _⟩ => ⟨S2048x8x2x1, .f32⟩
  | .hbm, ⟨19, _⟩ => ⟨S2048x8x2x1, .f32⟩
  | .hbm, ⟨20, _⟩ => ⟨S2048x8x2x1, .f32⟩
  | .hbm, ⟨21, _⟩ => ⟨S2048x8x2x1, .f32⟩
  | .hbm, ⟨22, _⟩ => ⟨S_, .f32⟩
  | .hbm, ⟨23, _⟩ => ⟨S2048x8x2x1, .f32⟩
  | .hbm, ⟨24, _⟩ => ⟨S2048x8x2x1, .f32⟩
  | .hbm, ⟨25, _⟩ => ⟨S2048x8x2x64, .f32⟩
  | .hbm, ⟨26, _⟩ => ⟨S2048x8x2x64, .f32⟩
  | .hbm, ⟨27, _⟩ => ⟨S1x1x2x64, .f32⟩
  | .hbm, ⟨28, _⟩ => ⟨S2048x8x2x64, .f32⟩
  | .hbm, ⟨29, _⟩ => ⟨S2048x8x2x64, .f32⟩
  | .hbm, ⟨30, _⟩ => ⟨S2048x1024, .f32⟩
  | .hbm, ⟨31, _⟩ => ⟨S2048x8x2x64, .f32⟩
  | .hbm, ⟨32, _⟩ => ⟨S2048x8x2x64, .f32⟩
  | .hbm, ⟨33, _⟩ => ⟨S_, .f32⟩
  | .hbm, ⟨34, _⟩ => ⟨S2x64, .f32⟩
  | .hbm, ⟨35, _⟩ => ⟨S1x1x2x64, .f32⟩
  | .hbm, ⟨36, _⟩ => ⟨S2048x8x2x64, .f32⟩
  | .hbm, ⟨37, _⟩ => ⟨S2048x8x2x64, .f32⟩
  | .hbm, ⟨38, _⟩ => ⟨S_, .f32⟩
  | .hbm, ⟨39, _⟩ => ⟨S2x64, .f32⟩
  | .hbm, ⟨40, _⟩ => ⟨S2048x8x2x64, .f32⟩
  | .hbm, ⟨41, _⟩ => ⟨S_, .f32⟩
  | .hbm, ⟨42, _⟩ => ⟨S2048x8x2, .f32⟩
  | .hbm, ⟨43, _⟩ => ⟨S2048x8x2x1, .f32⟩
  | .hbm, ⟨44, _⟩ => ⟨S2048x8x2x64, .f32⟩
  | .hbm, ⟨45, _⟩ => ⟨S2048x8x2x64, .f32⟩
  | .hbm, ⟨46, _⟩ => ⟨S2048x8x2x1, .f32⟩
  | .hbm, ⟨47, _⟩ => ⟨S_, .f32⟩
  | .hbm, ⟨48, _⟩ => ⟨S2048x8x2x1, .f32⟩
  | .hbm, ⟨49, _⟩ => ⟨S2048x8x2x1, .f32⟩
  | .hbm, ⟨50, _⟩ => ⟨S_, .f32⟩
  | .hbm, ⟨51, _⟩ => ⟨S2048x8x2, .f32⟩
  | .hbm, ⟨52, _⟩ => ⟨S2048x8x2x64, .f32⟩
  | .hbm, ⟨53, _⟩ => ⟨S2048x8x2x64, .f32⟩
  | .hbm, ⟨54, _⟩ => ⟨S2048x8x2x64, .f32⟩
  | .hbm, ⟨55, _⟩ => ⟨S2048x8x2x64, .f32⟩
  | .hbm, ⟨56, _⟩ => ⟨S2048x8x2x64, .f32⟩
  | .hbm, ⟨57, _⟩ => ⟨S2048x1024, .f32⟩
  | .hbm, ⟨58, _⟩ => ⟨S2048x2048, .f32⟩
  | .hbm, ⟨59, _⟩ => ⟨S2048x2048, .bf16⟩
  | .hbm, ⟨60, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel27.lean ====
abbrev S2048x2048 : Shape := ⟨2, ![2048, 2048]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S128x8x128 : Shape := ⟨3, ![128, 8, 128]⟩
abbrev S128x1024 : Shape := ⟨2, ![128, 1024]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S2048x1024, .bf16⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S8x128x128, .f32⟩
  | .local _ .vmem, ⟨4, _⟩ => ⟨S128x1024, .f32⟩
  | .local _ .vmem, ⟨5, _⟩ => ⟨S128x1024, .bf16⟩
  | .local _ .vmem, ⟨6, _⟩ => ⟨S128x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S2048x2048 : Shape := ⟨2, ![2048, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S16x128x8x128, .f32⟩
  | .hbm, ⟨40, _⟩ => ⟨S_, .f32⟩
  | .hbm, ⟨41, _⟩ => ⟨S128x128, .f32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S8x128x128, .f32⟩
  | .hbm, ⟨53, _⟩ => ⟨S8x128x128, .f32⟩
  | .hbm, ⟨54, _⟩ => ⟨S8x16x128x128, .f32⟩
  | .hbm, ⟨55, _⟩ => ⟨S16x128x8x128, .f32⟩
  | .hbm, ⟨56, _⟩ => ⟨S128x8, .f32⟩
  | .hbm, ⟨57, _⟩ => ⟨S1x128x8x1, .f32⟩
  | .hbm, ⟨58, _⟩ => ⟨S16x128x8x128, .f32⟩
  | .hbm, ⟨59, _⟩ => ⟨S16x128x8x128, .f32⟩
  | .hbm, ⟨60, _⟩ => ⟨S2048x1024, .f32⟩
  | .hbm, ⟨61, _⟩ => ⟨S2048x1024, .f32⟩
  | .hbm, ⟨62, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_cst : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel26.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Model.lean ====
/- The attention backward kernel as plain functions of the blocks it loads: what one 512-row block of queries leaves in
   the three gradient buffers, written over the payloads of the printed body, for any reading of the floats. -/
module

public import proofs.«01_k».proof.Proof.Gen.KernelIdeal
public import proofs.«01_k».proof.Proof.Gen.KernelIdeal.Skeleton
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## Blocks of 256 rows, and slabs of the two score buffers -/

/-- A block of 256 rows lies within the array. -/
theorem blk_inb (j : ℕ) : ∀ a, (![256 * (j % 8), 0] : Fin 2 → ℕ) a + S256x128.size a ≤ S2048x128.size a := by
  intro a; fin_cases a
  · show 256 * (j % 8) + 256 ≤ 2048; omega
  · show 0 + 128 ≤ 128; omega

/-- A slab lies within the score buffer. -/
theorem slab_inb (j : ℕ) : ∀ a, (![j % 8, 0, 0] : Fin 3 → ℕ) a + S1x1024x256.size a ≤ S8x1024x256.size a := by
  intro a; fin_cases a
  · show j % 8 + 1 ≤ 8; omega
  · show 0 + 1024 ≤ 1024; omega
  · show 0 + 256 ≤ 256; omega

/-- The 256 rows of block `j` of an array of 2048 rows (`j` read modulo 8). -/
def blk {e : EltTy} (X : Vec F S2048x128 e) (j : ℕ) : Vec F S256x128 e :=
  VecWindow.window (s := S2048x128) X ![256 * (j % 8), 0] S256x128.size (blk_inb j)

/-- Slab `j` of a score buffer: the scores of the folded query rows against the keys of block `j`. -/
def slab {e : EltTy} (X : Vec F S8x1024x256 e) (j : ℕ) : Vec F S1x1024x256 e :=
  VecWindow.window (s := S8x1024x256) X ![j % 8, 0, 0] S1x1024x256.size (slab_inb j)

/-- A block at an index is the array at the row the block places it at. -/
theorem blk_apply {e : EltTy} (X : Vec F S2048x128 e) (j : ℕ) (y : S256x128.Idx) (x : S2048x128.Idx)
    (h0 : (x 0).val = 256 * (j % 8) + (y 0).val) (h1 : (x 1).val = (y 1).val) : blk X j y = X x := by
  unfold blk VecWindow.window
  congr 1
  funext a; apply Fin.ext; fin_cases a
  · show 256 * (j % 8) + 1 * (y 0).val = (x 0).val; omega
  · show 0 + 1 * (y 1).val = (x 1).val; omega

section Mem
variable {κ : Kind} {sp : Space}

/-- A load of 256 rows reads a block. -/
theorem readAt_blk {e : EltTy} (v : View sig κ sp S2048x128 e) (f : v.ty.Contents (Elt F)) {off : Fin 2 → ℕ} (inb) {j : ℕ}
    (h : off = ![256 * j, 0]) (hj : j < 8) :
    v.readAt (Elt F) (Rect.unit (s := S2048x128) off S256x128.size inb).toLoadRect f = blk (v.read (Elt F) f) j :=
  View.readAt_unit v f inb (by rw [h, Nat.mod_eq_of_lt hj]) (blk_inb j)

/-- A load of one slab reads a slab. -/
theorem readAt_slab {e : EltTy} (v : View sig κ sp S8x1024x256 e) (f : v.ty.Contents (Elt F)) {off : Fin 3 → ℕ} (inb) {j : ℕ}
    (h : off = ![j, 0, 0]) (hj : j < 8) :
    v.readAt (Elt F) (Rect.unit (s := S8x1024x256) off S1x1024x256.size inb).toLoadRect f = slab (v.read (Elt F) f) j :=
  View.readAt_unit v f inb (by rw [h, Nat.mod_eq_of_lt hj]) (slab_inb j)

/-- A store of 256 rows replaces its own block and leaves the others. -/
theorem blk_writes {e : EltTy} (v : View sig κ sp S2048x128 e) (f : v.ty.Contents (Elt F)) {off : Fin 2 → ℕ} (inb) {j : ℕ}
    (w : Vec F S256x128 e) (L : List (View.Piece (Elt F) S2048x128 e)) (h : off = ![256 * j, 0]) (hj : j < 8) (j' : ℕ) (hj' : j' < 8) :
    blk (v.read (Elt F) (v.writes (Elt F) f (⟨Rect.unit (s := S2048x128) off S256x128.size inb, w⟩ :: L))) j'
      = if j' = j then w else blk (v.read (Elt F) (v.writes (Elt F) f L)) j' := by
  have h' : off = ![256 * (j % 8), 0] := by rw [h, Nat.mod_eq_of_lt hj]
  rw [View.read_writes_cons_put v f inb w L h']
  unfold blk
  split
  · rename_i e; subst e
    exact VecWindow.window_put_same (s := S2048x128) _ _ _ (blk_inb j') w
  · rename_i ne
    refine VecWindow.window_put_of_disjoint (s := S2048x128) _ _ _ _ _ (blk_inb j') w 0 ?_
    show 256 * (j' % 8) + 256 ≤ 256 * (j % 8) ∨ 256 * (j % 8) + 256 ≤ 256 * (j' % 8)
    omega

/-- A store of one slab replaces its own slab and leaves the others. -/
theorem slab_writes {e : EltTy} (v : View sig κ sp S8x1024x256 e) (f : v.ty.Contents (Elt F)) {off : Fin 3 → ℕ} (inb) {j : ℕ}
    (w : Vec F S1x1024x256 e) (L : List (View.Piece (Elt F) S8x1024x256 e)) (h : off = ![j, 0, 0]) (hj : j < 8) (j' : ℕ) (hj' : j' < 8) :
    slab (v.read (Elt F) (v.writes (Elt F) f (⟨Rect.unit (s := S8x1024x256) off S1x1024x256.size inb, w⟩ :: L))) j'
      = if j' = j then w else slab (v.read (Elt F) (v.writes (Elt F) f L)) j' := by
  have h' : off = ![j % 8, 0, 0] := by rw [h, Nat.mod_eq_of_lt hj]
  rw [View.read_writes_cons_put v f inb w L h']
  unfold slab
  split
  · rename_i e; subst e
    exact VecWindow.window_put_same (s := S8x1024x256) _ _ _ (slab_inb j') w
  · rename_i ne
    refine VecWindow.window_put_of_disjoint (s := S8x1024x256) _ _ _ _ _ (slab_inb j') w 0 ?_
    show j' % 8 + 1 ≤ j % 8 ∨ j % 8 + 1 ≤ j' % 8
    omega

end Mem

/-- An array of 2048 rows from its eight blocks. -/
def glue {e : EltTy} (f : ℕ → Vec F S256x128 e) : Vec F S2048x128 e := fun x =>
  f ((x 0).val / 256) (fun a => match a with | 0 => ⟨(x 0).val % 256, Nat.mod_lt _ (by decide)⟩ | 1 => ⟨(x 1).val, (x 1).isLt⟩)

/-- Block `j` of joined blocks is the `j`-th. -/
theorem blk_glue {e : EltTy} (f : ℕ → Vec F S256x128 e) (j : ℕ) (hj : j < 8) : blk (glue f) j = f j := by
  funext y
  have hy0 : (y 0).val < 256 := (y 0).isLt
  have hy1 : (y 1).val < 128 := (y 1).isLt
  unfold blk VecWindow.window glue
  have e0 : ((Rect.unit (s := S2048x128) ![256 * (j % 8), 0] S256x128.size (blk_inb j)).emb y 0).val = 256 * (j % 8) + 1 * (y 0).val := rfl
  have e1 : ((Rect.unit (s := S2048x128) ![256 * (j % 8), 0] S256x128.size (blk_inb j)).emb y 1).val = 0 + 1 * (y 1).val := rfl
  have hd : ((Rect.unit (s := S2048x128) ![256 * (j % 8), 0] S256x128.size (blk_inb j)).emb y 0).val / 256 = j := by omega
  rw [hd]
  congr 1
  funext a; apply Fin.ext; fin_cases a
  · show ((Rect.unit (s := S2048x128) ![256 * (j % 8), 0] S256x128.size (blk_inb j)).emb y 0).val % 256 = (y 0).val; omega
  · show ((Rect.unit (s := S2048x128) ![256 * (j % 8), 0] S256x128.size (blk_inb j)).emb y 1).val = (y 1).val; omega

/-- Two arrays with the same blocks are equal. -/
theorem ext_blk {e : EltTy} {X Y : Vec F S2048x128 e} (h : ∀ j, j < 8 → blk X j = blk Y j) : X = Y := by
  funext x
  have hx0 : (x 0).val < 2048 := (x 0).isLt
  have hx1 : (x 1).val < 128 := (x 1).isLt
  let y : S256x128.Idx := fun a => match a with | 0 => ⟨(x 0).val % 256, Nat.mod_lt _ (by decide)⟩ | 1 => ⟨(x 1).val, (x 1).isLt⟩
  have hx : (x 0).val = 256 * (((x 0).val / 256) % 8) + (y 0).val := by
    show (x 0).val = 256 * (((x 0).val / 256) % 8) + (x 0).val % 256; omega
  rw [← blk_apply X ((x 0).val / 256) y x hx rfl, ← blk_apply Y ((x 0).val / 256) y x hx rfl]
  exact congrFun (h _ (by omega)) y

/-! ## The numbers the loops count with -/

/-- The first loop makes one trip for each row block before the point's. -/
theorem t1_trips : ∀ i : grid0.Coords, (k0_t1_loop i).trips = (i 1).val := by decide +kernel
/-- So does the loop of the gradients. -/
theorem t5_trips : ∀ i : grid0.Coords, (k0_t5_loop i).trips = (i 1).val := by decide +kernel

/-- The rows of the later of the two key blocks of a trip. -/
theorem off3_1 : ∀ (i : grid0.Coords) (k : Fin (k0_t1_loop i).trips), k0_off3 i k 1#32 = ![256 * (2 * (i 1).val - 1 - 2 * k.val), 0] := by decide +kernel
/-- The rows of the earlier of the two key blocks of a trip. -/
theorem off3_2 : ∀ (i : grid0.Coords) (k : Fin (k0_t1_loop i).trips), k0_off3 i k 2#32 = ![256 * (2 * (i 1).val - 2 - 2 * k.val), 0] := by decide +kernel
/-- The slab of the later block. -/
theorem off4_1 : ∀ (i : grid0.Coords) (k : Fin (k0_t1_loop i).trips), k0_off4 i k 1#32 = ![2 * (i 1).val - 1 - 2 * k.val, 0, 0] := by decide +kernel
/-- The slab of the earlier block. -/
theorem off4_2 : ∀ (i : grid0.Coords) (k : Fin (k0_t1_loop i).trips), k0_off4 i k 2#32 = ![2 * (i 1).val - 2 - 2 * k.val, 0, 0] := by decide +kernel
/-- The rows of the first diagonal block. -/
theorem off1_0 : ∀ (i : grid0.Coords), k0_off1 i 0#32 = ![256 * (2 * (i 1).val), 0] := by decide +kernel
/-- The rows of the second diagonal block. -/
theorem off1_1 : ∀ (i : grid0.Coords), k0_off1 i 1#32 = ![256 * (2 * (i 1).val + 1), 0] := by decide +kernel
/-- The slab of the first diagonal block. -/
theorem off2_0 : ∀ (i : grid0.Coords), k0_off2 i 0#32 = ![2 * (i 1).val, 0, 0] := by decide +kernel
/-- The slab of the second diagonal block. -/
theorem off2_1 : ∀ (i : grid0.Coords), k0_off2 i 1#32 = ![2 * (i 1).val + 1, 0, 0] := by decide +kernel
/-- The slab of the first block of a trip of the gradients. -/
theorem off7_ (i : grid0.Coords) (k : Fin (k0_t5_loop i).trips) : k0_off7 i k = ![2 * k.val, 0, 0] := k0_off7_eq i k
/-- The rows of the first block of a trip of the gradients. -/
theorem off8_ : ∀ (i : grid0.Coords) (k : Fin (k0_t5_loop i).trips), k0_off8 i k = ![256 * (2 * k.val), 0] := by decide +kernel
/-- The slab of the second block of a trip of the gradients. -/
theorem off9_ (i : grid0.Coords) (k : Fin (k0_t5_loop i).trips) : k0_off9 i k = ![2 * k.val + 1, 0, 0] := k0_off9_eq i k
/-- The rows of the second block of a trip of the gradients. -/
theorem off10_ : ∀ (i : grid0.Coords) (k : Fin (k0_t5_loop i).trips), k0_off10 i k = ![256 * (2 * k.val + 1), 0] := by decide +kernel

/-! ## The first phase: the scores of each block, from the diagonal down -/

/-- Row numbers of the stacked scores. -/
abbrev i0 : IVec S1024x256 32 := iota .tc S1024x256 32 [0] iota_S1024x256_d0_w32
/-- Column numbers of the stacked scores. -/
abbrev i1 : IVec S1024x256 32 := iota .tc S1024x256 32 [1] iota_S1024x256_d1_w32

section Phase1
variable (Q : FVec F S1024x128 .bf16) (K : ℕ → Vec F S256x128 .bf16) (i : ℕ)

/-- The row sums of the masked diagonal block of the later half. -/
def carA : FVec F S1024x1 .f32 := k0_pay68 Q k0_pay60 i0 k0_pay61 k0_pay62 (K (2 * i + 1))
/-- The running row sums before block `2 i - 1 - n`. -/
def car : ℕ → FVec F S1024x1 .f32
  | 0 => k0_pay74 Q (carA Q K i) i0 i1 0#32 (K (2 * i))
  | n + 1 => k0_pay6 Q (car n) (K (2 * i - 1 - n))
/-- The logarithms of the weights of block `j`, as stored. -/
def sV (j : ℕ) : FVec F S1x1024x256 .f32 :=
  if j = 2 * i + 1 then k0_pay66 k0_pay56 Q k0_pay60 i0 k0_pay61 k0_pay62 (K (2 * i + 1))
  else if j = 2 * i then k0_pay72 k0_pay56 Q (carA Q K i) i0 i1 0#32 (K (2 * i))
  else k0_pay4 k0_pay56 Q (car Q K i (2 * i - 1 - j)) (K j)
/-- The sigmoids of block `j`, as stored. -/
def gV (j : ℕ) : FVec F S1x1024x256 .f32 := k0_pay5 Q (K j)

/-! ## The second phase: the gradients of each block, from block 0 up -/

variable (D : FVec F S1024x128 .bf16) (V : ℕ → Vec F S256x128 .bf16)

/-- The running row sums and the query gradient before block `n`. -/
def st2 : ℕ → FVec F S1024x1 .f32 × FVec F S1024x128 .f32
  | 0 => (k0_pay99, k0_pay100)
  | n + 1 => (k0_pay19 (st2 n).1 (k0_pay14 D (sV Q K i n) (V n)),
      k0_pay16 k0_pay57 D (st2 n).1 (st2 n).2 (sV Q K i n) (gV Q K n) (V n) (K n))

/-- The running row sums before the last block. -/
def pB : FVec F S1024x1 .f32 := k0_pay114 (st2 Q K i D V (2 * i)).1 (k0_pay109 D (sV Q K i (2 * i)) (V (2 * i)))
/-- The rounded score gradients of the first diagonal block. -/
def dzA : FVec F S1024x256 .bf16 := k0_pay110 k0_pay57 D (st2 Q K i D V (2 * i)).1 (sV Q K i (2 * i)) (gV Q K (2 * i)) (V (2 * i))
/-- The query gradient before the last block. -/
def dqB : FVec F S1024x128 .f32 := k0_pay111 (st2 Q K i D V (2 * i)).2 (dzA Q K i D V) (K (2 * i))

/-- The query gradient the point stores. -/
def outQ : FVec F S512x128 .f32 :=
  k0_pay120 k0_pay55 k0_pay57 D (dqB Q K i D V) (pB Q K i D V) k0_pay115 (k0_pay116 (sV Q K i (2 * i + 1))) (gV Q K (2 * i + 1)) (V (2 * i + 1)) (K (2 * i + 1))

/-- Block `j` of the key gradient after the point, from what it held before. -/
def dkB (old : ℕ → Vec F S256x128 .f32) (j : ℕ) : Vec F S256x128 .f32 :=
  if j < 2 * i then k0_pay17 k0_pay57 Q D (st2 Q K i D V j).1 (sV Q K i j) (gV Q K j) (V j) (old j)
  else if j = 2 * i then k0_pay112 Q (dzA Q K i D V) (old j)
  else if j = 2 * i + 1 then k0_pay118 k0_pay57 Q D (pB Q K i D V) k0_pay115 (k0_pay116 (sV Q K i (2 * i + 1))) (gV Q K (2 * i + 1)) (V (2 * i + 1)) (old j)
  else old j
/-- Block `j` of the value gradient after the point, from what it held before. -/
def dvB (old : ℕ → Vec F S256x128 .f32) (j : ℕ) : Vec F S256x128 .f32 :=
  if j < 2 * i then k0_pay18 D (sV Q K i j) (old j)
  else if j = 2 * i then k0_pay113 D (k0_pay108 (sV Q K i (2 * i))) (old j)
  else if j = 2 * i + 1 then k0_pay119 D (k0_pay116 (sV Q K i (2 * i + 1))) (old j)
  else old j

end Phase1

/-! ## The second block of a trip is computed by the same operations as the first -/

/-- Two spellings of the stored logarithms of the weights of a whole block. -/
theorem pay78_eq (v12 v24 c kb) : k0_pay78 (F := F) v12 v24 c kb = k0_pay4 v12 v24 c kb := rfl
/-- Two spellings of the stored sigmoids of a whole block. -/
theorem pay79_eq (v24 kb) : k0_pay79 (F := F) v24 kb = k0_pay5 v24 kb := rfl
/-- Two spellings of the sum carried past a whole block. -/
theorem pay80_eq (v24 c kb) : k0_pay80 (F := F) v24 c kb = k0_pay6 v24 c kb := rfl
/-- The sigmoids of a diagonal block are spelt as those of a whole block. -/
theorem pay67_eq (v24 kb) : k0_pay67 (F := F) v24 kb = k0_pay5 v24 kb := rfl
/-- So are those of the other diagonal block. -/
theorem pay73_eq (v24 kb) : k0_pay73 (F := F) v24 kb = k0_pay5 v24 kb := rfl
/-- The key gradient of a block in two spellings. -/
theorem pay24_eq (L Q D p ds s g vb old) : k0_pay24 (F := F) L Q D p ds s g vb old = k0_pay17 L Q D (k0_pay19 p ds) s g vb old := rfl
/-- The query gradient of a block in two spellings. -/
theorem pay23_eq (L D p ds dq s g vb kb) : k0_pay23 (F := F) L D p ds dq s g vb kb = k0_pay16 L D (k0_pay19 p ds) dq s g vb kb := rfl
/-- The carried sum of the gradients in two spellings. -/
theorem pay102_eq (p D s vb) : k0_pay102 (F := F) p (k0_pay21 D s vb) = k0_pay19 p (k0_pay14 D s vb) := rfl
/-- The value gradient of a block in two spellings. -/
theorem pay101_eq (D old s) : k0_pay101 (F := F) D (k0_pay25 old) (k0_pay26 s) = k0_pay18 D s old := rfl

end Cert.KernelIdeal.Hand
end
-- ==== Proof.Body.lean ====
/- The body of the attention backward kernel, run once for any reading of the floats: its two counted loops by their
   invariants, the loops that make no trip dropped, and what one call leaves in the three gradient buffers. -/
module

public import proofs.«01_k».proof.Proof.Model
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Scf

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (i : grid0.Coords)

/-! ## The first loop -/

/-- Before trip `k` of the first loop: the slabs from block `2 i - 2 k` up to the diagonal hold their scores, and the
    carried value is the row sums so far. -/
def inv1 (arg3 : Memref sig .tc .vmem S2048x128 .bf16) (arg9 arg10 : Memref sig .tc .vmem S8x1024x256 .f32) (Q : FVec F S1024x128 .bf16) (X3 : BufTy.Contents (Elt F) arg3.view.ty) (k : ℕ) (acc : FVec F S1024x1 .f32) : sProp 𝕄 :=
  iprop((arg3.view.loc (c : Thread nD τ) ↦[arg3.view.set]{fullShare} X3)
    ∗ (∃ f9, (arg9.view.loc (c : Thread nD τ) ↦[arg9.view.set]{fullShare} f9) ∗ ⌜∀ j, 2 * (i 1).val - 2 * k ≤ j → j < 2 * (i 1).val + 2 → slab (arg9.view.read (Elt F) f9) j = sV Q (blk (arg3.view.read (Elt F) X3)) (i 1).val j⌝)
    ∗ (∃ f10, (arg10.view.loc (c : Thread nD τ) ↦[arg10.view.set]{fullShare} f10) ∗ ⌜∀ j, 2 * (i 1).val - 2 * k ≤ j → j < 2 * (i 1).val + 2 → slab (arg10.view.read (Elt F) f10) j = gV Q (blk (arg3.view.read (Elt F) X3)) j⌝)
    ∗ ⌜acc = car Q (blk (arg3.view.read (Elt F) X3)) (i 1).val (2 * k)⌝)

/-- One trip of the first loop keeps its invariant. -/
theorem trip1 (bd : Option 𝒱.V) (E : Set ℕ) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x1024x256 .f32) (harg9 : arg9.IsWhole) (arg10 : Memref sig .tc .vmem S8x1024x256 .f32) (harg10 : arg10.IsWhole) (v24 : FVec F S1024x128 .bf16) (v30 : BitVec 32) (v123 : FVec F S1024x1 .f32) (X3 : BufTy.Contents (Elt F) arg3.view.ty) (k : Fin (k0_t1_loop i).trips) (acc : FVec F S1024x1 .f32) :
    inv1 c i arg3 arg9 arg10 v24 X3 k acc
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k0_pay56 v24 v30 v123 k acc) (inv1 c i arg3 arg9 arg10 v24 X3 (k.val + 1)) := by
  have hk : k.val < (i 1).val := lt_of_lt_of_eq k.isLt (t1_trips i)
  have hi : (i 1).val < 4 := (i 1).isLt
  unfold inv1
  iintro ⟨H3, ⟨%f9, H9, %h9⟩, ⟨%f10, H10, %h10⟩, %hacc⟩
  unfold k0_t1_body
  sl_exec
  sl_unfold_run_names
  rw [wp_ret]; imodintro
  rw [readAt_blk arg3.view X3 _ (off3_1 i k) (by omega), readAt_blk arg3.view X3 _ (off3_2 i k) (by omega), pay78_eq, pay79_eq, pay80_eq]
  generalize hK : blk (arg3.view.read (Elt F) X3) = K at *
  have hc1 : k0_pay6 v24 acc (K (2 * (i 1).val - 1 - 2 * k.val)) = car v24 K (i 1).val (2 * k.val + 1) := by rw [hacc]; rfl
  have hs1 : k0_pay4 k0_pay56 v24 acc (K (2 * (i 1).val - 1 - 2 * k.val)) = sV v24 K (i 1).val (2 * (i 1).val - 1 - 2 * k.val) := by
    unfold sV
    rw [if_neg (by omega), if_neg (by omega), hacc, show 2 * (i 1).val - 1 - (2 * (i 1).val - 1 - 2 * k.val) = 2 * k.val from by omega]
  have hs2 : k0_pay4 k0_pay56 v24 (k0_pay6 v24 acc (K (2 * (i 1).val - 1 - 2 * k.val))) (K (2 * (i 1).val - 2 - 2 * k.val)) = sV v24 K (i 1).val (2 * (i 1).val - 2 - 2 * k.val) := by
    rw [hc1]; unfold sV
    rw [if_neg (by omega), if_neg (by omega), show 2 * (i 1).val - 1 - (2 * (i 1).val - 2 - 2 * k.val) = 2 * k.val + 1 from by omega]
  isplitl [H3]; · iexact H3
  isplitl [H9]
  · iexists _; isplitl [H9]; · iexact H9
    ipureintro
    intro j hj hj2
    rw [slab_writes arg9.view f9 _ _ _ (off4_2 i k) (by omega) j (by omega)]
    split
    · rename_i e; rw [e]; exact hs2
    rw [slab_writes arg9.view f9 _ _ _ (off4_1 i k) (by omega) j (by omega)]
    split
    · rename_i e; rw [e]; exact hs1
    exact h9 j (by omega) hj2
  isplitl [H10]
  · iexists _; isplitl [H10]; · iexact H10
    ipureintro
    intro j hj hj2
    rw [slab_writes arg10.view f10 _ _ _ (off4_2 i k) (by omega) j (by omega)]
    split
    · rename_i e; rw [e]; rfl
    rw [slab_writes arg10.view f10 _ _ _ (off4_1 i k) (by omega) j (by omega)]
    split
    · rename_i e; rw [e]; rfl
    exact h10 j (by omega) hj2
  ipureintro
  rw [hc1, show 2 * (k.val + 1) = 2 * k.val + 1 + 1 from by omega]
  show _ = k0_pay6 v24 (car v24 K (i 1).val (2 * k.val + 1)) (K (2 * (i 1).val - 1 - (2 * k.val + 1)))
  rw [show 2 * (i 1).val - 1 - (2 * k.val + 1) = 2 * (i 1).val - 2 - 2 * k.val from by omega]

/-! ## The second loop -/

/-- Before trip `k` of the second loop: the blocks below `2 k` of the key and value gradients are updated, the rest as at
    the loop's entry, and the carried values are the row sums and the query gradient so far. -/
def inv5 (arg3 arg4 : Memref sig .tc .vmem S2048x128 .bf16) (arg7 arg8 : Memref sig .tc .vmem S2048x128 .f32) (arg9 arg10 : Memref sig .tc .vmem S8x1024x256 .f32) (Q D : FVec F S1024x128 .bf16) (X3 : BufTy.Contents (Elt F) arg3.view.ty) (X4 : BufTy.Contents (Elt F) arg4.view.ty) (o7 o8 : ℕ → Vec F S256x128 .f32) (X9 : BufTy.Contents (Elt F) arg9.view.ty) (X10 : BufTy.Contents (Elt F) arg10.view.ty) (k : ℕ) (acc : FVec F S1024x1 .f32 × FVec F S1024x128 .f32) : sProp 𝕄 :=
  iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ (arg10.view.loc (c : Thread nD τ) ↦[arg10.view.set]{fullShare} X10)
    ∗ (∃ f7, (arg7.view.loc (c : Thread nD τ) ↦[arg7.view.set]{fullShare} f7) ∗ ⌜∀ j, j < 8 → blk (arg7.view.read (Elt F) f7) j = if j < 2 * k then dkB Q (blk (arg3.view.read (Elt F) X3)) (i 1).val D (blk (arg4.view.read (Elt F) X4)) o7 j else o7 j⌝)
    ∗ (∃ f8, (arg8.view.loc (c : Thread nD τ) ↦[arg8.view.set]{fullShare} f8) ∗ ⌜∀ j, j < 8 → blk (arg8.view.read (Elt F) f8) j = if j < 2 * k then dvB Q (blk (arg3.view.read (Elt F) X3)) (i 1).val D o8 j else o8 j⌝)
    ∗ ⌜acc = st2 Q (blk (arg3.view.read (Elt F) X3)) (i 1).val D (blk (arg4.view.read (Elt F) X4)) (2 * k)⌝)

set_option maxHeartbeats 2000000 in
/-- One trip of the second loop keeps its invariant. -/
theorem trip5 (bd : Option 𝒱.V) (E : Set ℕ) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x1024x256 .f32) (harg9 : arg9.IsWhole) (arg10 : Memref sig .tc .vmem S8x1024x256 .f32) (harg10 : arg10.IsWhole) (v12 : FVec F S256x256 .bf16) (v24 v29 : FVec F S1024x128 .bf16) (v30 v162 : BitVec 32) (v163 : FVec F S1024x1 .f32) (X3 : BufTy.Contents (Elt F) arg3.view.ty) (X4 : BufTy.Contents (Elt F) arg4.view.ty) (o7 o8 : ℕ → Vec F S256x128 .f32) (X9 : BufTy.Contents (Elt F) arg9.view.ty) (X10 : BufTy.Contents (Elt F) arg10.view.ty)
    (h9 : ∀ j, j < 2 * (i 1).val + 2 → slab (arg9.view.read (Elt F) X9) j = sV v24 (blk (arg3.view.read (Elt F) X3)) (i 1).val j)
    (h10 : ∀ j, j < 2 * (i 1).val + 2 → slab (arg10.view.read (Elt F) X10) j = gV v24 (blk (arg3.view.read (Elt F) X3)) j)
    (k : Fin (k0_t5_loop i).trips) (acc : FVec F S1024x1 .f32 × FVec F S1024x128 .f32) :
    inv5 c i arg3 arg4 arg7 arg8 arg9 arg10 v24 v29 X3 X4 o7 o8 X9 X10 k acc
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 v12 k0_pay57 v24 v29 v30 v162 v163 k acc) (inv5 c i arg3 arg4 arg7 arg8 arg9 arg10 v24 v29 X3 X4 o7 o8 X9 X10 (k.val + 1)) := by
  have hk : k.val < (i 1).val := lt_of_lt_of_eq k.isLt (t5_trips i)
  have hi : (i 1).val < 4 := (i 1).isLt
  unfold inv5
  iintro ⟨H3, H4, H9, H10, ⟨%f7, H7, %h7⟩, ⟨%f8, H8, %h8⟩, %hacc⟩
  unfold k0_t5_body
  sl_exec
  sl_unfold_run_names
  rw [wp_ret]; imodintro
  rw [readAt_blk arg3.view X3 _ (off8_ i k) (by omega), readAt_blk arg3.view X3 _ (off10_ i k) (by omega),
    readAt_blk arg4.view X4 _ (off8_ i k) (by omega), readAt_blk arg4.view X4 _ (off10_ i k) (by omega),
    readAt_slab arg9.view X9 _ (off7_ i k) (by omega), readAt_slab arg9.view X9 _ (off9_ i k) (by omega),
    readAt_slab arg10.view X10 _ (off7_ i k) (by omega), readAt_slab arg10.view X10 _ (off9_ i k) (by omega),
    readAt_blk arg7.view f7 _ (off8_ i k) (by omega), readAt_blk arg7.view f7 _ (off10_ i k) (by omega),
    readAt_blk arg8.view f8 _ (off8_ i k) (by omega), readAt_blk arg8.view f8 _ (off10_ i k) (by omega),
    h9 _ (by omega), h9 _ (by omega), h10 _ (by omega), h10 _ (by omega),
    h7 _ (by omega), h7 _ (by omega), h8 _ (by omega), h8 _ (by omega),
    if_neg (by omega), if_neg (by omega), if_neg (by omega), if_neg (by omega),
    pay24_eq, pay23_eq, pay102_eq, pay101_eq]
  generalize hK : blk (arg3.view.read (Elt F) X3) = K at *
  generalize hV : blk (arg4.view.read (Elt F) X4) = V at *
  subst hacc
  have hst : (k0_pay19 (st2 v24 K (i 1).val v29 V (2 * k.val)).1 (k0_pay14 v29 (sV v24 K (i 1).val (2 * k.val)) (V (2 * k.val)))) = (st2 v24 K (i 1).val v29 V (2 * k.val + 1)).1 := rfl
  have hst' : k0_pay16 k0_pay57 v29 (st2 v24 K (i 1).val v29 V (2 * k.val)).1 (st2 v24 K (i 1).val v29 V (2 * k.val)).2 (sV v24 K (i 1).val (2 * k.val)) (gV v24 K (2 * k.val)) (V (2 * k.val)) (K (2 * k.val)) = (st2 v24 K (i 1).val v29 V (2 * k.val + 1)).2 := rfl
  rw [hst, hst']
  isplitl [H3]; · iexact H3
  isplitl [H4]; · iexact H4
  isplitl [H9]; · iexact H9
  isplitl [H10]; · iexact H10
  isplitl [H7]
  · iexists _; isplitl [H7]; · iexact H7
    ipureintro
    intro j hj
    rw [blk_writes arg7.view f7 _ _ _ (off10_ i k) (by omega) j hj]
    split
    · rename_i e; rw [if_pos (by omega), e]; unfold dkB; rw [if_pos (by omega)]
    rw [blk_writes arg7.view f7 _ _ _ (off8_ i k) (by omega) j hj]
    split
    · rename_i e; rw [if_pos (by omega), e]; unfold dkB; rw [if_pos (by omega)]
    rw [View.writes_nil, h7 j hj]
    split
    · rw [if_pos (by omega)]
    · rw [if_neg (by omega)]
  isplitl [H8]
  · iexists _; isplitl [H8]; · iexact H8
    ipureintro
    intro j hj
    rw [blk_writes arg8.view f8 _ _ _ (off10_ i k) (by omega) j hj]
    split
    · rename_i e; rw [if_pos (by omega), e]; unfold dvB; rw [if_pos (by omega)]
    rw [blk_writes arg8.view f8 _ _ _ (off8_ i k) (by omega) j hj]
    split
    · rename_i e; rw [if_pos (by omega), e]; unfold dvB; rw [if_pos (by omega)]
    rw [View.writes_nil, h8 j hj]
    split
    · rw [if_pos (by omega)]
    · rw [if_neg (by omega)]
  ipureintro
  rfl

end Cert.KernelIdeal.Hand
end
-- ==== Proof.Call.lean ====
/- One whole call of the attention backward kernel's body. -/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Scf

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (i : grid0.Coords)

/-! ## Counted loops inside a longer program -/

/-- A counted loop with an invariant, followed by the rest of the program. -/
theorem wp_for_sep {σ β : Type} {E : Type → Type} {M : Type} [RA.URA M] {Mask : Sort*} (Fr : Mask → sProp M) (wpE : Mask → ∀ ⦃β : Type⦄, E β → sWPT M β) (Es : Mask) [∀ ⦃β : Type⦄ (e : E β), sWPT.Frameable (wpE Es e)] (l : Scf.Loop 32) (hok : l.OK) (init : σ) (body : Fin l.trips → σ → Prog E σ) (I : ℕ → σ → sProp M)
    (hbody : ∀ (k : Fin l.trips) (acc : σ), I k acc ⊢ wp Fr wpE Es (body k acc) (I (k.val + 1))) {kk : σ → Prog E β} {Q : β → sProp M} :
    iprop(I 0 init ∗ (∀ acc, I l.trips acc -∗ wp Fr wpE Es (kk acc) Q)) ⊢ wp Fr wpE Es (l.for hok init body >>= kk) Q := by
  iintro ⟨HI, HK⟩
  iapply (Scf.wp_for_bind Fr wpE Es l.lb l.ub l.st hok init body I hbody) $$ HI HK

/-- A counted loop that makes no trip is its initial value. -/
theorem for_zero {σ : Type} {E : Type → Type} (l : Scf.Loop 32) (hok : l.OK) (init : σ) (body : Fin l.trips → σ → Prog E σ) (h : l.trips = 0) : l.for hok init body = .ret init := by
  have h' : Scf.trips l.lb l.ub l.st = 0 := h
  show Scf.for l.lb l.ub l.st hok init body = _
  rw [Scf.for_eq]
  have : List.finRange (Scf.trips l.lb l.ub l.st) = [] := by rw [List.finRange_eq_nil_iff]; exact h'
  rw [this]; rfl

/-- A counted loop that makes no trip, followed by the rest of the program, is the rest of the program. -/
theorem wp_for_zero {σ β : Type} {E : Type → Type} {M : Type} [RA.URA M] {Mask : Sort*} (Fr : Mask → sProp M) (wpE : Mask → ∀ ⦃β : Type⦄, E β → sWPT M β) (Es : Mask) [∀ ⦃β : Type⦄ (e : E β), sWPT.Frameable (wpE Es e)] (l : Scf.Loop 32) (hok : l.OK) (init : σ) (body : Fin l.trips → σ → Prog E σ) (h : l.trips = 0) {kk : σ → Prog E β} {Q : β → sProp M} :
    wp Fr wpE Es (kk init) Q ⊢ wp Fr wpE Es (l.for hok init body >>= kk) Q := by
  rw [for_zero l hok init body h]
  exact BIBase.Entails.rfl

/-- A loop over an odd block left over makes no trip: the number of blocks before a point is even. -/
theorem t2_zero : ∀ i : grid0.Coords, (k0_t2_loop i).trips = 0 := by decide +kernel
/-- A loop over an odd block left over makes no trip: the number of blocks before a point is even. -/
theorem t3_zero : ∀ i : grid0.Coords, (k0_t3_loop i).trips = 0 := by decide +kernel
/-- A loop over an odd block left over makes no trip: the number of blocks before a point is even. -/
theorem t4_zero : ∀ i : grid0.Coords, (k0_t4_loop i).trips = 0 := by decide +kernel
/-- A loop over an odd block left over makes no trip: the number of blocks before a point is even. -/
theorem t6_zero : ∀ i : grid0.Coords, (k0_t6_loop i).trips = 0 := by decide +kernel
/-- A loop over an odd block left over makes no trip: the number of blocks before a point is even. -/
theorem t7_zero : ∀ i : grid0.Coords, (k0_t7_loop i).trips = 0 := by decide +kernel
/-- A loop over an odd block left over makes no trip: the number of blocks before a point is even. -/
theorem t8_zero : ∀ i : grid0.Coords, (k0_t8_loop i).trips = 0 := by decide +kernel

/-! ## The call -/

/-- What a gradient buffer holds at the call's entry, block by block: zeros at the first row block of a pair of heads. -/
def old (X : Vec F S2048x128 .f32) (j : ℕ) : Vec F S256x128 .f32 := if (i 1).val = 0 then blk (k0_pay53 (F := F)) j else blk X j

/-- The key gradient's buffer after one call. -/
def newK (X2 : Vec F S512x128 .bf16) (X3 X4 : Vec F S2048x128 .bf16) (X5 : Vec F S512x128 .bf16) (X7 : Vec F S2048x128 .f32) : Vec F S2048x128 .f32 :=
  glue (dkB (k0_pay58 X2) (blk X3) (i 1).val (k0_pay59 X5) (blk X4) (old i X7))

/-- The value gradient's buffer after one call. -/
def newV (X2 : Vec F S512x128 .bf16) (X3 : Vec F S2048x128 .bf16) (X5 : Vec F S512x128 .bf16) (X8 : Vec F S2048x128 .f32) : Vec F S2048x128 .f32 :=
  glue (dvB (k0_pay58 X2) (blk X3) (i 1).val (k0_pay59 X5) (old i X8))

/-- The branch that clears the gradient buffers is taken at the first row block. -/
theorem cond_iff : ∀ i : grid0.Coords, (Scalar.cmpi .ne (Scalar.extui (Scalar.cmpi .eq (BitVec.ofNat 32 (i 1).val) 0#32) : BitVec 32) 0#32 = 1#1) ↔ (i 1).val = 0 := by decide +kernel

/-- The blocks a gradient buffer holds once the first row block of a pair of heads has zeroed it. -/
theorem old_read {sp : Space} {κ : Kind} (v : View sig κ sp S2048x128 .f32) (g : v.ty.Contents (Elt F)) (inb) (j : ℕ) :
    blk (v.read (Elt F) (if hc : (Scalar.cmpi .ne (Scalar.extui (Scalar.cmpi .eq (BitVec.ofNat 32 (i 1).val) 0#32) : BitVec 32) 0#32 = 1#1) then v.writes (Elt F) g [⟨Rect.unit ![0, 0] S2048x128.size inb, k0_pay53 (F := F)⟩] else g)) j = old i (v.read (Elt F) g) j := by
  unfold old
  by_cases hc : (i 1).val = 0
  · rw [dif_pos ((cond_iff i).mpr hc), if_pos hc, View.read_writes_full]
  · rw [dif_neg (fun h => hc ((cond_iff i).mp h)), if_neg hc]

set_option maxHeartbeats 4000000 in
/-- One call of the body: the query gradient's block is written, the key and value gradients' buffers are updated. -/
theorem body_spec (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x1024x256 .f32) (harg9 : arg9.IsWhole) (arg10 : Memref sig .tc .vmem S8x1024x256 .f32) (harg10 : arg10.IsWhole)
    (X2 : Vec F S512x128 .bf16) (X3 X4 : Vec F S2048x128 .bf16) (X5 : Vec F S512x128 .bf16) (X6 : Vec F S512x128 .f32) (X7 X8 : Vec F S2048x128 .f32) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ f9, arg9.view.loc (c : Thread nD τ) ↦[arg9.view.set]{fullShare} f9) ∗ (∃ f10, arg10.view.loc (c : Thread nD τ) ↦[arg10.view.set]{fullShare} f10))
      ⊢ wp frame (wpE (defs₀ (F := F)) 𝒱 (c : Thread nD τ) none) Set.univ (cc0_sb_bwd i arg2 harg2 arg3 harg3 arg4 harg4 arg5 harg5 arg6 harg6 arg7 harg7 arg8 harg8 arg9 harg9 arg10 harg10)
        (fun _ : PUnit => (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (outQ (k0_pay58 X2) (blk X3) (i 1).val (k0_pay59 X5) (blk X4)) ∗ owns (c : Thread nD τ) arg7 fullShare (newK i X2 X3 X4 X5 X7) ∗ owns (c : Thread nD τ) arg8 fullShare (newV i X2 X3 X5 X8) ∗ (∃ f9, arg9.view.loc (c : Thread nD τ) ↦[arg9.view.set]{fullShare} f9) ∗ (∃ f10, arg10.view.loc (c : Thread nD τ) ↦[arg10.view.set]{fullShare} f10)) : sProp 𝕄)) := by
  have hi : (i 1).val < (4 : ℕ) := (i 1).isLt
  simp only [cc0_sb_bwd_eq_skeleton]; unfold cc0_sb_bwd_skel
  simp only [k0_part16_eq_skeleton, k0_part15_eq_skeleton, k0_part14_eq_skeleton, k0_part13_eq_skeleton, k0_part12_eq_skeleton, k0_part11_eq_skeleton, k0_part10_eq_skeleton, k0_part9_eq_skeleton]
  unfold owns
  iintro ⟨⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%f9, H9⟩, ⟨%f10, H10⟩⟩
  subst h2 h3 h4 h5 h6 h7 h8
  sl_exec
  sl_unfold_run_names
  rw [View.readAt_full arg2.view g2, View.readAt_full arg5.view g5]
  iapply (wp_for_sep _ _ _ (k0_t1_loop i) _ _ _ (inv1 c i arg3 arg9 arg10 (k0_pay58 (arg2.view.read (Elt F) g2)) g3) (fun k acc => trip1 𝒱 c i none Set.univ arg2 harg2 arg3 harg3 arg4 harg4 arg5 harg5 arg6 harg6 arg7 harg7 arg8 harg8 arg9 harg9 arg10 harg10 _ _ _ _ k acc))
  isplitl [H3 H9 H10]
  · unfold inv1
    isplitl [H3]; · iexact H3
    isplitl [H9]
    · iexists _; isplitl [H9]; · iexact H9
      ipureintro
      intro j hj hj2
      rw [slab_writes arg9.view f9 _ _ _ (off2_0 i) (by omega) j (by omega)]
      split
      · rename_i e
        rw [e, readAt_blk arg3.view g3 _ (off1_0 i) (by omega), readAt_blk arg3.view g3 _ (off1_1 i) (by omega)]
        unfold sV; rw [if_neg (by omega), if_pos rfl]; rfl
      rw [slab_writes arg9.view f9 _ _ _ (off2_1 i) (by omega) j (by omega)]
      split
      · rename_i e
        rw [e, readAt_blk arg3.view g3 _ (off1_1 i) (by omega)]
        unfold sV; rw [if_pos rfl]
      omega
    isplitl [H10]
    · iexists _; isplitl [H10]; · iexact H10
      ipureintro
      intro j hj hj2
      rw [slab_writes arg10.view f10 _ _ _ (off2_0 i) (by omega) j (by omega)]
      split
      · rename_i e
        rw [e, readAt_blk arg3.view g3 _ (off1_0 i) (by omega), pay73_eq]; rfl
      rw [slab_writes arg10.view f10 _ _ _ (off2_1 i) (by omega) j (by omega)]
      split
      · rename_i e
        rw [e, readAt_blk arg3.view g3 _ (off1_1 i) (by omega), pay67_eq]; rfl
      omega
    ipureintro
    rw [readAt_blk arg3.view g3 _ (off1_0 i) (by omega), readAt_blk arg3.view g3 _ (off1_1 i) (by omega)]
    rfl
  rw [t1_trips i]
  unfold inv1
  iintro %acc1 ⟨H3, ⟨%f9', H9, %h9⟩, ⟨%f10', H10, %h10⟩, %hacc⟩
  iapply (wp_for_zero _ _ _ (k0_t2_loop i) _ _ _ (t2_zero i))
  iapply (wp_for_zero _ _ _ (k0_t3_loop i) _ _ _ (t3_zero i))
  sl_exec
  iapply (wp_for_zero _ _ _ (k0_t4_loop i) _ _ _ (t4_zero i))
  iapply (wp_for_sep _ _ _ (k0_t5_loop i) _ _ _ (inv5 c i arg3 arg4 arg7 arg8 arg9 arg10 (k0_pay58 (arg2.view.read (Elt F) g2)) (k0_pay59 (arg5.view.read (Elt F) g5)) g3 g4 (old i (arg7.view.read (Elt F) g7)) (old i (arg8.view.read (Elt F) g8)) f9' f10') (fun k acc => trip5 𝒱 c i none Set.univ arg2 harg2 arg3 harg3 arg4 harg4 arg5 harg5 arg6 harg6 arg7 harg7 arg8 harg8 arg9 harg9 arg10 harg10 _ _ _ _ _ _ g3 g4 _ _ f9' f10' (fun j hj => h9 j (by omega) hj) (fun j hj => h10 j (by omega) hj) k acc))
  isplitl [H3 H4 H7 H8 H9 H10]
  · unfold inv5
    isplitl [H3]; · iexact H3
    isplitl [H4]; · iexact H4
    isplitl [H9]; · iexact H9
    isplitl [H10]; · iexact H10
    isplitl [H7]
    · iexists _; isplitl [H7]; · iexact H7
      ipureintro
      intro j hj
      rw [if_neg (by omega)]
      exact old_read i arg7.view g7 inb_S2048x128_S2048x128_0_0 j
    isplitl [H8]
    · iexists _; isplitl [H8]; · iexact H8
      ipureintro
      intro j hj
      rw [if_neg (by omega)]
      exact old_read i arg8.view g8 inb_S2048x128_S2048x128_0_0 j
    ipureintro
    rfl
  rw [t5_trips i]
  unfold inv5
  iintro %acc5 ⟨H3, H4, H9, H10, ⟨%f7', H7, %h7'⟩, ⟨%f8', H8, %h8'⟩, %hacc5⟩
  sl_exec
  iapply (wp_for_zero _ _ _ (k0_t6_loop i) _ _ _ (t6_zero i))
  sl_exec
  iapply (wp_for_zero _ _ _ (k0_t7_loop i) _ _ _ (t7_zero i))
  iapply (wp_for_zero _ _ _ (k0_t8_loop i) _ _ _ (t8_zero i))
  sl_exec
  sl_unfold_run_names
  rw [wp_ret]; imodintro
  have e9 (j : ℕ) (hj : j < 2 * (i 1).val + 2) := h9 j (by omega) hj
  have e10 (j : ℕ) (hj : j < 2 * (i 1).val + 2) := h10 j (by omega) hj
  isplitl [H2]; · iexists _; isplitr [H2]; · ipureintro; exact rfl
                  iexact H2
  isplitl [H3]; · iexists _; isplitr [H3]; · ipureintro; exact rfl
                  iexact H3
  isplitl [H4]; · iexists _; isplitr [H4]; · ipureintro; exact rfl
                  iexact H4
  isplitl [H5]; · iexists _; isplitr [H5]; · ipureintro; exact rfl
                  iexact H5
  isplitl [H6]
  · iexists _; isplitr [H6]
    swap; · iexact H6
    ipureintro
    rw [View.read_writes_full, readAt_blk arg3.view g3 _ (off1_0 i) (by omega), readAt_blk arg3.view g3 _ (off1_1 i) (by omega), readAt_blk arg4.view g4 _ (off1_0 i) (by omega), readAt_blk arg4.view g4 _ (off1_1 i) (by omega),
      readAt_slab arg9.view f9' _ (off2_0 i) (by omega), readAt_slab arg9.view f9' _ (off2_1 i) (by omega), readAt_slab arg10.view f10' _ (off2_0 i) (by omega), readAt_slab arg10.view f10' _ (off2_1 i) (by omega),
      e9 _ (by omega), e9 _ (by omega), e10 _ (by omega), e10 _ (by omega), hacc5]
    rfl
  isplitl [H7]
  · iexists _; isplitr [H7]
    swap; · iexact H7
    ipureintro
    refine ext_blk fun j hj => ?_
    unfold newK
    rw [blk_glue _ _ hj, blk_writes arg7.view f7' _ _ _ (off1_1 i) (by omega) j hj]
    split
    · rename_i e
      rw [e, readAt_blk arg4.view g4 _ (off1_0 i) (by omega), readAt_blk arg4.view g4 _ (off1_1 i) (by omega),
        readAt_slab arg9.view f9' _ (off2_0 i) (by omega), readAt_slab arg9.view f9' _ (off2_1 i) (by omega), readAt_slab arg10.view f10' _ (off2_1 i) (by omega),
        e9 _ (by omega), e9 _ (by omega), e10 _ (by omega), hacc5, readAt_blk arg7.view f7' _ (off1_1 i) (by omega), h7' _ (by omega), if_neg (by omega)]
      unfold dkB
      rw [if_neg (by omega), if_neg (by omega), if_pos rfl]; rfl
    rw [blk_writes arg7.view f7' _ _ _ (off1_0 i) (by omega) j hj]
    split
    · rename_i e
      rw [e, readAt_blk arg4.view g4 _ (off1_0 i) (by omega),
        readAt_slab arg9.view f9' _ (off2_0 i) (by omega), readAt_slab arg10.view f10' _ (off2_0 i) (by omega),
        e9 _ (by omega), e10 _ (by omega), hacc5, readAt_blk arg7.view f7' _ (off1_0 i) (by omega), h7' _ (by omega), if_neg (by omega)]
      unfold dkB
      rw [if_neg (by omega), if_pos rfl]; rfl
    rw [View.writes_nil, h7' j hj]
    split
    · rfl
    · unfold dkB; rw [if_neg (by omega), if_neg (by omega), if_neg (by omega)]
  isplitl [H8]
  · iexists _; isplitr [H8]
    swap; · iexact H8
    ipureintro
    refine ext_blk fun j hj => ?_
    unfold newV
    rw [blk_glue _ _ hj, blk_writes arg8.view f8' _ _ _ (off1_1 i) (by omega) j hj]
    split
    · rename_i e
      rw [e, readAt_slab arg9.view f9' _ (off2_1 i) (by omega), e9 _ (by omega), readAt_blk arg8.view f8' _ (off1_1 i) (by omega), h8' _ (by omega), if_neg (by omega)]
      unfold dvB
      rw [if_neg (by omega), if_neg (by omega), if_pos rfl]
    rw [blk_writes arg8.view f8' _ _ _ (off1_0 i) (by omega) j hj]
    split
    · rename_i e
      rw [e, readAt_slab arg9.view f9' _ (off2_0 i) (by omega), e9 _ (by omega), readAt_blk arg8.view f8' _ (off1_0 i) (by omega), h8' _ (by omega), if_neg (by omega)]
      unfold dvB
      rw [if_neg (by omega), if_pos rfl]
    rw [View.writes_nil, h8' j hj]
    split
    · rfl
    · unfold dvB; rw [if_neg (by omega), if_neg (by omega), if_neg (by omega)]
  isplitl [H9]
  · iexists _; iexact H9
  iexists _; iexact H10

end Cert.KernelIdeal.Hand
end
-- ==== Proof.Run.lean ====
/- The run of the attention backward kernel over its grid: what each window's staging buffer holds after each point, the
   launch, and the frame, for any reading of the floats. -/
module

public import proofs.«01_k».proof.Proof.Call
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Scf
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second grid coordinate of a point is its number modulo the four row blocks. -/
theorem coord1 : ∀ t : Fin grid0.N, (grid0.coords t 1).val = t.val % 4 := by decide +kernel

/-! ## The two resident gradient buffers, point by point -/

/-- The key gradient's buffer after point `n`. -/
def kAt (c : Dev nD) : (n : ℕ) → n < grid0.N → Vec F S2048x128 .f32
  | 0, h => newK (grid0.coords ⟨0, h⟩) (iblk m c 0 ⟨0, h⟩) (iblk m c 1 ⟨0, h⟩) (iblk m c 2 ⟨0, h⟩) (iblk m c 3 ⟨0, h⟩) k0_pay53
  | n + 1, h => newK (grid0.coords ⟨n + 1, h⟩) (iblk m c 0 ⟨n + 1, h⟩) (iblk m c 1 ⟨n + 1, h⟩) (iblk m c 2 ⟨n + 1, h⟩) (iblk m c 3 ⟨n + 1, h⟩) (kAt c n (Nat.lt_of_succ_lt h))

/-- The value gradient's buffer after point `n`. -/
def vAt (c : Dev nD) : (n : ℕ) → n < grid0.N → Vec F S2048x128 .f32
  | 0, h => newV (grid0.coords ⟨0, h⟩) (iblk m c 0 ⟨0, h⟩) (iblk m c 1 ⟨0, h⟩) (iblk m c 3 ⟨0, h⟩) k0_pay53
  | n + 1, h => newV (grid0.coords ⟨n + 1, h⟩) (iblk m c 0 ⟨n + 1, h⟩) (iblk m c 1 ⟨n + 1, h⟩) (iblk m c 3 ⟨n + 1, h⟩) (vAt c n (Nat.lt_of_succ_lt h))

/-- At the first row block of a pair of heads the key gradient does not depend on what its buffer held. -/
theorem newK_first (i : grid0.Coords) (h : (i 1).val = 0) (X2 : Vec F S512x128 .bf16) (X3 X4 : Vec F S2048x128 .bf16) (X5 : Vec F S512x128 .bf16) (X X' : Vec F S2048x128 .f32) :
    newK i X2 X3 X4 X5 X = newK i X2 X3 X4 X5 X' := by
  have : old i X = old i X' := funext fun j => by unfold old; rw [if_pos h, if_pos h]
  unfold newK; rw [this]

/-- Nor does the value gradient. -/
theorem newV_first (i : grid0.Coords) (h : (i 1).val = 0) (X2 : Vec F S512x128 .bf16) (X3 : Vec F S2048x128 .bf16) (X5 : Vec F S512x128 .bf16) (X X' : Vec F S2048x128 .f32) :
    newV i X2 X3 X5 X = newV i X2 X3 X5 X' := by
  have : old i X = old i X' := funext fun j => by unfold old; rw [if_pos h, if_pos h]
  unfold newV; rw [this]

/-- What the key gradient's buffer holds after a point, from what it holds before: anything at the first row block of a
    pair of heads, what the point before left elsewhere. -/
theorem kAt_step (c : Dev nD) (t : Fin grid0.N) (X : Vec F S2048x128 .f32)
    (hX : ∀ h : t.val % 4 ≠ 0, X = kAt m c (t.val - 1) (by have := t.isLt; omega)) :
    newK (grid0.coords t) (iblk m c 0 t) (iblk m c 1 t) (iblk m c 2 t) (iblk m c 3 t) X = kAt m c t.val t.isLt := by
  obtain ⟨n, hn⟩ := t
  by_cases h : n % 4 = 0
  · have h0 : (grid0.coords ⟨n, hn⟩ 1).val = 0 := (coord1 ⟨n, hn⟩).trans h
    cases n with
    | zero => exact newK_first _ h0 _ _ _ _ _ _
    | succ n => exact newK_first _ h0 _ _ _ _ _ _
  · rw [hX h]
    cases n with
    | zero => exact absurd rfl h
    | succ n => rfl

/-- The same of the value gradient's buffer. -/
theorem vAt_step (c : Dev nD) (t : Fin grid0.N) (X : Vec F S2048x128 .f32)
    (hX : ∀ h : t.val % 4 ≠ 0, X = vAt m c (t.val - 1) (by have := t.isLt; omega)) :
    newV (grid0.coords t) (iblk m c 0 t) (iblk m c 1 t) (iblk m c 3 t) X = vAt m c t.val t.isLt := by
  obtain ⟨n, hn⟩ := t
  by_cases h : n % 4 = 0
  · have h0 : (grid0.coords ⟨n, hn⟩ 1).val = 0 := (coord1 ⟨n, hn⟩).trans h
    cases n with
    | zero => exact newV_first _ h0 _ _ _ _ _
    | succ n => exact newV_first _ h0 _ _ _ _ _
  · rw [hX h]
    cases n with
    | zero => exact absurd rfl h
    | succ n => rfl

/-! ## The proof data -/

/-- The block of the query gradient a point stores. -/
def dqAt (c : Dev nD) (t : Fin grid0.N) : Vec F S512x128 .f32 :=
  outQ (k0_pay58 (iblk m c 0 t)) (blk (iblk m c 1 t)) (grid0.coords t 1).val (k0_pay59 (iblk m c 3 t)) (blk (iblk m c 2 t))

/-- Each window's staging buffer after each point: the inputs their blocks, the outputs the gradients so far. -/
def dats : (p : Fin 1) → (c : Dev nD) → Dat τ (Elt F) Unit ℕ (UR sig nD τ) ℕ (cfgs p) c := fun
  | 0 => fun c =>
    { A := fun w => V m c (Pipeline.arrRef spec0 w)
      after := fun
        | 0 => fun t => iblk m c 0 t
        | 1 => fun t => iblk m c 1 t
        | 2 => fun t => iblk m c 2 t
        | 3 => fun t => iblk m c 3 t
        | 4 => fun t => dqAt m c t
        | 5 => fun t => kAt m c t.val t.isLt
        | 6 => fun t => vAt m c t.val t.isLt
        | ⟨_ + 7, h⟩ => absurd h (Nat.not_lt.2 (Nat.le_add_left _ _))
      Φ := fun _ => Pipeline.ΦA spec0 c
      q := fun _ => fullShare
      owed := fun _ => 0 }
  | ⟨_ + 1, h⟩ => absurd h (Nat.not_lt.2 (Nat.le_add_left _ _))

/-- The arrays at the start of the region. -/
theorem A_eq (c : Dev nD) (w : Fin cfg0.W) : (dats m 0 c).A w = V m c (Pipeline.arrRef spec0 w) := rfl

/-- The first window's buffer holds its block. -/
theorem before0_0 (c : Dev nD) (t : Fin cfg0.N) (d) : (dats m 0 c).before 0 t d = iblk m c 0 t := before0_0_of m _ rfl (fun _ => rfl) t d
/-- The second window's buffer holds its block. -/
theorem before0_1 (c : Dev nD) (t : Fin cfg0.N) (d) : (dats m 0 c).before 1 t d = iblk m c 1 t := before0_1_of m _ rfl (fun _ => rfl) t d
/-- The third window's buffer holds its block. -/
theorem before0_2 (c : Dev nD) (t : Fin cfg0.N) (d) : (dats m 0 c).before 2 t d = iblk m c 2 t := before0_2_of m _ rfl (fun _ => rfl) t d
/-- The fourth window's buffer holds its block. -/
theorem before0_3 (c : Dev nD) (t : Fin cfg0.N) (d) : (dats m 0 c).before 3 t d = iblk m c 3 t := before0_3_of m _ rfl (fun _ => rfl) t d

/-- Past the first row block of a pair of heads, the key gradient's buffer holds what the point before left. -/
theorem before0_5 (c : Dev nD) (t : Fin cfg0.N) (h : t.val % 4 ≠ 0) (d) :
    (dats m 0 c).before 5 t d = kAt m c (t.val - 1) (Nat.lt_of_le_of_lt (Nat.sub_le _ _) t.isLt) := by
  have hf : (cfg0.win 5).flush ⟨t.val - 1, Nat.lt_of_le_of_lt (Nat.sub_le _ _) t.isLt⟩ ≠ true := fun hh => by
    have := (flush0_5 _).mp hh
    dsimp only at this; omega
  unfold Dat.before
  rw [if_neg (by decide +revert), if_neg (by omega)]
  exact if_neg hf

/-- So does the value gradient's. -/
theorem before0_6 (c : Dev nD) (t : Fin cfg0.N) (h : t.val % 4 ≠ 0) (d) :
    (dats m 0 c).before 6 t d = vAt m c (t.val - 1) (Nat.lt_of_le_of_lt (Nat.sub_le _ _) t.isLt) := by
  have hf : (cfg0.win 6).flush ⟨t.val - 1, Nat.lt_of_le_of_lt (Nat.sub_le _ _) t.isLt⟩ ≠ true := fun hh => by
    have := (flush0_6 _).mp hh
    dsimp only at this; omega
  unfold Dat.before
  rw [if_neg (by decide +revert), if_neg (by omega)]
  exact if_neg hf

/-! ## The body at a point -/

/-- What the body finds at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The invariant opened: the two scratch buffers at any contents, and the generator's register. -/
theorem phi_open (c : Dev nD) (k : Fin (cfg0.N + 1)) : (dats m 0 c).Φ k = iprop(((∃ f9, (Memref.whole cc0_scratch0).view.loc (c : Thread nD τ) ↦[(Memref.whole cc0_scratch0).view.set]{fullShare} f9) ∗ (∃ f10, (Memref.whole cc0_scratch1).view.loc (c : Thread nD τ) ↦[(Memref.whole cc0_scratch1).view.set]{fullShare} f10)) ∗ ∃ r, prngReg c r) := by
  show Pipeline.ΦA spec0 c = _
  unfold Pipeline.ΦA
  rw [scopedRest0_eq]
  rw [show (Memref.whole cc0_scratch0).view.set = Finset.univ from View.set_whole _, show (Memref.whole cc0_scratch1).view.set = Finset.univ from View.set_whole _]

/-- The body at any point takes what it finds to what it leaves. -/
theorem at_point (c : Dev nD) (t : Fin cfg0.N) :
    pre m c t ⊢ wp frame (wpE (defs₀ (F := F)) Variants.none (c : Thread nD τ) none) Set.univ (bodyAt0 t) (fun _ => post m c t) := by
  unfold pre post bodyAt0
  simp only [before0_0, before0_1, before0_2, before0_3]
  rw [show (dats m 0 c).owesAt () t.succ = (dats m 0 c).owesAt () t.castSucc from rfl, phi_open m c, phi_open m c]
  iintro ⟨⟨⟨H9, H10⟩, Hr⟩, Ho, ⟨%d0, H0⟩, ⟨%d1, H1⟩, ⟨%d2, H2⟩, ⟨%d3, H3⟩, ⟨%d4, H4⟩, ⟨%d5, H5⟩, ⟨%d6, H6⟩⟩
  iapply wp_wand_r
  isplitl [H0 H1 H2 H3 H4 H5 H6 H9 H10]
  · iapply (body_spec Variants.none c (grid0.coords t) _ _ _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    iexact H10
  iintro %_ ⟨H0, H1, H2, H3, H4, H5, H6, H9, H10⟩
  isplitl [H9 H10 Hr]
  · isplitr [Hr]
    · isplitl [H9]; · iexact H9
      iexact H10
    iexact Hr
  isplitl [Ho]; · iexact Ho
  isplitl [H0]; · iexact H0
  isplitl [H1]; · iexact H1
  isplitl [H2]; · iexact H2
  isplitl [H3]; · iexact H3
  isplitl [H4]; · iexact H4
  rw [kAt_step m c t _ (fun h => before0_5 m c t h d5), vAt_step m c t _ (fun h => before0_6 m c t h d6)]
  isplitl [H5]; · iexact H5
  iexact H6

/-- The pipeline's row of the definitions is the body at the point. -/
theorem row_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_at]
  exact triple_restated (at_point m c t) rfl .rfl fun _ => .rfl

/-! ## The launch and the frame -/

set_option backward.isDefEq.respectTransparency.types false in
set_option maxHeartbeats 1600000 in
/-- The whole run: the windowed arrays end as the proof data say, every semaphore at zero. -/
theorem run_zero : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the semaphores. -/
theorem run : θ_run defs (onTc (τ := τ) (main (F := F))) (s₀ m ρ) (Pipeline.FramePost cfgs (dats m) 0 (V m)) :=
  (θ_run defs _ _).mono (fun _ h => h.1) (run_zero m ρ)

/-- The arguments end unchanged and every semaphore counter is zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run m ρ)) ((θ_run defs _ _).mono (fun _ h => h.2) (run_zero m ρ))

end Cert.KernelIdeal.Hand
end
-- ==== Proof.Frames.lean ====
/-
  The three frames. The kernel's text is the same in `Kernel` and `KernelIdeal`, so one run, generic in the float
  values, gives both; the reference is a list of host operations and declares no semaphore.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section
noncomputable section

namespace Cert.Proof

open Idealize.ShloMosaic Idealize.SL.Sem

/-- The two texts name the same kernel body. -/
theorem body_same {F : FTy → Type} [FloatOps F] : Cert.Kernel.defs₀ (F := F) = Cert.KernelIdeal.defs₀ (F := F) := by
  refine congrArg Defs.onTc ?_
  funext l x
  match l, x with
  | 0, (t, s) => rfl

/-- The two texts have the same definitions. -/
theorem defs_same {F : FTy → Type} [FloatOps F] : Cert.Kernel.defs (F := F) = Cert.KernelIdeal.defs (F := F) :=
  congrArg (Pipeline.defs (Cert.KernelIdeal.pcfgs (F := F))) body_same

/-- The kernel as printed, on words: the run at `Bits`. -/
theorem frame_kernel : Cert.quiescent_Kernel := by
  intro m ρ _
  rw [defs_same]
  exact Cert.KernelIdeal.Hand.frame_any (F := Bits) m ρ

/-- The kernel over the extended reals: the run at `Ideal`. -/
theorem frame_ideal : Cert.quiescent_KernelIdeal := fun m ρ _ => Cert.KernelIdeal.Hand.frame_any (F := Ideal) m ρ

/-- The reference over the extended reals. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof
end
-- ==== Proof.Value.Real.lean ====
/-
  The mathematics over the reals: the scores, weights and gradients of stick-breaking attention as functions of
  natural-number indices, and the sums by which a kernel reaches them block by block.
-/
module

public import Mathlib.Tactic.Ring
public import Mathlib.Tactic.Linarith
public import Mathlib.Algebra.BigOperators.Fin
public import Mathlib.Algebra.BigOperators.Intervals
public import Mathlib.Data.EReal.Operations
public import Mathlib.Analysis.SpecialFunctions.Log.Basic

@[expose] public section
noncomputable section

namespace Cert.Sb

open Finset

/-- A finite sum of reals read in the extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [sum_insert ha, sum_insert ha, EReal.coe_add, ih]

/-- A sum over `Fin n` of extended reals that are all real. -/
theorem sum_fin {n : ℕ} (f : Fin n → EReal) (g : ℕ → ℝ) (h : ∀ x : Fin n, f x = (g x : EReal)) :
    ∑ x, f x = ((∑ x ∈ range n, g x : ℝ) : EReal) := by
  rw [← Fin.sum_univ_eq_sum_range, coe_sum]
  exact sum_congr rfl fun x _ => h x

/-- The logarithm of the sigmoid, as the kernel writes it. -/
def lsg (z : ℝ) : ℝ := min z 0 - Real.log (1 + Real.exp (-|z|))

/-- The sum of the later entries of a block. -/
theorem suf (f : ℕ → ℝ) (o n c : ℕ) (hc : c < n) :
    ∑ x ∈ range n, f (o + x) * (if c < x then 1 else 0) = ∑ b ∈ Ico (o + c + 1) (o + n), f b := by
  simp only [mul_ite, mul_one, mul_zero]
  rw [← sum_filter, sum_Ico_eq_sum_range]
  refine sum_nbij' (fun x => x - (c + 1)) (fun x => c + 1 + x) ?_ ?_ ?_ ?_ ?_ <;>
    simp only [mem_filter, mem_range] <;> intros <;> first | omega | (congr 1; omega)

/-- The sum of the earlier entries of a block. -/
theorem pre (f : ℕ → ℝ) (o n c : ℕ) (hc : c < n) :
    ∑ x ∈ range n, f (o + x) * (if x < c then 1 else 0) = ∑ b ∈ Ico o (o + c), f b := by
  simp only [mul_ite, mul_one, mul_zero]
  rw [← sum_filter, sum_Ico_eq_sum_range]
  refine sum_congr ?_ fun _ _ => rfl
  ext x; simp only [mem_filter, mem_range]; omega

/-- A block's sum. -/
theorem blkSum (f : ℕ → ℝ) (o n : ℕ) : ∑ x ∈ range n, f (o + x) = ∑ b ∈ Ico o (o + n), f b := by
  rw [sum_Ico_eq_sum_range]; simp

/-- A sum over the 128 lanes of a pair of heads, one factor being zero on the other head's lanes. -/
theorem lanes (f : ℕ → ℝ) (g : ℕ → ℝ) (e : ℕ) (he : e < 2) :
    ∑ l ∈ range 128, (if l / 64 = e then f l else 0) * g l = ∑ d ∈ range 64, f (64 * e + d) * g (64 * e + d) := by
  simp only [ite_mul, zero_mul]
  rw [← sum_filter]
  refine sum_nbij' (fun x => x - 64 * e) (fun x => 64 * e + x) ?_ ?_ ?_ ?_ ?_ <;>
    simp only [mem_filter, mem_range] <;> intros <;> first | omega | (congr 1 <;> congr 1 <;> omega)

/-- A sum over the 1024 stacked rows, one factor being zero on the other head's rows. -/
theorem rows (f : ℕ → ℝ) (g : ℕ → ℝ) (e : ℕ) (he : e < 2) :
    ∑ r ∈ range 1024, f r * (if e = r / 512 then g r else 0) = ∑ d ∈ range 512, f (512 * e + d) * g (512 * e + d) := by
  simp only [mul_ite, mul_zero]
  rw [← sum_filter]
  refine sum_nbij' (fun x => x - 512 * e) (fun x => 512 * e + x) ?_ ?_ ?_ ?_ ?_ <;>
    simp only [mem_filter, mem_range] <;> intros <;> first | omega | (congr 1 <;> congr 1 <;> omega)

variable (q k v o : ℕ → ℕ → ℝ)

/-- The score of head `h` at query `a` and key `b`. -/
def Z (h a b : ℕ) : ℝ := ∑ d ∈ range 64, q a (64 * h + d) * k b (64 * h + d)
/-- The logarithm of what a key leaves of the stick; zero where the key is not before the query. -/
def G (h a b : ℕ) : ℝ := if b < a then lsg (Z q k h a b) - Z q k h a b else 0
/-- The logarithm of what the keys between `b` and the query leave. -/
def T (h a b : ℕ) : ℝ := ∑ b' ∈ Ico (b + 1) 2048, G q k h a b'
/-- The attention weight. -/
def A (h a b : ℕ) : ℝ := if b < a then Real.exp (lsg (Z q k h a b) + T q k h a b) else 0
/-- The gradient of the weight's logarithm. -/
def DS (h a b : ℕ) : ℝ := Z o v h a b * A q k h a b
/-- The gradients of the earlier keys, summed. -/
def Pf (h a b : ℕ) : ℝ := if b < a then ∑ b' ∈ range b, DS q k v o h a b' else 0
/-- The gradient of the score. -/
def DZ (h a b : ℕ) : ℝ := DS q k v o h a b - Real.exp (lsg (Z q k h a b)) * (DS q k v o h a b + Pf q k v o h a b)

/-- Nothing is left of a key that is not before the query. -/
theorem G_zero (h a b : ℕ) (hb : a ≤ b) : G q k h a b = 0 := if_neg (by omega)
/-- No weight there either. -/
theorem A_zero (h a b : ℕ) (hb : a ≤ b) : A q k h a b = 0 := if_neg (by omega)
/-- Nor a gradient of its logarithm. -/
theorem DS_zero (h a b : ℕ) (hb : a ≤ b) : DS q k v o h a b = 0 := by rw [DS, A_zero q k h a b hb, mul_zero]
/-- Nor one of the score. -/
theorem DZ_zero (h a b : ℕ) (hb : a ≤ b) : DZ q k v o h a b = 0 := by
  rw [DZ, DS_zero q k v o h a b hb, Pf, if_neg (by omega)]; simp

/-- The keys after the query contribute nothing, so the sum may stop anywhere after it. -/
theorem G_sum (h a s n : ℕ) (ha : a ≤ n) (hs : s ≤ n) (hn : n ≤ 2048) :
    ∑ b ∈ Ico s n, G q k h a b = ∑ b ∈ Ico s 2048, G q k h a b := by
  rw [← sum_Ico_consecutive _ hs hn, sum_eq_zero (s := Ico n 2048), add_zero]
  intro b hb; rw [mem_Ico] at hb; exact G_zero q k h a b (by omega)

end Cert.Sb
end
-- ==== Proof.Value.Ops.lean ====
/-
  One grid point's stored words over the extended reals: what each is at an index, as a real number, when the
  operand blocks hold real numbers.
-/
module

public import proofs.«01_k».proof.Proof.Model
public import proofs.«01_k».proof.Proof.Value.Real
public import Idealize.ShloMosaic.Lib.Pipeline.ValueKit
public import Idealize.ShloMosaic.Lib.WordCmp

@[expose] public section
set_option maxRecDepth 16384
noncomputable section

namespace Cert.KernelIdeal.Hand
open Idealize.ShloMosaic Idealize.ShloMosaic.TcCoe Idealize.SL.Sem
open Cert.KernelIdeal Cert.KernelIdeal.Gen Cert.Sb
open Finset (range Ico mem_range mem_Ico sum_congr sum_Ico_consecutive)

/-! ## Words and casts -/

/-- Comparing two small words. -/
theorem lt_word (a b : ℕ) (ha : a < 2 ^ 31) (hb : b < 2 ^ 31) :
    IntOp.cmpi .slt (BitVec.ofNat 32 a) (BitVec.ofNat 32 b) = if a < b then 1#1 else 0#1 := by
  rw [WordCmp.cmpi_slt_ofNat (by omega) (by omega)]
  by_cases h : a < b <;> simp [h]

/-- The causal mask of a diagonal block at a stacked row and a column, the block starting at key `s` of the rows'. -/
theorem mask_word (r l s : ℕ) (hr : r < 1024) (hl : l < 256) (hs : s ≤ 256) :
    IntOp.cmpi .slt (IntOp.addi (BitVec.ofNat 32 l) (BitVec.ofNat 32 s))
      (Scalar.select (IntOp.cmpi .sge (BitVec.ofNat 32 r) 512#32) (IntOp.subi (BitVec.ofNat 32 r) 512#32) (BitVec.ofNat 32 r))
      = if l + s < r % 512 then 1#1 else 0#1 := by
  have e1 : IntOp.addi (BitVec.ofNat 32 l) (BitVec.ofNat 32 s) = BitVec.ofNat 32 (l + s) := by
    rw [BitVec.ofNat_add]; rfl
  have e2 : Scalar.select (IntOp.cmpi .sge (BitVec.ofNat 32 r) 512#32) (IntOp.subi (BitVec.ofNat 32 r) 512#32) (BitVec.ofNat 32 r)
      = BitVec.ofNat 32 (r % 512) := by
    rw [WordCmp.cmpi_sge_ofNat (by omega) (by omega)]
    by_cases h : 512 ≤ r
    · have : IntOp.subi (BitVec.ofNat 32 r) 512#32 = BitVec.ofNat 32 (r - 512) := by
        show BitVec.ofNat 32 r - 512#32 = _
        bv_omega
      rw [this, show r % 512 = r - 512 by omega]; simp [h, Scalar.select]
    · rw [show r % 512 = r by omega]; simp [h, Scalar.select]
  rw [e1, e2]
  exact lt_word _ _ (by omega) (by omega)

/-- The logarithm of the sigmoid of a real number. -/
theorem lsg_coe (z : ℝ) : min (z : EReal) 0 - Ideal.log (1 + Ideal.exp (0 - max (z : EReal) (-(z : EReal)))) = (lsg z : EReal) := by
  have e : (1 : ℝ) + Real.exp (-|z|) > 0 := by positivity
  rw [← EReal.coe_neg, ← EReal.coe_strictMono.monotone.map_max, ← EReal.coe_zero, ← EReal.coe_strictMono.monotone.map_min,
    ← EReal.coe_sub, Ideal.exp_coe, ← EReal.coe_one, ← EReal.coe_add, Ideal.log_coe, max_self_neg_eq z, if_neg (by simpa using e), ← EReal.coe_sub]
  simp [lsg]
where
  max_self_neg_eq (z : ℝ) : max z (-z) = |z| := rfl

end Cert.KernelIdeal.Hand
end
-- ==== Proof.Value.Point.lean ====
/-
  One grid point over the reals: what its stored words and its two passes compute, block by block.
-/
module

public import proofs.«01_k».proof.Proof.Value.Ops

@[expose] public section
set_option maxRecDepth 16384
noncomputable section

namespace Cert.KernelIdeal.Hand
open Idealize.ShloMosaic Idealize.ShloMosaic.TcCoe Idealize.SL.Sem
open Cert.KernelIdeal Cert.KernelIdeal.Gen Cert.Sb
open Finset (range Ico mem_range mem_Ico sum_congr sum_Ico_consecutive)

/-- The point `(p, i)` of the grid finds these real operands: the stacked query and output-gradient rows, each head's
    rows zero on the other head's lanes, and the key and value blocks. -/
structure Holds (q k v o : ℕ → ℕ → ℝ) (p i : ℕ) (Q D : FVec Ideal S1024x128 .bf16) (K V : ℕ → Vec Ideal S256x128 .bf16) : Prop where
  hi : i < 4
  hQ : ∀ (r : Fin 1024) (l : Fin 128), Q (ix2 r l) = ((if l.val / 64 = r.val / 512 then q (512 * i + r.val % 512) (128 * p + l.val) else 0 : ℝ) : EReal)
  hD : ∀ (r : Fin 1024) (l : Fin 128), D (ix2 r l) = ((if l.val / 64 = r.val / 512 then o (512 * i + r.val % 512) (128 * p + l.val) else 0 : ℝ) : EReal)
  hK : ∀ (j : ℕ) (_ : j < 8) (c : Fin 256) (l : Fin 128), K j (ix2 c l) = ((k (256 * j + c.val) (128 * p + l.val) : ℝ) : EReal)
  hV : ∀ (j : ℕ) (_ : j < 8) (c : Fin 256) (l : Fin 128), V j (ix2 c l) = ((v (256 * j + c.val) (128 * p + l.val) : ℝ) : EReal)

variable {q k v o : ℕ → ℕ → ℝ} {p i : ℕ} {Q D : FVec Ideal S1024x128 .bf16} {K V : ℕ → Vec Ideal S256x128 .bf16}

/-- A row of a stacked operand against a row of a block is the head's product. -/
theorem score (x y : ℕ → ℕ → ℝ) (p i j : ℕ) (X : FVec Ideal S1024x128 .bf16) (Y : Vec Ideal S256x128 .bf16)
    (hX : ∀ (r : Fin 1024) (l : Fin 128), X (ix2 r l) = ((if l.val / 64 = r.val / 512 then x (512 * i + r.val % 512) (128 * p + l.val) else 0 : ℝ) : EReal))
    (hY : ∀ (c : Fin 256) (l : Fin 128), Y (ix2 c l) = ((y (256 * j + c.val) (128 * p + l.val) : ℝ) : EReal)) (r : Fin 1024) (c : Fin 256) :
    ∑ l : Fin 128, X (ix2 r l) * Y (ix2 c l) = ((Z x y (2 * p + r.val / 512) (512 * i + r.val % 512) (256 * j + c.val) : ℝ) : EReal) := by
  have hr := r.isLt
  rw [sum_fin _ (fun l => (if l / 64 = r.val / 512 then x (512 * i + r.val % 512) (128 * p + l) else 0) * y (256 * j + c.val) (128 * p + l))
    (fun l => by rw [hX, hY, ← EReal.coe_mul])]
  rw [lanes (fun l => x (512 * i + r.val % 512) (128 * p + l)) (fun l => y (256 * j + c.val) (128 * p + l)) _ (by omega), Z]
  congr 1
  refine sum_congr rfl fun d _ => ?_
  rw [show 128 * p + (64 * (r.val / 512) + d) = 64 * (2 * p + r.val / 512) + d by omega]

namespace Holds
variable (H : Holds q k v o p i Q D K V)
include H

/-- The score of a stacked row and a column of block `j`. -/
theorem pay1 (j : ℕ) (hj : j < 8) (r : Fin 1024) (c : Fin 256) :
    k0_pay1 Q (K j) (ix2 r c) = ((Z q k (2 * p + r.val / 512) (512 * i + r.val % 512) (256 * j + c.val) : ℝ) : EReal) := by
  refine Eq.trans ?_ (score q k p i j Q (K j) H.hQ (H.hK j hj) r c)
  pointwise [k0_pay1]

/-- Its sigmoid's logarithm. -/
theorem pay2 (j : ℕ) (hj : j < 8) (r : Fin 1024) (c : Fin 256) :
    k0_pay2 Q (K j) (ix2 r c) = ((lsg (Z q k (2 * p + r.val / 512) (512 * i + r.val % 512) (256 * j + c.val)) : ℝ) : EReal) := by
  refine Eq.trans ?_ (lsg_coe _)
  rw [← H.pay1 j hj r c]
  pointwise [k0_pay2]
  rfl

/-- The logarithm of what the key leaves. -/
theorem pay3 (j : ℕ) (hj : j < 8) (r : Fin 1024) (c : Fin 256) :
    k0_pay3 Q (K j) (ix2 r c) = ((lsg (Z q k (2 * p + r.val / 512) (512 * i + r.val % 512) (256 * j + c.val))
      - Z q k (2 * p + r.val / 512) (512 * i + r.val % 512) (256 * j + c.val) : ℝ) : EReal) := by
  rw [EReal.coe_sub, ← H.pay1 j hj r c, ← H.pay2 j hj r c]
  pointwise [k0_pay3]

/-- The same in a block before the row's. -/
theorem lg_low (j : ℕ) (hj : j < 2 * i) (r : Fin 1024) (c : Fin 256) :
    k0_pay3 Q (K j) (ix2 r c) = ((G q k (2 * p + r.val / 512) (512 * i + r.val % 512) (256 * j + c.val) : ℝ) : EReal) := by
  have := H.hi
  rw [H.pay3 j (by omega), G, if_pos (by omega)]

/-- The same in the last block, masked. -/
theorem lg_last (r : Fin 1024) (c : Fin 256) :
    k0_pay65 Q i0 k0_pay61 k0_pay62 (K (2 * i + 1)) (ix2 r c)
      = ((G q k (2 * p + r.val / 512) (512 * i + r.val % 512) (256 * (2 * i + 1) + c.val) : ℝ) : EReal) := by
  have := H.hi
  have e : k0_pay65 Q i0 k0_pay61 k0_pay62 (K (2 * i + 1)) (ix2 r c)
      = Scalar.select (if c.val + 256 < r.val % 512 then 1#1 else 0#1) (k0_pay3 Q (K (2 * i + 1)) (ix2 r c)) 0 := by
    rw [← mask_word r.val c.val 256 r.isLt c.isLt (le_refl _)]
    pointwise [k0_pay65, i0, k0_pay61, k0_pay62, k0_pay3]
    rfl
  rw [e, H.pay3 (2 * i + 1) (by omega), G]
  by_cases h : c.val + 256 < r.val % 512
  · rw [if_pos h, if_pos (by omega)]; rfl
  · rw [if_neg h, if_neg (by omega)]; rfl

/-- The same in the last block but one, masked. -/
theorem lg_first (r : Fin 1024) (c : Fin 256) :
    k0_pay71 Q i0 i1 0#32 (K (2 * i)) (ix2 r c)
      = ((G q k (2 * p + r.val / 512) (512 * i + r.val % 512) (256 * (2 * i) + c.val) : ℝ) : EReal) := by
  have := H.hi
  have e : k0_pay71 Q i0 i1 0#32 (K (2 * i)) (ix2 r c)
      = Scalar.select (if c.val + 0 < r.val % 512 then 1#1 else 0#1) (k0_pay3 Q (K (2 * i)) (ix2 r c)) 0 := by
    rw [← mask_word r.val c.val 0 r.isLt c.isLt (by omega)]
    pointwise [k0_pay71, i0, i1, k0_pay3]
    rfl
  rw [e, H.pay3 (2 * i) (by omega), G]
  by_cases h : c.val + 0 < r.val % 512
  · rw [if_pos h, if_pos (by omega)]; rfl
  · rw [if_neg h, if_neg (by omega)]; rfl

omit H in
/-- The strict upper triangle. -/
theorem upper (x c : Fin 256) : k0_pay56 (F := Ideal) (ix2 x c) = ((if c.val < x.val then 1 else 0 : ℝ) : EReal) := by
  have e : k0_pay56 (F := Ideal) (ix2 x c) = Scalar.select (if c.val < x.val then 1#1 else 0#1) 1 0 := by
    rw [← lt_word _ _ (by omega) (by omega)]
    pointwise [k0_pay56]
    rfl
  rw [e]
  by_cases h : c.val < x.val
  · rw [if_pos h, if_pos h]; rfl
  · rw [if_neg h, if_neg h]; rfl

omit H in
/-- The strict lower triangle. -/
theorem lower (x c : Fin 256) : k0_pay57 (F := Ideal) (ix2 x c) = ((if x.val < c.val then 1 else 0 : ℝ) : EReal) := by
  have e : k0_pay57 (F := Ideal) (ix2 x c) = Scalar.select (if x.val < c.val then 1#1 else 0#1) 1 0 := by
    rw [← lt_word _ _ (by omega) (by omega)]
    pointwise [k0_pay57]
  rw [e]
  by_cases h : x.val < c.val
  · rw [if_pos h, if_pos h]; rfl
  · rw [if_neg h, if_neg h]; rfl

end Holds
end Cert.KernelIdeal.Hand
end
-- ==== Proof.Value.Weights.lean ====
/-
  One grid point over the reals, the first pass: the running row sums, the logarithms of the weights and the sigmoids.
-/
module

public import proofs.«01_k».proof.Proof.Value.Point

@[expose] public section
set_option maxRecDepth 16384
noncomputable section

namespace Cert.KernelIdeal.Hand
open Idealize.ShloMosaic Idealize.ShloMosaic.TcCoe Idealize.SL.Sem
open Cert.KernelIdeal Cert.KernelIdeal.Gen Cert.Sb
open Finset (range Ico mem_range mem_Ico sum_congr sum_Ico_consecutive)

/-- The sum of a block's columns. -/
theorem colsum (F : Fin 256 → EReal) (g : ℕ → ℝ) (j : ℕ) (h : ∀ x : Fin 256, F x = ((g (256 * j + x.val) : ℝ) : EReal)) :
    ∑ x, F x = ((∑ b ∈ Ico (256 * j) (256 * (j + 1)), g b : ℝ) : EReal) := by
  rw [sum_fin F (fun x => g (256 * j + x)) h, blkSum, show 256 * (j + 1) = 256 * j + 256 by omega]

/-- The sum of a block's later columns. -/
theorem colsuf (F U : Fin 256 → EReal) (g : ℕ → ℝ) (j : ℕ) (c : Fin 256) (h : ∀ x : Fin 256, F x = ((g (256 * j + x.val) : ℝ) : EReal))
    (hU : ∀ x : Fin 256, U x = ((if c.val < x.val then 1 else 0 : ℝ) : EReal)) :
    ∑ x, F x * U x = ((∑ b ∈ Ico (256 * j + c.val + 1) (256 * (j + 1)), g b : ℝ) : EReal) := by
  rw [sum_fin _ (fun x => g (256 * j + x) * (if c.val < x then 1 else 0)) (fun x => by rw [h, hU, EReal.coe_mul]), suf _ _ _ _ c.isLt,
    show 256 * (j + 1) = 256 * j + 256 by omega]

/-- The sum of a block's earlier columns. -/
theorem colpre (F U : Fin 256 → EReal) (g : ℕ → ℝ) (j : ℕ) (c : Fin 256) (h : ∀ x : Fin 256, F x = ((g (256 * j + x.val) : ℝ) : EReal))
    (hU : ∀ x : Fin 256, U x = ((if x.val < c.val then 1 else 0 : ℝ) : EReal)) :
    ∑ x, F x * U x = ((∑ b ∈ Ico (256 * j) (256 * j + c.val), g b : ℝ) : EReal) := by
  rw [sum_fin _ (fun x => g (256 * j + x) * (if x < c.val then 1 else 0)) (fun x => by rw [h, hU, EReal.coe_mul]), pre _ _ _ _ c.isLt]

namespace Holds
variable {q k v o : ℕ → ℕ → ℝ} {p i : ℕ} {Q D : FVec Ideal S1024x128 .bf16} {K V : ℕ → Vec Ideal S256x128 .bf16}
variable (H : Holds q k v o p i Q D K V)
include H

/-- The row sums after the last block. -/
theorem carA_at (r : Fin 1024) :
    carA Q K i (ix2 r 0) = ((∑ b ∈ Ico (256 * (2 * i + 1)) 2048, G q k (2 * p + r.val / 512) (512 * i + r.val % 512) b : ℝ) : EReal) := by
  have := H.hi
  rw [← G_sum q k _ _ _ (256 * (2 * i + 1 + 1)) (by omega) (by omega) (by omega), ← colsum _ _ _ (fun x => H.lg_last r x)]
  pointwise [carA, k0_pay68, k0_pay60]

/-- The running row sums: all the later keys. -/
theorem car_at (r : Fin 1024) (n : ℕ) (hn : n ≤ 2 * i) :
    car Q K i n (ix2 r 0) = ((∑ b ∈ Ico (256 * (2 * i - n)) 2048, G q k (2 * p + r.val / 512) (512 * i + r.val % 512) b : ℝ) : EReal) := by
  have := H.hi
  induction n with
  | zero =>
    rw [← sum_Ico_consecutive _ (show 256 * (2 * i - 0) ≤ 256 * (2 * i + 1) by omega) (show 256 * (2 * i + 1) ≤ 2048 by omega),
      add_comm (∑ b ∈ Ico _ _, _), EReal.coe_add, ← H.carA_at r, Nat.sub_zero, ← colsum _ _ _ (fun x => H.lg_first r x)]
    show k0_pay74 Q (carA Q K i) i0 i1 0#32 (K (2 * i)) (ix2 r 0) = _
    pointwise [k0_pay74]
  | succ n ih =>
    rw [← sum_Ico_consecutive _ (show 256 * (2 * i - (n + 1)) ≤ 256 * (2 * i - n) by omega) (show 256 * (2 * i - n) ≤ 2048 by omega),
      add_comm (∑ b ∈ Ico _ _, _), EReal.coe_add, ← ih (by omega), show 2 * i - n = (2 * i - 1 - n) + 1 by omega, show 2 * i - (n + 1) = 2 * i - 1 - n by omega,
      ← colsum _ _ _ (fun x => H.lg_low (2 * i - 1 - n) (by omega) r x)]
    show k0_pay6 Q (car Q K i n) (K (2 * i - 1 - n)) (ix2 r 0) = _
    pointwise [k0_pay6]

omit H in
/-- The later keys of a block and those of the later blocks. -/
theorem tail (h a j : ℕ) (hj : j < 8) (c : Fin 256) :
    Sb.T q k h a (256 * j + c.val) = (∑ b ∈ Ico (256 * j + c.val + 1) (256 * (j + 1)), G q k h a b) + ∑ b ∈ Ico (256 * (j + 1)) 2048, G q k h a b := by
  rw [Sb.T, sum_Ico_consecutive _ (by omega) (by omega)]

/-- The logarithm of the weight, as stored. -/
theorem sV_at (j : ℕ) (hj : j < 2 * i + 2) (r : Fin 1024) (c : Fin 256) :
    sV Q K i j (ix3 0 r c) = ((lsg (Z q k (2 * p + r.val / 512) (512 * i + r.val % 512) (256 * j + c.val))
      + Sb.T q k (2 * p + r.val / 512) (512 * i + r.val % 512) (256 * j + c.val) : ℝ) : EReal) := by
  have := H.hi
  rw [tail _ _ j (by omega), ← add_assoc, EReal.coe_add, EReal.coe_add, ← H.pay2 j (by omega)]
  by_cases h1 : j = 2 * i + 1
  · subst h1
    rw [← colsuf _ _ _ _ c (fun x => H.lg_last r x) (fun x => upper x c)]
    rw [Finset.sum_eq_zero (s := Ico (256 * (2 * i + 1 + 1)) 2048) (fun b hb => by rw [mem_Ico] at hb; exact G_zero q k _ _ _ (by omega)), EReal.coe_zero, add_zero]
    rw [sV, if_pos rfl]
    pointwise [k0_pay66, k0_pay60, k0_pay64, k0_pay63, k0_pay2, k0_pay1]
  by_cases h2 : j = 2 * i
  · subst h2
    rw [← colsuf _ _ _ _ c (fun x => H.lg_first r x) (fun x => upper x c), ← H.carA_at r]
    rw [sV, if_neg h1, if_pos rfl]
    pointwise [k0_pay72, k0_pay70, k0_pay69, k0_pay2, k0_pay1]
  · rw [← colsuf _ _ _ _ c (fun x => H.lg_low j (by omega) r x) (fun x => upper x c), show j + 1 = 2 * i - (2 * i - 1 - j) by omega, ← H.car_at r _ (by omega)]
    rw [sV, if_neg h1, if_neg h2]
    pointwise [k0_pay4, k0_pay2, k0_pay1]

/-- The sigmoid, as stored. -/
theorem gV_at (j : ℕ) (hj : j < 8) (r : Fin 1024) (c : Fin 256) :
    gV Q K j (ix3 0 r c) = ((Real.exp (lsg (Z q k (2 * p + r.val / 512) (512 * i + r.val % 512) (256 * j + c.val))) : ℝ) : EReal) := by
  rw [← Ideal.exp_coe, ← H.pay2 j hj]
  pointwise [gV, k0_pay5]

/-- The weight of an earlier block. -/
theorem a_low (j : ℕ) (hj : j < 2 * i) (r : Fin 1024) (c : Fin 256) :
    k0_pay13 (sV Q K i j) (ix2 r c) = ((A q k (2 * p + r.val / 512) (512 * i + r.val % 512) (256 * j + c.val) : ℝ) : EReal) := by
  have := H.hi
  rw [A, if_pos (by omega), ← Ideal.exp_coe, ← H.sV_at j (by omega)]
  pointwise [k0_pay13]

/-- The weight in the last block but one. -/
theorem a_first (r : Fin 1024) (c : Fin 256) :
    k0_pay108 (sV Q K i (2 * i)) (ix2 r c) = ((A q k (2 * p + r.val / 512) (512 * i + r.val % 512) (256 * (2 * i) + c.val) : ℝ) : EReal) := by
  have := H.hi
  have e : k0_pay108 (sV Q K i (2 * i)) (ix2 r c)
      = Scalar.select (if c.val + 0 < r.val % 512 then 1#1 else 0#1) (Ideal.exp (sV Q K i (2 * i) (ix3 0 r c))) 0 := by
    rw [← mask_word r.val c.val 0 r.isLt c.isLt (by omega)]
    pointwise [k0_pay108, k0_pay107]
  rw [e, H.sV_at (2 * i) (by omega), A]
  by_cases h : c.val + 0 < r.val % 512
  · rw [if_pos h, if_pos (by omega)]; rfl
  · rw [if_neg h, if_neg (by omega)]; rfl

/-- The weight in the last block. -/
theorem a_last (r : Fin 1024) (c : Fin 256) :
    k0_pay116 (sV Q K i (2 * i + 1)) (ix2 r c) = ((A q k (2 * p + r.val / 512) (512 * i + r.val % 512) (256 * (2 * i + 1) + c.val) : ℝ) : EReal) := by
  have := H.hi
  have e : k0_pay116 (sV Q K i (2 * i + 1)) (ix2 r c)
      = Scalar.select (if c.val + 256 < r.val % 512 then 1#1 else 0#1) (Ideal.exp (sV Q K i (2 * i + 1) (ix3 0 r c))) 0 := by
    rw [← mask_word r.val c.val 256 r.isLt c.isLt (by omega)]
    pointwise [k0_pay116, k0_pay115]
  rw [e, H.sV_at (2 * i + 1) (by omega), A]
  by_cases h : c.val + 256 < r.val % 512
  · rw [if_pos h, if_pos (by omega)]; rfl
  · rw [if_neg h, if_neg (by omega)]; rfl

end Holds
end Cert.KernelIdeal.Hand
end
-- ==== Proof.Value.Grads.lean ====
/-
  One grid point over the reals, the second pass: the score gradients, and what the point leaves of the three results.
-/
module

public import proofs.«01_k».proof.Proof.Value.Weights

@[expose] public section
set_option maxRecDepth 16384
noncomputable section

namespace Cert.KernelIdeal.Hand
open Idealize.ShloMosaic Idealize.ShloMosaic.TcCoe Idealize.SL.Sem
open Cert.KernelIdeal Cert.KernelIdeal.Gen Cert.Sb
open Finset (range Ico mem_range mem_Ico sum_congr sum_Ico_consecutive)

/-- The score gradient's last step on real numbers. -/
theorem dz_coe (d s e f : ℝ) : (d : EReal) - (s : EReal) * ((d : EReal) + ((e : EReal) + (f : EReal))) = ((d - s * (d + (f + e)) : ℝ) : EReal) := by
  rw [← EReal.coe_add, ← EReal.coe_add, ← EReal.coe_mul, ← EReal.coe_sub, add_comm e f]

/-- A block's rows against the stacked operand: the column's own head is what is left. -/
theorem cross (x : ℕ → ℕ → ℝ) (g : ℕ → ℕ → ℝ) (p i : ℕ) (l : Fin 128) (F X : Fin 1024 → EReal)
    (hF : ∀ r : Fin 1024, F r = ((g (2 * p + r.val / 512) (512 * i + r.val % 512) : ℝ) : EReal))
    (hX : ∀ r : Fin 1024, X r = ((if l.val / 64 = r.val / 512 then x (512 * i + r.val % 512) (128 * p + l.val) else 0 : ℝ) : EReal)) :
    ∑ r, F r * X r = ((∑ a ∈ Ico (512 * i) (512 * (i + 1)), g (2 * p + l.val / 64) a * x a (128 * p + l.val) : ℝ) : EReal) := by
  have hl := l.isLt
  rw [sum_fin _ (fun r => g (2 * p + r / 512) (512 * i + r % 512) * (if l.val / 64 = r / 512 then x (512 * i + r % 512) (128 * p + l.val) else 0))
    (fun r => by rw [hF, hX, EReal.coe_mul])]
  rw [rows (fun r => g (2 * p + r / 512) (512 * i + r % 512)) (fun r => x (512 * i + r % 512) (128 * p + l.val)) _ (by omega),
    show 512 * (i + 1) = 512 * i + 512 by omega, ← blkSum]
  congr 1
  refine sum_congr rfl fun d hd => ?_
  rw [mem_range] at hd
  rw [show (512 * (l.val / 64) + d) / 512 = l.val / 64 by omega, show (512 * (l.val / 64) + d) % 512 = d by omega]

namespace Holds
variable {q k v o : ℕ → ℕ → ℝ} {p i : ℕ} {Q D : FVec Ideal S1024x128 .bf16} {K V : ℕ → Vec Ideal S256x128 .bf16}
variable (H : Holds q k v o p i Q D K V)
include H

/-- The gradient of an earlier block's weight logarithms. -/
theorem ds_low (j : ℕ) (hj : j < 2 * i) (r : Fin 1024) (c : Fin 256) :
    k0_pay14 D (sV Q K i j) (V j) (ix2 r c) = ((DS q k v o (2 * p + r.val / 512) (512 * i + r.val % 512) (256 * j + c.val) : ℝ) : EReal) := by
  have := H.hi
  rw [DS, EReal.coe_mul, ← H.a_low j hj, ← score o v p i j D (V j) H.hD (H.hV j (by omega))]
  pointwise [k0_pay14]

/-- The same in the last block but one. -/
theorem ds_first (r : Fin 1024) (c : Fin 256) :
    k0_pay109 D (sV Q K i (2 * i)) (V (2 * i)) (ix2 r c)
      = ((DS q k v o (2 * p + r.val / 512) (512 * i + r.val % 512) (256 * (2 * i) + c.val) : ℝ) : EReal) := by
  have := H.hi
  rw [DS, EReal.coe_mul, ← H.a_first, ← score o v p i (2 * i) D (V (2 * i)) H.hD (H.hV _ (by omega))]
  pointwise [k0_pay109]

/-- The same in the last block. -/
theorem ds_last (r : Fin 1024) (c : Fin 256) :
    (∑ l : Fin 128, D (ix2 r l) * V (2 * i + 1) (ix2 c l)) * k0_pay116 (sV Q K i (2 * i + 1)) (ix2 r c)
      = ((DS q k v o (2 * p + r.val / 512) (512 * i + r.val % 512) (256 * (2 * i + 1) + c.val) : ℝ) : EReal) := by
  have := H.hi
  rw [DS, EReal.coe_mul, ← H.a_last, ← score o v p i (2 * i + 1) D (V (2 * i + 1)) H.hD (H.hV _ (by omega))]

/-- The running row sums of the second pass: all the earlier keys. -/
theorem st_sum (r : Fin 1024) (n : ℕ) (hn : n ≤ 2 * i) :
    (st2 Q K i D V n).1 (ix2 r 0) = ((∑ b ∈ range (256 * n), DS q k v o (2 * p + r.val / 512) (512 * i + r.val % 512) b : ℝ) : EReal) := by
  induction n with
  | zero =>
    rw [mul_zero, Finset.sum_range_zero, EReal.coe_zero]
    show k0_pay99 (F := Ideal) (ix2 r 0) = 0
    pointwise [k0_pay99]
  | succ n ih =>
    rw [← Finset.sum_range_add_sum_Ico _ (show 256 * n ≤ 256 * (n + 1) by omega), EReal.coe_add, ← ih (by omega),
      ← colsum _ _ _ (fun x => H.ds_low n (by omega) r x)]
    show k0_pay19 (st2 Q K i D V n).1 (k0_pay14 D (sV Q K i n) (V n)) (ix2 r 0) = _
    pointwise [k0_pay19]

/-- The row sums before the last block. -/
theorem pB_at (r : Fin 1024) :
    pB Q K i D V (ix2 r 0) = ((∑ b ∈ range (256 * (2 * i + 1)), DS q k v o (2 * p + r.val / 512) (512 * i + r.val % 512) b : ℝ) : EReal) := by
  rw [← Finset.sum_range_add_sum_Ico _ (show 256 * (2 * i) ≤ 256 * (2 * i + 1) by omega), EReal.coe_add, ← H.st_sum r (2 * i) (le_refl _),
    ← colsum _ _ _ (fun x => H.ds_first r x)]
  pointwise [pB, k0_pay114]

/-- The score gradient of an earlier block. -/
theorem dz_low (j : ℕ) (hj : j < 2 * i) (r : Fin 1024) (c : Fin 256) :
    k0_pay15 k0_pay57 D (st2 Q K i D V j).1 (sV Q K i j) (gV Q K j) (V j) (ix2 r c)
      = ((DZ q k v o (2 * p + r.val / 512) (512 * i + r.val % 512) (256 * j + c.val) : ℝ) : EReal) := by
  have := H.hi
  rw [DZ, Pf, if_pos (by omega), ← Finset.sum_range_add_sum_Ico _ (show 256 * j ≤ 256 * j + c.val by omega), ← dz_coe,
    ← colpre _ _ _ _ c (fun x => H.ds_low j hj r x) (fun x => lower x c), ← H.st_sum r j (by omega), ← H.gV_at j (by omega), ← H.ds_low j hj]
  pointwise [k0_pay15]

/-- The score gradient of the last block but one. -/
theorem dz_first (r : Fin 1024) (c : Fin 256) :
    dzA Q K i D V (ix2 r c) = ((DZ q k v o (2 * p + r.val / 512) (512 * i + r.val % 512) (256 * (2 * i) + c.val) : ℝ) : EReal) := by
  have := H.hi
  have e : dzA Q K i D V (ix2 r c) = k0_pay109 D (sV Q K i (2 * i)) (V (2 * i)) (ix2 r c) - gV Q K (2 * i) (ix3 0 r c)
      * (k0_pay109 D (sV Q K i (2 * i)) (V (2 * i)) (ix2 r c) + Scalar.select (if c.val + 0 < r.val % 512 then 1#1 else 0#1)
        (∑ x : Fin 256, k0_pay109 D (sV Q K i (2 * i)) (V (2 * i)) (ix2 r x) * k0_pay57 (F := Ideal) (ix2 x c) + (st2 Q K i D V (2 * i)).1 (ix2 r 0)) 0) := by
    rw [← mask_word r.val c.val 0 r.isLt c.isLt (by omega)]
    pointwise [dzA, k0_pay110, k0_pay107]
  rw [e]
  by_cases h : c.val + 0 < r.val % 512
  · rw [if_pos h]
    rw [DZ, Pf, if_pos (by omega), ← Finset.sum_range_add_sum_Ico _ (show 256 * (2 * i) ≤ 256 * (2 * i) + c.val by omega), ← dz_coe,
      ← colpre _ _ _ _ c (fun x => H.ds_first r x) (fun x => lower x c), ← H.st_sum r (2 * i) (le_refl _), ← H.gV_at (2 * i) (by omega), ← H.ds_first]
    rfl
  · rw [if_neg h, DZ, Pf, if_neg (by omega), EReal.coe_sub, EReal.coe_mul, EReal.coe_add, ← H.gV_at (2 * i) (by omega), ← H.ds_first]
    rfl

/-- The score gradient of the last block. -/
theorem dz_last (r : Fin 1024) (c : Fin 256) :
    k0_pay117 k0_pay57 D (pB Q K i D V) k0_pay115 (k0_pay116 (sV Q K i (2 * i + 1))) (gV Q K (2 * i + 1)) (V (2 * i + 1)) (ix2 r c)
      = ((DZ q k v o (2 * p + r.val / 512) (512 * i + r.val % 512) (256 * (2 * i + 1) + c.val) : ℝ) : EReal) := by
  have := H.hi
  have e : k0_pay117 k0_pay57 D (pB Q K i D V) k0_pay115 (k0_pay116 (sV Q K i (2 * i + 1))) (gV Q K (2 * i + 1)) (V (2 * i + 1)) (ix2 r c)
      = (∑ l : Fin 128, D (ix2 r l) * V (2 * i + 1) (ix2 c l)) * k0_pay116 (sV Q K i (2 * i + 1)) (ix2 r c) - gV Q K (2 * i + 1) (ix3 0 r c)
      * ((∑ l : Fin 128, D (ix2 r l) * V (2 * i + 1) (ix2 c l)) * k0_pay116 (sV Q K i (2 * i + 1)) (ix2 r c)
        + Scalar.select (if c.val + 256 < r.val % 512 then 1#1 else 0#1)
        (∑ x : Fin 256, ((∑ l : Fin 128, D (ix2 r l) * V (2 * i + 1) (ix2 x l)) * k0_pay116 (sV Q K i (2 * i + 1)) (ix2 r x))
          * k0_pay57 (F := Ideal) (ix2 x c) + pB Q K i D V (ix2 r 0)) 0) := by
    rw [← mask_word r.val c.val 256 r.isLt c.isLt (by omega)]
    pointwise [k0_pay117, k0_pay115]
  rw [e]
  by_cases h : c.val + 256 < r.val % 512
  · rw [if_pos h]
    rw [DZ, Pf, if_pos (by omega), ← Finset.sum_range_add_sum_Ico _ (show 256 * (2 * i + 1) ≤ 256 * (2 * i + 1) + c.val by omega), ← dz_coe,
      ← colpre _ _ _ _ c (fun x => H.ds_last r x) (fun x => lower x c), ← H.pB_at r, ← H.gV_at (2 * i + 1) (by omega), ← H.ds_last]
    rfl
  · rw [if_neg h, DZ, Pf, if_neg (by omega), EReal.coe_sub, EReal.coe_mul, EReal.coe_add, ← H.gV_at (2 * i + 1) (by omega), ← H.ds_last]
    rfl

/-- A block's score gradients against its keys. -/
theorem byKeys (F : Fin 256 → EReal) (j : ℕ) (hj : j < 8) (r : Fin 1024) (l : Fin 128)
    (hF : ∀ x : Fin 256, F x = ((DZ q k v o (2 * p + r.val / 512) (512 * i + r.val % 512) (256 * j + x.val) : ℝ) : EReal)) :
    ∑ x, F x * K j (ix2 x l) = ((∑ b ∈ Ico (256 * j) (256 * (j + 1)), DZ q k v o (2 * p + r.val / 512) (512 * i + r.val % 512) b * k b (128 * p + l.val) : ℝ) : EReal) :=
  colsum _ (fun b => DZ q k v o (2 * p + r.val / 512) (512 * i + r.val % 512) b * k b (128 * p + l.val)) j
    fun x => by rw [hF, H.hK j hj, EReal.coe_mul]

/-- The query gradient accumulated before block `n`. -/
theorem st_dq (r : Fin 1024) (l : Fin 128) (n : ℕ) (hn : n ≤ 2 * i) :
    (st2 Q K i D V n).2 (ix2 r l)
      = ((∑ b ∈ range (256 * n), DZ q k v o (2 * p + r.val / 512) (512 * i + r.val % 512) b * k b (128 * p + l.val) : ℝ) : EReal) := by
  have := H.hi
  induction n with
  | zero =>
    rw [mul_zero, Finset.sum_range_zero, EReal.coe_zero]
    show k0_pay100 (F := Ideal) (ix2 r l) = 0
    pointwise [k0_pay100]
  | succ n ih =>
    rw [← Finset.sum_range_add_sum_Ico _ (show 256 * n ≤ 256 * (n + 1) by omega), EReal.coe_add, ← ih (by omega),
      ← H.byKeys _ n (by omega) r l (fun x => H.dz_low n (by omega) r x)]
    show k0_pay16 k0_pay57 D (st2 Q K i D V n).1 (st2 Q K i D V n).2 (sV Q K i n) (gV Q K n) (V n) (K n) (ix2 r l) = _
    pointwise [k0_pay16]

/-- The query gradient accumulated before the last block. -/
theorem dqB_at (r : Fin 1024) (l : Fin 128) :
    dqB Q K i D V (ix2 r l)
      = ((∑ b ∈ range (256 * (2 * i + 1)), DZ q k v o (2 * p + r.val / 512) (512 * i + r.val % 512) b * k b (128 * p + l.val) : ℝ) : EReal) := by
  have := H.hi
  rw [← Finset.sum_range_add_sum_Ico _ (show 256 * (2 * i) ≤ 256 * (2 * i + 1) by omega), EReal.coe_add, ← H.st_dq r l (2 * i) (le_refl _),
    ← H.byKeys _ (2 * i) (by omega) r l (fun x => H.dz_first r x)]
  pointwise [dqB, k0_pay111]

/-- The query gradient of a stacked row, over all the keys. -/
theorem dq_row (r : Fin 1024) (l : Fin 128) :
    dqB Q K i D V (ix2 r l) + ∑ x : Fin 256, k0_pay117 k0_pay57 D (pB Q K i D V) k0_pay115 (k0_pay116 (sV Q K i (2 * i + 1))) (gV Q K (2 * i + 1)) (V (2 * i + 1)) (ix2 r x)
        * K (2 * i + 1) (ix2 x l)
      = ((∑ b ∈ range 2048, DZ q k v o (2 * p + r.val / 512) (512 * i + r.val % 512) b * k b (128 * p + l.val) : ℝ) : EReal) := by
  have := H.hi
  rw [H.byKeys _ (2 * i + 1) (by omega) r l (fun x => H.dz_last r x), H.dqB_at, ← EReal.coe_add,
    Finset.sum_range_add_sum_Ico _ (show 256 * (2 * i + 1) ≤ 256 * (2 * i + 1 + 1) by omega),
    ← Finset.sum_range_add_sum_Ico _ (show 256 * (2 * i + 1 + 1) ≤ 2048 by omega),
    Finset.sum_eq_zero (s := Ico (256 * (2 * i + 1 + 1)) 2048) (fun b hb => by
      rw [mem_Ico] at hb; rw [DZ_zero q k v o _ _ _ (by omega), zero_mul]), add_zero]

/-- The query gradient the point stores. -/
theorem outQ_at (r : Fin 512) (l : Fin 128) :
    outQ Q K i D V (ix2 r l)
      = ((∑ b ∈ range 2048, DZ q k v o (2 * p + l.val / 64) (512 * i + r.val) b * k b (128 * p + l.val) : ℝ) : EReal) := by
  have hr := r.isLt
  have hl := l.isLt
  have e : outQ Q K i D V (ix2 r l) = Scalar.select (if l.val < 64 then 1#1 else 0#1)
      (dqB Q K i D V (ix2 (⟨r.val, by omega⟩ : Fin 1024) l) + ∑ x : Fin 256, k0_pay117 k0_pay57 D (pB Q K i D V) k0_pay115 (k0_pay116 (sV Q K i (2 * i + 1))) (gV Q K (2 * i + 1)) (V (2 * i + 1)) (ix2 (⟨r.val, by omega⟩ : Fin 1024) x)
        * K (2 * i + 1) (ix2 x l))
      (dqB Q K i D V (ix2 (⟨512 + r.val, by omega⟩ : Fin 1024) l) + ∑ x : Fin 256, k0_pay117 k0_pay57 D (pB Q K i D V) k0_pay115 (k0_pay116 (sV Q K i (2 * i + 1))) (gV Q K (2 * i + 1)) (V (2 * i + 1)) (ix2 (⟨512 + r.val, by omega⟩ : Fin 1024) x)
        * K (2 * i + 1) (ix2 x l)) := by
    rw [← lt_word l.val 64 (by omega) (by omega)]
    pointwise [outQ, k0_pay120, k0_pay55]
  rw [e, H.dq_row, H.dq_row]
  by_cases h : l.val < 64
  · rw [if_pos h, show l.val / 64 = 0 by omega]
    show ((_ : ℝ) : EReal) = _
    simp only [show r.val / 512 = 0 by omega, show r.val % 512 = r.val by omega]
  · rw [if_neg h, show l.val / 64 = 1 by omega]
    show ((_ : ℝ) : EReal) = _
    simp only [show (512 + r.val) / 512 = 1 by omega, show (512 + r.val) % 512 = r.val by omega]

/-- What the point adds to the key gradient. -/
theorem dkB_at (old : ℕ → Vec Ideal S256x128 .f32) (w : ℝ) (j : ℕ) (hj : j < 8) (c : Fin 256) (l : Fin 128) (hw : old j (ix2 c l) = (w : EReal)) :
    dkB Q K i D V old j (ix2 c l)
      = ((w + ∑ a ∈ Ico (512 * i) (512 * (i + 1)), DZ q k v o (2 * p + l.val / 64) a (256 * j + c.val) * q a (128 * p + l.val) : ℝ) : EReal) := by
  have := H.hi
  rw [EReal.coe_add, ← hw]
  by_cases h0 : j < 2 * i
  · rw [← cross q (fun h a => DZ q k v o h a (256 * j + c.val)) p i l _ _ (fun r => H.dz_low j h0 r c) (fun r => H.hQ r l)]
    rw [dkB, if_pos h0]
    pointwise [k0_pay17]
  by_cases h1 : j = 2 * i
  · subst h1
    rw [← cross q (fun h a => DZ q k v o h a (256 * (2 * i) + c.val)) p i l _ _ (fun r => H.dz_first r c) (fun r => H.hQ r l)]
    rw [dkB, if_neg h0, if_pos rfl]
    pointwise [k0_pay112]
  by_cases h2 : j = 2 * i + 1
  · subst h2
    rw [← cross q (fun h a => DZ q k v o h a (256 * (2 * i + 1) + c.val)) p i l _ _ (fun r => H.dz_last r c) (fun r => H.hQ r l)]
    rw [dkB, if_neg h0, if_neg h1, if_pos rfl]
    pointwise [k0_pay118]
  · rw [Finset.sum_eq_zero (fun a ha => by rw [mem_Ico] at ha; rw [DZ_zero q k v o _ _ _ (by omega), zero_mul]), EReal.coe_zero, add_zero]
    rw [dkB, if_neg h0, if_neg h1, if_neg h2]

/-- What the point adds to the value gradient. -/
theorem dvB_at (old : ℕ → Vec Ideal S256x128 .f32) (w : ℝ) (j : ℕ) (hj : j < 8) (c : Fin 256) (l : Fin 128) (hw : old j (ix2 c l) = (w : EReal)) :
    dvB Q K i D old j (ix2 c l)
      = ((w + ∑ a ∈ Ico (512 * i) (512 * (i + 1)), A q k (2 * p + l.val / 64) a (256 * j + c.val) * o a (128 * p + l.val) : ℝ) : EReal) := by
  have := H.hi
  rw [EReal.coe_add, ← hw]
  by_cases h0 : j < 2 * i
  · rw [← cross o (fun h a => A q k h a (256 * j + c.val)) p i l _ _ (fun r => H.a_low j h0 r c) (fun r => H.hD r l)]
    rw [dvB, if_pos h0]
    pointwise [k0_pay18]
  by_cases h1 : j = 2 * i
  · subst h1
    rw [← cross o (fun h a => A q k h a (256 * (2 * i) + c.val)) p i l _ _ (fun r => H.a_first r c) (fun r => H.hD r l)]
    rw [dvB, if_neg h0, if_pos rfl]
    pointwise [k0_pay113]
  by_cases h2 : j = 2 * i + 1
  · subst h2
    rw [← cross o (fun h a => A q k h a (256 * (2 * i + 1) + c.val)) p i l _ _ (fun r => H.a_last r c) (fun r => H.hD r l)]
    rw [dvB, if_neg h0, if_neg h1, if_pos rfl]
    pointwise [k0_pay119]
  · rw [Finset.sum_eq_zero (fun a ha => by rw [mem_Ico] at ha; rw [A_zero q k _ _ _ (by omega), zero_mul]), EReal.coe_zero, add_zero]
    rw [dvB, if_neg h0, if_neg h1, if_neg h2]

end Holds
end Cert.KernelIdeal.Hand
end
-- ==== Proof.Value.Final.lean ====
/-
  The three result arrays after the run, over the reals.
-/
module

public import proofs.«01_k».proof.Proof.Run
public import proofs.«01_k».proof.Proof.Value.Grads

@[expose] public section
set_option maxRecDepth 16384
noncomputable section

namespace Cert.KernelIdeal.Hand
open Idealize.ShloMosaic Idealize.ShloMosaic.TcCoe Idealize.SL.Sem
open Cert.KernelIdeal Cert.KernelIdeal.Gen Cert.Sb
open Finset (range Ico mem_range mem_Ico sum_congr sum_Ico_consecutive)
open Idealize.ShloMosaic.Pipeline (Dat)

/-- An array's entries as real numbers, by natural-number indices. -/
def rd {φ : FTy} (X : FVec Ideal S2048x1024 φ) (a b : ℕ) : ℝ :=
  EReal.toReal (X (ix2 (⟨a % 2048, Nat.mod_lt _ (by decide)⟩ : Fin 2048) (⟨b % 1024, Nat.mod_lt _ (by decide)⟩ : Fin 1024)))

/-- Every entry is a real number. -/
def AllReal {φ : FTy} (X : FVec Ideal S2048x1024 φ) : Prop := ∀ y, X y ≠ (⊥ : EReal) ∧ X y ≠ (⊤ : EReal)

/-- An array of real numbers is what `rd` reads. -/
theorem AllReal.eq {φ : FTy} {X : FVec Ideal S2048x1024 φ} (h : AllReal X) (y : S2048x1024.Idx) (a b : ℕ) (ha : (y 0).val = a) (hb : (y 1).val = b) :
    X y = ((rd X a b : ℝ) : EReal) := by
  have h0 : (y 0).val < 2048 := (y 0).isLt
  have h1 : (y 1).val < 1024 := (y 1).isLt
  have e : (ix2 (⟨a % 2048, Nat.mod_lt _ (by decide)⟩ : Fin 2048) (⟨b % 1024, Nat.mod_lt _ (by decide)⟩ : Fin 1024) : S2048x1024.Idx) = y := by
    subst ha hb
    funext x
    match x with
    | 0 => exact Fin.ext (Nat.mod_eq_of_lt h0)
    | 1 => exact Fin.ext (Nat.mod_eq_of_lt h1)
  unfold rd
  rw [e]
  exact (EReal.coe_toReal (h y).2 (h y).1).symm

/-- The windows' block indices. -/
theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4] ∧ win0_5.index t = ![0, t.val / 4] ∧ win0_6.index t = ![0, t.val / 4] :=
  (by decide +kernel : ∀ t : Fin grid0.N, _)

variable (m : (ℓ : Loc nD τ sig) → Buf (Elt Ideal) ℓ) (c : Dev nD)

/-- The operands. -/
abbrev opQ : FVec Ideal S2048x1024 .bf16 := m ((c : Thread nD τ).loc main_arg0)
/-- The keys. -/
abbrev opK : FVec Ideal S2048x1024 .bf16 := m ((c : Thread nD τ).loc main_arg1)
/-- The values. -/
abbrev opV : FVec Ideal S2048x1024 .bf16 := m ((c : Thread nD τ).loc main_arg2)
/-- The gradient of the output. -/
abbrev opO : FVec Ideal S2048x1024 .bf16 := m ((c : Thread nD τ).loc main_arg3)

/-- Every operand's entries are real numbers. -/
structure Fine : Prop where
  q : AllReal (opQ m c)
  k : AllReal (opK m c)
  v : AllReal (opV m c)
  o : AllReal (opO m c)

/-- A stacked operand at an index. -/
theorem stack58 (X : Vec Ideal S512x128 .bf16) (x : ℕ → ℕ → ℝ) (p i : ℕ)
    (h : ∀ (r : Fin 512) (l : Fin 128), X (ix2 r l) = ((x (512 * i + r.val) (128 * p + l.val) : ℝ) : EReal)) (r : Fin 1024) (l : Fin 128) :
    k0_pay58 X (ix2 r l) = ((if l.val / 64 = r.val / 512 then x (512 * i + r.val % 512) (128 * p + l.val) else 0 : ℝ) : EReal) := by
  have hr := r.isLt
  have hl := l.isLt
  have e : k0_pay58 X (ix2 r l) = if h : r.val < 512 then Scalar.select (if l.val < 64 then 1#1 else 0#1) (X (ix2 (⟨r.val, h⟩ : Fin 512) l)) 0
      else Scalar.select (if l.val < 64 then 1#1 else 0#1) 0 (X (ix2 (⟨r.val - 512, by omega⟩ : Fin 512) l)) := by
    rw [← lt_word l.val 64 (by omega) (by omega)]
    pointwise [k0_pay58, k0_pay55]
  rw [e]
  by_cases hr5 : r.val < 512
  · rw [dif_pos hr5, h]
    by_cases hl6 : l.val < 64
    · rw [if_pos hl6, if_pos (by omega), show r.val % 512 = r.val by omega]; rfl
    · rw [if_neg hl6, if_neg (by omega)]; rfl
  · rw [dif_neg hr5, h]
    by_cases hl6 : l.val < 64
    · rw [if_pos hl6, if_neg (by omega)]; rfl
    · rw [if_neg hl6, if_pos (by omega), show r.val % 512 = r.val - 512 by omega]; rfl

/-- The two stackings are the same operations. -/
theorem stack59 (X : Vec Ideal S512x128 .bf16) : k0_pay59 X = k0_pay58 X := rfl

/-- Block `j` of a column block at an index. -/
theorem blk_real (X : Vec Ideal S2048x128 .bf16) (x : ℕ → ℕ → ℝ) (p : ℕ)
    (h : ∀ (r : Fin 2048) (l : Fin 128), X (ix2 r l) = ((x r.val (128 * p + l.val) : ℝ) : EReal)) (j : ℕ) (hj : j < 8) (r : Fin 256) (l : Fin 128) :
    blk X j (ix2 r l) = ((x (256 * j + r.val) (128 * p + l.val) : ℝ) : EReal) := by
  rw [← h ⟨256 * j + r.val, by omega⟩ l]
  exact blk_apply X j _ _ (by show 256 * j + r.val = 256 * (j % 8) + r.val; omega) rfl

/-- The rows of `q` at a point. -/
theorem read0 (f : Fine m c) (t : Fin grid0.N) (r : Fin 512) (l : Fin 128) :
    iblk m c 0 t (ix2 r l) = ((rd (opQ m c) (512 * (t.val % 4) + r.val) (128 * (t.val / 4) + l.val) : ℝ) : EReal) := by
  refine Eq.trans ?_ (f.q.eq (((cfg0.win 0).blk t).view.emb (ix2 r l)) _ _ ?_ ?_)
  · blk_simp [iblk]
  all_goals blk_simp [idx t]
  all_goals omega

/-- The columns of `k` at a point. -/
theorem read1 (f : Fine m c) (t : Fin grid0.N) (r : Fin 2048) (l : Fin 128) :
    iblk m c 1 t (ix2 r l) = ((rd (opK m c) r.val (128 * (t.val / 4) + l.val) : ℝ) : EReal) := by
  refine Eq.trans ?_ (f.k.eq (((cfg0.win 1).blk t).view.emb (ix2 r l)) _ _ ?_ ?_)
  · blk_simp [iblk]
  all_goals blk_simp [idx t]
  all_goals omega

/-- The columns of `v` at a point. -/
theorem read2 (f : Fine m c) (t : Fin grid0.N) (r : Fin 2048) (l : Fin 128) :
    iblk m c 2 t (ix2 r l) = ((rd (opV m c) r.val (128 * (t.val / 4) + l.val) : ℝ) : EReal) := by
  refine Eq.trans ?_ (f.v.eq (((cfg0.win 2).blk t).view.emb (ix2 r l)) _ _ ?_ ?_)
  · blk_simp [iblk]
  all_goals blk_simp [idx t]
  all_goals omega

/-- The rows of the output's gradient at a point. -/
theorem read3 (f : Fine m c) (t : Fin grid0.N) (r : Fin 512) (l : Fin 128) :
    iblk m c 3 t (ix2 r l) = ((rd (opO m c) (512 * (t.val % 4) + r.val) (128 * (t.val / 4) + l.val) : ℝ) : EReal) := by
  refine Eq.trans ?_ (f.o.eq (((cfg0.win 3).blk t).view.emb (ix2 r l)) _ _ ?_ ?_)
  · blk_simp [iblk]
  all_goals blk_simp [idx t]
  all_goals omega

/-- What the point finds. -/
theorem holds (f : Fine m c) (t : Fin grid0.N) :
    Holds (rd (opQ m c)) (rd (opK m c)) (rd (opV m c)) (rd (opO m c)) (t.val / 4) (grid0.coords t 1).val
      (k0_pay58 (iblk m c 0 t)) (k0_pay59 (iblk m c 3 t)) (blk (iblk m c 1 t)) (blk (iblk m c 2 t)) := by
  rw [coord1]
  exact ⟨Nat.mod_lt _ (by omega), fun r l => stack58 _ (rd (opQ m c)) _ _ (read0 m c f t) r l,
    fun r l => by rw [stack59]; exact stack58 _ (rd (opO m c)) _ _ (read3 m c f t) r l,
    fun j hj r l => blk_real _ (rd (opK m c)) _ (read1 m c f t) j hj r l,
    fun j hj r l => blk_real _ (rd (opV m c)) _ (read2 m c f t) j hj r l⟩

/-- The blocks a point adds to: zero at the first row block. -/
theorem old_at (t : Fin grid0.N) (X : Vec Ideal S2048x128 .f32) (b : Fin 2048) (l : Fin 128) (w : ℝ)
    (hX : t.val % 4 ≠ 0 → X (ix2 b l) = (w : EReal)) (h0 : t.val % 4 = 0 → w = 0) :
    old (grid0.coords t) X (b.val / 256) (ix2 (⟨b.val % 256, Nat.mod_lt _ (by decide)⟩ : Fin 256) l) = (w : EReal) := by
  have hb := b.isLt
  unfold old
  rw [coord1]
  by_cases h : t.val % 4 = 0
  · rw [if_pos h, h0 h, blk_apply _ _ _ (ix2 b l) (by show b.val = 256 * (b.val / 256 % 8) + b.val % 256; omega) rfl]
    pointwise [k0_pay53]
    exact EReal.coe_zero.symm
  · rw [if_neg h, blk_apply _ _ _ (ix2 b l) (by show b.val = 256 * (b.val / 256 % 8) + b.val % 256; omega) rfl, hX h]

/-- Joined blocks at an index. -/
theorem glue_at (f : ℕ → Vec Ideal S256x128 .f32) (b : Fin 2048) (l : Fin 128) :
    glue f (ix2 b l) = f (b.val / 256) (ix2 (⟨b.val % 256, Nat.mod_lt _ (by decide)⟩ : Fin 256) l) := by
  unfold glue
  refine congrArg (f (b.val / 256)) (funext fun a => ?_)
  match a with
  | 0 => rfl
  | 1 => rfl

/-- The key gradient's buffer after a point. -/
theorem newK_at (f : Fine m c) (t : Fin grid0.N) (X : Vec Ideal S2048x128 .f32) (b : Fin 2048) (l : Fin 128) (w : ℝ)
    (hX : t.val % 4 ≠ 0 → X (ix2 b l) = (w : EReal)) (h0 : t.val % 4 = 0 → w = 0) :
    newK (grid0.coords t) (iblk m c 0 t) (iblk m c 1 t) (iblk m c 2 t) (iblk m c 3 t) X (ix2 b l)
      = ((w + ∑ a ∈ Ico (512 * (t.val % 4)) (512 * (t.val % 4 + 1)), DZ (rd (opQ m c)) (rd (opK m c)) (rd (opV m c)) (rd (opO m c)) (2 * (t.val / 4) + l.val / 64) a b.val * rd (opQ m c) a (128 * (t.val / 4) + l.val) : ℝ) : EReal) := by
  have hb := b.isLt
  unfold newK
  rw [glue_at, (holds m c f t).dkB_at (old (grid0.coords t) X) w (b.val / 256) (by omega) _ l (old_at t X b l w hX h0), coord1]
  rw [show 256 * (b.val / 256) + b.val % 256 = b.val by omega]

/-- The value gradient's buffer after a point. -/
theorem newV_at (f : Fine m c) (t : Fin grid0.N) (X : Vec Ideal S2048x128 .f32) (b : Fin 2048) (l : Fin 128) (w : ℝ)
    (hX : t.val % 4 ≠ 0 → X (ix2 b l) = (w : EReal)) (h0 : t.val % 4 = 0 → w = 0) :
    newV (grid0.coords t) (iblk m c 0 t) (iblk m c 1 t) (iblk m c 3 t) X (ix2 b l)
      = ((w + ∑ a ∈ Ico (512 * (t.val % 4)) (512 * (t.val % 4 + 1)), A (rd (opQ m c)) (rd (opK m c)) (2 * (t.val / 4) + l.val / 64) a b.val * rd (opO m c) a (128 * (t.val / 4) + l.val) : ℝ) : EReal) := by
  have hb := b.isLt
  unfold newV
  rw [glue_at, (holds m c f t).dvB_at (old (grid0.coords t) X) w (b.val / 256) (by omega) _ l (old_at t X b l w hX h0), coord1]
  rw [show 256 * (b.val / 256) + b.val % 256 = b.val by omega]

/-- A running sum over row blocks: what a point adds to the blocks before it in its pair of heads. -/
theorem run_sum (g : ℕ → ℝ) (n : ℕ) : (if n % 4 = 0 then 0 else ∑ a ∈ range (512 * (n % 4)), g a) + ∑ a ∈ Ico (512 * (n % 4)) (512 * (n % 4 + 1)), g a
    = ∑ a ∈ range (512 * (n % 4 + 1)), g a := by
  have e : (if n % 4 = 0 then 0 else ∑ a ∈ range (512 * (n % 4)), g a) = ∑ a ∈ range (512 * (n % 4)), g a := by
    by_cases h : n % 4 = 0
    · rw [if_pos h, h]; rfl
    · rw [if_neg h]
  rw [e]
  simp only [Finset.range_eq_Ico]
  exact sum_Ico_consecutive g (Nat.zero_le _) (Nat.mul_le_mul_left _ (Nat.le_succ _))

/-- The key gradient's buffer after point `n`: the sum over the rows met so far. -/
theorem kAt_at (f : Fine m c) (b : Fin 2048) (l : Fin 128) : ∀ (n : ℕ) (hn : n < grid0.N), kAt m c n hn (ix2 b l)
    = ((∑ a ∈ range (512 * (n % 4 + 1)), DZ (rd (opQ m c)) (rd (opK m c)) (rd (opV m c)) (rd (opO m c)) (2 * (n / 4) + l.val / 64) a b.val * rd (opQ m c) a (128 * (n / 4) + l.val) : ℝ) : EReal) := by
  intro n
  induction n with
  | zero =>
    intro hn
    rw [← run_sum]
    exact newK_at m c f ⟨0, hn⟩ (k0_pay53 (F := Ideal)) b l _ (fun h => absurd rfl h) (fun _ => rfl)
  | succ n ih =>
    intro hn
    rw [← run_sum]
    refine newK_at m c f ⟨n + 1, hn⟩ _ b l _ (fun h => ?_) (fun h => if_pos h)
    dsimp only at h
    rw [ih, if_neg h, show (n + 1) % 4 = n % 4 + 1 by omega, show (n + 1) / 4 = n / 4 by omega]

/-- The value gradient's buffer after point `n`. -/
theorem vAt_at (f : Fine m c) (b : Fin 2048) (l : Fin 128) : ∀ (n : ℕ) (hn : n < grid0.N), vAt m c n hn (ix2 b l)
    = ((∑ a ∈ range (512 * (n % 4 + 1)), A (rd (opQ m c)) (rd (opK m c)) (2 * (n / 4) + l.val / 64) a b.val * rd (opO m c) a (128 * (n / 4) + l.val) : ℝ) : EReal) := by
  intro n
  induction n with
  | zero =>
    intro hn
    rw [← run_sum]
    exact newV_at m c f ⟨0, hn⟩ (k0_pay53 (F := Ideal)) b l _ (fun h => absurd rfl h) (fun _ => rfl)
  | succ n ih =>
    intro hn
    rw [← run_sum]
    refine newV_at m c f ⟨n + 1, hn⟩ _ b l _ (fun h => ?_) (fun h => if_pos h)
    dsimp only at h
    rw [ih, if_neg h, show (n + 1) % 4 = n % 4 + 1 by omega, show (n + 1) / 4 = n / 4 by omega]

/-! ## The result arrays -/

/-- The gradient of `q`. -/
def gradQ : FVec Ideal S2048x1024 .f32 := fun x =>
  ((∑ b ∈ range 2048, DZ (rd (opQ m c)) (rd (opK m c)) (rd (opV m c)) (rd (opO m c)) ((x 1).val / 64) (x 0).val b * rd (opK m c) b (x 1).val : ℝ) : EReal)
/-- The gradient of `k`. -/
def gradK : FVec Ideal S2048x1024 .f32 := fun x =>
  ((∑ a ∈ range 2048, DZ (rd (opQ m c)) (rd (opK m c)) (rd (opV m c)) (rd (opO m c)) ((x 1).val / 64) a (x 0).val * rd (opQ m c) a (x 1).val : ℝ) : EReal)
/-- The gradient of `v`. -/
def gradV : FVec Ideal S2048x1024 .f32 := fun x =>
  ((∑ a ∈ range 2048, A (rd (opQ m c)) (rd (opK m c)) ((x 1).val / 64) a (x 0).val * rd (opO m c) a (x 1).val : ℝ) : EReal)

/-- The first result array after the run. -/
theorem final4 (f : Fine m c) : (dats m 0 c).arrAt 4 (cfgs 0).N = gradQ m c := by
  refine (dats m 0 c).arrAt_eq_of_covers 4 _ (by decide +kernel) fun t hf y => ?_
  blk_simp
  obtain ⟨r, l, rfl⟩ : ∃ (r : Fin 512) (l : Fin 128), y = ix2 r l := ⟨y 0, y 1, by funext a; match a with | 0 => rfl | 1 => rfl⟩
  have hl := l.isLt
  show dqAt m c t (ix2 r l) = _
  unfold dqAt
  rw [(holds m c f t).outQ_at r l, coord1]
  unfold gradQ
  have e0 : ((((cfg0.win 4).blk t).view.emb (ix2 r l)) 0 : ℕ) = 512 * (t.val % 4) + r.val := by blk_simp [idx t]; omega
  have e1 : ((((cfg0.win 4).blk t).view.emb (ix2 r l)) 1 : ℕ) = 128 * (t.val / 4) + l.val := by blk_simp [idx t]; omega
  rw [e0, e1, show (128 * (t.val / 4) + l.val) / 64 = 2 * (t.val / 4) + l.val / 64 by omega]

/-- The second result array after the run. -/
theorem final5 (f : Fine m c) : (dats m 0 c).arrAt 5 (cfgs 0).N = gradK m c := by
  refine (dats m 0 c).arrAt_eq_of_covers 5 _ (by decide +kernel) fun t hf y => ?_
  have h3 := (flush0_5 t).mp hf
  blk_simp
  obtain ⟨r, l, rfl⟩ : ∃ (r : Fin 2048) (l : Fin 128), y = ix2 r l := ⟨y 0, y 1, by funext a; match a with | 0 => rfl | 1 => rfl⟩
  have hl := l.isLt
  show kAt m c t.val t.isLt (ix2 r l) = _
  rw [kAt_at m c f r l t.val t.isLt, h3]
  unfold gradK
  have e0 : ((((cfg0.win 5).blk t).view.emb (ix2 r l)) 0 : ℕ) = r.val := by blk_simp [idx t]; try omega
  have e1 : ((((cfg0.win 5).blk t).view.emb (ix2 r l)) 1 : ℕ) = 128 * (t.val / 4) + l.val := by blk_simp [idx t]; omega
  rw [e0, e1, show (128 * (t.val / 4) + l.val) / 64 = 2 * (t.val / 4) + l.val / 64 by omega]

/-- The third result array after the run. -/
theorem final6 (f : Fine m c) : (dats m 0 c).arrAt 6 (cfgs 0).N = gradV m c := by
  refine (dats m 0 c).arrAt_eq_of_covers 6 _ (by decide +kernel) fun t hf y => ?_
  have h3 := (flush0_6 t).mp hf
  blk_simp
  obtain ⟨r, l, rfl⟩ : ∃ (r : Fin 2048) (l : Fin 128), y = ix2 r l := ⟨y 0, y 1, by funext a; match a with | 0 => rfl | 1 => rfl⟩
  have hl := l.isLt
  show vAt m c t.val t.isLt (ix2 r l) = _
  rw [vAt_at m c f r l t.val t.isLt, h3]
  unfold gradV
  have e0 : ((((cfg0.win 6).blk t).view.emb (ix2 r l)) 0 : ℕ) = r.val := by blk_simp [idx t]; try omega
  have e1 : ((((cfg0.win 6).blk t).view.emb (ix2 r l)) 1 : ℕ) = 128 * (t.val / 4) + l.val := by blk_simp [idx t]; omega
  rw [e0, e1, show (128 * (t.val / 4) + l.val) / 64 = 2 * (t.val / 4) + l.val / 64 by omega]

end Cert.KernelIdeal.Hand
end
-- ==== Proof.Value.Ref.lean ====
/-
  The reference over the reals: its intermediate arrays by name, and what each holds at an index.
-/
module

public import proofs.«01_k».proof.Proof.Gen.ReferenceIdeal.Run
public import proofs.«01_k».proof.Proof.Value.Final

@[expose] public section
set_option maxRecDepth 16384
noncomputable section

namespace Cert.ReferenceIdeal.Hand
open Idealize.ShloMosaic Idealize.ShloMosaic.TcCoe Idealize.SL.Sem
open Cert.ReferenceIdeal Cert.ReferenceIdeal.Gen Cert.Sb
open Cert.KernelIdeal.Hand (rd AllReal lt_word)
open Finset (range Ico mem_range mem_Ico sum_congr sum_Ico_consecutive)

/-! ## The reference's arrays -/

/-- Sixteen heads of an operand. -/
def heads (X : FVec Ideal S2048x1024 .bf16) : FVec Ideal S16x2048x64 .f32 :=
  transpose S16x2048x64 [1, 0, 2] (shapeCast _ (extf .f32 X bitsLt_bf16_f32) shapeCasts_S2048x1024_S2048x16x64) transposes_S2048x16x64_S16x2048x64_1_0_2
/-- The products of every row of one operand with every row of another, head by head. -/
def scores (X Y : FVec Ideal S2048x1024 .bf16) : FVec Ideal S16x2048x2048 .f32 :=
  Host.dotGeneral dot_S16x2048x64_S16x2048x64_S16x2048x2048_2_2_1_1_0_0 none (heads X) (heads Y)
/-- The causal mask. -/
def mask : IVec S16x2048x2048 1 :=
  broadcastInDim S16x2048x2048 ![1, 2] bcast_S2048x2048_S16x2048x2048_1_2 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- Zero everywhere. -/
def zeros : FVec Ideal S16x2048x2048 .f32 := broadcastInDim S16x2048x2048 ![] bcast_S_S16x2048x2048 (constant S_ .f32 0x00000000#32)
/-- Infinity everywhere. -/
def infs : FVec Ideal S16x2048x2048 .f32 := broadcastInDim S16x2048x2048 ![] bcast_S_S16x2048x2048 (constant S_ .f32 0x7F800000#32)
/-- The softplus of every entry. -/
def soft (x : FVec Ideal S16x2048x2048 .f32) : FVec Ideal S16x2048x2048 .f32 :=
  select (cmpf .une (subf x zeros) (subf x zeros)) (addf x zeros) (addf (maximumf x zeros) (Host.log1p (Host.exp (Host.negf (Host.absf (subf x zeros))))))
/-- The derivative of the softplus. -/
def slope (x : FVec Ideal S16x2048x2048 .f32) : FVec Ideal S16x2048x2048 .f32 :=
  Host.exp (subf (select (cmpf .oeq x infs) zeros x) (select (cmpf .oeq (soft x) infs) zeros (soft x)))
/-- The masked logarithms of the sticks left over. -/
def left (z : FVec Ideal S16x2048x2048 .f32) : FVec Ideal S16x2048x2048 .f32 :=
  select mask (Host.negf (soft (Host.negf (Host.negf z)))) zeros
/-- The sum over the entries from one on. -/
def onward (x : FVec Ideal S16x2048x2048 .f32) : FVec Ideal S16x2048x2048 .f32 :=
  Host.reduceWindowAdd ![1, 1, 2048] ![1, 1, 1] ![0, 0, 0] ![0, 0, 2047] x (broadcastInDim S_ ![] bcast_S_S_ (constant S_ .f32 0x00000000#32)) reduceWindows_S16x2048x2048_S16x2048x2048_w1s1p0_0_w1s1p0_0_w2048s1p0_2047 h_S_
/-- The sum over the entries up to one. -/
def upto (x : FVec Ideal S16x2048x2048 .f32) : FVec Ideal S16x2048x2048 .f32 :=
  Host.reduceWindowAdd ![1, 1, 2048] ![1, 1, 1] ![0, 0, 2047] ![0, 0, 0] x (broadcastInDim S_ ![] bcast_S_S_ (constant S_ .f32 0x00000000#32)) reduceWindows_S16x2048x2048_S16x2048x2048_w1s1p0_0_w1s1p0_0_w2048s1p2047_0 h_S_
/-- The unmasked weights. -/
def expo (z : FVec Ideal S16x2048x2048 .f32) : FVec Ideal S16x2048x2048 .f32 :=
  Host.exp (addf (Host.negf (soft (Host.negf z))) (subf (onward (left z)) (left z)))
/-- The weights. -/
def weights (z : FVec Ideal S16x2048x2048 .f32) : FVec Ideal S16x2048x2048 .f32 := select mask (expo z) zeros
/-- The weights times their gradients. -/
def prod (z d : FVec Ideal S16x2048x2048 .f32) : FVec Ideal S16x2048x2048 .f32 := mulf (select mask d zeros) (expo z)
/-- The gradient of the scores. -/
def dscore (z d : FVec Ideal S16x2048x2048 .f32) : FVec Ideal S16x2048x2048 .f32 :=
  addf (Host.negf (mulf (Host.negf (prod z d)) (slope (Host.negf z))))
    (Host.negf (Host.negf (mulf (Host.negf (select mask (addf (Host.negf (prod z d)) (upto (prod z d))) zeros)) (slope (Host.negf (Host.negf z))))))
/-- Heads joined. -/
def join (X : FVec Ideal S16x2048x64 .f32) : FVec Ideal S2048x1024 .f32 :=
  shapeCast _ (transpose S2048x16x64 [1, 0, 2] X transposes_S16x2048x64_S2048x16x64_1_0_2) shapeCasts_S2048x16x64_S2048x1024

/-- The gradient of `q`. -/
def refQ (q k v o : FVec Ideal S2048x1024 .bf16) : FVec Ideal S2048x1024 .f32 :=
  join (Host.dotGeneral dot_S16x2048x2048_S16x2048x64_S16x2048x64_2_1_1_2_0_0 none (dscore (scores q k) (scores o v)) (heads k))
/-- The gradient of `k`. -/
def refK (q k v o : FVec Ideal S2048x1024 .bf16) : FVec Ideal S2048x1024 .f32 :=
  join (Host.dotGeneral dot_S16x2048x2048_S16x2048x64_S16x2048x64_1_1_2_2_0_0 none (dscore (scores q k) (scores o v)) (heads q))
/-- The gradient of `v`. -/
def refV (q k o : FVec Ideal S2048x1024 .bf16) : FVec Ideal S2048x1024 .f32 :=
  join (transpose S16x2048x64 [0, 2, 1] (Host.dotGeneral dot_S16x2048x64_S16x2048x2048_S16x64x2048_1_1_2_2_0_0 none (heads o) (weights (scores q k))) transposes_S16x64x2048_S16x2048x64_0_2_1)

variable (m : (ℓ : Loc nD τ sig) → Buf (Elt Ideal) ℓ) (c : Dev nD)

/-- The third result is the gradient of `v`. -/
theorem out2 : Value.res_main_v48 m c = refV (m ((c.tc : Thread nD τ).loc main_arg0)) (m ((c.tc : Thread nD τ).loc main_arg1)) (m ((c.tc : Thread nD τ).loc main_arg3)) := by
  delta refV join weights expo onward left soft zeros mask scores heads Value.res_main_v48
  rfl
/-- The second result is the gradient of `k`. -/
theorem out1 : Value.res_main_v50 m c = refK (m ((c.tc : Thread nD τ).loc main_arg0)) (m ((c.tc : Thread nD τ).loc main_arg1)) (m ((c.tc : Thread nD τ).loc main_arg2)) (m ((c.tc : Thread nD τ).loc main_arg3)) := by
  delta refK join dscore prod upto slope expo onward left soft infs zeros mask scores heads Value.res_main_v50
  rfl
/-- The first result is the gradient of `q`. -/
theorem out0 : Value.res_main_v52 m c = refQ (m ((c.tc : Thread nD τ).loc main_arg0)) (m ((c.tc : Thread nD τ).loc main_arg1)) (m ((c.tc : Thread nD τ).loc main_arg2)) (m ((c.tc : Thread nD τ).loc main_arg3)) := by
  delta refQ join dscore prod upto slope expo onward left soft infs zeros mask scores heads Value.res_main_v52
  rfl

/-! ## Two facts about the sigmoid -/

/-- The sigmoid's logarithm at the negative. -/
theorem lsg_neg (z : ℝ) : lsg (-z) = lsg z - z := by
  unfold lsg
  rw [abs_neg]
  rcases le_total z 0 with h | h
  · rw [min_eq_left h, min_eq_right (by linarith : (0 : ℝ) ≤ -z)]; ring
  · rw [min_eq_right h, min_eq_left (by linarith : -z ≤ (0 : ℝ))]; ring

/-- The two sigmoids add to one. -/
theorem exp_lsg (z : ℝ) : Real.exp (lsg (-z)) = 1 - Real.exp (lsg z) := by
  have hp : (0 : ℝ) < 1 + Real.exp (-|z|) := by positivity
  have key : ∀ w : ℝ, Real.exp (lsg w) = Real.exp (min w 0) / (1 + Real.exp (-|w|)) := fun w => by
    unfold lsg
    rw [Real.exp_sub, Real.exp_log (by positivity)]
  rw [key, key, abs_neg, eq_sub_iff_add_eq, ← add_div, div_eq_one_iff_eq hp.ne']
  rcases le_total z 0 with h | h
  · rw [min_eq_left h, min_eq_right (by linarith : (0 : ℝ) ≤ -z), abs_of_nonpos h, Real.exp_zero, neg_neg]
  · rw [min_eq_right h, min_eq_left (by linarith : -z ≤ (0 : ℝ)), abs_of_nonneg h, Real.exp_zero, add_comm]

/-- The infinity constant. -/
theorem inf_word : Ideal.ofBits FTy.f32 0x7F800000#32 = (⊤ : EReal) := by simp [Ideal.ofBits, Ideal.ieee]

/-! ## Sums over a window -/

/-- A left fold that adds is a sum. -/
theorem fold_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The window's positions are its last coordinates. -/
def lastCoord : (⟨3, ![1, 1, 2048]⟩ : Shape).Idx ≃ Fin 2048 where
  toFun i := i 2
  invFun n := ix3 (0 : Fin 1) (0 : Fin 1) n
  left_inv i := by
    funext a
    match a with
    | 0 => exact (Fin.eq_zero _).symm
    | 1 => exact (Fin.eq_zero _).symm
    | 2 => rfl
  right_inv _ := rfl

/-- The window's position by its number. -/
def pos (n : Fin (⟨3, ![1, 1, 2048]⟩ : Shape).numel) : (⟨3, ![1, 1, 2048]⟩ : Shape).Idx := (⟨3, ![1, 1, 2048]⟩ : Shape).rowMajor.symm n

section Windows
variable (x : FVec Ideal S16x2048x2048 .f32) (h : Fin 16) (a b : Fin 2048) (g : ℕ → ℝ)

/-- A window sum along the last axis, the window starting `p` entries low. -/
theorem window_at (p q : ℕ) (hw : S16x2048x2048.ReduceWindows ![1, 1, 2048] ![1, 1, 1] ![0, 0, p] ![0, 0, q] S16x2048x2048)
    (hx : ∀ b' : Fin 2048, x (ix3 h a b') = ((g b'.val : ℝ) : EReal)) :
    Host.reduceWindowAdd ![1, 1, 2048] ![1, 1, 1] ![0, 0, p] ![0, 0, q] x (broadcastInDim S_ ![] bcast_S_S_ (constant S_ .f32 0x00000000#32)) hw h_S_ (ix3 h a b)
      = ((∑ n ∈ range 2048, if p ≤ b.val + n ∧ b.val + n - p < 2048 then g (b.val + n - p) else 0 : ℝ) : EReal) := by
  unfold Host.reduceWindowAdd
  show Ideal.hostReduceWindowAdd _ _ _ _ hw x _ (ix3 h a b) = _
  unfold Ideal.hostReduceWindowAdd Host.reduceWindow
  have h0 : (broadcastInDim S_ ![] bcast_S_S_ (constant S_ .f32 0x00000000#32) : FVec Ideal S_ .f32) (Shape.Idx.first h_S_) = (0 : EReal) := by
    pointwise
  dsimp only
  rw [fold_sum, h0, zero_add, ← Fin.sum_univ_def]
  rw [← sum_fin (n := 2048) (fun n => ((if p ≤ b.val + n.val ∧ b.val + n.val - p < 2048 then g (b.val + n.val - p) else 0 : ℝ) : EReal)) _ (fun n => rfl)]
  refine Fintype.sum_equiv ((Shape.rowMajor ⟨S16x2048x2048.rank, ![1, 1, 2048]⟩).symm.trans lastCoord) _ _ (fun n => ?_)
  have i0 : (pos n 0).val = 0 := congrArg Fin.val (Fin.eq_zero (pos n 0 : Fin 1))
  have i1 : (pos n 1).val = 0 := congrArg Fin.val (Fin.eq_zero (pos n 1 : Fin 1))
  show _ = ((if p ≤ b.val + (pos n 2).val ∧ b.val + (pos n 2).val - p < 2048 then g (b.val + (pos n 2).val - p) else 0 : ℝ) : EReal)
  by_cases hc : p ≤ b.val + (pos n 2).val ∧ b.val + (pos n 2).val - p < 2048
  · rw [if_pos hc]
    rw [dif_pos (fun k => by
      match k with
      | 0 => show 0 ≤ h.val * 1 + (pos n 0).val ∧ h.val * 1 + (pos n 0).val - 0 < 16; omega
      | 1 => show 0 ≤ a.val * 1 + (pos n 1).val ∧ a.val * 1 + (pos n 1).val - 0 < 2048; omega
      | 2 => show p ≤ b.val * 1 + (pos n 2).val ∧ b.val * 1 + (pos n 2).val - p < 2048; omega)]
    rw [← hx ⟨b.val + (pos n 2).val - p, hc.2⟩]
    refine congrArg x (funext fun k => Fin.ext ?_)
    match k with
    | 0 => show h.val * 1 + (pos n 0).val - 0 = h.val; omega
    | 1 => show a.val * 1 + (pos n 1).val - 0 = a.val; omega
    | 2 => show b.val * 1 + (pos n 2).val - p = b.val + (pos n 2).val - p; omega
  · rw [if_neg hc, dif_neg]
    · exact EReal.coe_zero.symm
    · intro hin
      have := hin 2
      change p ≤ b.val * 1 + (pos n 2).val ∧ b.val * 1 + (pos n 2).val - p < 2048 at this
      omega

/-- The sums of a window laid from an entry on. -/
theorem onward_at (hx : ∀ b' : Fin 2048, x (ix3 h a b') = ((g b'.val : ℝ) : EReal)) :
    onward x (ix3 h a b) = ((∑ b' ∈ Ico b.val 2048, g b' : ℝ) : EReal) := by
  have hb := b.isLt
  refine (window_at x h a b g 0 2047 _ hx).trans (congrArg _ ?_)
  rw [Finset.sum_Ico_eq_sum_range, ← Finset.sum_subset (s₁ := range (2048 - b.val)) (s₂ := range 2048) (fun n hn => by rw [mem_range] at *; omega)
      (fun n hn hm => by rw [mem_range] at hn hm; exact if_neg (by omega))]
  exact sum_congr rfl fun n hn => by rw [mem_range] at hn; rw [if_pos (by omega), Nat.sub_zero]

/-- The sums of a window laid up to an entry. -/
theorem upto_at (hx : ∀ b' : Fin 2048, x (ix3 h a b') = ((g b'.val : ℝ) : EReal)) :
    upto x (ix3 h a b) = ((∑ b' ∈ range (b.val + 1), g b' : ℝ) : EReal) := by
  have hb := b.isLt
  refine (window_at x h a b g 2047 0 _ hx).trans (congrArg _ ?_)
  rw [Finset.range_eq_Ico, ← sum_Ico_consecutive _ (Nat.zero_le (2047 - b.val)) (by omega : 2047 - b.val ≤ 2048),
    Finset.sum_eq_zero (fun n hn => by rw [mem_Ico] at hn; exact if_neg (by omega)), zero_add, Finset.sum_Ico_eq_sum_range,
    show 2048 - (2047 - b.val) = b.val + 1 by omega, Finset.range_eq_Ico]
  exact sum_congr rfl fun n hn => by rw [mem_Ico] at hn; rw [if_pos (by omega), show b.val + (2047 - b.val + n) - 2047 = n by omega]

end Windows

/-! ## What they hold -/

section At
variable (x : FVec Ideal S16x2048x2048 .f32) (h : Fin 16) (a b : Fin 2048) (z : ℝ)

/-- A head at an index. -/
theorem heads_at (X : FVec Ideal S2048x1024 .bf16) (hX : AllReal X) (d : Fin 64) : heads X (ix3 h a d) = ((rd X a.val (64 * h.val + d.val) : ℝ) : EReal) := by
  pointwise [heads]
  exact hX.eq _ _ _ rfl (by show h.val * 64 + d.val = _; omega)

/-- The mask at an index. -/
theorem mask_at : mask (ix3 h a b) = if b.val < a.val then 1#1 else 0#1 := by
  rw [← lt_word b.val a.val (by omega) (by omega)]
  pointwise [mask]

/-- The softplus of a real number. -/
theorem soft_at (hx : x (ix3 h a b) = (z : EReal)) : soft x (ix3 h a b) = ((- lsg (-z) : ℝ) : EReal) := by
  have e : (1 : ℝ) + Real.exp (-|z|) > 0 := by positivity
  pointwise [soft, zeros]
  rw [hx, if_neg (fun hh => hh rfl)]
  show max (z : EReal) 0 + Ideal.log (1 + Ideal.exp (- max (z : EReal) (-(z : EReal)))) = _
  rw [← EReal.coe_neg, ← EReal.coe_strictMono.monotone.map_max, ← EReal.coe_zero, ← EReal.coe_strictMono.monotone.map_max,
    ← EReal.coe_neg, Ideal.exp_coe, ← EReal.coe_one, ← EReal.coe_add, Ideal.log_coe, show max z (-z) = |z| from rfl, if_neg (by simpa using e), ← EReal.coe_add]
  refine congrArg _ ?_
  unfold lsg
  rw [abs_neg, neg_sub, sub_eq_add_neg, add_comm]
  congr 1
  rw [show min (-z) 0 = - max z 0 by rw [← neg_zero, min_neg_neg, neg_zero], neg_neg]

/-- Its derivative. -/
theorem slope_at (hx : x (ix3 h a b) = (z : EReal)) : slope x (ix3 h a b) = ((Real.exp (lsg z) : ℝ) : EReal) := by
  pointwise [slope, zeros, infs]
  rw [soft_at x h a b z hx, hx, inf_word, if_neg (EReal.coe_ne_top _), if_neg (EReal.coe_ne_top _), ← EReal.coe_sub, Ideal.exp_coe, lsg_neg]
  rw [show z - -(lsg z - z) = lsg z by ring]

/-- The scores. -/
theorem scores_at (X Y : FVec Ideal S2048x1024 .bf16) (hX : AllReal X) (hY : AllReal Y) : scores X Y (ix3 h a b) = ((Z (rd X) (rd Y) h.val a.val b.val : ℝ) : EReal) := by
  pointwise [scores]
  refine sum_fin _ (fun d => rd X a.val (64 * h.val + d) * rd Y b.val (64 * h.val + d)) (fun d => ?_)
  rw [heads_at h a X hX d, heads_at h b Y hY d, ← EReal.coe_mul]

/-! ## The gradient of the scores -/

section Score
variable (q k v o : FVec Ideal S2048x1024 .bf16) (hq : AllReal q) (hk : AllReal k) (hv : AllReal v) (ho : AllReal o)
include hq hk

/-- The masked logarithms. -/
theorem left_at : left (scores q k) (ix3 h a b) = ((G (rd q) (rd k) h.val a.val b.val : ℝ) : EReal) := by
  have e : Host.negf (soft (Host.negf (Host.negf (scores q k)))) (ix3 h a b) = ((lsg (- Z (rd q) (rd k) h.val a.val b.val) : ℝ) : EReal) := by
    have : Host.negf (Host.negf (scores q k)) (ix3 h a b) = ((Z (rd q) (rd k) h.val a.val b.val : ℝ) : EReal) := by
      pointwise
      rw [scores_at h a b q k hq hk]; simp
    pointwise
    rw [soft_at _ h a b _ this, ← EReal.coe_neg, neg_neg]
  have e' : -soft (Host.negf (Host.negf (scores q k))) (ix3 h a b) = ((lsg (- Z (rd q) (rd k) h.val a.val b.val) : ℝ) : EReal) := by
    rw [← e]; pointwise
  pointwise [left, zeros]
  rw [mask_at, e', lsg_neg]
  unfold G
  by_cases hc : b.val < a.val
  · rw [if_pos hc, if_pos hc]; rfl
  · rw [if_neg hc, if_neg hc]; rfl

/-- The unmasked weights. -/
theorem expo_at : expo (scores q k) (ix3 h a b) = ((Real.exp (lsg (Z (rd q) (rd k) h.val a.val b.val) + Sb.T (rd q) (rd k) h.val a.val b.val) : ℝ) : EReal) := by
  have hb := b.isLt
  have e : Host.negf (scores q k) (ix3 h a b) = ((- Z (rd q) (rd k) h.val a.val b.val : ℝ) : EReal) := by
    pointwise
    rw [scores_at h a b q k hq hk]; simp
  pointwise [expo]
  rw [soft_at _ h a b _ e, onward_at _ h a b (G (rd q) (rd k) h.val a.val) (fun b' => left_at h a b' q k hq hk), left_at h a b q k hq hk,
    ← EReal.coe_neg, ← EReal.coe_sub, ← EReal.coe_add, Ideal.exp_coe, neg_neg, neg_neg]
  unfold Sb.T
  rw [Finset.sum_eq_sum_Ico_succ_bot hb, add_sub_cancel_left]

/-- The weights. -/
theorem weights_at : weights (scores q k) (ix3 h a b) = ((A (rd q) (rd k) h.val a.val b.val : ℝ) : EReal) := by
  pointwise [weights, zeros]
  rw [mask_at, expo_at h a b q k hq hk]
  unfold A
  by_cases hc : b.val < a.val
  · rw [if_pos hc, if_pos hc]; rfl
  · rw [if_neg hc, if_neg hc]; rfl

include hv ho

/-- The weights times their gradients. -/
theorem prod_at : prod (scores q k) (scores o v) (ix3 h a b) = ((DS (rd q) (rd k) (rd v) (rd o) h.val a.val b.val : ℝ) : EReal) := by
  pointwise [prod, zeros]
  rw [mask_at, expo_at h a b q k hq hk, scores_at h a b o v ho hv]
  unfold DS A
  by_cases hc : b.val < a.val
  · rw [if_pos hc, if_pos hc, EReal.coe_mul]; rfl
  · rw [if_neg hc, if_neg hc, mul_zero]; rfl

/-- The gradient of the scores. -/
theorem dscore_at : dscore (scores q k) (scores o v) (ix3 h a b) = ((DZ (rd q) (rd k) (rd v) (rd o) h.val a.val b.val : ℝ) : EReal) := by
  have e : Host.negf (scores q k) (ix3 h a b) = ((- Z (rd q) (rd k) h.val a.val b.val : ℝ) : EReal) := by
    pointwise
    rw [scores_at h a b q k hq hk]; simp
  have e2 : Host.negf (Host.negf (scores q k)) (ix3 h a b) = ((Z (rd q) (rd k) h.val a.val b.val : ℝ) : EReal) := by
    pointwise
    rw [scores_at h a b q k hq hk]; simp
  pointwise [dscore, zeros]
  rw [slope_at _ h a b _ e, slope_at _ h a b _ e2, mask_at, prod_at h a b q k v o hq hk hv ho,
    upto_at _ h a b (DS (rd q) (rd k) (rd v) (rd o) h.val a.val) (fun b' => prod_at h a b' q k v o hq hk hv ho), exp_lsg]
  unfold DZ
  have es : Scalar.select (if b.val < a.val then 1#1 else 0#1) (-((DS (rd q) (rd k) (rd v) (rd o) h.val a.val b.val : ℝ) : EReal) + ((∑ b' ∈ range (b.val + 1), DS (rd q) (rd k) (rd v) (rd o) h.val a.val b' : ℝ) : EReal)) 0
      = ((Pf (rd q) (rd k) (rd v) (rd o) h.val a.val b.val : ℝ) : EReal) := by
    unfold Pf
    by_cases hc : b.val < a.val
    · rw [if_pos hc, if_pos hc, Finset.sum_range_succ, ← EReal.coe_neg, ← EReal.coe_add]
      show ((_ : ℝ) : EReal) = _
      congr 1; ring
    · rw [if_neg hc, if_neg hc]; rfl
  rw [es]
  norm_cast
  ring

end Score

section Results
variable (l : Fin 1024) (q k v o : FVec Ideal S2048x1024 .bf16) (hq : AllReal q) (hk : AllReal k) (hv : AllReal v) (ho : AllReal o)
include hq hk ho

/-- The gradient of `v` at an index. -/
theorem refV_at : refV q k o (ix2 b l) = ((∑ a ∈ range 2048, A (rd q) (rd k) (l.val / 64) a b.val * rd o a l.val : ℝ) : EReal) := by
  have hl := l.isLt
  pointwise [refV, join]
  refine sum_fin _ (fun a => A (rd q) (rd k) (l.val / 64) a b.val * rd o a l.val) (fun a => ?_)
  rw [heads_at _ a o ho, weights_at _ a b q k hq hk, ← EReal.coe_mul]
  dsimp only
  rw [show 64 * (l.val / 64) + l.val % 64 = l.val by omega, mul_comm]

include hv

/-- The gradient of `k` at an index. -/
theorem refK_at : refK q k v o (ix2 b l) = ((∑ a ∈ range 2048, DZ (rd q) (rd k) (rd v) (rd o) (l.val / 64) a b.val * rd q a l.val : ℝ) : EReal) := by
  have hl := l.isLt
  pointwise [refK, join]
  refine sum_fin _ (fun a => DZ (rd q) (rd k) (rd v) (rd o) (l.val / 64) a b.val * rd q a l.val) (fun a => ?_)
  rw [heads_at _ a q hq, dscore_at _ a b q k v o hq hk hv ho, ← EReal.coe_mul]
  dsimp only
  rw [show 64 * (l.val / 64) + l.val % 64 = l.val by omega]

/-- The gradient of `q` at an index. -/
theorem refQ_at : refQ q k v o (ix2 a l) = ((∑ b ∈ range 2048, DZ (rd q) (rd k) (rd v) (rd o) (l.val / 64) a.val b * rd k b l.val : ℝ) : EReal) := by
  have hl := l.isLt
  pointwise [refQ, join]
  refine sum_fin _ (fun b => DZ (rd q) (rd k) (rd v) (rd o) (l.val / 64) a.val b * rd k b l.val) (fun b => ?_)
  rw [heads_at _ b k hk, dscore_at _ a b q k v o hq hk hv ho, ← EReal.coe_mul]
  dsimp only
  rw [show 64 * (l.val / 64) + l.val % 64 = l.val by omega]

end Results

end At

end Cert.ReferenceIdeal.Hand
end
-- ==== Proof.Value.Equal.lean ====
/-
  The kernel's three results are the reference's, from operands whose entries are real numbers.
-/
module

public import proofs.«01_k».proof.Defs
public import proofs.«01_k».proof.Proof.Value.Ref
public import Idealize.ShloMosaic.Lib.Claim

@[expose] public section
set_option maxRecDepth 16384
noncomputable section

namespace Cert.Proof
open Idealize.ShloMosaic Idealize.ShloMosaic.TcCoe Idealize.SL.Sem
open Cert.KernelIdeal.Hand (AllReal Fine gradQ gradK gradV opQ opK opV opO)

/-- The side condition of the precondition. -/
theorem pre_facts : Cert.Pre_all_finite.Facts := ⟨by decide⟩

/-- The negative infinity of the operands' format. -/
theorem bot_word : Ideal.ofBits FTy.bf16 0xFF80#16 = (⊥ : EReal) := by simp [Ideal.ofBits, Ideal.ieee]
/-- The infinity of the operands' format. -/
theorem top_word : Ideal.ofBits FTy.bf16 0x7F80#16 = (⊤ : EReal) := by simp [Ideal.ofBits, Ideal.ieee]

/-- An entry strictly between the infinities is a real number. -/
theorem between (x : EReal) (h : IntOp.andi (FloatOps.cmpf (F := Ideal) (φ := .bf16) .ogt x (Ideal.ofBits FTy.bf16 0xFF80#16)) (FloatOps.cmpf (F := Ideal) (φ := .bf16) .olt x (Ideal.ofBits FTy.bf16 0x7F80#16)) = 1#1) :
    x ≠ ⊥ ∧ x ≠ ⊤ := by
  rw [bot_word, top_word] at h
  refine ⟨fun e => ?_, fun e => ?_⟩
  · subst e
    revert h
    simp [IntOp.andi, Ideal.cmpf_def, Ideal.cmp]
  · subst e
    revert h
    simp [IntOp.andi, Ideal.cmpf_def, Ideal.cmp]

attribute [local instance] pre_facts

/-- The precondition makes every operand's entries real numbers. -/
theorem fine (m : (ℓ : Loc Cert.KernelIdeal.nD Cert.KernelIdeal.τ Cert.KernelIdeal.sig) → Buf (Elt Ideal) ℓ) (h : Cert.Pre_KernelIdeal_all_finite m) (c : Dev Cert.KernelIdeal.nD) : Fine m c := by
  obtain ⟨h0, h1, h2, h3⟩ := h c
  exact ⟨fun y => between _ (congrFun h0 y), fun y => between _ (congrFun h1 y), fun y => between _ (congrFun h2 y), fun y => between _ (congrFun h3 y)⟩

/-- The reference's gradient of `q` is the kernel's. -/
theorem same_q (m : (ℓ : Loc Cert.KernelIdeal.nD Cert.KernelIdeal.τ Cert.KernelIdeal.sig) → Buf (Elt Ideal) ℓ) (c : Dev Cert.KernelIdeal.nD) (f : Fine m c) :
    Cert.ReferenceIdeal.Hand.refQ (opQ m c) (opK m c) (opV m c) (opO m c) = gradQ m c := by
  funext x
  obtain ⟨a, l, rfl⟩ : ∃ (a : Fin 2048) (l : Fin 1024), x = ix2 a l := ⟨x 0, x 1, by funext i; match i with | 0 => rfl | 1 => rfl⟩
  exact Cert.ReferenceIdeal.Hand.refQ_at a l _ _ _ _ f.q f.k f.v f.o

/-- The reference's gradient of `k` is the kernel's. -/
theorem same_k (m : (ℓ : Loc Cert.KernelIdeal.nD Cert.KernelIdeal.τ Cert.KernelIdeal.sig) → Buf (Elt Ideal) ℓ) (c : Dev Cert.KernelIdeal.nD) (f : Fine m c) :
    Cert.ReferenceIdeal.Hand.refK (opQ m c) (opK m c) (opV m c) (opO m c) = gradK m c := by
  funext x
  obtain ⟨b, l, rfl⟩ : ∃ (b : Fin 2048) (l : Fin 1024), x = ix2 b l := ⟨x 0, x 1, by funext i; match i with | 0 => rfl | 1 => rfl⟩
  exact Cert.ReferenceIdeal.Hand.refK_at b l _ _ _ _ f.q f.k f.v f.o

/-- The reference's gradient of `v` is the kernel's. -/
theorem same_v (m : (ℓ : Loc Cert.KernelIdeal.nD Cert.KernelIdeal.τ Cert.KernelIdeal.sig) → Buf (Elt Ideal) ℓ) (c : Dev Cert.KernelIdeal.nD) (f : Fine m c) :
    Cert.ReferenceIdeal.Hand.refV (opQ m c) (opK m c) (opO m c) = gradV m c := by
  funext x
  obtain ⟨b, l, rfl⟩ : ∃ (b : Fin 2048) (l : Fin 1024), x = ix2 b l := ⟨x 0, x 1, by funext i; match i with | 0 => rfl | 1 => rfl⟩
  exact Cert.ReferenceIdeal.Hand.refV_at b l _ _ _ f.q f.k f.o

/-- Kernel and reference end with equal results. -/
theorem equal : Cert.algebraic_KernelIdeal_ReferenceIdeal_pre_all_finite := by
  intro m g m' g' hpre hagree
  refine ⟨fun c => gradQ m c, fun c => gradK m c, fun c => gradV m c, ?_, ?_⟩
  · run_from Cert.KernelIdeal.Hand.run (F := Ideal) m g
    · exact Cert.KernelIdeal.Hand.final4 m c (fine m hpre c)
    · exact Cert.KernelIdeal.Hand.final5 m c (fine m hpre c)
    · exact Cert.KernelIdeal.Hand.final6 m c (fine m hpre c)
  · refine (θ_run Cert.ReferenceIdeal.defs _ _).mono (fun r h c => ?_) (Cert.ReferenceIdeal.Value.run (F := Ideal) m' g')
    obtain ⟨h0, h1, h2, hr⟩ := h c
    obtain ⟨a0, a1, a2, a3⟩ := hagree c
    refine ⟨?_, ?_, ?_, hr⟩
    · rw [h0, Cert.ReferenceIdeal.Hand.out0, a0, a1, a2, a3]; exact same_q m c (fine m hpre c)
    · rw [h1, Cert.ReferenceIdeal.Hand.out1, a0, a1, a2, a3]; exact same_k m c (fine m hpre c)
    · rw [h2, Cert.ReferenceIdeal.Hand.out2, a0, a1, a3]; exact same_v m c (fine m hpre c)

end Cert.Proof
end
-- ==== Proof.Mlp.Real.lean ====
/-
  Facts on the extended reals that the gradients of the channel mixer need.
-/
module

public import Idealize.ShloMosaic.Lib.Claim
public import Idealize.ShloMosaic.Lib.Pipeline.ValueKit
public import Mathlib.Tactic.Ring

@[expose] public section
noncomputable section

namespace Cert.Mlp
open Idealize.ShloMosaic

/-- The word of the literal two. -/
theorem two_word : Ideal.ofBits FTy.f32 1073741824#32 = (2 : EReal) := by
  have h : Ideal.ofBits FTy.f32 1073741824#32 = ((8388608 : ℝ) : EReal) * (((2 ^ 22)⁻¹ : ℝ) : EReal) := by simp [Ideal.ofBits, Ideal.ieee]
  rw [h, ← EReal.coe_mul, show (8388608 : ℝ) * (2 ^ 22)⁻¹ = 2 by norm_num]
  rfl

/-- Twice an extended real is its sum with itself. -/
theorem add_self (x : EReal) : x + x = 2 * x := by
  induction x with
  | bot => rw [EReal.bot_add]; exact (EReal.coe_mul_bot_of_pos (show (0 : ℝ) < 2 by norm_num)).symm
  | top => rw [EReal.top_add_top]; exact (EReal.coe_mul_top_of_pos (show (0 : ℝ) < 2 by norm_num)).symm
  | coe x => rw [← EReal.coe_add, ← two_mul]; exact EReal.coe_mul 2 x

/-- The squared activation's derivative: the two halves of a square's gradient, kept where the activation is positive. -/
theorem square_grad (p y : EReal) : (if 0 < p then max p 0 * y + y * max p 0 else 0) = y * (2 * max p 0) := by
  split
  · rw [mul_comm (max p 0) y, add_self]; exact mul_left_comm _ _ _
  · rw [max_eq_right (not_lt.mp ‹_›), mul_zero, mul_zero]

end Cert.Mlp
end
-- ==== Proof.Mlp.Act.lean ====
/-
  The gradient of the hidden layer before its activation (`d_mlp_act`): its frames and its value.
-/
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Mlp.Real
public import Idealize.ShloMosaic.Lib.Pipeline.ValueKit
public import Idealize.ShloMosaic.Lib.Claim

@[expose] public section
set_option maxRecDepth 16384
noncomputable section

namespace Cert.Kernel2Ideal.Hand
open Idealize.ShloMosaic Idealize.ShloMosaic.TcCoe Idealize.SL.Sem
open Cert.Kernel2Ideal Cert.Kernel2Ideal.Gen
open Idealize.ShloMosaic.Pipeline (Dat)

/-- The normed input. -/
def normed (x : FVec Ideal S2048x1024 .f32) (g : FVec Ideal S1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

/-- The hidden layer before its activation: the normed input times the weights. -/
def pre (x : FVec Ideal S2048x1024 .f32) (g : FVec Ideal S1024 .f32) (w : FVec Ideal S1024x4096 .f32) : FVec Ideal S2048x4096 .f32 :=
  Host.dotGeneral dot_S2048x1024_S1024x4096_S2048x4096_1_0_0_1_n_n none (normed x g) w

/-- The gradient: the product with the second weights, times twice the activation. -/
def grad (p : FVec Ideal S2048x4096 .f32) (w : FVec Ideal S4096x1024 .f32) (d : FVec Ideal S2048x1024 .f32) : FVec Ideal S2048x4096 .bf16 :=
  fun i => (∑ k : Fin 1024, d (ix2 (i 0) k) * w (ix2 (i 1) k)) * (2 * max (p i) 0)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The activation as the call finds it. -/
theorem act (c : Dev nD) : V m c main_v15 = truncf .bf16 (maximumf (pre (m ((c : Thread nD τ).loc main_arg0)) (m ((c : Thread nD τ).loc main_arg1)) (m ((c : Thread nD τ).loc main_arg2)))
    (broadcastInDim S2048x4096 ![] bcast_S_S2048x4096 (constant S_ .f32 0x00000000#32))) bitsLt_bf16_f32 := by
  entry_read
  rfl

/-- The activation's block at a grid point, entry by entry. -/
theorem act_block (c : Dev nD) (t : Fin cfg0.N) (y : S512x4096.Idx) : (iblk m c 2 t : FVec Ideal S512x4096 .bf16) y
    = max (pre (m ((c : Thread nD τ).loc main_arg0)) (m ((c : Thread nD τ).loc main_arg1)) (m ((c : Thread nD τ).loc main_arg2)) (((cfg0.win 3).blk t).view.emb y)) (0 : EReal) := by
  blk_simp [iblk]
  rw [act]
  pointwise
  refine congrArg (fun i => max (pre _ _ _ i) (0 : EReal)) ?_
  blk_ext [idx t]

/-- The result array after the run. -/
theorem final (c : Dev nD) : (dats m 0 c).arrAt 3 (cfgs 0).N
    = grad (pre (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 3 _ (by decide +kernel) fun t _ y => ?_
  blk_simp
  rw [after0_3]
  frame_out
  pointwise [k0_pay1, grad]
  rw [act_block m c t y, Cert.Mlp.two_word]
  blk_point [iblk, V, idx t]

/-- The reference's formula is the same gradient. -/
theorem same (p : FVec Ideal S2048x4096 .f32) (w : FVec Ideal S4096x1024 .f32) (d : FVec Ideal S2048x1024 .f32) :
    truncf .bf16 (select (cmpf .ogt p (broadcastInDim S2048x4096 ![] bcast_S_S2048x4096 (constant S_ .f32 0x00000000#32)))
      (addf (mulf (maximumf p (broadcastInDim S2048x4096 ![] bcast_S_S2048x4096 (constant S_ .f32 0x00000000#32))) (Host.dotGeneral Cert.Reference2Ideal.dot_S2048x1024_S4096x1024_S2048x4096_1_1_0_0_n_n none d w))
        (mulf (Host.dotGeneral Cert.Reference2Ideal.dot_S2048x1024_S4096x1024_S2048x4096_1_1_0_0_n_n none d w) (maximumf p (broadcastInDim S2048x4096 ![] bcast_S_S2048x4096 (constant S_ .f32 0x00000000#32)))))
      (broadcastInDim S2048x4096 ![] bcast_S_S2048x4096 (constant S_ .f32 0x00000000#32))) bitsLt_bf16_f32 = grad p w d := by
  funext i
  pointwise [grad]
  exact Cert.Mlp.square_grad _ _

end Cert.Kernel2Ideal.Hand

namespace Cert.Proof
open Idealize.ShloMosaic Idealize.ShloMosaic.TcCoe Idealize.SL.Sem

/-- The two texts name the same kernel body. -/
theorem body_same2 {F : FTy → Type} [FloatOps F] : Cert.Kernel2.defs₀ (F := F) = Cert.Kernel2Ideal.defs₀ (F := F) := by
  refine congrArg Defs.onTc ?_
  funext l x
  match l, x with
  | 0, (t, s) => rfl

/-- The two texts have the same definitions. -/
theorem defs_same2 {F : FTy → Type} [FloatOps F] : Cert.Kernel2.defs (F := F) = Cert.Kernel2Ideal.defs (F := F) :=
  congrArg (Pipeline.defs (Cert.Kernel2Ideal.pcfgs (F := F))) body_same2

/-- The call as printed, on words. -/
theorem frame_kernel2 : Cert.quiescent_Kernel2 := by
  intro m ρ _
  rw [defs_same2]
  exact Cert.Kernel2Ideal.Gen.frame (F := Bits) m ρ

/-- The call over the extended reals. -/
theorem frame_ideal2 : Cert.quiescent_Kernel2Ideal := fun m ρ _ => Cert.Kernel2Ideal.Gen.frame (F := Ideal) m ρ

/-- The reference over the extended reals. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with equal results. -/
theorem equal2 : Cert.algebraic_Kernel2Ideal_Reference2Ideal := by
  intro m g m' g' _ hagree
  refine ⟨fun c => (Cert.Kernel2Ideal.Gen.dats m 0 c).arrAt 3 (Cert.Kernel2Ideal.cfgs 0).N, ?_, ?_⟩
  · exact Cert.Kernel2Ideal.Value.run_blocks (F := Ideal) m g
  · refine (θ_run Cert.Reference2Ideal.defs _ _).mono (fun r h c => ?_) (Cert.Reference2Ideal.Value.run (F := Ideal) m' g')
    obtain ⟨h0, hr⟩ := h c
    obtain ⟨a0, a1, a2, a3, a4⟩ := hagree c
    refine ⟨?_, hr⟩
    rw [h0, a0, a1, a2, a3, a4]
    exact (Cert.Kernel2Ideal.Hand.same (Cert.Kernel2Ideal.Hand.pre _ _ _) _ _).trans (Cert.Kernel2Ideal.Hand.final m c).symm

end Cert.Proof
end
-- ==== Proof.Mlp.Down.lean ====
/-
  The gradient of the second weights of the channel mixer (`d_w_down`): its frames and its value.
-/
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Mlp.Act
public import Idealize.ShloMosaic.Lib.Pipeline.ReadBack

@[expose] public section
set_option maxRecDepth 16384
noncomputable section

namespace Cert.Kernel3Ideal.Hand
open Idealize.ShloMosaic Idealize.ShloMosaic.TcCoe Idealize.SL.Sem
open Cert.Kernel3Ideal Cert.Kernel3Ideal.Gen
open Idealize.ShloMosaic.Pipeline (Dat)
open Cert.Kernel2Ideal.Hand (pre)

variable (m : (ℓ : Loc nD τ sig) → Buf (Elt Ideal) ℓ)

/-- The gradient: the squared activation, transposed, times the cotangent. -/
def grad (p : FVec Ideal S2048x4096 .f32) (d : FVec Ideal S2048x1024 .f32) : FVec Ideal S4096x1024 .f32 :=
  fun i => ∑ k : Fin 2048, (max (p (ix2 k (i 0))) 0 * max (p (ix2 k (i 0))) 0) * d (ix2 k (i 1))

/-- The windows' block indices. -/
theorem idx : ∀ t : Fin cfg0.N, win0_0.index t = ![0, t.val] ∧ win0_1.index t = ![0, 0] ∧ win0_2.index t = ![t.val, 0] :=
  (by decide +kernel : ∀ t : Fin grid0.N, _)

/-- The squared activation as the call finds it. -/
theorem act (c : Dev nD) : V m c main_v16 = truncf .bf16 (mulf (maximumf (pre (m ((c : Thread nD τ).loc main_arg0)) (m ((c : Thread nD τ).loc main_arg1)) (m ((c : Thread nD τ).loc main_arg2)))
    (broadcastInDim S2048x4096 ![] bcast_S_S2048x4096 (constant S_ .f32 0x00000000#32))) (maximumf (pre (m ((c : Thread nD τ).loc main_arg0)) (m ((c : Thread nD τ).loc main_arg1)) (m ((c : Thread nD τ).loc main_arg2)))
    (broadcastInDim S2048x4096 ![] bcast_S_S2048x4096 (constant S_ .f32 0x00000000#32)))) bitsLt_bf16_f32 := by
  entry_read
  rfl

/-- The squared activation's block at a grid point, entry by entry. -/
theorem act_block (c : Dev nD) (t : Fin cfg0.N) (k : Fin 2048) (y : S512x1024.Idx) : (iblk m c 0 t : FVec Ideal S2048x512 .bf16) (ix2 k (y 0))
    = max ((pre (m ((c : Thread nD τ).loc main_arg0)) (m ((c : Thread nD τ).loc main_arg1)) (m ((c : Thread nD τ).loc main_arg2))) (ix2 k ((((cfg0.win 2).blk t).view.emb y) 0))) (0 : EReal) * max ((pre (m ((c : Thread nD τ).loc main_arg0)) (m ((c : Thread nD τ).loc main_arg1)) (m ((c : Thread nD τ).loc main_arg2))) (ix2 k ((((cfg0.win 2).blk t).view.emb y) 0))) (0 : EReal) := by
  blk_simp [iblk]
  rw [act]
  pointwise
  refine congrArg (fun i => max (pre _ _ _ i) (0 : EReal) * max (pre _ _ _ i) (0 : EReal)) ?_
  blk_ext [idx t]

/-- The cast of the cotangent is the identity over the reals. -/
theorem cast_at (X : Vec Ideal S2048x1024 .f32) (y : S2048x1024.Idx) : (k0_pay1 X y : EReal) = X y := by
  pointwise [k0_pay1]

/-- The cotangent's block is the whole array. -/
theorem cot (c : Dev nD) (t : Fin cfg0.N) (y : S2048x1024.Idx) : (iblk m c 1 t : FVec Ideal S2048x1024 .f32) y = m ((c : Thread nD τ).loc main_arg4) y := by
  blk_ext [iblk, V, idx t]

/-- After every grid point the scratch holds the cotangent. -/
theorem scratch (c : Dev nD) : ∀ (n : ℕ) (h : n < cfg0.N) (y : S2048x1024.Idx), ((outsAt0 m c n h).2 y : EReal) = m ((c : Thread nD τ).loc main_arg4) y
  | 0, h, y => by
    rw [outsAt0_A m c ⟨0, h⟩ (Nat.zero_mod _)]
    frame_out
    rw [cast_at, cot]
  | n + 1, h, y => by
    have hN := lt_of_lt_of_eq h (show cfg0.N = 8 from N_0)
    rw [outsAt0_B m c ⟨n + 1, h⟩ (by show ¬ (n + 1) % 8 = 0; omega)]
    frame_out
    exact scratch c n _ y

/-- The result array after the run. -/
theorem final (c : Dev nD) : (dats m 0 c).arrAt 2 (cfgs 0).N = grad (pre (m ((c : Thread nD τ).loc main_arg0)) (m ((c : Thread nD τ).loc main_arg1)) (m ((c : Thread nD τ).loc main_arg2))) (m ((c : Thread nD τ).loc main_arg4)) := by
  refine (dats m 0 c).arrAt_eq_of_covers 2 _ (by decide +kernel) fun t _ y => ?_
  blk_simp
  rw [after0_2]
  by_cases h : t.val % 8 = 0
  · rw [outsAt0_A m c t h]
    frame_out
    pointwise [k0_pay2, grad]
    refine Fin.sum_fin_congr fun k => ?_
    rw [cast_at, cot, act_block m c t k y]
    refine congrArg (HMul.hMul (α := EReal) _) ?_
    blk_ext [idx t]
  · rw [outsAt0_B m c t h]
    frame_out
    pointwise [k0_pay2, grad]
    refine Fin.sum_fin_congr fun k => ?_
    rw [Idealize.ShloMosaic.read_unread_whole, scratch, act_block m c t k y]
    refine congrArg (HMul.hMul (α := EReal) _) ?_
    blk_ext [idx t]

/-- The reference's formula is the same gradient. -/
theorem same (p : FVec Ideal S2048x4096 .f32) (d : FVec Ideal S2048x1024 .f32) :
    transpose S4096x1024 [1, 0] (Host.dotGeneral Cert.Reference3Ideal.dot_S2048x1024_S2048x4096_S1024x4096_0_0_1_1_n_n none d
      (mulf (maximumf p (broadcastInDim S2048x4096 ![] bcast_S_S2048x4096 (constant S_ .f32 0x00000000#32))) (maximumf p (broadcastInDim S2048x4096 ![] bcast_S_S2048x4096 (constant S_ .f32 0x00000000#32)))))
      Cert.Reference3Ideal.Gen.transposes_S1024x4096_S4096x1024_1_0 = grad p d := by
  funext i
  pointwise [grad]
  exact Finset.sum_congr rfl fun k _ => mul_comm _ _

end Cert.Kernel3Ideal.Hand

namespace Cert.Proof
open Idealize.ShloMosaic Idealize.ShloMosaic.TcCoe Idealize.SL.Sem

/-- The two texts name the same kernel body. -/
theorem body_same3 {F : FTy → Type} [FloatOps F] : Cert.Kernel3.defs₀ (F := F) = Cert.Kernel3Ideal.defs₀ (F := F) := by
  refine congrArg Defs.onTc ?_
  funext l x
  match l, x with
  | 0, (t, s) => rfl

/-- The two texts have the same definitions. -/
theorem defs_same3 {F : FTy → Type} [FloatOps F] : Cert.Kernel3.defs (F := F) = Cert.Kernel3Ideal.defs (F := F) :=
  congrArg (Pipeline.defs (Cert.Kernel3Ideal.pcfgs (F := F))) body_same3

/-- The call as printed, on words. -/
theorem frame_kernel3 : Cert.quiescent_Kernel3 := by
  intro m ρ _
  rw [defs_same3]
  exact Cert.Kernel3Ideal.Gen.frame (F := Bits) m ρ

/-- The call over the extended reals. -/
theorem frame_ideal3 : Cert.quiescent_Kernel3Ideal := fun m ρ _ => Cert.Kernel3Ideal.Gen.frame (F := Ideal) m ρ

/-- The reference over the extended reals. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with equal results. -/
theorem equal3 : Cert.algebraic_Kernel3Ideal_Reference3Ideal := by
  intro m g m' g' _ hagree
  refine ⟨fun c => (Cert.Kernel3Ideal.Gen.dats m 0 c).arrAt 2 (Cert.Kernel3Ideal.cfgs 0).N, ?_, ?_⟩
  · exact Cert.Kernel3Ideal.Value.run_blocks (F := Ideal) m g
  · refine (θ_run Cert.Reference3Ideal.defs _ _).mono (fun r h c => ?_) (Cert.Reference3Ideal.Value.run (F := Ideal) m' g')
    obtain ⟨h0, hr⟩ := h c
    obtain ⟨a0, a1, a2, a3, a4⟩ := hagree c
    refine ⟨?_, hr⟩
    rw [h0, a0, a1, a2, a4]
    exact (Cert.Kernel3Ideal.Hand.same (Cert.Kernel2Ideal.Hand.pre _ _ _) _).trans (Cert.Kernel3Ideal.Hand.final m c).symm

end Cert.Proof
end
-- ==== Proof.Mlp.Up.lean ====
/-
  The gradient of the first weights of the channel mixer (`d_w_up`): its frames and its value.
-/
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Mlp.Act

@[expose] public section
set_option maxRecDepth 16384
noncomputable section

namespace Cert.Kernel4Ideal.Hand
open Idealize.ShloMosaic Idealize.ShloMosaic.TcCoe Idealize.SL.Sem
open Cert.Kernel4Ideal Cert.Kernel4Ideal.Gen
open Idealize.ShloMosaic.Pipeline (Dat)
open Cert.Kernel2Ideal.Hand (normed)

variable (m : (ℓ : Loc nD τ sig) → Buf (Elt Ideal) ℓ)

/-- The gradient, in four blocks of columns: the normed input, transposed, times the cotangent. -/
def grad (x : FVec Ideal S2048x1024 .f32) (d : FVec Ideal S2048x4096 .bf16) : FVec Ideal S4x1024x1024 .f32 :=
  fun i => ∑ k : Fin 2048, x (ix2 k (i 1)) * d (ix2 k (⟨(i 0).val * 1024 + (i 2).val, by have h0 : (i 0).val < 4 := (i 0).isLt; have h2 : (i 2).val < 1024 := (i 2).isLt; omega⟩ : Fin 4096))

/-- The windows' block indices. -/
theorem idx : ∀ t : Fin cfg0.N, win0_0.index t = ![0, 0] ∧ win0_1.index t = ![0, t.val] ∧ win0_2.index t = ![t.val, 0, 0] :=
  (by decide +kernel : ∀ t : Fin grid0.N, _)

/-- The normed input as the call finds it. -/
theorem inp (c : Dev nD) : V m c main_v13 = truncf .bf16 (normed (m ((c : Thread nD τ).loc main_arg0)) (m ((c : Thread nD τ).loc main_arg1))) bitsLt_bf16_f32 := by
  entry_read
  rfl

/-- The normed input's block, the whole array, entry by entry. -/
theorem inp_block (c : Dev nD) (t : Fin cfg0.N) (y : S2048x1024.Idx) : (iblk m c 0 t : FVec Ideal S2048x1024 .bf16) y = (normed (m ((c : Thread nD τ).loc main_arg0)) (m ((c : Thread nD τ).loc main_arg1))) y := by
  blk_simp [iblk]
  rw [inp]
  pointwise
  refine congrArg (fun i => (normed _ _ i : EReal)) ?_
  blk_ext [idx t]

/-- The result array after the run. -/
theorem final (c : Dev nD) : (dats m 0 c).arrAt 2 (cfgs 0).N = grad (normed (m ((c : Thread nD τ).loc main_arg0)) (m ((c : Thread nD τ).loc main_arg1))) (m ((c : Thread nD τ).loc main_arg3)) := by
  refine (dats m 0 c).arrAt_eq_of_covers 2 _ (by decide +kernel) fun t _ y => ?_
  blk_simp
  rw [after0_2]
  frame_out
  pointwise [k0_pay1, grad]
  refine Fin.sum_fin_congr fun k => ?_
  rw [inp_block]
  blk_point [iblk, V, idx t]

/-- The reference's formula is the same gradient. -/
theorem same (x : FVec Ideal S2048x1024 .f32) (d : FVec Ideal S2048x4096 .bf16) :
    transpose S4x1024x1024 [1, 0, 2] (shapeCast _ (transpose S1024x4096 [1, 0] (Host.dotGeneral Cert.Reference4Ideal.dot_S2048x4096_S2048x1024_S4096x1024_0_0_1_1_n_n none (extf .f32 d bitsLt_bf16_f32) x)
      Cert.Reference4Ideal.Gen.transposes_S4096x1024_S1024x4096_1_0) Cert.Reference4Ideal.Gen.shapeCasts_S1024x4096_S1024x4x1024) Cert.Reference4Ideal.Gen.transposes_S1024x4x1024_S4x1024x1024_1_0_2 = grad x d := by
  funext i
  pointwise [grad]
  exact Finset.sum_congr rfl fun k _ => mul_comm _ _

end Cert.Kernel4Ideal.Hand

namespace Cert.Proof
open Idealize.ShloMosaic Idealize.ShloMosaic.TcCoe Idealize.SL.Sem

/-- The two texts name the same kernel body. -/
theorem body_same4 {F : FTy → Type} [FloatOps F] : Cert.Kernel4.defs₀ (F := F) = Cert.Kernel4Ideal.defs₀ (F := F) := by
  refine congrArg Defs.onTc ?_
  funext l x
  match l, x with
  | 0, (t, s) => rfl

/-- The two texts have the same definitions. -/
theorem defs_same4 {F : FTy → Type} [FloatOps F] : Cert.Kernel4.defs (F := F) = Cert.Kernel4Ideal.defs (F := F) :=
  congrArg (Pipeline.defs (Cert.Kernel4Ideal.pcfgs (F := F))) body_same4

/-- The call as printed, on words. -/
theorem frame_kernel4 : Cert.quiescent_Kernel4 := by
  intro m ρ _
  rw [defs_same4]
  exact Cert.Kernel4Ideal.Gen.frame (F := Bits) m ρ

/-- The call over the extended reals. -/
theorem frame_ideal4 : Cert.quiescent_Kernel4Ideal := fun m ρ _ => Cert.Kernel4Ideal.Gen.frame (F := Ideal) m ρ

/-- The reference over the extended reals. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with equal results. -/
theorem equal4 : Cert.algebraic_Kernel4Ideal_Reference4Ideal := by
  intro m g m' g' _ hagree
  refine ⟨fun c => (Cert.Kernel4Ideal.Gen.dats m 0 c).arrAt 2 (Cert.Kernel4Ideal.cfgs 0).N, ?_, ?_⟩
  · exact Cert.Kernel4Ideal.Value.run_blocks (F := Ideal) m g
  · refine (θ_run Cert.Reference4Ideal.defs _ _).mono (fun r h c => ?_) (Cert.Reference4Ideal.Value.run (F := Ideal) m' g')
    obtain ⟨h0, hr⟩ := h c
    obtain ⟨a0, a1, a2, a3⟩ := hagree c
    refine ⟨?_, hr⟩
    rw [h0, a0, a1, a3]
    exact (Cert.Kernel4Ideal.Hand.same (Cert.Kernel2Ideal.Hand.normed _ _) _).trans (Cert.Kernel4Ideal.Hand.final m c).symm

end Cert.Proof
end
-- ==== Proof.Mlp.Row.lean ====
/-
  The gradient through the root-mean-square norm, on one row, over the extended reals.
-/
module

public import proofs.«01_k».proof.Proof.Mlp.Real

@[expose] public section
noncomputable section

namespace Cert.Mlp
open Idealize.ShloMosaic

/-- A square is not negative. -/
theorem mul_self_nonneg (x : EReal) : 0 ≤ x * x := by
  induction x with
  | bot => simp
  | top => simp
  | coe x => rw [← EReal.coe_mul]; exact_mod_cast _root_.mul_self_nonneg x

/-- The scale of a row, `1 / √v` at a positive `v`: a nonnegative number whose cube is the scale over `v`. -/
theorem scale (v : EReal) (h : 0 < v) : ∃ r : ℝ, 0 ≤ r ∧ Ideal.rsqrt v = (r : EReal) ∧ Ideal.div (Ideal.rsqrt v) v = (r * r * r : ℝ) := by
  induction v with
  | bot => exact absurd h not_lt_bot
  | top => exact ⟨0, le_rfl, rfl, by simp [Ideal.div]⟩
  | coe x =>
    have hx : 0 < x := by exact_mod_cast h
    refine ⟨(Real.sqrt x)⁻¹, inv_nonneg.mpr (Real.sqrt_nonneg x), ?_, ?_⟩
    · rw [Ideal.rsqrt_coe, if_neg hx.not_gt, if_neg hx.ne']
    · have hs : x⁻¹ = (Real.sqrt x)⁻¹ * (Real.sqrt x)⁻¹ := by rw [← mul_inv, Real.mul_self_sqrt hx.le]
      rw [Ideal.rsqrt_coe, if_neg hx.not_gt, if_neg hx.ne', Ideal.div, if_neg h.ne', ← EReal.coe_inv, ← EReal.coe_mul, hs, mul_assoc]

/-- A nonnegative real goes through a sum. -/
theorem real_mul_add (r : ℝ) (h : 0 ≤ r) (x y : EReal) : (r : EReal) * (x + y) = r * x + r * y :=
  EReal.left_distrib_of_nonneg_of_ne_top (by exact_mod_cast h) (EReal.coe_ne_top r) x y

/-- A nonnegative real goes through a finite sum. -/
theorem real_mul_sum {ι : Type} (s : Finset ι) (f : ι → EReal) (r : ℝ) (h : 0 ≤ r) : (r : EReal) * ∑ i ∈ s, f i = ∑ i ∈ s, (r : EReal) * f i := by
  induction s using Finset.cons_induction with
  | empty => simp
  | cons a s ha ih => rw [Finset.sum_cons, Finset.sum_cons, real_mul_add r h, ih]

/-- One entry of the norm's gradient: the kernel subtracts the projection on the normed row, the
    derivative of the scale gives the same in two equal halves. -/
theorem row {ι : Type} [Fintype ι] (f : ι → EReal) (x u b r v q : EReal) (n : ℝ) (hv : 0 < v) (hr : r = Ideal.rsqrt v)
    (hq : q = ((∑ k, f k) * (((-(1 / 2) : ℝ) : EReal) * Ideal.div r v)) * (n : EReal)) (s : EReal) (hs : s = (∑ k, f k * r) * (n : EReal)) :
    b + r * (u - x * r * s) = b + u * r + x * q + q * x := by
  obtain ⟨ρ, h0, h1, h2⟩ := scale v hv
  rw [← hr] at h1 h2
  have hs' : s = ((ρ * n : ℝ) : EReal) * ∑ k, f k := by
    rw [hs, show (∑ k, f k * r) = (ρ : EReal) * ∑ k, f k by rw [real_mul_sum _ _ ρ h0]; exact Finset.sum_congr rfl fun k _ => by rw [h1, mul_comm],
      EReal.coe_mul]
    ac_rfl
  have hq' : q = ((-(1 / 2) * (ρ * ρ * ρ) * n : ℝ) : EReal) * ∑ k, f k := by
    rw [hq, h2, EReal.coe_mul _ n, EReal.coe_mul (-(1 / 2))]
    ac_rfl
  have h3 : x * q + q * x = -((ρ : EReal) * (x * r * s)) := by
    rw [mul_comm q x, add_self, hq', hs', h1]
    have e : (2 : EReal) * (x * (((-(1 / 2) * (ρ * ρ * ρ) * n : ℝ) : EReal) * ∑ k, f k)) = ((-(ρ * ρ * ρ * n) : ℝ) : EReal) * (x * ∑ k, f k) := by
      rw [show (-(ρ * ρ * ρ * n) : ℝ) = 2 * (-(1 / 2) * (ρ * ρ * ρ) * n) by ring, EReal.coe_mul 2]
      rw [show ((2 : ℝ) : EReal) = 2 from rfl]
      ac_rfl
    rw [e, EReal.coe_neg, EReal.neg_mul, EReal.coe_mul, EReal.coe_mul, EReal.coe_mul, EReal.coe_mul]
    congr 1
    ac_rfl
  rw [add_assoc (b + u * r), h3, h1, sub_eq_add_neg, real_mul_add ρ h0, mul_neg, ← add_assoc, mul_comm u]

/-- Division by the literal 1024. -/
theorem div_width (x : EReal) : Ideal.div x (Ideal.ofBits FTy.f32 1149239296#32) = x * ((1024⁻¹ : ℝ) : EReal) := by
  have h : Ideal.ofBits FTy.f32 1149239296#32 = ((8388608 : ℝ) : EReal) * (((2 ^ 13)⁻¹ : ℝ) : EReal) := by simp [Ideal.ofBits, Ideal.ieee]
  have h' : Ideal.ofBits FTy.f32 1149239296#32 = ((1024 : ℝ) : EReal) := by
    rw [h, ← EReal.coe_mul, show (8388608 : ℝ) * (2 ^ 13)⁻¹ = 1024 by norm_num]
  rw [h', Ideal.div, if_neg (by exact_mod_cast (by norm_num : (1024 : ℝ) ≠ 0)), ← EReal.coe_inv]

/-- The word of the literal minus one half. -/
theorem minus_half_word : Ideal.ofBits FTy.f32 3204448256#32 = ((-(1 / 2) : ℝ) : EReal) := by
  have h : Ideal.ofBits FTy.f32 3204448256#32 = -(((8388608 : ℝ) : EReal) * (((2 ^ 24)⁻¹ : ℝ) : EReal)) := by simp [Ideal.ofBits, Ideal.ieee]
  rw [h, ← EReal.coe_mul, show (8388608 : ℝ) * (2 ^ 24)⁻¹ = 1 / 2 by norm_num, EReal.coe_neg]

/-- The mean square plus the norm's constant is positive. -/
theorem mean_pos {ι : Type} [Fintype ι] (f : ι → EReal) : 0 < Ideal.div (∑ k, f k * f k) (Ideal.ofBits FTy.f32 1149239296#32) + Ideal.ofBits FTy.f32 897988541#32 := by
  have h : (0 : EReal) < Ideal.ofBits FTy.f32 897988541#32 := by
    have h' : Ideal.ofBits FTy.f32 897988541#32 = ((8796093 : ℝ) : EReal) * (((2 ^ 43)⁻¹ : ℝ) : EReal) := by simp [Ideal.ofBits, Ideal.ieee]
    rw [h', ← EReal.coe_mul]
    exact_mod_cast (by positivity : (0 : ℝ) < 8796093 * (2 ^ 43)⁻¹)
  refine h.trans_le (le_add_of_nonneg_left ?_)
  rw [div_width]
  exact mul_nonneg (Finset.sum_nonneg fun k _ => mul_self_nonneg _) (by exact_mod_cast (by norm_num : (0 : ℝ) ≤ 1024⁻¹))

/-- The mean square of a row plus the norm's constant. -/
abbrev spread {ι : Type} [Fintype ι] (f : ι → EReal) : EReal := Ideal.div (∑ k, f k * f k) (Ideal.ofBits FTy.f32 1149239296#32) + Ideal.ofBits FTy.f32 897988541#32

/-- One entry of the gradient through the norm of the row `X` with weights `G`, for the normed row's cotangent `H`: what the
    derivative of the printed forward comes to, and the kernel's projection. -/
theorem back {ι : Type} [Fintype ι] (X G H : ι → EReal) (x u b : EReal) :
    b + u * Ideal.rsqrt (spread X)
        + x * Ideal.div ((∑ k, X k * (H k * G k)) * (Ideal.ofBits FTy.f32 3204448256#32 * Ideal.div (Ideal.rsqrt (spread X)) (spread X))) (Ideal.ofBits FTy.f32 1149239296#32)
        + Ideal.div ((∑ k, X k * (H k * G k)) * (Ideal.ofBits FTy.f32 3204448256#32 * Ideal.div (Ideal.rsqrt (spread X)) (spread X))) (Ideal.ofBits FTy.f32 1149239296#32) * x
      = b + Ideal.rsqrt (spread X) * (u - x * Ideal.rsqrt (spread X) * Ideal.div (∑ k, H k * G k * (X k * Ideal.rsqrt (spread X))) (Ideal.ofBits FTy.f32 1149239296#32)) := by
  refine (row (fun k => X k * (H k * G k)) _ _ _ _ _ _ (1024⁻¹) (mean_pos X) rfl ?_ _ ?_).symm
  · rw [div_width, minus_half_word]
  · rw [div_width]
    exact congrArg (fun y : EReal => y * _) (Finset.sum_congr rfl fun k _ => by ac_rfl)

end Cert.Mlp
end
-- ==== Proof.Mlp.Norm.lean ====
/-
  The gradient through the channel mixer's first product and its norm (`d_mlp_norm`): its frames and its values.
-/
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Mlp.Row

@[expose] public section
set_option maxRecDepth 16384
noncomputable section

namespace Cert.Kernel5Ideal.Hand
open Idealize.ShloMosaic Idealize.ShloMosaic.TcCoe Idealize.SL.Sem
open Cert.Kernel5Ideal Cert.Kernel5Ideal.Gen
open Idealize.ShloMosaic.Pipeline (Dat)

variable (m : (ℓ : Loc nD τ sig) → Buf (Elt Ideal) ℓ)

/-- The cotangent of the normed input at a row and a column, for a product with any number of columns. -/
def hid {n : ℕ} (w : FVec Ideal ⟨2, ![1024, n]⟩ .f32) (d : FVec Ideal ⟨2, ![2048, n]⟩ .bf16) (i : Fin 2048) (k : Fin 1024) : EReal := ∑ j : Fin n, d (ix2 i j) * w (ix2 k j)

/-- The rows' scales. -/
def rs (x : FVec Ideal S2048x1024 .f32) : FVec Ideal S2048x1 .f32 :=
  Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x358637BD#32)))

/-- The normed input, before the norm's weights, at a row and a column. -/
def nrm (x : FVec Ideal S2048x1024 .f32) (i : Fin 2048) (k : Fin 1024) : EReal := x (ix2 i k) * rs x (ix2 i 0)

/-- The gradient of the layer's input: what reaches it past the product, and what comes back through the norm from the normed input's cotangent `h`. -/
def dx (x : FVec Ideal S2048x1024 .f32) (g : FVec Ideal S1024 .f32) (h : Fin 2048 → Fin 1024 → EReal) (b : FVec Ideal S2048x1024 .f32) : FVec Ideal S2048x1024 .f32 :=
  fun i => (b i : EReal) + rs x (ix2 (i 0) 0) * (h (i 0) (i 1) * g (ix1 (i 1)) - nrm x (i 0) (i 1)
    * Ideal.div (∑ k : Fin 1024, h (i 0) k * g (ix1 k) * nrm x (i 0) k) (Ideal.ofBits FTy.f32 1149239296#32))

/-- The gradient of the norm's weights. -/
def dg (x : FVec Ideal S2048x1024 .f32) (h : Fin 2048 → Fin 1024 → EReal) : FVec Ideal S1x1024 .f32 :=
  fun i => ∑ k : Fin 2048, h k (i 1) * nrm x k (i 1)

/-- The windows' block indices. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The scales as the call finds them. -/
theorem scales (c : Dev nD) : V m c main_v7 = rs (m ((c : Thread nD τ).loc main_arg0)) := by
  entry_read
  rfl

/-- The weights as the call finds them, in four blocks of columns. -/
theorem weights (c : Dev nD) (s : Fin 4) (k j : Fin 1024) : (V m c main_v10 : FVec Ideal S4x1024x1024 .bf16) (ix3 s k j)
    = m ((c : Thread nD τ).loc main_arg2) (ix2 k (⟨s.val * 1024 + j.val, by have := s.isLt; have := j.isLt; omega⟩ : Fin 4096)) := by
  entry_read
  pointwise
  blk_ext

/-- The norm's weights as the call finds them. -/
theorem gains (c : Dev nD) (k : Fin 1024) : (V m c main_v11 : FVec Ideal S1x1024 .f32) (ix2 0 k) = m ((c : Thread nD τ).loc main_arg1) (ix1 k) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the input, entry by entry. -/
theorem x_block (c : Dev nD) (t : Fin cfg0.N) (i : Fin 512) (k : Fin 1024) : (iblk m c 2 t : FVec Ideal S512x1024 .f32) (ix2 i k) = (m ((c : Thread nD τ).loc main_arg0)) (ix2 (rowAt t i) k) := by
  blk_ext [iblk, V, idx t]

/-- A block of the cotangent that passes the mixer by, entry by entry. -/
theorem b_block (c : Dev nD) (t : Fin cfg0.N) (i : Fin 512) (k : Fin 1024) : (iblk m c 5 t : FVec Ideal S512x1024 .f32) (ix2 i k) = (m ((c : Thread nD τ).loc main_arg4)) (ix2 (rowAt t i) k) := by
  blk_ext [iblk, V, idx t]

/-- A block of the scales, entry by entry. -/
theorem rs_block (c : Dev nD) (t : Fin cfg0.N) (i : Fin 512) : (iblk m c 4 t : FVec Ideal S512x1 .f32) (ix2 i 0) = rs (m ((c : Thread nD τ).loc main_arg0)) (ix2 (rowAt t i) 0) := by
  blk_simp [iblk]
  rw [scales]
  blk_ext [idx t]

/-- The norm's weights' block, entry by entry. -/
theorem g_block (c : Dev nD) (t : Fin cfg0.N) (k : Fin 1024) : (iblk m c 3 t : FVec Ideal S1x1024 .f32) (ix2 0 k) = (m ((c : Thread nD τ).loc main_arg1)) (ix1 k) := by
  rw [← gains m c k]
  blk_ext [iblk, idx t]

/-- The normed input's block, entry by entry. -/
theorem xn_block (c : Dev nD) (t : Fin cfg0.N) (i : Fin 512) (k : Fin 1024) : k0_pay6 (F := Ideal) (iblk m c 4 t) (iblk m c 2 t) (ix2 i k)
    = nrm (m ((c : Thread nD τ).loc main_arg0)) (rowAt t i) k := by
  pointwise [k0_pay6, k0_pay5]
  rw [x_block, rs_block]
  rfl

/-- One block of the cotangent of the normed input: four products, one to a block of the weights' columns. -/
abbrev part (c : Dev nD) (t : Fin cfg0.N) : FVec Ideal S512x1024 .f32 :=
  k0_pay4 (View.ld (iblk m c 0 t) (Rect.unit ![0, 0] ![512, 1024] inb_S512x4096_S512x1024_0_0))
    (View.ld (iblk m c 1 t) (Rect.unit ![0, 0, 0] ![1, 1024, 1024] inb_S4x1024x1024_S1x1024x1024_0_0_0))
    (View.ld (iblk m c 0 t) (Rect.unit ![0, 1024] ![512, 1024] inb_S512x4096_S512x1024_0_1024))
    (View.ld (iblk m c 1 t) (Rect.unit ![1, 0, 0] ![1, 1024, 1024] inb_S4x1024x1024_S1x1024x1024_1_0_0))
    (View.ld (iblk m c 0 t) (Rect.unit ![0, 2048] ![512, 1024] inb_S512x4096_S512x1024_0_2048))
    (View.ld (iblk m c 1 t) (Rect.unit ![2, 0, 0] ![1, 1024, 1024] inb_S4x1024x1024_S1x1024x1024_2_0_0))
    (View.ld (iblk m c 0 t) (Rect.unit ![0, 3072] ![512, 1024] inb_S512x4096_S512x1024_0_3072))
    (View.ld (iblk m c 1 t) (Rect.unit ![3, 0, 0] ![1, 1024, 1024] inb_S4x1024x1024_S1x1024x1024_3_0_0))

/-- A block of the weights, entry by entry. -/
theorem w_block (c : Dev nD) (t : Fin cfg0.N) (s : Fin 4) (k j : Fin 1024) : (iblk m c 1 t : FVec Ideal S4x1024x1024 .bf16) (ix3 s k j)
    = (m ((c : Thread nD τ).loc main_arg2)) (ix2 k (⟨s.val * 1024 + j.val, by have := s.isLt; have := j.isLt; omega⟩ : Fin 4096)) := by
  rw [← weights m c s k j]
  blk_ext [iblk, idx t]

/-- A block of the hidden layer's cotangent, entry by entry. -/
theorem d_block (c : Dev nD) (t : Fin cfg0.N) (i : Fin 512) (j : Fin 4096) : (iblk m c 0 t : FVec Ideal S512x4096 .bf16) (ix2 i j) = (m ((c : Thread nD τ).loc main_arg3)) (ix2 (rowAt t i) j) := by
  blk_ext [iblk, V, idx t]

/-- The four products add up to the sum over all the columns. -/
theorem part_eq (c : Dev nD) (t : Fin cfg0.N) (i : Fin 512) (k : Fin 1024) : (part m c t (ix2 i k) : EReal) = hid (m ((c : Thread nD τ).loc main_arg2)) (m ((c : Thread nD τ).loc main_arg3)) (rowAt t i) k := by
  refine Eq.trans ?_ (Fin.sum_mul_add_fin 4 1024 _)
  rw [Fin.sum_univ_four]
  pointwise [part, k0_pay4]
  simp only [d_block, w_block]
  pointwise

/-- What a grid point leaves of the first result. -/
theorem point (c : Dev nD) (t : Fin cfg0.N) (i : Fin 512) (k : Fin 1024) : (k0_pay2 (part m c t) (k0_pay5 (iblk m c 4 t)) (k0_pay6 (iblk m c 4 t) (iblk m c 2 t)) (iblk m c 3 t) (iblk m c 5 t) (ix2 i k) : EReal)
    = dx (m ((c : Thread nD τ).loc main_arg0)) (m ((c : Thread nD τ).loc main_arg1)) (hid (m ((c : Thread nD τ).loc main_arg2)) (m ((c : Thread nD τ).loc main_arg3))) (m ((c : Thread nD τ).loc main_arg4)) (ix2 (rowAt t i) k) := by
  pointwise [k0_pay2, k0_pay5, dx]
  simp only [part_eq, xn_block, rs_block, g_block, b_block]

/-- The first result's array after the run. -/
theorem final6 (c : Dev nD) : (dats m 0 c).arrAt 6 (cfgs 0).N = dx (m ((c : Thread nD τ).loc main_arg0)) (m ((c : Thread nD τ).loc main_arg1)) (hid (m ((c : Thread nD τ).loc main_arg2)) (m ((c : Thread nD τ).loc main_arg3))) (m ((c : Thread nD τ).loc main_arg4)) := by
  refine (dats m 0 c).arrAt_eq_of_covers 6 _ (by decide +kernel) fun t _ y => ?_
  blk_simp
  rw [after0_6]
  have e : dx (m ((c : Thread nD τ).loc main_arg0)) (m ((c : Thread nD τ).loc main_arg1)) (hid (m ((c : Thread nD τ).loc main_arg2)) (m ((c : Thread nD τ).loc main_arg3))) (m ((c : Thread nD τ).loc main_arg4)) (((cfg0.win 6).blk t).view.emb y) = dx (m ((c : Thread nD τ).loc main_arg0)) (m ((c : Thread nD τ).loc main_arg1)) (hid (m ((c : Thread nD τ).loc main_arg2)) (m ((c : Thread nD τ).loc main_arg3))) (m ((c : Thread nD τ).loc main_arg4)) (ix2 (rowAt t (y 0)) (y 1)) :=
    congrArg (dx _ _ _ _) (by blk_ext [idx t])
  refine Eq.trans ?_ e.symm
  by_cases h : t.val % 4 = 0
  · rw [outsAt0_A m c t h]
    frame_out
    exact (congrArg _ (ix2_eta y).symm).trans (point m c t (y 0) (y 1))
  · rw [outsAt0_B m c t h]
    frame_out
    exact (congrArg _ (ix2_eta y).symm).trans (point m c t (y 0) (y 1))

/-- The second result's array after the run. -/
theorem final7 (c : Dev nD) : (dats m 0 c).arrAt 7 (cfgs 0).N = dg (m ((c : Thread nD τ).loc main_arg0)) (hid (m ((c : Thread nD τ).loc main_arg2)) (m ((c : Thread nD τ).loc main_arg3))) := by
  refine (dats m 0 c).arrAt_eq_of_after_last 7 t0_3 (by decide +kernel) _ fun j => ?_
  blk_simp
  rw [after0_7, Pipeline.eq_sum_fin_of_reset_step_apply_last (fun n h => (outsAt0 m c n h).2) 4 (fun _ => 0) (fun (t : Fin cfg0.N) (j : S1x1024.Idx) => ∑ k : Fin 512, part m c t (ix2 k (j 1)) * k0_pay6 (F := Ideal) (iblk m c 4 t) (iblk m c 2 t) (ix2 k (j 1)))
    (fun t h j => by rw [outsAt0_A m c t h]; frame_out; pointwise [k0_pay1, k0_pay3]; rfl) (fun t h j => by rw [outsAt0_B m c t h]; frame_out; pointwise [k0_pay1]; rfl)
    (le_of_eq N_0) t0_3 rfl j, zero_add]
  refine Fin.sum_mul_add_congr (f := fun l : Fin 2048 => hid (m ((c : Thread nD τ).loc main_arg2)) (m ((c : Thread nD τ).loc main_arg3)) l (j 1) * nrm (m ((c : Thread nD τ).loc main_arg0)) l (j 1)) (fun p k _ => ?_) (by rw [show cfg0.N = 4 from N_0])
  exact congrArg₂ (HMul.hMul (α := EReal)) (part_eq m c p k (j 1)) (xn_block m c p k (j 1))

/-- The reference's first result is the same gradient. -/
theorem same6 (m' : (ℓ : Loc Cert.Reference5Ideal.nD Cert.Reference5Ideal.τ Cert.Reference5Ideal.sig) → Buf (Elt Ideal) ℓ) (c : Dev Cert.Reference5Ideal.nD) :
    Cert.Reference5Ideal.Value.res_main_v39 m' c = dx (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (hid (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))) (m' ((c.tc : Thread Cert.Reference5Ideal.nD Cert.Reference5Ideal.τ).loc Cert.Reference5Ideal.main_arg4)) := by
  funext i
  rw [eq_ix2 i]
  pointwise [Cert.Reference5Ideal.Value.res_main_v39, dx, hid, nrm, rs]
  simp only [Finset.univ_unique, Finset.sum_singleton]
  exact Cert.Mlp.back (fun k => (m' (c.tc.loc Cert.Reference5Ideal.main_arg0)) (ix2 (i 0) k)) (fun k => (m' (c.tc.loc Cert.Reference5Ideal.main_arg1)) (ix1 k)) (hid (m' (c.tc.loc Cert.Reference5Ideal.main_arg2)) (m' (c.tc.loc Cert.Reference5Ideal.main_arg3)) (i 0)) _ _ _

/-- The reference's second result is the same gradient. -/
theorem same7 (x : FVec Ideal S2048x1024 .f32) (w : FVec Ideal S1024x4096 .f32) (d : FVec Ideal S2048x4096 .bf16) :
    shapeCast _ (Host.reduceAdd (shapeCast _ (Host.reduceAdd (mulf (mulf x (broadcastInDim S2048x1024 ![0, 1] Cert.Reference5Ideal.Gen.bcast_S2048x1_S2048x1024_0_1 (rs x))) (Host.dotGeneral Cert.Reference5Ideal.dot_S2048x4096_S1024x4096_S2048x1024_1_1_0_0_n_n none (extf .f32 d bitsLt_bf16_f32) w)) (constant S_ .f32 0x00000000#32) Cert.Reference5Ideal.Gen.reducesTo_S2048x1024_S1024_d0 h_S_) Cert.Reference5Ideal.Gen.shapeCasts_S1024_S1x1024)
      (constant S_ .f32 0x00000000#32) Cert.Reference5Ideal.Gen.reducesTo_S1x1024_S1024_d0 h_S_) Cert.Reference5Ideal.Gen.shapeCasts_S1024_S1x1024 = dg x (hid w d) := by
  funext i
  pointwise [dg, hid, nrm]
  simp only [Finset.univ_unique, Finset.sum_singleton]
  exact Finset.sum_congr rfl fun k _ => mul_comm _ _

end Cert.Kernel5Ideal.Hand

namespace Cert.Proof
open Idealize.ShloMosaic Idealize.ShloMosaic.TcCoe Idealize.SL.Sem

/-- The two texts name the same kernel body. -/
theorem body_same5 {F : FTy → Type} [FloatOps F] : Cert.Kernel5.defs₀ (F := F) = Cert.Kernel5Ideal.defs₀ (F := F) := by
  refine congrArg Defs.onTc ?_
  funext l x
  match l, x with
  | 0, (t, s) => rfl

/-- The two texts have the same definitions. -/
theorem defs_same5 {F : FTy → Type} [FloatOps F] : Cert.Kernel5.defs (F := F) = Cert.Kernel5Ideal.defs (F := F) :=
  congrArg (Pipeline.defs (Cert.Kernel5Ideal.pcfgs (F := F))) body_same5

/-- The call as printed, on words. -/
theorem frame_kernel5 : Cert.quiescent_Kernel5 := by
  intro m ρ _
  rw [defs_same5]
  exact Cert.Kernel5Ideal.Gen.frame (F := Bits) m ρ

/-- The call over the extended reals. -/
theorem frame_ideal5 : Cert.quiescent_Kernel5Ideal := fun m ρ _ => Cert.Kernel5Ideal.Gen.frame (F := Ideal) m ρ

/-- The reference over the extended reals. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Kernel and reference end with equal results. -/
theorem equal5 : Cert.algebraic_Kernel5Ideal_Reference5Ideal := by
  intro m g m' g' _ hagree
  refine ⟨fun c => (Cert.Kernel5Ideal.Gen.dats m 0 c).arrAt 6 (Cert.Kernel5Ideal.cfgs 0).N, fun c => (Cert.Kernel5Ideal.Gen.dats m 0 c).arrAt 7 (Cert.Kernel5Ideal.cfgs 0).N, ?_, ?_⟩
  · exact Cert.Kernel5Ideal.Value.run_blocks (F := Ideal) m g
  · refine (θ_run Cert.Reference5Ideal.defs _ _).mono (fun r h c => ?_) (Cert.Reference5Ideal.Value.run (F := Ideal) m' g')
    obtain ⟨h0, h1, hr⟩ := h c
    obtain ⟨a0, a1, a2, a3, a4⟩ := hagree c
    refine ⟨?_, ?_, hr⟩
    · rw [h0, Cert.Kernel5Ideal.Hand.same6 m' c, a0, a1, a2, a3, a4]
      exact (Cert.Kernel5Ideal.Hand.final6 m c).symm
    · rw [h1, a0, a2, a3]
      exact (Cert.Kernel5Ideal.Hand.same7 _ _ _).trans (Cert.Kernel5Ideal.Hand.final7 m c).symm

end Cert.Proof
end
-- ==== Proof.Mlp.UpForward.lean ====
/-
  The channel mixer's first product of the forward pass (`mlp_up_0`): its frames and its values.
-/
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Mlp.Act
public import proofs.«01_k».proof.Proof.Mlp.Norm

@[expose] public section
set_option maxRecDepth 16384
noncomputable section

namespace Cert.Kernel7Ideal.Hand
open Idealize.ShloMosaic Idealize.ShloMosaic.TcCoe Idealize.SL.Sem
open Cert.Kernel7Ideal Cert.Kernel7Ideal.Gen
open Idealize.ShloMosaic.Pipeline (Dat)
open Cert.Kernel2Ideal.Hand (normed pre)
open Cert.Kernel5Ideal.Hand (rs)

variable (m : (ℓ : Loc nD τ sig) → Buf (Elt Ideal) ℓ)

/-- The activation: the hidden layer, cut off below zero. -/
def act (x : FVec Ideal S2048x1024 .f32) (g : FVec Ideal S1024 .f32) (w : FVec Ideal S1024x4096 .f32) : FVec Ideal S2048x4096 .f32 :=
  maximumf (pre x g w) (broadcastInDim S2048x4096 ![] Cert.Kernel2Ideal.Gen.bcast_S_S2048x4096 (constant Cert.Kernel2Ideal.S_ .f32 0x00000000#32))

/-- The activation, entry by entry. -/
theorem act_apply (x : FVec Ideal S2048x1024 .f32) (g : FVec Ideal S1024 .f32) (w : FVec Ideal S1024x4096 .f32) (i : S2048x4096.Idx) : (act x g w i : EReal) = max (pre x g w i) 0 := by
  pointwise [act]

/-- The windows' block indices. -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The weights as the call finds them, in four blocks of columns. -/
theorem weights (c : Dev nD) (s : Fin 4) (k j : Fin 1024) : (V m c main_v3 : FVec Ideal S4x1024x1024 .bf16) (ix3 s k j)
    = m ((c : Thread nD τ).loc main_arg2) (ix2 k (⟨s.val * 1024 + j.val, by have := s.isLt; have := j.isLt; omega⟩ : Fin 4096)) := by
  entry_read
  pointwise
  blk_ext

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the input, entry by entry. -/
theorem x_block (c : Dev nD) (t : Fin cfg0.N) (i : Fin 512) (k : Fin 1024) : (iblk m c 0 t : FVec Ideal S512x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- A block of the weights, entry by entry. -/
theorem w_block (c : Dev nD) (t : Fin cfg0.N) (s : Fin 4) (k j : Fin 1024) : (iblk m c 2 t : FVec Ideal S4x1024x1024 .bf16) (ix3 s k j)
    = (m ((c : Thread nD τ).loc main_arg2)) (ix2 k (⟨s.val * 1024 + j.val, by have := s.isLt; have := j.isLt; omega⟩ : Fin 4096)) := by
  rw [← weights m c s k j]
  blk_ext [iblk, idx t]

/-- The scales of a block's rows. -/
theorem scale_block (c : Dev nD) (t : Fin cfg0.N) (i : Fin 512) : (k0_pay10 (F := Ideal) (iblk m c 0 t) (ix2 i 0) : EReal)
    = rs (m ((c : Thread nD τ).loc main_arg0)) (ix2 (rowAt t i) 0) := by
  pointwise [k0_pay10, rs]
  simp only [x_block]

/-- The normed rows of a block. -/
theorem norm_block (c : Dev nD) (t : Fin cfg0.N) (i : Fin 512) (k : Fin 1024) : (k0_pay11 (F := Ideal) (iblk m c 0 t) (iblk m c 1 t) (ix2 i k) : EReal)
    = normed (m ((c : Thread nD τ).loc main_arg0)) (m ((c : Thread nD τ).loc main_arg1)) (ix2 (rowAt t i) k) := by
  pointwise [k0_pay11, normed]
  rw [scale_block, x_block, g_block]
  pointwise [rs]

/-- The product of a normed block with the `s`-th block of the weights' columns, at a row `i` and a column `j` of the product. -/
theorem up_block (c : Dev nD) (t : Fin cfg0.N) (s : Fin 4) (i i' : Fin 512) (j : Fin 1024) (j' : Fin 4096) (hi : i'.val = i.val) (hj : j'.val = s.val * 1024 + j.val) :
    (∑ k : Fin 1024, (k0_pay11 (F := Ideal) (View.ld (iblk m c 0 t) r0_0) (View.ld (iblk m c 1 t) r0_1) (ix2 i k) : EReal) * (iblk m c 2 t : FVec Ideal S4x1024x1024 .bf16) (ix3 s k j))
      = pre (m ((c : Thread nD τ).loc main_arg0)) (m ((c : Thread nD τ).loc main_arg1)) (m ((c : Thread nD τ).loc main_arg2)) (ix2 (rowAt t i') j') := by
  obtain rfl : i' = i := Fin.ext hi
  rw [show j' = ⟨s.val * 1024 + j.val, by have := s.isLt; have := j.isLt; omega⟩ from Fin.ext hj,
    show k0_pay11 (F := Ideal) (View.ld (iblk m c 0 t) r0_0) (View.ld (iblk m c 1 t) r0_1) = k0_pay11 (F := Ideal) (iblk m c 0 t) (iblk m c 1 t) from
      congrArg₂ k0_pay11 (View.ld_unit_lit (S := S512x1024) _ _ (by decide)) (View.ld_unit_lit (S := S1x1024) _ _ (by decide))]
  simp only [norm_block, w_block]
  pointwise [pre]

/-- The normed input's array after the run. -/
theorem final3 (c : Dev nD) : (dats m 0 c).arrAt 3 (cfgs 0).N = truncf .bf16 (normed (m ((c : Thread nD τ).loc main_arg0)) (m ((c : Thread nD τ).loc main_arg1))) bitsLt_bf16_f32 := by
  refine (dats m 0 c).arrAt_eq_of_covers 3 _ (by decide +kernel) fun t _ y => ?_
  blk_simp
  rw [after0_3]
  frame_out
  refine (congrArg _ (ix2_eta y).symm).trans ((norm_block m c t (y 0) (y 1)).trans ?_)
  exact congrArg (normed _ _) (by blk_ext [idx t])

/-- The scales' array after the run. -/
theorem final4 (c : Dev nD) : (dats m 0 c).arrAt 4 (cfgs 0).N = rs (m ((c : Thread nD τ).loc main_arg0)) := by
  refine (dats m 0 c).arrAt_eq_of_covers 4 _ (by decide +kernel) fun t _ y => ?_
  blk_simp
  rw [after0_4]
  frame_out
  have e : y = ix2 (y 0) 0 := by rw [← ix2_eta y]; blk_ext
  refine (congrArg _ e).trans ((scale_block m c t (y 0)).trans ?_)
  exact congrArg (rs _) (by blk_ext [idx t])

/-- The activation's array after the run. -/
theorem final5 (c : Dev nD) : (dats m 0 c).arrAt 5 (cfgs 0).N = truncf .bf16 (act (m ((c : Thread nD τ).loc main_arg0)) (m ((c : Thread nD τ).loc main_arg1)) (m ((c : Thread nD τ).loc main_arg2))) bitsLt_bf16_f32 := by
  refine (dats m 0 c).arrAt_eq_of_covers 5 _ (by decide +kernel) fun t _ y => ?_
  blk_simp
  rw [after0_5]
  refine Eq.trans ?_ (congrArg (act _ _ _) (show ix2 (rowAt t (y 0)) (y 1) = ((cfg0.win 5).blk t).view.emb y by blk_ext [idx t]))
  canon_tiles x h
  all_goals pointwise [k0_pay8, k0_pay5, k0_pay2, k0_pay13, k0_pay7, k0_pay4, k0_pay1, k0_pay12, k0_pay15, k0_pay16, k0_pay17, act]
  all_goals exact congrArg (fun z : EReal => max z 0) (up_block m c t _ (x 0) (y 0) (x 1) (y 1) h0 (h1.trans (by simp)))

/-- The squared activation's array after the run. -/
theorem final6 (c : Dev nD) : (dats m 0 c).arrAt 6 (cfgs 0).N
    = truncf .bf16 (mulf (act (m ((c : Thread nD τ).loc main_arg0)) (m ((c : Thread nD τ).loc main_arg1)) (m ((c : Thread nD τ).loc main_arg2))) (act (m ((c : Thread nD τ).loc main_arg0)) (m ((c : Thread nD τ).loc main_arg1)) (m ((c : Thread nD τ).loc main_arg2)))) bitsLt_bf16_f32 := by
  refine (dats m 0 c).arrAt_eq_of_covers 6 _ (by decide +kernel) fun t _ y => ?_
  blk_simp
  rw [after0_6]
  refine Eq.trans ?_ (congrArg (fun i => (act _ _ _ i * act _ _ _ i : EReal)) (show ix2 (rowAt t (y 0)) (y 1) = ((cfg0.win 6).blk t).view.emb y by blk_ext [idx t]))
  canon_tiles x h
  all_goals pointwise [k0_pay9, k0_pay6, k0_pay3, k0_pay14, k0_pay7, k0_pay4, k0_pay1, k0_pay12, k0_pay15, k0_pay16, k0_pay17, act]
  all_goals exact congrArg (fun z : EReal => max z 0 * max z 0) (up_block m c t _ (x 0) (y 0) (x 1) (y 1) h0 (h1.trans (by simp)))

end Cert.Kernel7Ideal.Hand

namespace Cert.Proof
open Idealize.ShloMosaic Idealize.ShloMosaic.TcCoe Idealize.SL.Sem

/-- The two texts name the same kernel body. -/
theorem body_same7 {F : FTy → Type} [FloatOps F] : Cert.Kernel7.defs₀ (F := F) = Cert.Kernel7Ideal.defs₀ (F := F) := by
  refine congrArg Defs.onTc ?_
  funext l x
  match l, x with
  | 0, (t, s) => rfl

/-- The two texts have the same definitions. -/
theorem defs_same7 {F : FTy → Type} [FloatOps F] : Cert.Kernel7.defs (F := F) = Cert.Kernel7Ideal.defs (F := F) :=
  congrArg (Pipeline.defs (Cert.Kernel7Ideal.pcfgs (F := F))) body_same7

/-- The call as printed, on words. -/
theorem frame_kernel7 : Cert.quiescent_Kernel7 := by
  intro m ρ _
  rw [defs_same7]
  exact Cert.Kernel7Ideal.Gen.frame (F := Bits) m ρ

/-- The call over the extended reals. -/
theorem frame_ideal7 : Cert.quiescent_Kernel7Ideal := fun m ρ _ => Cert.Kernel7Ideal.Gen.frame (F := Ideal) m ρ

/-- The reference over the extended reals. -/
theorem frame_reference7 : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- Kernel and reference end with equal results. -/
theorem equal7 : Cert.algebraic_Kernel7Ideal_Reference7Ideal := by
  intro m g m' g' _ hagree
  refine ⟨fun c => (Cert.Kernel7Ideal.Gen.dats m 0 c).arrAt 3 (Cert.Kernel7Ideal.cfgs 0).N, fun c => (Cert.Kernel7Ideal.Gen.dats m 0 c).arrAt 4 (Cert.Kernel7Ideal.cfgs 0).N,
    fun c => (Cert.Kernel7Ideal.Gen.dats m 0 c).arrAt 5 (Cert.Kernel7Ideal.cfgs 0).N, fun c => (Cert.Kernel7Ideal.Gen.dats m 0 c).arrAt 6 (Cert.Kernel7Ideal.cfgs 0).N, ?_, ?_⟩
  · exact Cert.Kernel7Ideal.Value.run_blocks (F := Ideal) m g
  · refine (θ_run Cert.Reference7Ideal.defs _ _).mono (fun r h c => ?_) (Cert.Reference7Ideal.Value.run (F := Ideal) m' g')
    obtain ⟨h0, h1, h2, h3, hr⟩ := h c
    obtain ⟨a0, a1, a2⟩ := hagree c
    refine ⟨?_, ?_, ?_, ?_, hr⟩
    · rw [h0, a0, a1]
      exact (Cert.Kernel7Ideal.Hand.final3 m c).symm
    · rw [h1, a0]
      exact (Cert.Kernel7Ideal.Hand.final4 m c).symm
    · rw [h2, a0, a1, a2]
      exact (Cert.Kernel7Ideal.Hand.final5 m c).symm
    · rw [h3, a0, a1, a2]
      exact (Cert.Kernel7Ideal.Hand.final6 m c).symm

end Cert.Proof
end
-- ==== Proof.Mlp.DownForward.lean ====
/-
  The channel mixer's second product of the forward pass (`mlp_down_0`), added to the layer's input: its frames and its values.
-/
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Mlp.UpForward

@[expose] public section
set_option maxRecDepth 16384
noncomputable section

namespace Cert.Kernel8Ideal.Hand
open Idealize.ShloMosaic Idealize.ShloMosaic.TcCoe Idealize.SL.Sem
open Cert.Kernel8Ideal Cert.Kernel8Ideal.Gen
open Idealize.ShloMosaic.Pipeline (Dat)
open Cert.Kernel7Ideal.Hand (act)

variable (m : (ℓ : Loc nD τ sig) → Buf (Elt Ideal) ℓ)

/-- The mixer's result: the input, and the squared activation times the second weights. -/
def out (x : FVec Ideal S2048x1024 .f32) (g : FVec Ideal S1024 .f32) (w : FVec Ideal S1024x4096 .f32) (u : FVec Ideal S4096x1024 .f32) : FVec Ideal S2048x1024 .f32 :=
  addf x (Host.dotGeneral Cert.Reference8Ideal.dot_S2048x4096_S4096x1024_S2048x1024_1_0_0_1_n_n none (mulf (act x g w) (act x g w)) u)

/-- The windows' block indices. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The squared activation as the call finds it. -/
theorem square (c : Dev nD) : V m c main_v16 = truncf .bf16 (mulf (act (m ((c : Thread nD τ).loc main_arg0)) (m ((c : Thread nD τ).loc main_arg1)) (m ((c : Thread nD τ).loc main_arg2)))
    (act (m ((c : Thread nD τ).loc main_arg0)) (m ((c : Thread nD τ).loc main_arg1)) (m ((c : Thread nD τ).loc main_arg2)))) bitsLt_bf16_f32 := by
  entry_read
  rfl

/-- The second weights as the call finds them. -/
theorem weights (c : Dev nD) : V m c main_v17 = (truncf .bf16 (m ((c : Thread nD τ).loc main_arg3) : FVec Ideal S4096x1024 .f32) bitsLt_bf16_f32 : FVec Ideal S4096x1024 .bf16) := by
  entry_read
  rfl

/-- The array's row that a block's row is. -/
abbrev rowAt (t : Fin cfg0.N) (i : Fin 512) : Fin 2048 := ⟨t.val * 512 + i.val, by have h := lt_of_lt_of_eq t.isLt N_0; have := i.isLt; omega⟩

/-- A block of the squared activation, entry by entry. -/
theorem a_block (c : Dev nD) (t : Fin cfg0.N) (i : Fin 512) (j : Fin 4096) : ((iblk m c 0 t : FVec Ideal S512x4096 .bf16) (ix2 i j) : EReal)
    = mulf (act (m ((c : Thread nD τ).loc main_arg0)) (m ((c : Thread nD τ).loc main_arg1)) (m ((c : Thread nD τ).loc main_arg2))) (act (m ((c : Thread nD τ).loc main_arg0)) (m ((c : Thread nD τ).loc main_arg1)) (m ((c : Thread nD τ).loc main_arg2))) (ix2 (rowAt t i) j) := by
  blk_simp [iblk]
  rw [square]
  exact congrArg (mulf (act _ _ _) (act _ _ _)) (by blk_ext [idx t])

/-- A block of the second weights, entry by entry. -/
theorem w_block (c : Dev nD) (t : Fin cfg0.N) (j : Fin 4096) (k : Fin 1024) : ((iblk m c 1 t : FVec Ideal S4096x1024 .bf16) (ix2 j k) : EReal) = m ((c : Thread nD τ).loc main_arg3) (ix2 j k) := by
  blk_simp [iblk]
  rw [weights]
  exact congrArg (m ((c : Thread nD τ).loc main_arg3)) (by blk_ext [idx t])

/-- A block of the input, entry by entry. -/
theorem x_block (c : Dev nD) (t : Fin cfg0.N) (i : Fin 512) (k : Fin 1024) : (iblk m c 2 t : FVec Ideal S512x1024 .f32) (ix2 i k) = m ((c : Thread nD τ).loc main_arg0) (ix2 (rowAt t i) k) := by
  blk_ext [iblk, V, idx t]

/-- What a grid point leaves of the result. -/
theorem point (c : Dev nD) (t : Fin cfg0.N) (i : Fin 512) (k : Fin 1024) : (k0_pay1 (F := Ideal) (iblk m c 2 t) (iblk m c 0 t) (iblk m c 1 t) (ix2 i k) : EReal)
    = out (m ((c : Thread nD τ).loc main_arg0)) (m ((c : Thread nD τ).loc main_arg1)) (m ((c : Thread nD τ).loc main_arg2)) (m ((c : Thread nD τ).loc main_arg3)) (ix2 (rowAt t i) k) := by
  pointwise [k0_pay1, out]
  simp only [a_block, w_block, x_block]
  pointwise

/-- The result array after the run. -/
theorem final (c : Dev nD) : (dats m 0 c).arrAt 3 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  frame_out
  refine (congrArg _ (ix2_eta y).symm).trans ((point m c t (y 0) (y 1)).trans ?_)
  exact congrArg (out _ _ _ _) (by blk_ext [idx t])

end Cert.Kernel8Ideal.Hand

namespace Cert.Proof
open Idealize.ShloMosaic Idealize.ShloMosaic.TcCoe Idealize.SL.Sem

/-- The two texts name the same kernel body. -/
theorem body_same8 {F : FTy → Type} [FloatOps F] : Cert.Kernel8.defs₀ (F := F) = Cert.Kernel8Ideal.defs₀ (F := F) := by
  refine congrArg Defs.onTc ?_
  funext l x
  match l, x with
  | 0, (t, s) => rfl

/-- The two texts have the same definitions. -/
theorem defs_same8 {F : FTy → Type} [FloatOps F] : Cert.Kernel8.defs (F := F) = Cert.Kernel8Ideal.defs (F := F) :=
  congrArg (Pipeline.defs (Cert.Kernel8Ideal.pcfgs (F := F))) body_same8

/-- The call as printed, on words. -/
theorem frame_kernel8 : Cert.quiescent_Kernel8 := by
  intro m ρ _
  rw [defs_same8]
  exact Cert.Kernel8Ideal.Gen.frame (F := Bits) m ρ

/-- The call over the extended reals. -/
theorem frame_ideal8 : Cert.quiescent_Kernel8Ideal := fun m ρ _ => Cert.Kernel8Ideal.Gen.frame (F := Ideal) m ρ

/-- The reference over the extended reals. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference end with equal results. -/
theorem equal8 : Cert.algebraic_Kernel8Ideal_Reference8Ideal := by
  intro m g m' g' _ hagree
  refine ⟨fun c => (Cert.Kernel8Ideal.Gen.dats m 0 c).arrAt 3 (Cert.Kernel8Ideal.cfgs 0).N, ?_, ?_⟩
  · exact Cert.Kernel8Ideal.Value.run_blocks (F := Ideal) m g
  · refine (θ_run Cert.Reference8Ideal.defs _ _).mono (fun r h c => ?_) (Cert.Reference8Ideal.Value.run (F := Ideal) m' g')
    obtain ⟨h0, hr⟩ := h c
    obtain ⟨a0, a1, a2, a3⟩ := hagree c
    refine ⟨?_, hr⟩
    rw [h0, a0, a1, a2, a3]
    exact (Cert.Kernel8Ideal.Hand.final m c).symm

end Cert.Proof
end
-- ==== Proof.Mlp.Fused.lean ====
/-
  The channel mixer's forward pass in one call (`mlp_1`): its frames and its values.
-/
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Mlp.DownForward

@[expose] public section
set_option maxRecDepth 16384
noncomputable section

namespace Cert.Kernel6Ideal.Hand
open Idealize.ShloMosaic Idealize.ShloMosaic.TcCoe Idealize.SL.Sem
open Cert.Kernel6Ideal Cert.Kernel6Ideal.Gen
open Idealize.ShloMosaic.Pipeline (Dat)
open Cert.Kernel2Ideal.Hand (normed pre)
open Cert.Kernel5Ideal.Hand (rs)
open Cert.Kernel7Ideal.Hand (act act_apply)
open Cert.Kernel8Ideal.Hand (out)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The weights as the call finds them, in four blocks of columns. -/
theorem weights (c : Dev nD) (s : Fin 4) (k j : Fin 1024) : (V m c main_v3 : FVec Ideal S4x1024x1024 .bf16) (ix3 s k j)
    = m ((c : Thread nD τ).loc main_arg2) (ix2 k (⟨s.val * 1024 + j.val, by have := s.isLt; have := j.isLt; omega⟩ : Fin 4096)) := by
  entry_read
  pointwise
  blk_ext

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The array's row that a block's row is. -/
abbrev rowAt (t : Fin cfg0.N) (i : Fin 256) : Fin 2048 := ⟨t.val * 256 + i.val, by have h := lt_of_lt_of_eq t.isLt N_0; have := i.isLt; omega⟩

/-- A block of the input, entry by entry. -/
theorem x_block (c : Dev nD) (t : Fin cfg0.N) (i : Fin 256) (k : Fin 1024) : (iblk m c 0 t : FVec Ideal S256x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- A block of the weights, entry by entry. -/
theorem w_block (c : Dev nD) (t : Fin cfg0.N) (s : Fin 4) (k j : Fin 1024) : (iblk m c 2 t : FVec Ideal S4x1024x1024 .bf16) (ix3 s k j)
    = (m ((c : Thread nD τ).loc main_arg2)) (ix2 k (⟨s.val * 1024 + j.val, by have := s.isLt; have := j.isLt; omega⟩ : Fin 4096)) := by
  rw [← weights m c s k j]
  blk_ext [iblk, idx t]

/-- The scales of a block's rows. -/
theorem scale_block (c : Dev nD) (t : Fin cfg0.N) (i : Fin 256) : (k0_pay5 (F := Ideal) (iblk m c 0 t) (ix2 i 0) : EReal)
    = rs (m ((c : Thread nD τ).loc main_arg0)) (ix2 (rowAt t i) 0) := by
  pointwise [k0_pay5, rs]
  simp only [x_block]

/-- The normed rows of a block. -/
theorem norm_block (c : Dev nD) (t : Fin cfg0.N) (i : Fin 256) (k : Fin 1024) : (k0_pay6 (F := Ideal) (iblk m c 0 t) (iblk m c 1 t) (ix2 i k) : EReal)
    = normed (m ((c : Thread nD τ).loc main_arg0)) (m ((c : Thread nD τ).loc main_arg1)) (ix2 (rowAt t i) k) := by
  pointwise [k0_pay6, normed]
  rw [scale_block, x_block, g_block]
  pointwise [rs]

/-- The product of a normed block with the `s`-th block of the weights' columns, at a row `i` and a column `j` of the product. -/
theorem up_block (c : Dev nD) (t : Fin cfg0.N) (s : Fin 4) (i i' : Fin 256) (j : Fin 1024) (j' : Fin 4096) (hi : i'.val = i.val) (hj : j'.val = s.val * 1024 + j.val) :
    (∑ k : Fin 1024, (k0_pay6 (F := Ideal) (View.ld (iblk m c 0 t) r0_0) (View.ld (iblk m c 1 t) r0_1) (ix2 i k) : EReal) * (iblk m c 2 t : FVec Ideal S4x1024x1024 .bf16) (ix3 s k j))
      = pre (m ((c : Thread nD τ).loc main_arg0)) (m ((c : Thread nD τ).loc main_arg1)) (m ((c : Thread nD τ).loc main_arg2)) (ix2 (rowAt t i') j') := by
  obtain rfl : i' = i := Fin.ext hi
  rw [show j' = ⟨s.val * 1024 + j.val, by have := s.isLt; have := j.isLt; omega⟩ from Fin.ext hj,
    show k0_pay6 (F := Ideal) (View.ld (iblk m c 0 t) r0_0) (View.ld (iblk m c 1 t) r0_1) = k0_pay6 (F := Ideal) (iblk m c 0 t) (iblk m c 1 t) from
      congrArg₂ k0_pay6 (View.ld_unit_lit (S := S256x1024) _ _ (by decide)) (View.ld_unit_lit (S := S1x1024) _ _ (by decide))]
  simp only [norm_block, w_block]
  pointwise [pre]

/-- The normed input's array after the run. -/
theorem final4 (c : Dev nD) : (dats m 0 c).arrAt 4 (cfgs 0).N = truncf .bf16 (normed (m ((c : Thread nD τ).loc main_arg0)) (m ((c : Thread nD τ).loc main_arg1))) bitsLt_bf16_f32 := by
  refine (dats m 0 c).arrAt_eq_of_covers 4 _ (by decide +kernel) fun t _ y => ?_
  blk_simp
  rw [after0_4]
  frame_out
  refine (congrArg _ (ix2_eta y).symm).trans ((norm_block m c t (y 0) (y 1)).trans ?_)
  exact congrArg (normed _ _) (by blk_ext [idx t])

/-- The scales' array after the run. -/
theorem final5 (c : Dev nD) : (dats m 0 c).arrAt 5 (cfgs 0).N = rs (m ((c : Thread nD τ).loc main_arg0)) := by
  refine (dats m 0 c).arrAt_eq_of_covers 5 _ (by decide +kernel) fun t _ y => ?_
  blk_simp
  rw [after0_5]
  frame_out
  have e : y = ix2 (y 0) 0 := by rw [← ix2_eta y]; blk_ext
  refine (congrArg _ e).trans ((scale_block m c t (y 0)).trans ?_)
  exact congrArg (rs _) (by blk_ext [idx t])

/-- The activation's array after the run. -/
theorem final6 (c : Dev nD) : (dats m 0 c).arrAt 6 (cfgs 0).N = truncf .bf16 (act (m ((c : Thread nD τ).loc main_arg0)) (m ((c : Thread nD τ).loc main_arg1)) (m ((c : Thread nD τ).loc main_arg2))) bitsLt_bf16_f32 := by
  refine (dats m 0 c).arrAt_eq_of_covers 6 _ (by decide +kernel) fun t _ y => ?_
  blk_simp
  rw [after0_6]
  refine Eq.trans ?_ (congrArg (act _ _ _) (show ix2 (rowAt t (y 0)) (y 1) = ((cfg0.win 6).blk t).view.emb y by blk_ext [idx t]))
  canon_tiles x h
  all_goals pointwise [k0_pay3, k0_pay16, k0_pay13, k0_pay9, k0_pay1, k0_pay14, k0_pay11, k0_pay7, k0_pay18, act]
  all_goals exact congrArg (fun z : EReal => max z 0) (up_block m c t _ (x 0) (y 0) (x 1) (y 1) h0 (h1.trans (by simp)))

/-- The squared activation's array after the run. -/
theorem final7 (c : Dev nD) : (dats m 0 c).arrAt 7 (cfgs 0).N
    = truncf .bf16 (mulf (act (m ((c : Thread nD τ).loc main_arg0)) (m ((c : Thread nD τ).loc main_arg1)) (m ((c : Thread nD τ).loc main_arg2))) (act (m ((c : Thread nD τ).loc main_arg0)) (m ((c : Thread nD τ).loc main_arg1)) (m ((c : Thread nD τ).loc main_arg2)))) bitsLt_bf16_f32 := by
  refine (dats m 0 c).arrAt_eq_of_covers 7 _ (by decide +kernel) fun t _ y => ?_
  blk_simp
  rw [after0_7]
  refine Eq.trans ?_ (congrArg (fun i => (act _ _ _ i * act _ _ _ i : EReal)) (show ix2 (rowAt t (y 0)) (y 1) = ((cfg0.win 7).blk t).view.emb y by blk_ext [idx t]))
  canon_tiles x h
  all_goals pointwise [k0_pay2, k0_pay15, k0_pay12, k0_pay8, k0_pay1, k0_pay14, k0_pay11, k0_pay7, k0_pay18, act]
  all_goals exact congrArg (fun z : EReal => max z 0 * max z 0) (up_block m c t _ (x 0) (y 0) (x 1) (y 1) h0 (h1.trans (by simp)))

/-- The second weights as the call finds them. -/
theorem second (c : Dev nD) : V m c main_v4 = (truncf .bf16 (m ((c : Thread nD τ).loc main_arg3) : FVec Ideal S4096x1024 .f32) bitsLt_bf16_f32 : FVec Ideal S4096x1024 .bf16) := by
  entry_read
  rfl

/-- A block of the second weights, entry by entry. -/
theorem d_block (c : Dev nD) (t : Fin cfg0.N) (j : Fin 4096) (k : Fin 1024) : ((iblk m c 3 t : FVec Ideal S4096x1024 .bf16) (ix2 j k) : EReal) = m ((c : Thread nD τ).loc main_arg3) (ix2 j k) := by
  blk_simp [iblk]
  rw [second]
  exact congrArg (m ((c : Thread nD τ).loc main_arg3)) (by blk_ext [idx t])

/-- The normed rows, as they are read again for each block of columns. -/
theorem rows_block (c : Dev nD) (t : Fin cfg0.N) : k0_pay18 (F := Ideal) (iblk m c 0 t) (iblk m c 1 t) (iblk m c 2 t) (iblk m c 3 t) = k0_pay6 (F := Ideal) (iblk m c 0 t) (iblk m c 1 t) :=
  congrArg₂ k0_pay6 (View.ld_unit_lit (S := S256x1024) _ _ (by decide)) (View.ld_unit_lit (S := S1x1024) _ _ (by decide))

/-- One quarter of the second product: the squared activation's `s`-th block of columns times the second weights' rows `f j`, which are its own. -/
theorem quarter (c : Dev nD) (t : Fin cfg0.N) (i : Fin 256) (k : Fin 1024) (s : Fin 4) (f : Fin 1024 → Fin 4096) (hf : ∀ j, (f j).val = s.val * 1024 + j.val) :
    (∑ j : Fin 1024, max (∑ l : Fin 1024, (k0_pay6 (F := Ideal) (iblk m c 0 t) (iblk m c 1 t) (ix2 i l) : EReal) * (iblk m c 2 t : FVec Ideal S4x1024x1024 .bf16) (ix3 s l j)) 0
        * max (∑ l : Fin 1024, (k0_pay6 (F := Ideal) (iblk m c 0 t) (iblk m c 1 t) (ix2 i l) : EReal) * (iblk m c 2 t : FVec Ideal S4x1024x1024 .bf16) (ix3 s l j)) 0
        * (iblk m c 3 t : FVec Ideal S4096x1024 .bf16) (ix2 (f j) k))
      = ∑ j : Fin 1024, (act (m ((c : Thread nD τ).loc main_arg0)) (m ((c : Thread nD τ).loc main_arg1)) (m ((c : Thread nD τ).loc main_arg2)) (ix2 (rowAt t i) ⟨s.val * 1024 + j.val, by have := s.isLt; have := j.isLt; omega⟩)
        * act (m ((c : Thread nD τ).loc main_arg0)) (m ((c : Thread nD τ).loc main_arg1)) (m ((c : Thread nD τ).loc main_arg2)) (ix2 (rowAt t i) ⟨s.val * 1024 + j.val, by have := s.isLt; have := j.isLt; omega⟩)
        * m ((c : Thread nD τ).loc main_arg3) (ix2 ⟨s.val * 1024 + j.val, by have := s.isLt; have := j.isLt; omega⟩ k) : EReal) := by
  refine Fin.sum_fin_congr fun j => ?_
  rw [show f j = ⟨s.val * 1024 + j.val, by have := s.isLt; have := j.isLt; omega⟩ from Fin.ext (hf j), d_block, act_apply]
  refine congrArg₂ (fun z u : EReal => max z 0 * max z 0 * u) (Eq.symm ((up_block m c t s i i j ⟨s.val * 1024 + j.val, by have := s.isLt; have := j.isLt; omega⟩ rfl rfl).symm.trans ?_)) rfl
  rw [show k0_pay6 (F := Ideal) (View.ld (iblk m c 0 t) r0_0) (View.ld (iblk m c 1 t) r0_1) = k0_pay6 (F := Ideal) (iblk m c 0 t) (iblk m c 1 t) from rows_block m c t]

/-- The result's array after the run. -/
theorem final8 (c : Dev nD) : (dats m 0 c).arrAt 8 (cfgs 0).N = out (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  refine Eq.trans ?_ (congrArg (out _ _ _ _) (show ix2 (rowAt t (y 0)) (y 1) = ((cfg0.win 8).blk t).view.emb y by blk_ext [idx t]))
  frame_out
  rw [rows_block]
  pointwise [k0_pay4, k0_pay17, k0_pay10, k0_pay2, k0_pay15, k0_pay12, k0_pay8, k0_pay1, k0_pay14, k0_pay11, k0_pay7, out]
  refine Eq.trans ?_ (congrArg (HAdd.hAdd (α := EReal) _) (Fin.sum_mul_add_fin 4 1024 _))
  rw [Fin.sum_univ_four, ← add_assoc, ← add_assoc, ← add_assoc]
  have e : (iblk m c 0 t : FVec Ideal S256x1024 .f32) y = m ((c : Thread nD τ).loc main_arg0) (ix2 (rowAt t (y 0)) (y 1)) :=
    (congrArg _ (ix2_eta y).symm).trans (x_block m c t (y 0) (y 1))
  have q := quarter m c t (y 0) (y 1)
  exact congrArg₂ (HAdd.hAdd (α := EReal)) (congrArg₂ (HAdd.hAdd (α := EReal)) (congrArg₂ (HAdd.hAdd (α := EReal)) (congrArg₂ (HAdd.hAdd (α := EReal)) e
    (q 0 _ (fun x => by simp))) (q 1 _ (fun x => by simp))) (q 2 _ (fun x => by simp))) (q 3 _ (fun x => by simp))

end Cert.Kernel6Ideal.Hand

namespace Cert.Proof
open Idealize.ShloMosaic Idealize.ShloMosaic.TcCoe Idealize.SL.Sem

/-- The two texts name the same kernel body. -/
theorem body_same6 {F : FTy → Type} [FloatOps F] : Cert.Kernel6.defs₀ (F := F) = Cert.Kernel6Ideal.defs₀ (F := F) := by
  refine congrArg Defs.onTc ?_
  funext l x
  match l, x with
  | 0, (t, s) => rfl

/-- The two texts have the same definitions. -/
theorem defs_same6 {F : FTy → Type} [FloatOps F] : Cert.Kernel6.defs (F := F) = Cert.Kernel6Ideal.defs (F := F) :=
  congrArg (Pipeline.defs (Cert.Kernel6Ideal.pcfgs (F := F))) body_same6

/-- The call as printed, on words. -/
theorem frame_kernel6 : Cert.quiescent_Kernel6 := by
  intro m ρ _
  rw [defs_same6]
  exact Cert.Kernel6Ideal.Gen.frame (F := Bits) m ρ

/-- The call over the extended reals. -/
theorem frame_ideal6 : Cert.quiescent_Kernel6Ideal := fun m ρ _ => Cert.Kernel6Ideal.Gen.frame (F := Ideal) m ρ

/-- The reference over the extended reals. -/
theorem frame_reference6 : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- Kernel and reference end with equal results. -/
theorem equal6 : Cert.algebraic_Kernel6Ideal_Reference6Ideal := by
  intro m g m' g' _ hagree
  refine ⟨fun c => (Cert.Kernel6Ideal.Gen.dats m 0 c).arrAt 8 (Cert.Kernel6Ideal.cfgs 0).N, fun c => (Cert.Kernel6Ideal.Gen.dats m 0 c).arrAt 4 (Cert.Kernel6Ideal.cfgs 0).N, fun c => (Cert.Kernel6Ideal.Gen.dats m 0 c).arrAt 5 (Cert.Kernel6Ideal.cfgs 0).N,
    fun c => (Cert.Kernel6Ideal.Gen.dats m 0 c).arrAt 6 (Cert.Kernel6Ideal.cfgs 0).N, fun c => (Cert.Kernel6Ideal.Gen.dats m 0 c).arrAt 7 (Cert.Kernel6Ideal.cfgs 0).N, ?_, ?_⟩
  · refine (θ_run Cert.Kernel6Ideal.defs _ _).mono (fun r h c => ?_) (Cert.Kernel6Ideal.Value.run_blocks (F := Ideal) m g)
    obtain ⟨h4, h5, h6, h7, h8, hr⟩ := h c
    exact ⟨h8, h4, h5, h6, h7, hr⟩
  · refine (θ_run Cert.Reference6Ideal.defs _ _).mono (fun r h c => ?_) (Cert.Reference6Ideal.Value.run (F := Ideal) m' g')
    obtain ⟨h8, h4, h5, h6, h7, hr⟩ := h c
    obtain ⟨a0, a1, a2, a3⟩ := hagree c
    refine ⟨?_, ?_, ?_, ?_, ?_, hr⟩
    · rw [h8, a0, a1, a2, a3]
      exact (Cert.Kernel6Ideal.Hand.final8 m c).symm
    · rw [h4, a0, a1]
      exact (Cert.Kernel6Ideal.Hand.final4 m c).symm
    · rw [h5, a0]
      exact (Cert.Kernel6Ideal.Hand.final5 m c).symm
    · rw [h6, a0, a1, a2]
      exact (Cert.Kernel6Ideal.Hand.final6 m c).symm
    · rw [h7, a0, a1, a2]
      exact (Cert.Kernel6Ideal.Hand.final7 m c).symm

end Cert.Proof
end
-- ==== Proof.Proj.KvIn.lean ====
/-
  The gradient through a product with twice as many columns as the layer is wide, and its norm (`d_kv_in`, `d_sgu_in`): its frames and its values.
-/
module

public import proofs.«01_k».proof.Defs
public import proofs.«01_k».proof.Proof.Gen.Kernel9
public import proofs.«01_k».proof.Proof.Gen.Kernel9Ideal.Value
public import proofs.«01_k».proof.Proof.Gen.Reference9Ideal.Run
public import proofs.«01_k».proof.Proof.Mlp.Norm

@[expose] public section
set_option maxRecDepth 16384
noncomputable section

namespace Cert.Kernel9Ideal.Hand
open Idealize.ShloMosaic Idealize.ShloMosaic.TcCoe Idealize.SL.Sem
open Cert.Kernel9Ideal Cert.Kernel9Ideal.Gen
open Idealize.ShloMosaic.Pipeline (Dat)
open Cert.Kernel5Ideal.Hand (hid rs nrm dx dg)

variable (m : (ℓ : Loc nD τ sig) → Buf (Elt Ideal) ℓ)

/-- The windows' block indices. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The scales as the call finds them. -/
theorem scales (c : Dev nD) : V m c main_v11 = rs (m ((c : Thread nD τ).loc main_arg0)) := by
  entry_read
  rfl

/-- The weights as the call finds them, in four blocks of columns. -/
theorem weights (c : Dev nD) (s : Fin 4) (k : Fin 1024) (j : Fin 512) : (V m c main_v2 : FVec Ideal S4x1024x512 .bf16) (ix3 s k j)
    = m ((c : Thread nD τ).loc main_arg2) (ix2 k (⟨s.val * 512 + j.val, by have := s.isLt; have := j.isLt; omega⟩ : Fin 2048)) := by
  entry_read
  pointwise
  blk_ext

/-- The norm's weights as the call finds them. -/
theorem gains (c : Dev nD) (k : Fin 1024) : (V m c main_v3 : FVec Ideal S1x1024 .f32) (ix2 0 k) = m ((c : Thread nD τ).loc main_arg1) (ix1 k) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the input, entry by entry. -/
theorem x_block (c : Dev nD) (t : Fin cfg0.N) (i : Fin 512) (k : Fin 1024) : (iblk m c 2 t : FVec Ideal S512x1024 .f32) (ix2 i k) = (m ((c : Thread nD τ).loc main_arg0)) (ix2 (rowAt t i) k) := by
  blk_ext [iblk, V, idx t]

/-- A block of the cotangent that passes the product by, entry by entry. -/
theorem b_block (c : Dev nD) (t : Fin cfg0.N) (i : Fin 512) (k : Fin 1024) : (iblk m c 5 t : FVec Ideal S512x1024 .f32) (ix2 i k) = (m ((c : Thread nD τ).loc main_arg4)) (ix2 (rowAt t i) k) := by
  blk_ext [iblk, V, idx t]

/-- A block of the scales, entry by entry. -/
theorem rs_block (c : Dev nD) (t : Fin cfg0.N) (i : Fin 512) : (iblk m c 4 t : FVec Ideal S512x1 .f32) (ix2 i 0) = rs (m ((c : Thread nD τ).loc main_arg0)) (ix2 (rowAt t i) 0) := by
  blk_simp [iblk]
  rw [scales]
  blk_ext [idx t]

/-- The norm's weights' block, entry by entry. -/
theorem g_block (c : Dev nD) (t : Fin cfg0.N) (k : Fin 1024) : (iblk m c 3 t : FVec Ideal S1x1024 .f32) (ix2 0 k) = (m ((c : Thread nD τ).loc main_arg1)) (ix1 k) := by
  rw [← gains m c k]
  blk_ext [iblk, idx t]

/-- The normed input's block, entry by entry. -/
theorem xn_block (c : Dev nD) (t : Fin cfg0.N) (i : Fin 512) (k : Fin 1024) : k0_pay6 (F := Ideal) (iblk m c 4 t) (iblk m c 2 t) (ix2 i k)
    = nrm (m ((c : Thread nD τ).loc main_arg0)) (rowAt t i) k := by
  pointwise [k0_pay6, k0_pay5]
  rw [x_block, rs_block]
  rfl

/-- One block of the cotangent of the normed input: four products, one to a block of the weights' columns. -/
abbrev part (c : Dev nD) (t : Fin cfg0.N) : FVec Ideal S512x1024 .f32 :=
  k0_pay4 (View.ld (iblk m c 0 t) (Rect.unit ![0, 0] ![512, 512] inb_S512x2048_S512x512_0_0))
    (View.ld (iblk m c 1 t) (Rect.unit ![0, 0, 0] ![1, 1024, 512] inb_S4x1024x512_S1x1024x512_0_0_0))
    (View.ld (iblk m c 0 t) (Rect.unit ![0, 512] ![512, 512] inb_S512x2048_S512x512_0_512))
    (View.ld (iblk m c 1 t) (Rect.unit ![1, 0, 0] ![1, 1024, 512] inb_S4x1024x512_S1x1024x512_1_0_0))
    (View.ld (iblk m c 0 t) (Rect.unit ![0, 1024] ![512, 512] inb_S512x2048_S512x512_0_1024))
    (View.ld (iblk m c 1 t) (Rect.unit ![2, 0, 0] ![1, 1024, 512] inb_S4x1024x512_S1x1024x512_2_0_0))
    (View.ld (iblk m c 0 t) (Rect.unit ![0, 1536] ![512, 512] inb_S512x2048_S512x512_0_1536))
    (View.ld (iblk m c 1 t) (Rect.unit ![3, 0, 0] ![1, 1024, 512] inb_S4x1024x512_S1x1024x512_3_0_0))

/-- A block of the weights, entry by entry. -/
theorem w_block (c : Dev nD) (t : Fin cfg0.N) (s : Fin 4) (k : Fin 1024) (j : Fin 512) : (iblk m c 1 t : FVec Ideal S4x1024x512 .bf16) (ix3 s k j)
    = (m ((c : Thread nD τ).loc main_arg2)) (ix2 k (⟨s.val * 512 + j.val, by have := s.isLt; have := j.isLt; omega⟩ : Fin 2048)) := by
  rw [← weights m c s k j]
  blk_ext [iblk, idx t]

/-- A block of the product's cotangent, entry by entry. -/
theorem d_block (c : Dev nD) (t : Fin cfg0.N) (i : Fin 512) (j : Fin 2048) : (iblk m c 0 t : FVec Ideal S512x2048 .bf16) (ix2 i j) = (m ((c : Thread nD τ).loc main_arg3)) (ix2 (rowAt t i) j) := by
  blk_ext [iblk, V, idx t]

/-- The four products add up to the sum over all the columns. -/
theorem part_eq (c : Dev nD) (t : Fin cfg0.N) (i : Fin 512) (k : Fin 1024) : (part m c t (ix2 i k) : EReal) = hid (m ((c : Thread nD τ).loc main_arg2)) (m ((c : Thread nD τ).loc main_arg3)) (rowAt t i) k := by
  refine Eq.trans ?_ (Fin.sum_mul_add_fin 4 512 _)
  rw [Fin.sum_univ_four]
  pointwise [part, k0_pay4]
  simp only [d_block, w_block]
  pointwise

/-- What a grid point leaves of the first result. -/
theorem point (c : Dev nD) (t : Fin cfg0.N) (i : Fin 512) (k : Fin 1024) : (k0_pay2 (part m c t) (k0_pay5 (iblk m c 4 t)) (k0_pay6 (iblk m c 4 t) (iblk m c 2 t)) (iblk m c 3 t) (iblk m c 5 t) (ix2 i k) : EReal)
    = dx (m ((c : Thread nD τ).loc main_arg0)) (m ((c : Thread nD τ).loc main_arg1)) (hid (m ((c : Thread nD τ).loc main_arg2)) (m ((c : Thread nD τ).loc main_arg3))) (m ((c : Thread nD τ).loc main_arg4)) (ix2 (rowAt t i) k) := by
  pointwise [k0_pay2, k0_pay5, dx]
  simp only [part_eq, xn_block, rs_block, g_block, b_block]

/-- The first result's array after the run. -/
theorem final6 (c : Dev nD) : (dats m 0 c).arrAt 6 (cfgs 0).N = dx (m ((c : Thread nD τ).loc main_arg0)) (m ((c : Thread nD τ).loc main_arg1)) (hid (m ((c : Thread nD τ).loc main_arg2)) (m ((c : Thread nD τ).loc main_arg3))) (m ((c : Thread nD τ).loc main_arg4)) := by
  refine (dats m 0 c).arrAt_eq_of_covers 6 _ (by decide +kernel) fun t _ y => ?_
  blk_simp
  rw [after0_6]
  have e : dx (m ((c : Thread nD τ).loc main_arg0)) (m ((c : Thread nD τ).loc main_arg1)) (hid (m ((c : Thread nD τ).loc main_arg2)) (m ((c : Thread nD τ).loc main_arg3))) (m ((c : Thread nD τ).loc main_arg4)) (((cfg0.win 6).blk t).view.emb y) = dx (m ((c : Thread nD τ).loc main_arg0)) (m ((c : Thread nD τ).loc main_arg1)) (hid (m ((c : Thread nD τ).loc main_arg2)) (m ((c : Thread nD τ).loc main_arg3))) (m ((c : Thread nD τ).loc main_arg4)) (ix2 (rowAt t (y 0)) (y 1)) :=
    congrArg (dx _ _ _ _) (by blk_ext [idx t])
  refine Eq.trans ?_ e.symm
  by_cases h : t.val % 4 = 0
  · rw [outsAt0_A m c t h]
    frame_out
    exact (congrArg _ (ix2_eta y).symm).trans (point m c t (y 0) (y 1))
  · rw [outsAt0_B m c t h]
    frame_out
    exact (congrArg _ (ix2_eta y).symm).trans (point m c t (y 0) (y 1))

/-- The second result's array after the run. -/
theorem final7 (c : Dev nD) : (dats m 0 c).arrAt 7 (cfgs 0).N = dg (m ((c : Thread nD τ).loc main_arg0)) (hid (m ((c : Thread nD τ).loc main_arg2)) (m ((c : Thread nD τ).loc main_arg3))) := by
  refine (dats m 0 c).arrAt_eq_of_after_last 7 t0_3 (by decide +kernel) _ fun j => ?_
  blk_simp
  rw [after0_7, Pipeline.eq_sum_fin_of_reset_step_apply_last (fun n h => (outsAt0 m c n h).2) 4 (fun _ => 0) (fun (t : Fin cfg0.N) (j : S1x1024.Idx) => ∑ k : Fin 512, part m c t (ix2 k (j 1)) * k0_pay6 (F := Ideal) (iblk m c 4 t) (iblk m c 2 t) (ix2 k (j 1)))
    (fun t h j => by rw [outsAt0_A m c t h]; frame_out; pointwise [k0_pay1, k0_pay3]; rfl) (fun t h j => by rw [outsAt0_B m c t h]; frame_out; pointwise [k0_pay1]; rfl)
    (le_of_eq N_0) t0_3 rfl j, zero_add]
  refine Fin.sum_mul_add_congr (f := fun l : Fin 2048 => hid (m ((c : Thread nD τ).loc main_arg2)) (m ((c : Thread nD τ).loc main_arg3)) l (j 1) * nrm (m ((c : Thread nD τ).loc main_arg0)) l (j 1)) (fun p k _ => ?_) (by rw [show cfg0.N = 4 from N_0])
  exact congrArg₂ (HMul.hMul (α := EReal)) (part_eq m c p k (j 1)) (xn_block m c p k (j 1))

/-- The reference's first result is the same gradient. -/
theorem same6 (m' : (ℓ : Loc Cert.Reference9Ideal.nD Cert.Reference9Ideal.τ Cert.Reference9Ideal.sig) → Buf (Elt Ideal) ℓ) (c : Dev Cert.Reference9Ideal.nD) :
    Cert.Reference9Ideal.Value.res_main_v39 m' c = dx (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (hid (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))) (m' ((c.tc : Thread Cert.Reference9Ideal.nD Cert.Reference9Ideal.τ).loc Cert.Reference9Ideal.main_arg4)) := by
  funext i
  rw [eq_ix2 i]
  pointwise [Cert.Reference9Ideal.Value.res_main_v39, dx, hid, nrm, rs]
  simp only [Finset.univ_unique, Finset.sum_singleton]
  exact Cert.Mlp.back (fun k => (m' (c.tc.loc Cert.Reference9Ideal.main_arg0)) (ix2 (i 0) k)) (fun k => (m' (c.tc.loc Cert.Reference9Ideal.main_arg1)) (ix1 k)) (hid (m' (c.tc.loc Cert.Reference9Ideal.main_arg2)) (m' (c.tc.loc Cert.Reference9Ideal.main_arg3)) (i 0)) _ _ _

/-- The reference's second result is the same gradient. -/
theorem same7 (x : FVec Ideal S2048x1024 .f32) (w : FVec Ideal S1024x2048 .f32) (d : FVec Ideal S2048x2048 .bf16) :
    shapeCast _ (Host.reduceAdd (shapeCast _ (Host.reduceAdd (mulf (mulf x (broadcastInDim S2048x1024 ![0, 1] Cert.Reference9Ideal.Gen.bcast_S2048x1_S2048x1024_0_1 (rs x))) (Host.dotGeneral Cert.Reference9Ideal.dot_S2048x2048_S1024x2048_S2048x1024_1_1_0_0_n_n none (extf .f32 d bitsLt_bf16_f32) w)) (constant S_ .f32 0x00000000#32) Cert.Reference9Ideal.Gen.reducesTo_S2048x1024_S1024_d0 h_S_) Cert.Reference9Ideal.Gen.shapeCasts_S1024_S1x1024)
      (constant S_ .f32 0x00000000#32) Cert.Reference9Ideal.Gen.reducesTo_S1x1024_S1024_d0 h_S_) Cert.Reference9Ideal.Gen.shapeCasts_S1024_S1x1024 = dg x (hid w d) := by
  funext i
  pointwise [dg, hid, nrm]
  simp only [Finset.univ_unique, Finset.sum_singleton]
  exact Finset.sum_congr rfl fun k _ => mul_comm _ _

end Cert.Kernel9Ideal.Hand

namespace Cert.Proof
open Idealize.ShloMosaic Idealize.ShloMosaic.TcCoe Idealize.SL.Sem

/-- The two texts name the same kernel body. -/
theorem body_same9 {F : FTy → Type} [FloatOps F] : Cert.Kernel9.defs₀ (F := F) = Cert.Kernel9Ideal.defs₀ (F := F) := by
  refine congrArg Defs.onTc ?_
  funext l x
  match l, x with
  | 0, (t, s) => rfl

/-- The two texts have the same definitions. -/
theorem defs_same9 {F : FTy → Type} [FloatOps F] : Cert.Kernel9.defs (F := F) = Cert.Kernel9Ideal.defs (F := F) :=
  congrArg (Pipeline.defs (Cert.Kernel9Ideal.pcfgs (F := F))) body_same9

/-- The call as printed, on words. -/
theorem frame_kernel9 : Cert.quiescent_Kernel9 := by
  intro m ρ _
  rw [defs_same9]
  exact Cert.Kernel9Ideal.Gen.frame (F := Bits) m ρ

/-- The call over the extended reals. -/
theorem frame_ideal9 : Cert.quiescent_Kernel9Ideal := fun m ρ _ => Cert.Kernel9Ideal.Gen.frame (F := Ideal) m ρ

/-- The reference over the extended reals. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- Kernel and reference end with equal results. -/
theorem equal9 : Cert.algebraic_Kernel9Ideal_Reference9Ideal := by
  intro m g m' g' _ hagree
  refine ⟨fun c => (Cert.Kernel9Ideal.Gen.dats m 0 c).arrAt 6 (Cert.Kernel9Ideal.cfgs 0).N, fun c => (Cert.Kernel9Ideal.Gen.dats m 0 c).arrAt 7 (Cert.Kernel9Ideal.cfgs 0).N, ?_, ?_⟩
  · exact Cert.Kernel9Ideal.Value.run_blocks (F := Ideal) m g
  · refine (θ_run Cert.Reference9Ideal.defs _ _).mono (fun r h c => ?_) (Cert.Reference9Ideal.Value.run (F := Ideal) m' g')
    obtain ⟨h0, h1, hr⟩ := h c
    obtain ⟨a0, a1, a2, a3, a4⟩ := hagree c
    refine ⟨?_, ?_, hr⟩
    · rw [h0, Cert.Kernel9Ideal.Hand.same6 m' c, a0, a1, a2, a3, a4]
      exact (Cert.Kernel9Ideal.Hand.final6 m c).symm
    · rw [h1, a0, a2, a3]
      exact (Cert.Kernel9Ideal.Hand.same7 _ _ _).trans (Cert.Kernel9Ideal.Hand.final7 m c).symm

end Cert.Proof
end
-- ==== Proof.Proj.KvWeights.lean ====
/-
  The gradient of the weights of a product with twice as many columns as the layer is wide (`d_w_kv`, `d_w_in_a`): its frames and its value.
-/
module

public import proofs.«01_k».proof.Defs
public import proofs.«01_k».proof.Proof.Gen.Kernel10
public import proofs.«01_k».proof.Proof.Gen.Kernel10Ideal.Value
public import proofs.«01_k».proof.Proof.Gen.Reference10Ideal.Run
public import proofs.«01_k».proof.Proof.Mlp.Act

@[expose] public section
set_option maxRecDepth 16384
noncomputable section

namespace Cert.Kernel10Ideal.Hand
open Idealize.ShloMosaic Idealize.ShloMosaic.TcCoe Idealize.SL.Sem
open Cert.Kernel10Ideal Cert.Kernel10Ideal.Gen
open Idealize.ShloMosaic.Pipeline (Dat)
open Cert.Kernel2Ideal.Hand (normed)

variable (m : (ℓ : Loc nD τ sig) → Buf (Elt Ideal) ℓ)

/-- The gradient, in four blocks of columns: the normed input, transposed, times the cotangent. -/
def grad (x : FVec Ideal S2048x1024 .f32) (d : FVec Ideal S2048x2048 .bf16) : FVec Ideal S4x1024x512 .f32 :=
  fun i => ∑ k : Fin 2048, x (ix2 k (i 1)) * d (ix2 k (⟨(i 0).val * 512 + (i 2).val, by have h0 : (i 0).val < 4 := (i 0).isLt; have h2 : (i 2).val < 512 := (i 2).isLt; omega⟩ : Fin 2048))

/-- The windows' block indices. -/
theorem idx : ∀ t : Fin cfg0.N, win0_0.index t = ![0, 0] ∧ win0_1.index t = ![0, t.val] ∧ win0_2.index t = ![t.val, 0, 0] :=
  (by decide +kernel : ∀ t : Fin grid0.N, _)

/-- The normed input as the call finds it. -/
theorem inp (c : Dev nD) : V m c main_v13 = truncf .bf16 (normed (m ((c : Thread nD τ).loc main_arg0)) (m ((c : Thread nD τ).loc main_arg1))) bitsLt_bf16_f32 := by
  entry_read
  rfl

/-- The normed input's block, the whole array, entry by entry. -/
theorem inp_block (c : Dev nD) (t : Fin cfg0.N) (y : S2048x1024.Idx) : (iblk m c 0 t : FVec Ideal S2048x1024 .bf16) y = (normed (m ((c : Thread nD τ).loc main_arg0)) (m ((c : Thread nD τ).loc main_arg1))) y := by
  blk_simp [iblk]
  rw [inp]
  exact congrArg (fun i => (normed _ _ i : EReal)) (by blk_ext [idx t])

/-- The result array after the run. -/
theorem final (c : Dev nD) : (dats m 0 c).arrAt 2 (cfgs 0).N = grad (normed (m ((c : Thread nD τ).loc main_arg0)) (m ((c : Thread nD τ).loc main_arg1))) (m ((c : Thread nD τ).loc main_arg3)) := by
  refine (dats m 0 c).arrAt_eq_of_covers 2 _ (by decide +kernel) fun t _ y => ?_
  blk_simp
  rw [after0_2]
  frame_out
  pointwise [k0_pay1, grad]
  refine Fin.sum_fin_congr fun k => ?_
  rw [inp_block]
  blk_point [iblk, V, idx t]

/-- The reference's formula is the same gradient. -/
theorem same (x : FVec Ideal S2048x1024 .f32) (d : FVec Ideal S2048x2048 .bf16) :
    transpose S4x1024x512 [1, 0, 2] (shapeCast _ (transpose S1024x2048 [1, 0] (Host.dotGeneral Cert.Reference10Ideal.dot_S2048x2048_S2048x1024_S2048x1024_0_0_1_1_n_n none (extf .f32 d bitsLt_bf16_f32) x)
      Cert.Reference10Ideal.Gen.transposes_S2048x1024_S1024x2048_1_0) Cert.Reference10Ideal.Gen.shapeCasts_S1024x2048_S1024x4x512) Cert.Reference10Ideal.Gen.transposes_S1024x4x512_S4x1024x512_1_0_2 = grad x d := by
  funext i
  pointwise [grad]
  exact Finset.sum_congr rfl fun k _ => mul_comm _ _

end Cert.Kernel10Ideal.Hand

namespace Cert.Proof
open Idealize.ShloMosaic Idealize.ShloMosaic.TcCoe Idealize.SL.Sem

/-- The two texts name the same kernel body. -/
theorem body_same10 {F : FTy → Type} [FloatOps F] : Cert.Kernel10.defs₀ (F := F) = Cert.Kernel10Ideal.defs₀ (F := F) := by
  refine congrArg Defs.onTc ?_
  funext l x
  match l, x with
  | 0, (t, s) => rfl

/-- The two texts have the same definitions. -/
theorem defs_same10 {F : FTy → Type} [FloatOps F] : Cert.Kernel10.defs (F := F) = Cert.Kernel10Ideal.defs (F := F) :=
  congrArg (Pipeline.defs (Cert.Kernel10Ideal.pcfgs (F := F))) body_same10

/-- The call as printed, on words. -/
theorem frame_kernel10 : Cert.quiescent_Kernel10 := by
  intro m ρ _
  rw [defs_same10]
  exact Cert.Kernel10Ideal.Gen.frame (F := Bits) m ρ

/-- The call over the extended reals. -/
theorem frame_ideal10 : Cert.quiescent_Kernel10Ideal := fun m ρ _ => Cert.Kernel10Ideal.Gen.frame (F := Ideal) m ρ

/-- The reference over the extended reals. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference end with equal results. -/
theorem equal10 : Cert.algebraic_Kernel10Ideal_Reference10Ideal := by
  intro m g m' g' _ hagree
  refine ⟨fun c => (Cert.Kernel10Ideal.Gen.dats m 0 c).arrAt 2 (Cert.Kernel10Ideal.cfgs 0).N, ?_, ?_⟩
  · exact Cert.Kernel10Ideal.Value.run_blocks (F := Ideal) m g
  · refine (θ_run Cert.Reference10Ideal.defs _ _).mono (fun r h c => ?_) (Cert.Reference10Ideal.Value.run (F := Ideal) m' g')
    obtain ⟨h0, hr⟩ := h c
    obtain ⟨a0, a1, a2, a3⟩ := hagree c
    refine ⟨?_, hr⟩
    rw [h0, a0, a1, a3]
    exact (Cert.Kernel10Ideal.Hand.same (Cert.Kernel2Ideal.Hand.normed _ _) _).trans (Cert.Kernel10Ideal.Hand.final m c).symm

end Cert.Proof
end
-- ==== Proof.Proj.MixIn.lean ====
/-
  The norm and the product with twice as many columns as the layer is wide, forward (`sgu_in`): its frames and its values.
-/
module

public import proofs.«01_k».proof.Defs
public import proofs.«01_k».proof.Proof.Gen.Kernel11
public import proofs.«01_k».proof.Proof.Gen.Kernel11Ideal.Value
public import proofs.«01_k».proof.Proof.Gen.Reference11Ideal.Run
public import proofs.«01_k».proof.Proof.Mlp.Act
public import proofs.«01_k».proof.Proof.Mlp.Norm

@[expose] public section
set_option maxRecDepth 16384
noncomputable section

namespace Cert.Kernel11Ideal.Hand
open Idealize.ShloMosaic Idealize.ShloMosaic.TcCoe Idealize.SL.Sem
open Cert.Kernel11Ideal Cert.Kernel11Ideal.Gen
open Idealize.ShloMosaic.Pipeline (Dat)
open Cert.Kernel2Ideal.Hand (normed)
open Cert.Kernel5Ideal.Hand (rs)

variable (m : (ℓ : Loc nD τ sig) → Buf (Elt Ideal) ℓ)

/-- The product of the normed input with the weights. -/
def pre (x : FVec Ideal S2048x1024 .f32) (g : FVec Ideal S1024 .f32) (w : FVec Ideal S1024x2048 .f32) : FVec Ideal S2048x2048 .f32 :=
  Host.dotGeneral Cert.Reference11Ideal.dot_S2048x1024_S1024x2048_S2048x2048_1_0_0_1_n_n none (normed x g) w

/-- The windows' block indices. -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] :=
  (by decide +kernel : ∀ t : Fin grid0.N, _)

/-- The weights as the call finds them, in four blocks of columns. -/
theorem weights (c : Dev nD) (s : Fin 4) (k : Fin 1024) (j : Fin 512) : (V m c main_v3 : FVec Ideal S4x1024x512 .bf16) (ix3 s k j)
    = m ((c : Thread nD τ).loc main_arg2) (ix2 k (⟨s.val * 512 + j.val, by have := s.isLt; have := j.isLt; omega⟩ : Fin 2048)) := by
  entry_read
  pointwise
  blk_ext

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the input, entry by entry. -/
theorem x_block (c : Dev nD) (t : Fin cfg0.N) (i : Fin 512) (k : Fin 1024) : (iblk m c 0 t : FVec Ideal S512x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- A block of the weights, entry by entry. -/
theorem w_block (c : Dev nD) (t : Fin cfg0.N) (s : Fin 4) (k : Fin 1024) (j : Fin 512) : (iblk m c 2 t : FVec Ideal S4x1024x512 .bf16) (ix3 s k j)
    = (m ((c : Thread nD τ).loc main_arg2)) (ix2 k (⟨s.val * 512 + j.val, by have := s.isLt; have := j.isLt; omega⟩ : Fin 2048)) := by
  rw [← weights m c s k j]
  blk_ext [iblk, idx t]

/-- The scales of a block's rows. -/
theorem scale_block (c : Dev nD) (t : Fin cfg0.N) (i : Fin 512) : (k0_pay3 (F := Ideal) (iblk m c 0 t) (ix2 i 0) : EReal)
    = rs (m ((c : Thread nD τ).loc main_arg0)) (ix2 (rowAt t i) 0) := by
  pointwise [k0_pay3, rs]
  simp only [x_block]

/-- The normed rows of a block. -/
theorem norm_block (c : Dev nD) (t : Fin cfg0.N) (i : Fin 512) (k : Fin 1024) : (k0_pay4 (F := Ideal) (iblk m c 0 t) (iblk m c 1 t) (ix2 i k) : EReal)
    = normed (m ((c : Thread nD τ).loc main_arg0)) (m ((c : Thread nD τ).loc main_arg1)) (ix2 (rowAt t i) k) := by
  pointwise [k0_pay4, normed]
  rw [scale_block, x_block, g_block]
  pointwise [rs]

/-- The product of a normed block with the `s`-th block of the weights' columns, at a row `i` and a column `j` of the product. -/
theorem pre_block (c : Dev nD) (t : Fin cfg0.N) (s : Fin 4) (i i' : Fin 512) (j : Fin 512) (j' : Fin 2048) (hi : i'.val = i.val) (hj : j'.val = s.val * 512 + j.val) :
    (∑ k : Fin 1024, (k0_pay4 (F := Ideal) (View.ld (iblk m c 0 t) r0_0) (View.ld (iblk m c 1 t) r0_1) (ix2 i k) : EReal) * (iblk m c 2 t : FVec Ideal S4x1024x512 .bf16) (ix3 s k j))
      = pre (m ((c : Thread nD τ).loc main_arg0)) (m ((c : Thread nD τ).loc main_arg1)) (m ((c : Thread nD τ).loc main_arg2)) (ix2 (rowAt t i') j') := by
  obtain rfl : i' = i := Fin.ext hi
  rw [show j' = ⟨s.val * 512 + j.val, by have := s.isLt; have := j.isLt; omega⟩ from Fin.ext hj,
    show k0_pay4 (F := Ideal) (View.ld (iblk m c 0 t) r0_0) (View.ld (iblk m c 1 t) r0_1) = k0_pay4 (F := Ideal) (iblk m c 0 t) (iblk m c 1 t) from
      congrArg₂ k0_pay4 (View.ld_unit_lit (S := S512x1024) _ _ (by decide)) (View.ld_unit_lit (S := S1x1024) _ _ (by decide))]
  simp only [norm_block, w_block]
  pointwise [pre]

/-- The normed input's array after the run. -/
theorem final3 (c : Dev nD) : (dats m 0 c).arrAt 3 (cfgs 0).N = truncf .bf16 (normed (m ((c : Thread nD τ).loc main_arg0)) (m ((c : Thread nD τ).loc main_arg1))) bitsLt_bf16_f32 := by
  refine (dats m 0 c).arrAt_eq_of_covers 3 _ (by decide +kernel) fun t _ y => ?_
  blk_simp
  rw [after0_3]
  frame_out
  refine (congrArg _ (ix2_eta y).symm).trans ((norm_block m c t (y 0) (y 1)).trans ?_)
  exact congrArg (normed _ _) (by blk_ext [idx t])

/-- The scales' array after the run. -/
theorem final4 (c : Dev nD) : (dats m 0 c).arrAt 4 (cfgs 0).N = rs (m ((c : Thread nD τ).loc main_arg0)) := by
  refine (dats m 0 c).arrAt_eq_of_covers 4 _ (by decide +kernel) fun t _ y => ?_
  blk_simp
  rw [after0_4]
  frame_out
  have e : y = ix2 (y 0) 0 := by rw [← ix2_eta y]; blk_ext
  refine (congrArg _ e).trans ((scale_block m c t (y 0)).trans ?_)
  exact congrArg (rs _) (by blk_ext [idx t])

/-- The product's array after the run. -/
theorem final5 (c : Dev nD) : (dats m 0 c).arrAt 5 (cfgs 0).N = pre (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  refine Eq.trans ?_ (congrArg (pre _ _ _) (show ix2 (rowAt t (y 0)) (y 1) = ((cfg0.win 5).blk t).view.emb y by blk_ext [idx t]))
  canon_tiles x h
  all_goals pointwise [k0_pay1, k0_pay2, k0_pay5, k0_pay6, k0_pay7]
  all_goals exact pre_block m c t _ (x 0) (y 0) (x 1) (y 1) h0 (h1.trans (by simp))

end Cert.Kernel11Ideal.Hand

namespace Cert.Proof
open Idealize.ShloMosaic Idealize.ShloMosaic.TcCoe Idealize.SL.Sem

/-- The two texts name the same kernel body. -/
theorem body_same11 {F : FTy → Type} [FloatOps F] : Cert.Kernel11.defs₀ (F := F) = Cert.Kernel11Ideal.defs₀ (F := F) := by
  refine congrArg Defs.onTc ?_
  funext l x
  match l, x with
  | 0, (t, s) => rfl

/-- The two texts have the same definitions. -/
theorem defs_same11 {F : FTy → Type} [FloatOps F] : Cert.Kernel11.defs (F := F) = Cert.Kernel11Ideal.defs (F := F) :=
  congrArg (Pipeline.defs (Cert.Kernel11Ideal.pcfgs (F := F))) body_same11

/-- The call as printed, on words. -/
theorem frame_kernel11 : Cert.quiescent_Kernel11 := by
  intro m ρ _
  rw [defs_same11]
  exact Cert.Kernel11Ideal.Gen.frame (F := Bits) m ρ

/-- The call over the extended reals. -/
theorem frame_ideal11 : Cert.quiescent_Kernel11Ideal := fun m ρ _ => Cert.Kernel11Ideal.Gen.frame (F := Ideal) m ρ

/-- The reference over the extended reals. -/
theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- Kernel and reference end with equal results. -/
theorem equal11 : Cert.algebraic_Kernel11Ideal_Reference11Ideal := by
  intro m g m' g' _ hagree
  refine ⟨fun c => (Cert.Kernel11Ideal.Gen.dats m 0 c).arrAt 3 (Cert.Kernel11Ideal.cfgs 0).N, fun c => (Cert.Kernel11Ideal.Gen.dats m 0 c).arrAt 4 (Cert.Kernel11Ideal.cfgs 0).N,
    fun c => (Cert.Kernel11Ideal.Gen.dats m 0 c).arrAt 5 (Cert.Kernel11Ideal.cfgs 0).N, ?_, ?_⟩
  · exact Cert.Kernel11Ideal.Value.run_blocks (F := Ideal) m g
  · refine (θ_run Cert.Reference11Ideal.defs _ _).mono (fun r h c => ?_) (Cert.Reference11Ideal.Value.run (F := Ideal) m' g')
    obtain ⟨h0, h1, h2, hr⟩ := h c
    obtain ⟨a0, a1, a2⟩ := hagree c
    refine ⟨?_, ?_, ?_, hr⟩
    · rw [h0, a0, a1]
      exact (Cert.Kernel11Ideal.Hand.final3 m c).symm
    · rw [h1, a0]
      exact (Cert.Kernel11Ideal.Hand.final4 m c).symm
    · rw [h2, a0, a1, a2]
      exact (Cert.Kernel11Ideal.Hand.final5 m c).symm

end Cert.Proof
end
-- ==== Proof.Mlp.Heads.lean ====
/-
  The norm of the heads, on one row, over the extended reals: two heads of 64 lanes side by side, each summed under a mask.
-/
module

public import proofs.«01_k».proof.Proof.Mlp.Row
public import Idealize.ShloMosaic.Lib.Pointwise
public import Idealize.ShloMosaic.Lib.WordCmp

@[expose] public section
noncomputable section

namespace Cert.Mlp
open Idealize.ShloMosaic

/-- The mask of the lower head's lanes. -/
theorem low_word (l : Fin 128) : IntOp.cmpi .slt (BitVec.ofNat 32 l.val) 64#32 = if l.val < 64 then 1#1 else 0#1 := by
  have := l.isLt
  rw [WordCmp.cmpi_slt_ofNat (a := l.val) (b := 64) (by omega) (by omega)]
  by_cases h : l.val < 64 <;> simp [h]

/-- A sum over the two heads' lanes of what lies in the lower one. -/
theorem low_half (f : Fin 128 → EReal) : (∑ k : Fin 128, Scalar.select (IntOp.cmpi .slt (BitVec.ofNat 32 k.val) 64#32) (f k) 0)
    = ∑ k : Fin 64, f ⟨k.val, by have := k.isLt; omega⟩ := by
  rw [Fin.sum_univ_two_halves 64 64 rfl]
  refine (congrArg₂ (· + ·) (Finset.sum_congr rfl fun k _ => ?_) (Finset.sum_eq_zero fun k _ => ?_)).trans (add_zero _)
  · rw [low_word, if_pos k.isLt]; rfl
  · rw [low_word, if_neg (by simp)]; rfl

/-- A sum over the two heads' lanes of what lies in the upper one. -/
theorem high_half (f : Fin 128 → EReal) : (∑ k : Fin 128, Scalar.select (IntOp.cmpi .slt (BitVec.ofNat 32 k.val) 64#32) 0 (f k))
    = ∑ k : Fin 64, f ⟨64 + k.val, by have := k.isLt; omega⟩ := by
  rw [Fin.sum_univ_two_halves 64 64 rfl]
  refine (congrArg₂ (· + ·) (Finset.sum_eq_zero fun k _ => ?_) (Finset.sum_congr rfl fun k _ => ?_)).trans (zero_add _)
  · rw [low_word, if_pos k.isLt]; rfl
  · rw [low_word, if_neg (by simp)]; rfl

/-- The literal 1/64 as a factor is a division by the literal 64. -/
theorem head_width (x : EReal) : x * Ideal.ofBits FTy.f32 1015021568#32 = Ideal.div x (Ideal.ofBits FTy.f32 1115684864#32) := by
  have h : Ideal.ofBits FTy.f32 1115684864#32 = ((64 : ℝ) : EReal) := by
    have : Ideal.ofBits FTy.f32 1115684864#32 = ((8388608 : ℝ) : EReal) * (((2 ^ 17)⁻¹ : ℝ) : EReal) := by simp [Ideal.ofBits, Ideal.ieee]
    rw [this, ← EReal.coe_mul, show (8388608 : ℝ) * (2 ^ 17)⁻¹ = 64 by norm_num]
  have h' : Ideal.ofBits FTy.f32 1015021568#32 = ((64⁻¹ : ℝ) : EReal) := by
    have : Ideal.ofBits FTy.f32 1015021568#32 = ((8388608 : ℝ) : EReal) * (((2 ^ 29)⁻¹ : ℝ) : EReal) := by simp [Ideal.ofBits, Ideal.ieee]
    rw [this, ← EReal.coe_mul, show (8388608 : ℝ) * (2 ^ 29)⁻¹ = 64⁻¹ by norm_num]
  rw [h, h', Ideal.div, if_neg (by exact_mod_cast (by norm_num : (64 : ℝ) ≠ 0)), ← EReal.coe_inv]

/-- The head norm of a row `p`, at a column: the entry times its head's scale, without the gain. -/
def headed (p : Fin 1024 → EReal) (j : Fin 1024) : EReal :=
  p j * Ideal.rsqrt (Ideal.div (∑ k : Fin 64, p ⟨j.val / 64 * 64 + k.val, by have := j.isLt; have := k.isLt; omega⟩ * p ⟨j.val / 64 * 64 + k.val, by have := j.isLt; have := k.isLt; omega⟩)
    (Ideal.ofBits FTy.f32 1115684864#32) + Ideal.ofBits FTy.f32 897988541#32)

/-- What the kernel computes on the lanes of two heads, the row's columns from `128 * s` on. -/
theorem lane (p : Fin 1024 → EReal) (a : Fin 128 → EReal) (s : ℕ) (hs : s < 8) (l : Fin 128) (j : Fin 1024) (hj : j.val = 128 * s + l.val)
    (ha : ∀ k : Fin 128, a k = p ⟨128 * s + k.val, by have := k.isLt; omega⟩) :
    a l * Ideal.rsqrt (Scalar.select (IntOp.cmpi .slt (BitVec.ofNat 32 l.val) 64#32)
        (∑ k : Fin 128, Scalar.select (IntOp.cmpi .slt (BitVec.ofNat 32 k.val) 64#32) (a k * a k) 0)
        (∑ k : Fin 128, Scalar.select (IntOp.cmpi .slt (BitVec.ofNat 32 k.val) 64#32) 0 (a k * a k)) * Ideal.ofBits FTy.f32 1015021568#32
      + Ideal.ofBits FTy.f32 897988541#32) = headed p j := by
  have hl := l.isLt
  rw [low_half fun k => a k * a k, high_half fun k => a k * a k, head_width, headed, ha l]
  have e : Scalar.select (IntOp.cmpi .slt (BitVec.ofNat 32 l.val) 64#32) (∑ k : Fin 64, a ⟨k.val, by have := k.isLt; omega⟩ * a ⟨k.val, by have := k.isLt; omega⟩)
      (∑ k : Fin 64, a ⟨64 + k.val, by have := k.isLt; omega⟩ * a ⟨64 + k.val, by have := k.isLt; omega⟩)
      = ∑ k : Fin 64, p ⟨j.val / 64 * 64 + k.val, by have := j.isLt; have := k.isLt; omega⟩ * p ⟨j.val / 64 * 64 + k.val, by have := j.isLt; have := k.isLt; omega⟩ := by
    rw [low_word]
    by_cases h : l.val < 64
    · rw [if_pos h]
      show (∑ k : Fin 64, a ⟨k.val, by have := k.isLt; omega⟩ * a ⟨k.val, by have := k.isLt; omega⟩) = _
      refine Finset.sum_congr rfl fun k _ => ?_
      rw [ha, show (⟨128 * s + k.val, by have := k.isLt; omega⟩ : Fin 1024) = ⟨j.val / 64 * 64 + k.val, by have := j.isLt; have := k.isLt; omega⟩ from Fin.ext (by show 128 * s + k.val = j.val / 64 * 64 + k.val; omega)]
    · rw [if_neg h]
      show (∑ k : Fin 64, a ⟨64 + k.val, by have := k.isLt; omega⟩ * a ⟨64 + k.val, by have := k.isLt; omega⟩) = _
      refine Finset.sum_congr rfl fun k _ => ?_
      rw [ha, show (⟨128 * s + (64 + k.val), by have := k.isLt; omega⟩ : Fin 1024) = ⟨j.val / 64 * 64 + k.val, by have := j.isLt; have := k.isLt; omega⟩ from Fin.ext (by show 128 * s + (64 + k.val) = j.val / 64 * 64 + k.val; omega)]
  rw [e, show (⟨128 * s + l.val, by omega⟩ : Fin 1024) = j from Fin.ext hj.symm]

end Cert.Mlp
end
-- ==== Proof.Proj.QHeads.lean ====
/-
  The norm, the projection to the queries and the norm of their heads, forward (`q_proj`): its frames and its values.
-/
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.Mlp.Act
public import proofs.«01_k».proof.Proof.Mlp.Norm
public import proofs.«01_k».proof.Proof.Mlp.Heads

@[expose] public section
set_option maxRecDepth 16384
noncomputable section

namespace Cert.Reference13Ideal.Hand
open Idealize.ShloMosaic Idealize.ShloMosaic.TcCoe
open Cert.Reference13Ideal Cert.Reference13Ideal.Gen

/-- The norm of the heads, as the reference writes it: the row as sixteen heads of 64, each normed, gained and put back. -/
def heads (p : FVec Ideal S2048x1024 .f32) (g : FVec Ideal S64 .f32) : FVec Ideal S2048x1024 .f32 :=
  shapeCast _ (mulf (mulf (shapeCast _ p shapeCasts_S2048x1024_S2048x16x64)
      (broadcastInDim S2048x16x64 ![0, 1, 2] bcast_S2048x16x1_S2048x16x64_0_1_2 (Host.rsqrt (addf (Host.divf
        (broadcastInDim S2048x16x1 ![0, 1] bcast_S2048x16_S2048x16x1_0_1 (Host.reduceAdd
          (mulf (shapeCast _ p shapeCasts_S2048x1024_S2048x16x64) (shapeCast _ p shapeCasts_S2048x1024_S2048x16x64))
          (constant S_ .f32 0x00000000#32) reducesTo_S2048x16x64_S2048x16_d2 h_S_))
        (broadcastInDim S2048x16x1 ![] bcast_S_S2048x16x1 (constant S_ .f32 0x42800000#32)))
        (broadcastInDim S2048x16x1 ![] bcast_S_S2048x16x1 (constant S_ .f32 0x358637BD#32))))))
      (broadcastInDim S2048x16x64 ![0, 1, 2] bcast_S1x1x64_S2048x16x64_0_1_2 (broadcastInDim S1x1x64 ![2] bcast_S64_S1x1x64_2 g)))
    shapeCasts_S2048x16x64_S2048x1024

/-- The norm of the heads, entry by entry. -/
theorem heads_apply (p : FVec Ideal S2048x1024 .f32) (g : FVec Ideal S64 .f32) (i : Fin 2048) (j : Fin 1024) : (heads p g (ix2 i j) : EReal)
    = Cert.Mlp.headed (fun k => p (ix2 i k)) j * g (ix1 ⟨j.val % 64, by omega⟩) := by
  pointwise [heads]
  rfl

end Cert.Reference13Ideal.Hand

namespace Cert.Kernel13Ideal.Hand
open Idealize.ShloMosaic Idealize.ShloMosaic.TcCoe Idealize.SL.Sem
open Cert.Kernel13Ideal Cert.Kernel13Ideal.Gen
open Idealize.ShloMosaic.Pipeline (Dat)
open Cert.Kernel2Ideal.Hand (normed)
open Cert.Kernel5Ideal.Hand (rs)
open Cert.Reference13Ideal.Hand (heads heads_apply)

variable (m : (ℓ : Loc nD τ sig) → Buf (Elt Ideal) ℓ)

/-- The product of the normed input with the weights. -/
def pre (x : FVec Ideal S2048x1024 .f32) (g : FVec Ideal S1024 .f32) (w : FVec Ideal S1024x1024 .f32) : FVec Ideal S2048x1024 .f32 :=
  Host.dotGeneral Cert.Reference13Ideal.dot_S2048x1024_S1024x1024_S2048x1024_1_0_0_1_n_n none (normed x g) w

/-- The windows' block indices. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The weights as the call finds them. -/
theorem weights (c : Dev nD) : (V m c main_v1 : FVec Ideal S1024x1024 .bf16) = m ((c : Thread nD τ).loc main_arg2) := by
  entry_read
  rfl

/-- The heads' weights as the call finds them, for two heads side by side. -/
theorem head_gains (c : Dev nD) (k : Fin 128) : (V m c main_v5 : FVec Ideal S1x128 .f32) (ix2 0 k) = m ((c : Thread nD τ).loc main_arg3) (ix1 ⟨k.val % 64, by omega⟩) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the input, entry by entry. -/
theorem x_block (c : Dev nD) (t : Fin cfg0.N) (i : Fin 512) (k : Fin 1024) : (iblk m c 0 t : FVec Ideal S512x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- The weights' block, entry by entry. -/
theorem w_block (c : Dev nD) (t : Fin cfg0.N) (k : Fin 1024) (j : Fin 1024) : (iblk m c 2 t : FVec Ideal S1024x1024 .bf16) (ix2 k j)
    = (m ((c : Thread nD τ).loc main_arg2)) (ix2 k j) := by
  rw [← weights m c]
  blk_ext [iblk, idx t]

/-- The heads' weights' block, entry by entry. -/
theorem head_block (c : Dev nD) (t : Fin cfg0.N) (k : Fin 128) : (iblk m c 3 t : FVec Ideal S1x128 .f32) (ix2 0 k) = m ((c : Thread nD τ).loc main_arg3) (ix1 ⟨k.val % 64, by omega⟩) := by
  rw [← head_gains m c k]
  blk_ext [iblk, idx t]

/-- The scales of a block's rows. -/
theorem scale_block (c : Dev nD) (t : Fin cfg0.N) (i : Fin 512) : (k0_pay3 (F := Ideal) (iblk m c 0 t) (ix2 i 0) : EReal)
    = rs (m ((c : Thread nD τ).loc main_arg0)) (ix2 (rowAt t i) 0) := by
  pointwise [k0_pay3, rs]
  simp only [x_block]

/-- The normed rows of a block. -/
theorem norm_block (c : Dev nD) (t : Fin cfg0.N) (i : Fin 512) (k : Fin 1024) : (k0_pay4 (F := Ideal) (iblk m c 0 t) (iblk m c 1 t) (ix2 i k) : EReal)
    = normed (m ((c : Thread nD τ).loc main_arg0)) (m ((c : Thread nD τ).loc main_arg1)) (ix2 (rowAt t i) k) := by
  pointwise [k0_pay4, normed]
  rw [scale_block, x_block, g_block]
  pointwise [rs]

/-- The product of a normed block with the weights. -/
theorem pre_block (c : Dev nD) (t : Fin cfg0.N) (i : Fin 512) (j : Fin 1024) : (k0_pay5 (F := Ideal) (iblk m c 0 t) (iblk m c 1 t) (iblk m c 2 t) (ix2 i j) : EReal)
    = pre (m ((c : Thread nD τ).loc main_arg0)) (m ((c : Thread nD τ).loc main_arg1)) (m ((c : Thread nD τ).loc main_arg2)) (ix2 (rowAt t i) j) := by
  pointwise [k0_pay5]
  simp only [norm_block, w_block]
  pointwise [pre]

/-- The normed input's array after the run. -/
theorem final4 (c : Dev nD) : (dats m 0 c).arrAt 4 (cfgs 0).N = truncf .bf16 (normed (m ((c : Thread nD τ).loc main_arg0)) (m ((c : Thread nD τ).loc main_arg1))) bitsLt_bf16_f32 := by
  refine (dats m 0 c).arrAt_eq_of_covers 4 _ (by decide +kernel) fun t _ y => ?_
  blk_simp
  rw [after0_4]
  frame_out
  refine (congrArg _ (ix2_eta y).symm).trans ((norm_block m c t (y 0) (y 1)).trans ?_)
  exact congrArg (normed _ _) (by blk_ext [idx t])

/-- The scales' array after the run. -/
theorem final5 (c : Dev nD) : (dats m 0 c).arrAt 5 (cfgs 0).N = rs (m ((c : Thread nD τ).loc main_arg0)) := by
  refine (dats m 0 c).arrAt_eq_of_covers 5 _ (by decide +kernel) fun t _ y => ?_
  blk_simp
  rw [after0_5]
  frame_out
  have e : y = ix2 (y 0) 0 := by rw [← ix2_eta y]; blk_ext
  refine (congrArg _ e).trans ((scale_block m c t (y 0)).trans ?_)
  exact congrArg (rs _) (by blk_ext [idx t])

/-- The product's array after the run. -/
theorem final6 (c : Dev nD) : (dats m 0 c).arrAt 6 (cfgs 0).N = pre (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  refine (congrArg _ (ix2_eta y).symm).trans ((pre_block m c t (y 0) (y 1)).trans ?_)
  exact congrArg (pre _ _ _) (by blk_ext [idx t])

/-- The norm of the queries' heads with the factor that the attention takes, as the reference writes it. -/
def scaled (p : FVec Ideal S2048x1024 .f32) (g : FVec Ideal S64 .f32) : FVec Ideal S2048x1024 .bf16 :=
  truncf .bf16 (mulf (heads p g) (broadcastInDim S2048x1024 ![] Cert.Reference13Ideal.Gen.bcast_S_S2048x1024 (constant Cert.Reference13Ideal.S_ .f32 0x3E000000#32))) bitsLt_bf16_f32

/-- The product's block as the tiles read it. -/
theorem whole_block (c : Dev nD) (t : Fin cfg0.N) (i : Fin 512) (j : Fin 1024) :
    (k0_pay26 (F := Ideal) (iblk m c 0 t) (iblk m c 1 t) (iblk m c 2 t) (iblk m c 3 t) (ix2 i j) : EReal)
    = pre (m ((c : Thread nD τ).loc main_arg0)) (m ((c : Thread nD τ).loc main_arg1)) (m ((c : Thread nD τ).loc main_arg2)) (ix2 (rowAt t i) j) := by
  rw [← pre_block]
  exact congrFun (congr (congrArg₂ k0_pay5 (View.ld_unit_lit (S := S512x1024) _ _ (by decide)) (View.ld_unit_lit (S := S1x1024) _ _ (by decide)))
    (View.ld_unit_lit (S := S1024x1024) _ _ (by decide))) (ix2 i j)

/-- The heads' weights as the tiles read them, with the factor that the attention takes. -/
theorem gain_block (c : Dev nD) (t : Fin cfg0.N) (l : Fin 128) :
    (k0_pay27 (F := Ideal) (iblk m c 0 t) (iblk m c 1 t) (iblk m c 2 t) (iblk m c 3 t) (ix2 0 l) : EReal)
    = HMul.hMul (α := EReal) (β := EReal) (m ((c : Thread nD τ).loc main_arg3) (ix1 ⟨l.val % 64, by omega⟩)) (Ideal.ofBits FTy.f32 1040187392#32) := by
  have e : k0_pay27 (F := Ideal) (iblk m c 0 t) (iblk m c 1 t) (iblk m c 2 t) (iblk m c 3 t) = k0_pay6 (F := Ideal) (iblk m c 3 t) :=
    congrArg k0_pay6 (View.ld_unit_lit (S := S1x128) _ _ (by decide))
  rw [e]
  pointwise [k0_pay6]
  rw [head_block]

/-- A tile of two heads at a lane: its entry is that of the reference's normed heads. -/
theorem tile (c : Dev nD) (t : Fin cfg0.N) (s : ℕ) (hs : s < 8) (h : S512x1024.Slices ![0, 128 * s] S512x128) (i : Fin 512) (l : Fin 128) (j : Fin 1024) (hj : j.val = 128 * s + l.val) :
    (k0_pay23 (F := Ideal) (k0_pay27 (iblk m c 0 t) (iblk m c 1 t) (iblk m c 2 t) (iblk m c 3 t))
      (extractStridedSlice S512x128 ![0, 128 * s] (k0_pay26 (iblk m c 0 t) (iblk m c 1 t) (iblk m c 2 t) (iblk m c 3 t)) h) (ix2 i l) : EReal)
    = scaled (pre (m ((c : Thread nD τ).loc main_arg0)) (m ((c : Thread nD τ).loc main_arg1)) (m ((c : Thread nD τ).loc main_arg2))) (m ((c : Thread nD τ).loc main_arg3)) (ix2 (rowAt t i) j) := by
  have ha : ∀ k : Fin 128, (extractStridedSlice S512x128 ![0, 128 * s] (k0_pay26 (F := Ideal) (iblk m c 0 t) (iblk m c 1 t) (iblk m c 2 t) (iblk m c 3 t)) h (ix2 i k) : EReal)
      = pre (m ((c : Thread nD τ).loc main_arg0)) (m ((c : Thread nD τ).loc main_arg1)) (m ((c : Thread nD τ).loc main_arg2)) (ix2 (rowAt t i) ⟨128 * s + k.val, by have := k.isLt; omega⟩) := fun k =>
    (congrArg (k0_pay26 (F := Ideal) (iblk m c 0 t) (iblk m c 1 t) (iblk m c 2 t) (iblk m c 3 t)) (by blk_ext <;> rfl)).trans (whole_block m c t i ⟨128 * s + k.val, by have := k.isLt; omega⟩)
  generalize extractStridedSlice S512x128 ![0, 128 * s] (k0_pay26 (F := Ideal) (iblk m c 0 t) (iblk m c 1 t) (iblk m c 2 t) (iblk m c 3 t)) h = a at ha ⊢
  have e : (scaled (pre (m ((c : Thread nD τ).loc main_arg0)) (m ((c : Thread nD τ).loc main_arg1)) (m ((c : Thread nD τ).loc main_arg2))) (m ((c : Thread nD τ).loc main_arg3)) (ix2 (rowAt t i) j) : EReal)
      = heads (pre (m ((c : Thread nD τ).loc main_arg0)) (m ((c : Thread nD τ).loc main_arg1)) (m ((c : Thread nD τ).loc main_arg2))) (m ((c : Thread nD τ).loc main_arg3)) (ix2 (rowAt t i) j) * Ideal.ofBits FTy.f32 1040187392#32 := by
    pointwise [scaled]
  rw [e, heads_apply, mul_assoc, ← Cert.Mlp.lane (fun k => pre _ _ _ (ix2 (rowAt t i) k)) (fun k => a (ix2 i k)) s hs l j hj ha]
  pointwise [k0_pay23]
  rw [gain_block, show (⟨l.val % 64, by omega⟩ : Fin 64) = ⟨j.val % 64, by omega⟩ from Fin.ext (by show l.val % 64 = j.val % 64; omega)]

/-- The same at an index of the tile and the place in the block where it lies. -/
theorem tile_at (c : Dev nD) (t : Fin cfg0.N) (s : ℕ) (hs : s < 8) (h : S512x1024.Slices ![0, 128 * s] S512x128) (x : S512x128.Idx) (r : Fin 512) (j : Fin 1024)
    (hr : r.val = (x 0).val) (hj : j.val = 128 * s + (x 1).val) :
    (k0_pay23 (F := Ideal) (k0_pay27 (iblk m c 0 t) (iblk m c 1 t) (iblk m c 2 t) (iblk m c 3 t))
      (extractStridedSlice S512x128 ![0, 128 * s] (k0_pay26 (iblk m c 0 t) (iblk m c 1 t) (iblk m c 2 t) (iblk m c 3 t)) h) x : EReal)
    = scaled (pre (m ((c : Thread nD τ).loc main_arg0)) (m ((c : Thread nD τ).loc main_arg1)) (m ((c : Thread nD τ).loc main_arg2))) (m ((c : Thread nD τ).loc main_arg3)) (ix2 (rowAt t r) j) := by
  obtain rfl : r = x 0 := Fin.ext hr
  exact (congrArg _ (ix2_eta x).symm).trans (tile m c t s hs h (x 0) (x 1) j hj)

/-- The normed heads' array after the run. -/
theorem final7 (c : Dev nD) : (dats m 0 c).arrAt 7 (cfgs 0).N = scaled (pre (m ((c : Thread nD τ).loc main_arg0)) (m ((c : Thread nD τ).loc main_arg1)) (m ((c : Thread nD τ).loc main_arg2))) (m ((c : Thread nD τ).loc main_arg3)) := by
  refine (dats m 0 c).arrAt_eq_of_covers 7 _ (by decide +kernel) fun t _ y => ?_
  blk_simp
  rw [after0_7]
  refine Eq.trans ?_ (congrArg (scaled _ _) (show ix2 (rowAt t (y 0)) (y 1) = ((cfg0.win 7).blk t).view.emb y by blk_ext [idx t]))
  canon_tiles x h
  · exact tile_at m c t 7 (by decide) slices_S512x1024_o0_896_S512x128 x _ _ h0 h1
  · exact tile_at m c t 6 (by decide) slices_S512x1024_o0_768_S512x128 x _ _ h0 h1
  · exact tile_at m c t 5 (by decide) slices_S512x1024_o0_640_S512x128 x _ _ h0 h1
  · exact tile_at m c t 4 (by decide) slices_S512x1024_o0_512_S512x128 x _ _ h0 h1
  · exact tile_at m c t 3 (by decide) slices_S512x1024_o0_384_S512x128 x _ _ h0 h1
  · exact tile_at m c t 2 (by decide) slices_S512x1024_o0_256_S512x128 x _ _ h0 h1
  · exact tile_at m c t 1 (by decide) slices_S512x1024_o0_128_S512x128 x _ _ h0 h1
  · exact tile_at m c t 0 (by decide) slices_S512x1024_o0_0_S512x128 x _ _ h0 (h1.trans (by omega))

end Cert.Kernel13Ideal.Hand

namespace Cert.Proof
open Idealize.ShloMosaic Idealize.ShloMosaic.TcCoe Idealize.SL.Sem

/-- The two texts name the same kernel body. -/
theorem body_same13 {F : FTy → Type} [FloatOps F] : Cert.Kernel13.defs₀ (F := F) = Cert.Kernel13Ideal.defs₀ (F := F) := by
  refine congrArg Defs.onTc ?_
  funext l x
  match l, x with
  | 0, (t, s) => rfl

/-- The two texts have the same definitions. -/
theorem defs_same13 {F : FTy → Type} [FloatOps F] : Cert.Kernel13.defs (F := F) = Cert.Kernel13Ideal.defs (F := F) :=
  congrArg (Pipeline.defs (Cert.Kernel13Ideal.pcfgs (F := F))) body_same13

/-- The call as printed, on words. -/
theorem frame_kernel13 : Cert.quiescent_Kernel13 := by
  intro m ρ _
  rw [defs_same13]
  exact Cert.Kernel13Ideal.Gen.frame (F := Bits) m ρ

/-- The call over the extended reals. -/
theorem frame_ideal13 : Cert.quiescent_Kernel13Ideal := fun m ρ _ => Cert.Kernel13Ideal.Gen.frame (F := Ideal) m ρ

/-- The reference over the extended reals. -/
theorem frame_reference13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- Kernel and reference end with equal results. -/
theorem equal13 : Cert.algebraic_Kernel13Ideal_Reference13Ideal := by
  intro m g m' g' _ hagree
  refine ⟨fun c => (Cert.Kernel13Ideal.Gen.dats m 0 c).arrAt 4 (Cert.Kernel13Ideal.cfgs 0).N,
    fun c => (Cert.Kernel13Ideal.Gen.dats m 0 c).arrAt 5 (Cert.Kernel13Ideal.cfgs 0).N,
    fun c => (Cert.Kernel13Ideal.Gen.dats m 0 c).arrAt 6 (Cert.Kernel13Ideal.cfgs 0).N,
    fun c => (Cert.Kernel13Ideal.Gen.dats m 0 c).arrAt 7 (Cert.Kernel13Ideal.cfgs 0).N, ?_, ?_⟩
  · exact Cert.Kernel13Ideal.Value.run_blocks (F := Ideal) m g
  · refine (θ_run Cert.Reference13Ideal.defs _ _).mono (fun r h c => ?_) (Cert.Reference13Ideal.Value.run (F := Ideal) m' g')
    obtain ⟨h0, h1, h2, h3, hr⟩ := h c
    obtain ⟨a0, a1, a2, a3⟩ := hagree c
    refine ⟨?_, ?_, ?_, ?_, hr⟩
    · rw [h0, a0, a1]
      exact (Cert.Kernel13Ideal.Hand.final4 m c).symm
    · rw [h1, a0]
      exact (Cert.Kernel13Ideal.Hand.final5 m c).symm
    · rw [h2, a0, a1, a2]
      exact (Cert.Kernel13Ideal.Hand.final6 m c).symm
    · rw [h3, a0, a1, a2, a3]
      exact (Cert.Kernel13Ideal.Hand.final7 m c).symm

end Cert.Proof
end
-- ==== Proof.Proj.KvHeads.lean ====
/-
  The norm, the projection to the keys and values and the norm of the keys' heads, forward (`kv_proj`): its frames and its values.
-/
module

public import proofs.«01_k».proof.Defs
public import proofs.«01_k».proof.Proof.Gen.Kernel12
public import proofs.«01_k».proof.Proof.Gen.Kernel12Ideal.Value
public import proofs.«01_k».proof.Proof.Gen.Reference12Ideal.Run
public import proofs.«01_k».proof.Proof.Proj.MixIn
public import proofs.«01_k».proof.Proof.Proj.QHeads

@[expose] public section
set_option maxRecDepth 16384
noncomputable section

namespace Cert.Kernel12Ideal.Hand
open Idealize.ShloMosaic Idealize.ShloMosaic.TcCoe Idealize.SL.Sem
open Cert.Kernel12Ideal Cert.Kernel12Ideal.Gen
open Idealize.ShloMosaic.Pipeline (Dat)
open Cert.Kernel2Ideal.Hand (normed)
open Cert.Kernel5Ideal.Hand (rs)
open Cert.Kernel11Ideal.Hand (pre)
open Cert.Reference13Ideal.Hand (heads heads_apply)

variable (m : (ℓ : Loc nD τ sig) → Buf (Elt Ideal) ℓ)

/-- The keys: the left half of the product. -/
def keys (p : FVec Ideal S2048x2048 .f32) : FVec Ideal S2048x1024 .f32 :=
  extractStridedSlice Cert.Reference12Ideal.S2048x1024 ![0, 0] p Cert.Reference12Ideal.Gen.slices_S2048x2048_S2048x1024_0_0

/-- The values: the right half of the product. -/
def vals (p : FVec Ideal S2048x2048 .f32) : FVec Ideal S2048x1024 .f32 :=
  extractStridedSlice Cert.Reference12Ideal.S2048x1024 ![0, 1024] p Cert.Reference12Ideal.Gen.slices_S2048x2048_S2048x1024_0_1024

/-- The windows' block indices. -/
theorem idx : ∀ t : Fin cfg0.N, win0_0.index t = ![t.val, 0] ∧ win0_1.index t = ![0, 0] ∧ win0_2.index t = ![0, 0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The weights as the call finds them, in four blocks of columns. -/
theorem weights (c : Dev nD) (s : Fin 4) (k : Fin 1024) (j : Fin 512) : (V m c main_v3 : FVec Ideal S4x1024x512 .bf16) (ix3 s k j)
    = m ((c : Thread nD τ).loc main_arg2) (ix2 k (⟨s.val * 512 + j.val, by have := s.isLt; have := j.isLt; omega⟩ : Fin 2048)) := by
  entry_read
  pointwise
  blk_ext

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The heads' weights as the call finds them, for two heads side by side. -/
theorem head_gains (c : Dev nD) (k : Fin 128) : (V m c main_v7 : FVec Ideal S1x128 .f32) (ix2 0 k) = m ((c : Thread nD τ).loc main_arg3) (ix1 ⟨k.val % 64, by omega⟩) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the input, entry by entry. -/
theorem x_block (c : Dev nD) (t : Fin cfg0.N) (i : Fin 512) (k : Fin 1024) : (iblk m c 0 t : FVec Ideal S512x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- A block of the weights, entry by entry. -/
theorem w_block (c : Dev nD) (t : Fin cfg0.N) (s : Fin 4) (k : Fin 1024) (j : Fin 512) : (iblk m c 2 t : FVec Ideal S4x1024x512 .bf16) (ix3 s k j)
    = (m ((c : Thread nD τ).loc main_arg2)) (ix2 k (⟨s.val * 512 + j.val, by have := s.isLt; have := j.isLt; omega⟩ : Fin 2048)) := by
  rw [← weights m c s k j]
  blk_ext [iblk, idx t]

/-- The heads' weights' block, entry by entry. -/
theorem head_block (c : Dev nD) (t : Fin cfg0.N) (k : Fin 128) : (iblk m c 3 t : FVec Ideal S1x128 .f32) (ix2 0 k) = m ((c : Thread nD τ).loc main_arg3) (ix1 ⟨k.val % 64, by omega⟩) := by
  rw [← head_gains m c k]
  blk_ext [iblk, idx t]

/-- The scales of a block's rows. -/
theorem scale_block (c : Dev nD) (t : Fin cfg0.N) (i : Fin 512) : (k0_pay4 (F := Ideal) (iblk m c 0 t) (ix2 i 0) : EReal)
    = rs (m ((c : Thread nD τ).loc main_arg0)) (ix2 (rowAt t i) 0) := by
  pointwise [k0_pay4, rs]
  simp only [x_block]

/-- The normed rows of a block. -/
theorem norm_block (c : Dev nD) (t : Fin cfg0.N) (i : Fin 512) (k : Fin 1024) : (k0_pay5 (F := Ideal) (iblk m c 0 t) (iblk m c 1 t) (ix2 i k) : EReal)
    = normed (m ((c : Thread nD τ).loc main_arg0)) (m ((c : Thread nD τ).loc main_arg1)) (ix2 (rowAt t i) k) := by
  pointwise [k0_pay5, normed]
  rw [scale_block, x_block, g_block]
  pointwise [rs]

/-- The normed block as the products read it. -/
theorem rows_block (c : Dev nD) (t : Fin cfg0.N) (i : Fin 512) (k : Fin 1024) : (k0_pay45 (F := Ideal) (iblk m c 0 t) (iblk m c 1 t) (iblk m c 2 t) (iblk m c 3 t) (ix2 i k) : EReal)
    = normed (m ((c : Thread nD τ).loc main_arg0)) (m ((c : Thread nD τ).loc main_arg1)) (ix2 (rowAt t i) k) := by
  have e : k0_pay45 (F := Ideal) (iblk m c 0 t) (iblk m c 1 t) (iblk m c 2 t) (iblk m c 3 t) = k0_pay5 (F := Ideal) (iblk m c 0 t) (iblk m c 1 t) :=
    congrArg₂ k0_pay5 (View.ld_unit_lit (S := S512x1024) _ _ (by decide)) (View.ld_unit_lit (S := S1x1024) _ _ (by decide))
  rw [e, norm_block]

/-- The product of a normed block with the `s`-th block of the weights' columns, at a row and a column of it. -/
theorem pre_block (c : Dev nD) (t : Fin cfg0.N) (s : Fin 4) (v : FVec Ideal S1x1024x512 .bf16) (hv : ∀ k j, v (ix3 0 k j) = (iblk m c 2 t : FVec Ideal S4x1024x512 .bf16) (ix3 s k j))
    (i : Fin 512) (j : Fin 512) (j' : Fin 2048) (hj : j'.val = s.val * 512 + j.val) : (k0_pay23 (F := Ideal) (k0_pay45 (iblk m c 0 t) (iblk m c 1 t) (iblk m c 2 t) (iblk m c 3 t)) v (ix2 i j) : EReal)
    = pre (m ((c : Thread nD τ).loc main_arg0)) (m ((c : Thread nD τ).loc main_arg1)) (m ((c : Thread nD τ).loc main_arg2)) (ix2 (rowAt t i) j') := by
  rw [show j' = ⟨s.val * 512 + j.val, by have := s.isLt; have := j.isLt; omega⟩ from Fin.ext hj]
  pointwise [k0_pay23]
  simp only [hv, rows_block, w_block]
  pointwise [pre]

/-- The same at an index of the block and the place in the row where it lies. -/
theorem pre_at (c : Dev nD) (t : Fin cfg0.N) (s : Fin 4) (v : FVec Ideal S1x1024x512 .bf16) (hv : ∀ k j, v (ix3 0 k j) = (iblk m c 2 t : FVec Ideal S4x1024x512 .bf16) (ix3 s k j))
    (x : S512x512.Idx) (r : Fin 512) (j : Fin 2048) (hr : r.val = (x 0).val) (hj : j.val = s.val * 512 + (x 1).val) :
    (k0_pay23 (F := Ideal) (k0_pay45 (iblk m c 0 t) (iblk m c 1 t) (iblk m c 2 t) (iblk m c 3 t)) v x : EReal) = pre (m ((c : Thread nD τ).loc main_arg0)) (m ((c : Thread nD τ).loc main_arg1)) (m ((c : Thread nD τ).loc main_arg2)) (ix2 (rowAt t r) j) := by
  obtain rfl : r = x 0 := Fin.ext hr
  exact (congrArg _ (ix2_eta x).symm).trans (pre_block m c t s v hv (x 0) (x 1) j hj)

/-- The four loads of the weights' blocks. -/
theorem load0 (c : Dev nD) (t : Fin cfg0.N) (k : Fin 1024) (j : Fin 512) : (View.ld (iblk m c 2 t) r0_3 : FVec Ideal S1x1024x512 .bf16) (ix3 0 k j) = (iblk m c 2 t : FVec Ideal S4x1024x512 .bf16) (ix3 0 k j) := by
  pointwise

/-- The second of the weights' blocks. -/
theorem load1 (c : Dev nD) (t : Fin cfg0.N) (k : Fin 1024) (j : Fin 512) : (View.ld (iblk m c 2 t) r0_10 : FVec Ideal S1x1024x512 .bf16) (ix3 0 k j) = (iblk m c 2 t : FVec Ideal S4x1024x512 .bf16) (ix3 1 k j) := by
  pointwise

/-- The third of the weights' blocks. -/
theorem load2 (c : Dev nD) (t : Fin cfg0.N) (k : Fin 1024) (j : Fin 512) : (View.ld (iblk m c 2 t) r0_16 : FVec Ideal S1x1024x512 .bf16) (ix3 0 k j) = (iblk m c 2 t : FVec Ideal S4x1024x512 .bf16) (ix3 2 k j) := by
  pointwise

/-- The fourth of the weights' blocks. -/
theorem load3 (c : Dev nD) (t : Fin cfg0.N) (k : Fin 1024) (j : Fin 512) : (View.ld (iblk m c 2 t) r0_18 : FVec Ideal S1x1024x512 .bf16) (ix3 0 k j) = (iblk m c 2 t : FVec Ideal S4x1024x512 .bf16) (ix3 3 k j) := by
  pointwise

/-- The normed input's array after the run. -/
theorem final4 (c : Dev nD) : (dats m 0 c).arrAt 4 (cfgs 0).N = truncf .bf16 (normed (m ((c : Thread nD τ).loc main_arg0)) (m ((c : Thread nD τ).loc main_arg1))) bitsLt_bf16_f32 := by
  refine (dats m 0 c).arrAt_eq_of_covers 4 _ (by decide +kernel) fun t _ y => ?_
  blk_simp
  rw [after0_4]
  frame_out
  refine (congrArg _ (ix2_eta y).symm).trans ((norm_block m c t (y 0) (y 1)).trans ?_)
  exact congrArg (normed _ _) (by blk_ext [idx t])

/-- The scales' array after the run. -/
theorem final5 (c : Dev nD) : (dats m 0 c).arrAt 5 (cfgs 0).N = rs (m ((c : Thread nD τ).loc main_arg0)) := by
  refine (dats m 0 c).arrAt_eq_of_covers 5 _ (by decide +kernel) fun t _ y => ?_
  blk_simp
  rw [after0_5]
  frame_out
  have e : y = ix2 (y 0) 0 := by rw [← ix2_eta y]; blk_ext
  refine (congrArg _ e).trans ((scale_block m c t (y 0)).trans ?_)
  exact congrArg (rs _) (by blk_ext [idx t])

/-- The product's array after the run. -/
theorem final6 (c : Dev nD) : (dats m 0 c).arrAt 6 (cfgs 0).N = pre (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  refine Eq.trans ?_ (congrArg (pre _ _ _) (show ix2 (rowAt t (y 0)) (y 1) = ((cfg0.win 6).blk t).view.emb y by blk_ext [idx t]))
  canon_tiles x h
  · exact pre_at m c t 3 _ (load3 m c t) x _ _ h0 h1
  · exact pre_at m c t 2 _ (load2 m c t) x _ _ h0 h1
  · exact pre_at m c t 1 _ (load1 m c t) x _ _ h0 h1
  · exact pre_at m c t 0 _ (load0 m c t) x _ _ h0 (h1.trans (by simp))

/-- The heads' weights as the tiles read them. -/
theorem gain_block (c : Dev nD) (t : Fin cfg0.N) (l : Fin 128) :
    (k0_pay49 (F := Ideal) (iblk m c 0 t) (iblk m c 1 t) (iblk m c 2 t) (iblk m c 3 t) (ix2 0 l) : EReal) = m ((c : Thread nD τ).loc main_arg3) (ix1 ⟨l.val % 64, by omega⟩) := by
  have e : k0_pay49 (F := Ideal) (iblk m c 0 t) (iblk m c 1 t) (iblk m c 2 t) (iblk m c 3 t) = k0_pay24 (F := Ideal) (iblk m c 3 t) :=
    congrArg k0_pay24 (View.ld_unit_lit (S := S1x128) _ _ (by decide))
  rw [e]
  pointwise [k0_pay24]
  rw [head_block]

/-- A slice of 128 columns of a block of the product, entry by entry. -/
theorem slice_block (c : Dev nD) (t : Fin cfg0.N) (s : Fin 4) (v : FVec Ideal S1x1024x512 .bf16) (hv : ∀ k j, v (ix3 0 k j) = (iblk m c 2 t : FVec Ideal S4x1024x512 .bf16) (ix3 s k j))
    (o : ℕ) (ho : o < 4) (h : S512x512.Slices ![0, 128 * o] S512x128) (i : Fin 512) (k : Fin 128) (j' : Fin 2048) (hj : j'.val = s.val * 512 + (128 * o + k.val)) :
    (extractStridedSlice S512x128 ![0, 128 * o] (k0_pay23 (F := Ideal) (k0_pay45 (iblk m c 0 t) (iblk m c 1 t) (iblk m c 2 t) (iblk m c 3 t)) v) h (ix2 i k) : EReal)
    = pre (m ((c : Thread nD τ).loc main_arg0)) (m ((c : Thread nD τ).loc main_arg1)) (m ((c : Thread nD τ).loc main_arg2)) (ix2 (rowAt t i) j') :=
  (congrArg (k0_pay23 (F := Ideal) (k0_pay45 (iblk m c 0 t) (iblk m c 1 t) (iblk m c 2 t) (iblk m c 3 t)) v) (by blk_ext <;> rfl)).trans (pre_block m c t s v hv i ⟨128 * o + k.val, by have := k.isLt; omega⟩ j' hj)

/-- A tile of two heads at a lane: its entry is that of the reference's normed heads. -/
theorem tile (c : Dev nD) (t : Fin cfg0.N) (s : Fin 4) (hs : s.val < 2) (v : FVec Ideal S1x1024x512 .bf16) (hv : ∀ k j, v (ix3 0 k j) = (iblk m c 2 t : FVec Ideal S4x1024x512 .bf16) (ix3 s k j))
    (o : ℕ) (ho : o < 4) (h : S512x512.Slices ![0, 128 * o] S512x128) (i : Fin 512) (l : Fin 128) (j : Fin 1024) (hj : j.val = 128 * (s.val * 4 + o) + l.val) :
    (k0_pay34 (F := Ideal) (k0_pay49 (iblk m c 0 t) (iblk m c 1 t) (iblk m c 2 t) (iblk m c 3 t))
      (extractStridedSlice S512x128 ![0, 128 * o] (k0_pay23 (k0_pay45 (iblk m c 0 t) (iblk m c 1 t) (iblk m c 2 t) (iblk m c 3 t)) v) h) (iota .tc S512x128 32 [1] iota_S512x128_d1_w32) k0_pay33 (ix2 i l) : EReal)
    = heads (keys (pre (m ((c : Thread nD τ).loc main_arg0)) (m ((c : Thread nD τ).loc main_arg1)) (m ((c : Thread nD τ).loc main_arg2)))) (m ((c : Thread nD τ).loc main_arg3)) (ix2 (rowAt t i) j) := by
  have ha : ∀ k : Fin 128, (extractStridedSlice S512x128 ![0, 128 * o] (k0_pay23 (F := Ideal) (k0_pay45 (iblk m c 0 t) (iblk m c 1 t) (iblk m c 2 t) (iblk m c 3 t)) v) h (ix2 i k) : EReal)
      = keys (pre (m ((c : Thread nD τ).loc main_arg0)) (m ((c : Thread nD τ).loc main_arg1)) (m ((c : Thread nD τ).loc main_arg2))) (ix2 (rowAt t i) ⟨128 * (s.val * 4 + o) + k.val, by have := k.isLt; omega⟩) := fun k => by
    refine (slice_block m c t s v hv o ho h i k ⟨128 * (s.val * 4 + o) + k.val, by have := k.isLt; omega⟩ (by show 128 * (s.val * 4 + o) + k.val = _; omega)).trans ?_
    pointwise [keys]
  generalize extractStridedSlice S512x128 ![0, 128 * o] (k0_pay23 (F := Ideal) (k0_pay45 (iblk m c 0 t) (iblk m c 1 t) (iblk m c 2 t) (iblk m c 3 t)) v) h = a at ha ⊢
  rw [heads_apply, ← Cert.Mlp.lane (fun k => keys _ (ix2 (rowAt t i) k)) (fun k => a (ix2 i k)) (s.val * 4 + o) (by omega) l j hj ha]
  pointwise [k0_pay34, k0_pay33]
  rw [gain_block, show (⟨l.val % 64, by omega⟩ : Fin 64) = ⟨j.val % 64, by omega⟩ from Fin.ext (by show l.val % 64 = j.val % 64; omega)]

/-- The same at an index of the tile and the place in the block where it lies. -/
theorem tile_at (c : Dev nD) (t : Fin cfg0.N) (s : Fin 4) (hs : s.val < 2) (v : FVec Ideal S1x1024x512 .bf16) (hv : ∀ k j, v (ix3 0 k j) = (iblk m c 2 t : FVec Ideal S4x1024x512 .bf16) (ix3 s k j))
    (o : ℕ) (ho : o < 4) (h : S512x512.Slices ![0, 128 * o] S512x128) (x : S512x128.Idx) (r : Fin 512) (j : Fin 1024) (hr : r.val = (x 0).val) (hj : j.val = 128 * (s.val * 4 + o) + (x 1).val) :
    (k0_pay34 (F := Ideal) (k0_pay49 (iblk m c 0 t) (iblk m c 1 t) (iblk m c 2 t) (iblk m c 3 t))
      (extractStridedSlice S512x128 ![0, 128 * o] (k0_pay23 (k0_pay45 (iblk m c 0 t) (iblk m c 1 t) (iblk m c 2 t) (iblk m c 3 t)) v) h) (iota .tc S512x128 32 [1] iota_S512x128_d1_w32) k0_pay33 x : EReal)
    = heads (keys (pre (m ((c : Thread nD τ).loc main_arg0)) (m ((c : Thread nD τ).loc main_arg1)) (m ((c : Thread nD τ).loc main_arg2)))) (m ((c : Thread nD τ).loc main_arg3)) (ix2 (rowAt t r) j) := by
  obtain rfl : r = x 0 := Fin.ext hr
  exact (congrArg _ (ix2_eta x).symm).trans (tile m c t s hs v hv o ho h (x 0) (x 1) j hj)

/-- The keys' normed heads' array after the run. -/
theorem final7 (c : Dev nD) : (dats m 0 c).arrAt 7 (cfgs 0).N = truncf .bf16 (heads (keys (pre (m ((c : Thread nD τ).loc main_arg0)) (m ((c : Thread nD τ).loc main_arg1)) (m ((c : Thread nD τ).loc main_arg2)))) (m ((c : Thread nD τ).loc main_arg3))) bitsLt_bf16_f32 := by
  refine (dats m 0 c).arrAt_eq_of_covers 7 _ (by decide +kernel) fun t _ y => ?_
  blk_simp
  rw [after0_7]
  refine Eq.trans ?_ (congrArg (heads (keys (pre (m ((c : Thread nD τ).loc main_arg0)) (m ((c : Thread nD τ).loc main_arg1)) (m ((c : Thread nD τ).loc main_arg2)))) (m ((c : Thread nD τ).loc main_arg3))) (show ix2 (rowAt t (y 0)) (y 1) = ((cfg0.win 7).blk t).view.emb y by blk_ext [idx t]))
  canon_tiles x h
  · exact tile_at m c t 1 (by decide) _ (load1 m c t) 3 (by decide) slices_S512x512_o0_384_S512x128 x _ _ h0 h1
  · exact tile_at m c t 1 (by decide) _ (load1 m c t) 2 (by decide) slices_S512x512_o0_256_S512x128 x _ _ h0 h1
  · exact tile_at m c t 1 (by decide) _ (load1 m c t) 1 (by decide) slices_S512x512_o0_128_S512x128 x _ _ h0 h1
  · exact tile_at m c t 1 (by decide) _ (load1 m c t) 0 (by decide) slices_S512x512_o0_0_S512x128 x _ _ h0 h1
  · exact tile_at m c t 0 (by decide) _ (load0 m c t) 3 (by decide) slices_S512x512_o0_384_S512x128 x _ _ h0 h1
  · exact tile_at m c t 0 (by decide) _ (load0 m c t) 2 (by decide) slices_S512x512_o0_256_S512x128 x _ _ h0 h1
  · exact tile_at m c t 0 (by decide) _ (load0 m c t) 1 (by decide) slices_S512x512_o0_128_S512x128 x _ _ h0 h1
  · exact tile_at m c t 0 (by decide) _ (load0 m c t) 0 (by decide) slices_S512x512_o0_0_S512x128 x _ _ h0 (h1.trans (by simp))

/-- A tile of the values at an index of it and the place in the block where it lies. -/
theorem val_at (c : Dev nD) (t : Fin cfg0.N) (s : Fin 4) (hs : 2 ≤ s.val) (v : FVec Ideal S1x1024x512 .bf16) (hv : ∀ k j, v (ix3 0 k j) = (iblk m c 2 t : FVec Ideal S4x1024x512 .bf16) (ix3 s k j))
    (o : ℕ) (ho : o < 4) (h : S512x512.Slices ![0, 128 * o] S512x128) (x : S512x128.Idx) (r : Fin 512) (j : Fin 1024) (hr : r.val = (x 0).val) (hj : 1024 + j.val = s.val * 512 + (128 * o + (x 1).val)) :
    (truncf .bf16 (extractStridedSlice S512x128 ![0, 128 * o] (k0_pay23 (F := Ideal) (k0_pay45 (iblk m c 0 t) (iblk m c 1 t) (iblk m c 2 t) (iblk m c 3 t)) v) h) bitsLt_bf16_f32 x : EReal)
    = vals (pre (m ((c : Thread nD τ).loc main_arg0)) (m ((c : Thread nD τ).loc main_arg1)) (m ((c : Thread nD τ).loc main_arg2))) (ix2 (rowAt t r) j) := by
  obtain rfl : r = x 0 := Fin.ext hr
  refine (congrArg _ (ix2_eta x).symm).trans ((slice_block m c t s v hv o ho h (x 0) (x 1) ⟨1024 + j.val, by have := j.isLt; omega⟩ hj).trans ?_)
  pointwise [vals]

/-- The values' array after the run. -/
theorem final8 (c : Dev nD) : (dats m 0 c).arrAt 8 (cfgs 0).N = truncf .bf16 (vals (pre (m ((c : Thread nD τ).loc main_arg0)) (m ((c : Thread nD τ).loc main_arg1)) (m ((c : Thread nD τ).loc main_arg2)))) bitsLt_bf16_f32 := by
  refine (dats m 0 c).arrAt_eq_of_covers 8 _ (by decide +kernel) fun t _ y => ?_
  blk_simp
  rw [after0_8]
  refine Eq.trans ?_ (congrArg (vals (pre (m ((c : Thread nD τ).loc main_arg0)) (m ((c : Thread nD τ).loc main_arg1)) (m ((c : Thread nD τ).loc main_arg2)))) (show ix2 (rowAt t (y 0)) (y 1) = ((cfg0.win 8).blk t).view.emb y by blk_ext [idx t]))
  canon_tiles x h
  · exact val_at m c t 3 (by decide) _ (load3 m c t) 3 (by decide) slices_S512x512_o0_384_S512x128 x _ _ h0 (by rw [h1]; simp <;> omega)
  · exact val_at m c t 3 (by decide) _ (load3 m c t) 2 (by decide) slices_S512x512_o0_256_S512x128 x _ _ h0 (by rw [h1]; simp <;> omega)
  · exact val_at m c t 3 (by decide) _ (load3 m c t) 1 (by decide) slices_S512x512_o0_128_S512x128 x _ _ h0 (by rw [h1]; simp <;> omega)
  · exact val_at m c t 3 (by decide) _ (load3 m c t) 0 (by decide) slices_S512x512_o0_0_S512x128 x _ _ h0 (by rw [h1]; simp <;> omega)
  · exact val_at m c t 2 (by decide) _ (load2 m c t) 3 (by decide) slices_S512x512_o0_384_S512x128 x _ _ h0 (by rw [h1]; simp <;> omega)
  · exact val_at m c t 2 (by decide) _ (load2 m c t) 2 (by decide) slices_S512x512_o0_256_S512x128 x _ _ h0 (by rw [h1]; simp <;> omega)
  · exact val_at m c t 2 (by decide) _ (load2 m c t) 1 (by decide) slices_S512x512_o0_128_S512x128 x _ _ h0 (by rw [h1]; simp <;> omega)
  · exact val_at m c t 2 (by decide) _ (load2 m c t) 0 (by decide) slices_S512x512_o0_0_S512x128 x _ _ h0 (by rw [h1]; simp)

end Cert.Kernel12Ideal.Hand

namespace Cert.Proof
open Idealize.ShloMosaic Idealize.ShloMosaic.TcCoe Idealize.SL.Sem

/-- The two texts name the same kernel body. -/
theorem body_same12 {F : FTy → Type} [FloatOps F] : Cert.Kernel12.defs₀ (F := F) = Cert.Kernel12Ideal.defs₀ (F := F) := by
  refine congrArg Defs.onTc ?_
  funext l x
  match l, x with
  | 0, (t, s) => rfl

/-- The two texts have the same definitions. -/
theorem defs_same12 {F : FTy → Type} [FloatOps F] : Cert.Kernel12.defs (F := F) = Cert.Kernel12Ideal.defs (F := F) :=
  congrArg (Pipeline.defs (Cert.Kernel12Ideal.pcfgs (F := F))) body_same12

/-- The call as printed, on words. -/
theorem frame_kernel12 : Cert.quiescent_Kernel12 := by
  intro m ρ _
  rw [defs_same12]
  exact Cert.Kernel12Ideal.Gen.frame (F := Bits) m ρ

/-- The call over the extended reals. -/
theorem frame_ideal12 : Cert.quiescent_Kernel12Ideal := fun m ρ _ => Cert.Kernel12Ideal.Gen.frame (F := Ideal) m ρ

/-- The reference over the extended reals. -/
theorem frame_reference12 : Cert.quiescent_Reference12Ideal := fun m ρ _ =>
  (θ_run Cert.Reference12Ideal.defs _ _).mono (fun r h => ⟨fun c => (h c).2.2.2.2.2, sem_eq_zero_of_no_sems (by decide) r.2⟩)
    (Cert.Reference12Ideal.Value.run (F := Ideal) m ρ)

/-- Kernel and reference end with equal results. -/
theorem equal12 : Cert.algebraic_Kernel12Ideal_Reference12Ideal := by
  intro m g m' g' _ hagree
  refine ⟨fun c => (Cert.Kernel12Ideal.Gen.dats m 0 c).arrAt 4 (Cert.Kernel12Ideal.cfgs 0).N,
    fun c => (Cert.Kernel12Ideal.Gen.dats m 0 c).arrAt 5 (Cert.Kernel12Ideal.cfgs 0).N,
    fun c => (Cert.Kernel12Ideal.Gen.dats m 0 c).arrAt 6 (Cert.Kernel12Ideal.cfgs 0).N,
    fun c => (Cert.Kernel12Ideal.Gen.dats m 0 c).arrAt 7 (Cert.Kernel12Ideal.cfgs 0).N,
    fun c => (Cert.Kernel12Ideal.Gen.dats m 0 c).arrAt 8 (Cert.Kernel12Ideal.cfgs 0).N, ?_, ?_⟩
  · exact Cert.Kernel12Ideal.Value.run_blocks (F := Ideal) m g
  · refine (θ_run Cert.Reference12Ideal.defs _ _).mono (fun r h c => ?_) (Cert.Reference12Ideal.Value.run (F := Ideal) m' g')
    obtain ⟨h0, h1, h2, h3, h4, hr⟩ := h c
    obtain ⟨a0, a1, a2, a3⟩ := hagree c
    refine ⟨?_, ?_, ?_, ?_, ?_, hr⟩
    · rw [h0, a0, a1]
      exact (Cert.Kernel12Ideal.Hand.final4 m c).symm
    · rw [h1, a0]
      exact (Cert.Kernel12Ideal.Hand.final5 m c).symm
    · rw [h2, a0, a1, a2]
      exact (Cert.Kernel12Ideal.Hand.final6 m c).symm
    · rw [h3, a0, a1, a2, a3]
      exact (Cert.Kernel12Ideal.Hand.final7 m c).symm
    · rw [h4, a0, a1, a2]
      exact (Cert.Kernel12Ideal.Hand.final8 m c).symm

end Cert.Proof
end
-- ==== Proof.Proj.QIn.lean ====
/-
  The gradient through a product that keeps the layer's width, and its norm (`d_q_in`): its frames and its values.
-/
module

public import proofs.«01_k».proof.Defs
public import proofs.«01_k».proof.Proof.Gen.Kernel14
public import proofs.«01_k».proof.Proof.Gen.Kernel14Ideal.Value
public import proofs.«01_k».proof.Proof.Gen.Reference14Ideal.Run
public import proofs.«01_k».proof.Proof.Mlp.Norm

@[expose] public section
set_option maxRecDepth 16384
noncomputable section

namespace Cert.Kernel14Ideal.Hand
open Idealize.ShloMosaic Idealize.ShloMosaic.TcCoe Idealize.SL.Sem
open Cert.Kernel14Ideal Cert.Kernel14Ideal.Gen
open Idealize.ShloMosaic.Pipeline (Dat)
open Cert.Kernel5Ideal.Hand (hid rs nrm dx dg)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The scales as the call finds them. -/
theorem scales (c : Dev nD) : V m c main_v9 = rs (m ((c : Thread nD τ).loc main_arg0)) := by
  entry_read
  rfl

/-- The weights as the call finds them. -/
theorem weights (c : Dev nD) : V m c main_v0 = (truncf .bf16 (m ((c : Thread nD τ).loc main_arg2) : FVec Ideal S1024x1024 .f32) bitsLt_bf16_f32 : FVec Ideal S1024x1024 .bf16) := by
  entry_read
  rfl

/-- The norm's weights as the call finds them. -/
theorem gains (c : Dev nD) (k : Fin 1024) : (V m c main_v1 : FVec Ideal S1x1024 .f32) (ix2 0 k) = m ((c : Thread nD τ).loc main_arg1) (ix1 k) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the product's cotangent, entry by entry. -/
theorem d_block (c : Dev nD) (t : Fin cfg0.N) (i : Fin 512) (k : Fin 1024) : (iblk m c 0 t : FVec Ideal S512x1024 .bf16) (ix2 i k) = (m ((c : Thread nD τ).loc main_arg3)) (ix2 (rowAt t i) k) := by
  blk_ext [iblk, V, idx t]

/-- A block of the weights, entry by entry. -/
theorem w_block (c : Dev nD) (t : Fin cfg0.N) (j k : Fin 1024) : ((iblk m c 1 t : FVec Ideal S1024x1024 .bf16) (ix2 j k) : EReal) = m ((c : Thread nD τ).loc main_arg2) (ix2 j k) := by
  blk_simp [iblk]
  rw [weights]
  exact congrArg (m ((c : Thread nD τ).loc main_arg2)) (by blk_ext [idx t])

/-- A block of the input, entry by entry. -/
theorem x_block (c : Dev nD) (t : Fin cfg0.N) (i : Fin 512) (k : Fin 1024) : (iblk m c 2 t : FVec Ideal S512x1024 .f32) (ix2 i k) = (m ((c : Thread nD τ).loc main_arg0)) (ix2 (rowAt t i) k) := by
  blk_ext [iblk, V, idx t]

/-- A block of the cotangent that passes the product by, entry by entry. -/
theorem b_block (c : Dev nD) (t : Fin cfg0.N) (i : Fin 512) (k : Fin 1024) : (iblk m c 5 t : FVec Ideal S512x1024 .f32) (ix2 i k) = (m ((c : Thread nD τ).loc main_arg4)) (ix2 (rowAt t i) k) := by
  blk_ext [iblk, V, idx t]

/-- A block of the scales, entry by entry. -/
theorem rs_block (c : Dev nD) (t : Fin cfg0.N) (i : Fin 512) : (iblk m c 4 t : FVec Ideal S512x1 .f32) (ix2 i 0) = rs (m ((c : Thread nD τ).loc main_arg0)) (ix2 (rowAt t i) 0) := by
  blk_simp [iblk]
  rw [scales]
  blk_ext [idx t]

/-- The norm's weights' block, entry by entry. -/
theorem g_block (c : Dev nD) (t : Fin cfg0.N) (k : Fin 1024) : (iblk m c 3 t : FVec Ideal S1x1024 .f32) (ix2 0 k) = (m ((c : Thread nD τ).loc main_arg1)) (ix1 k) := by
  rw [← gains m c k]
  blk_ext [iblk, idx t]

/-- The normed input's block, entry by entry. -/
theorem xn_block (c : Dev nD) (t : Fin cfg0.N) (i : Fin 512) (k : Fin 1024) : k0_pay4 (F := Ideal) (iblk m c 4 t) (iblk m c 2 t) (ix2 i k)
    = nrm (m ((c : Thread nD τ).loc main_arg0)) (rowAt t i) k := by
  pointwise [k0_pay4, k0_pay3]
  rw [x_block, rs_block]
  rfl

/-- One block of the cotangent of the normed input, entry by entry. -/
theorem hid_block (c : Dev nD) (t : Fin cfg0.N) (i : Fin 512) (k : Fin 1024) : (k0_pay2 (F := Ideal) (iblk m c 0 t) (iblk m c 1 t) (ix2 i k) : EReal)
    = hid (m ((c : Thread nD τ).loc main_arg2)) (m ((c : Thread nD τ).loc main_arg3)) (rowAt t i) k := by
  pointwise [k0_pay2, hid]
  simp only [d_block, w_block]

/-- What a grid point leaves of the first result. -/
theorem point (c : Dev nD) (t : Fin cfg0.N) (i : Fin 512) (k : Fin 1024) : (k0_pay6 (F := Ideal) (iblk m c 0 t) (iblk m c 1 t) (iblk m c 4 t) (iblk m c 2 t) (iblk m c 3 t) (iblk m c 5 t) (ix2 i k) : EReal)
    = dx (m ((c : Thread nD τ).loc main_arg0)) (m ((c : Thread nD τ).loc main_arg1)) (hid (m ((c : Thread nD τ).loc main_arg2)) (m ((c : Thread nD τ).loc main_arg3))) (m ((c : Thread nD τ).loc main_arg4)) (ix2 (rowAt t i) k) := by
  pointwise [k0_pay6, k0_pay3, dx]
  simp only [hid_block, xn_block, rs_block, g_block, b_block]

/-- The first result's array after the run. -/
theorem final6 (c : Dev nD) : (dats m 0 c).arrAt 6 (cfgs 0).N = dx (m ((c : Thread nD τ).loc main_arg0)) (m ((c : Thread nD τ).loc main_arg1)) (hid (m ((c : Thread nD τ).loc main_arg2)) (m ((c : Thread nD τ).loc main_arg3))) (m ((c : Thread nD τ).loc main_arg4)) := by
  refine (dats m 0 c).arrAt_eq_of_covers 6 _ (by decide +kernel) fun t _ y => ?_
  blk_simp
  rw [after0_6]
  refine Eq.trans ?_ (congrArg (dx _ _ _ _) (show ix2 (rowAt t (y 0)) (y 1) = ((cfg0.win 6).blk t).view.emb y by blk_ext [idx t]))
  by_cases h : t.val % 4 = 0
  · rw [outsAt0_A m c t h]
    frame_out
    exact (congrArg _ (ix2_eta y).symm).trans (point m c t (y 0) (y 1))
  · rw [outsAt0_B m c t h]
    frame_out
    exact (congrArg _ (ix2_eta y).symm).trans (point m c t (y 0) (y 1))

/-- The second result's array after the run. -/
theorem final7 (c : Dev nD) : (dats m 0 c).arrAt 7 (cfgs 0).N = dg (m ((c : Thread nD τ).loc main_arg0)) (hid (m ((c : Thread nD τ).loc main_arg2)) (m ((c : Thread nD τ).loc main_arg3))) := by
  refine (dats m 0 c).arrAt_eq_of_after_last 7 t0_3 (by decide +kernel) _ fun j => ?_
  blk_simp
  rw [after0_7, Pipeline.eq_sum_fin_of_reset_step_apply_last (fun n h => (outsAt0 m c n h).2) 4 (fun _ => 0) (fun (t : Fin cfg0.N) (j : S1x1024.Idx) => ∑ k : Fin 512, k0_pay2 (F := Ideal) (iblk m c 0 t) (iblk m c 1 t) (ix2 k (j 1)) * k0_pay4 (F := Ideal) (iblk m c 4 t) (iblk m c 2 t) (ix2 k (j 1)))
    (fun t h j => by rw [outsAt0_A m c t h]; frame_out; pointwise [k0_pay1, k0_pay5]) (fun t h j => by rw [outsAt0_B m c t h]; frame_out; pointwise [k0_pay5])
    (le_of_eq N_0) t0_3 rfl j, zero_add]
  refine Fin.sum_mul_add_congr (f := fun l : Fin 2048 => hid (m ((c : Thread nD τ).loc main_arg2)) (m ((c : Thread nD τ).loc main_arg3)) l (j 1) * nrm (m ((c : Thread nD τ).loc main_arg0)) l (j 1)) (fun p k _ => ?_) (by rw [show cfg0.N = 4 from N_0])
  exact congrArg₂ (HMul.hMul (α := EReal)) (hid_block m c p k (j 1)) (xn_block m c p k (j 1))

/-- The reference's first result is the same gradient. -/
theorem same6 (m' : (ℓ : Loc Cert.Reference14Ideal.nD Cert.Reference14Ideal.τ Cert.Reference14Ideal.sig) → Buf (Elt Ideal) ℓ) (c : Dev Cert.Reference14Ideal.nD) :
    Cert.Reference14Ideal.Value.res_main_v39 m' c = dx (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (hid (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3))) (m' ((c.tc : Thread Cert.Reference14Ideal.nD Cert.Reference14Ideal.τ).loc Cert.Reference14Ideal.main_arg4)) := by
  funext i
  rw [eq_ix2 i]
  pointwise [Cert.Reference14Ideal.Value.res_main_v39, dx, hid, nrm, rs]
  simp only [Finset.univ_unique, Finset.sum_singleton]
  exact Cert.Mlp.back (fun k => (m' (c.tc.loc Cert.Reference14Ideal.main_arg0)) (ix2 (i 0) k)) (fun k => (m' (c.tc.loc Cert.Reference14Ideal.main_arg1)) (ix1 k)) (hid (m' (c.tc.loc Cert.Reference14Ideal.main_arg2)) (m' (c.tc.loc Cert.Reference14Ideal.main_arg3)) (i 0)) _ _ _

/-- The reference's second result is the same gradient. -/
theorem same7 (x : FVec Ideal S2048x1024 .f32) (w : FVec Ideal S1024x1024 .f32) (d : FVec Ideal S2048x1024 .bf16) :
    shapeCast _ (Host.reduceAdd (shapeCast _ (Host.reduceAdd (mulf (mulf x (broadcastInDim S2048x1024 ![0, 1] Cert.Reference14Ideal.Gen.bcast_S2048x1_S2048x1024_0_1 (rs x))) (Host.dotGeneral Cert.Reference14Ideal.dot_S2048x1024_S1024x1024_S2048x1024_1_1_0_0_n_n none (extf .f32 d bitsLt_bf16_f32) w)) (constant S_ .f32 0x00000000#32) Cert.Reference14Ideal.Gen.reducesTo_S2048x1024_S1024_d0 h_S_) Cert.Reference14Ideal.Gen.shapeCasts_S1024_S1x1024)
      (constant S_ .f32 0x00000000#32) Cert.Reference14Ideal.Gen.reducesTo_S1x1024_S1024_d0 h_S_) Cert.Reference14Ideal.Gen.shapeCasts_S1024_S1x1024 = dg x (hid w d) := by
  funext i
  pointwise [dg, hid, nrm]
  simp only [Finset.univ_unique, Finset.sum_singleton]
  exact Finset.sum_congr rfl fun k _ => mul_comm _ _

end Cert.Kernel14Ideal.Hand

namespace Cert.Proof
open Idealize.ShloMosaic Idealize.ShloMosaic.TcCoe Idealize.SL.Sem

/-- The two texts name the same kernel body. -/
theorem body_same14 {F : FTy → Type} [FloatOps F] : Cert.Kernel14.defs₀ (F := F) = Cert.Kernel14Ideal.defs₀ (F := F) := by
  refine congrArg Defs.onTc ?_
  funext l x
  match l, x with
  | 0, (t, s) => rfl

/-- The two texts have the same definitions. -/
theorem defs_same14 {F : FTy → Type} [FloatOps F] : Cert.Kernel14.defs (F := F) = Cert.Kernel14Ideal.defs (F := F) :=
  congrArg (Pipeline.defs (Cert.Kernel14Ideal.pcfgs (F := F))) body_same14

/-- The call as printed, on words. -/
theorem frame_kernel14 : Cert.quiescent_Kernel14 := by
  intro m ρ _
  rw [defs_same14]
  exact Cert.Kernel14Ideal.Gen.frame (F := Bits) m ρ

/-- The call over the extended reals. -/
theorem frame_ideal14 : Cert.quiescent_Kernel14Ideal := fun m ρ _ => Cert.Kernel14Ideal.Gen.frame (F := Ideal) m ρ

/-- The reference over the extended reals. -/
theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- Kernel and reference end with equal results. -/
theorem equal14 : Cert.algebraic_Kernel14Ideal_Reference14Ideal := by
  intro m g m' g' _ hagree
  refine ⟨fun c => (Cert.Kernel14Ideal.Gen.dats m 0 c).arrAt 6 (Cert.Kernel14Ideal.cfgs 0).N, fun c => (Cert.Kernel14Ideal.Gen.dats m 0 c).arrAt 7 (Cert.Kernel14Ideal.cfgs 0).N, ?_, ?_⟩
  · exact Cert.Kernel14Ideal.Value.run_blocks (F := Ideal) m g
  · refine (θ_run Cert.Reference14Ideal.defs _ _).mono (fun r h c => ?_) (Cert.Reference14Ideal.Value.run (F := Ideal) m' g')
    obtain ⟨h0, h1, hr⟩ := h c
    obtain ⟨a0, a1, a2, a3, a4⟩ := hagree c
    refine ⟨?_, ?_, hr⟩
    · rw [h0, Cert.Kernel14Ideal.Hand.same6 m' c, a0, a1, a2, a3, a4]
      exact (Cert.Kernel14Ideal.Hand.final6 m c).symm
    · rw [h1, a0, a2, a3]
      exact (Cert.Kernel14Ideal.Hand.same7 _ _ _).trans (Cert.Kernel14Ideal.Hand.final7 m c).symm

end Cert.Proof
end
-- ==== Proof.Proj.OutWeights.lean ====
/-
  The gradient of a layer's last weights (`d_w_out_b`, `d_w_out_a`): its frames and its value.
-/
module

public import proofs.«01_k».proof.Defs
public import proofs.«01_k».proof.Proof.Gen.Kernel16
public import proofs.«01_k».proof.Proof.Gen.Kernel16Ideal.Value
public import proofs.«01_k».proof.Proof.Gen.Reference16Ideal.Run
public import proofs.«01_k».proof.Proof.Mlp.Act
public import Idealize.ShloMosaic.Lib.Pipeline.ReadBack

@[expose] public section
set_option maxRecDepth 16384
noncomputable section

namespace Cert.Kernel16Ideal.Hand
open Idealize.ShloMosaic Idealize.ShloMosaic.TcCoe Idealize.SL.Sem
open Cert.Kernel16Ideal Cert.Kernel16Ideal.Gen
open Idealize.ShloMosaic.Pipeline (Dat)

variable (m : (ℓ : Loc nD τ sig) → Buf (Elt Ideal) ℓ)

/-- The gradient of a product's weights: its left factor, transposed, times the cotangent. -/
def grad (o d : S2048x1024.Idx → EReal) : FVec Ideal S1024x1024 .f32 :=
  fun i => ∑ k : Fin 2048, o (ix2 k (i 0)) * d (ix2 k (i 1))

/-- The windows' block indices. -/
theorem idx : ∀ t : Fin cfg0.N, win0_0.index t = ![0, t.val] ∧ win0_1.index t = ![0, 0] ∧ win0_2.index t = ![t.val, 0] :=
  (by decide +kernel : ∀ t : Fin grid0.N, _)

/-- The left factor's block at a grid point, entry by entry. -/
theorem o_block (c : Dev nD) (t : Fin cfg0.N) (k : Fin 2048) (y : S512x1024.Idx) : (iblk m c 0 t : FVec Ideal S2048x512 .bf16) (ix2 k (y 0))
    = m ((c : Thread nD τ).loc main_arg0) (ix2 k ((((cfg0.win 2).blk t).view.emb y) 0)) := by
  blk_ext [iblk, V, idx t]

/-- The cast of the cotangent is the identity over the reals. -/
theorem cast_at (X : Vec Ideal S2048x1024 .f32) (y : S2048x1024.Idx) : (k0_pay1 X y : EReal) = X y := by
  pointwise [k0_pay1]

/-- The cotangent's block is the whole array. -/
theorem cot (c : Dev nD) (t : Fin cfg0.N) (y : S2048x1024.Idx) : (iblk m c 1 t : FVec Ideal S2048x1024 .f32) y = m ((c : Thread nD τ).loc main_arg2) y := by
  blk_ext [iblk, V, idx t]

/-- After every grid point the scratch holds the cotangent. -/
theorem scratch (c : Dev nD) : ∀ (n : ℕ) (h : n < cfg0.N) (y : S2048x1024.Idx), ((outsAt0 m c n h).2 y : EReal) = m ((c : Thread nD τ).loc main_arg2) y
  | 0, h, y => by
    rw [outsAt0_A m c ⟨0, h⟩ (Nat.zero_mod _)]
    frame_out
    rw [cast_at, cot]
  | n + 1, h, y => by
    have hN := lt_of_lt_of_eq h (show cfg0.N = 2 from N_0)
    rw [outsAt0_B m c ⟨n + 1, h⟩ (by show ¬ (n + 1) % 2 = 0; omega)]
    frame_out
    exact scratch c n _ y

/-- The result array after the run. -/
theorem final (c : Dev nD) : (dats m 0 c).arrAt 2 (cfgs 0).N = grad (m ((c : Thread nD τ).loc main_arg0)) (m ((c : Thread nD τ).loc main_arg2)) := by
  refine (dats m 0 c).arrAt_eq_of_covers 2 _ (by decide +kernel) fun t _ y => ?_
  blk_simp
  rw [after0_2]
  by_cases h : t.val % 2 = 0
  · rw [outsAt0_A m c t h]
    frame_out
    pointwise [k0_pay2, grad]
    refine Fin.sum_fin_congr fun k => ?_
    rw [cast_at, cot, o_block m c t k y]
    refine congrArg (HMul.hMul (α := EReal) _) ?_
    blk_ext [idx t]
  · rw [outsAt0_B m c t h]
    frame_out
    pointwise [k0_pay2, grad]
    refine Fin.sum_fin_congr fun k => ?_
    rw [Idealize.ShloMosaic.read_unread_whole, scratch, o_block m c t k y]
    refine congrArg (HMul.hMul (α := EReal) _) ?_
    blk_ext [idx t]

/-- The reference's formula is the same gradient. -/
theorem same (o d : FVec Ideal S2048x1024 .f32) :
    transpose S1024x1024 [1, 0] (Host.dotGeneral Cert.Reference16Ideal.dot_S2048x1024_S2048x1024_S1024x1024_0_0_1_1_n_n none d o) Cert.Reference16Ideal.Gen.transposes_S1024x1024_S1024x1024_1_0 = grad o d := by
  funext i
  pointwise [grad]
  exact Finset.sum_congr rfl fun k _ => mul_comm _ _

end Cert.Kernel16Ideal.Hand

namespace Cert.Proof
open Idealize.ShloMosaic Idealize.ShloMosaic.TcCoe Idealize.SL.Sem

/-- The two texts name the same kernel body. -/
theorem body_same16 {F : FTy → Type} [FloatOps F] : Cert.Kernel16.defs₀ (F := F) = Cert.Kernel16Ideal.defs₀ (F := F) := by
  refine congrArg Defs.onTc ?_
  funext l x
  match l, x with
  | 0, (t, s) => rfl

/-- The two texts have the same definitions. -/
theorem defs_same16 {F : FTy → Type} [FloatOps F] : Cert.Kernel16.defs (F := F) = Cert.Kernel16Ideal.defs (F := F) :=
  congrArg (Pipeline.defs (Cert.Kernel16Ideal.pcfgs (F := F))) body_same16

/-- The call as printed, on words. -/
theorem frame_kernel16 : Cert.quiescent_Kernel16 := by
  intro m ρ _
  rw [defs_same16]
  exact Cert.Kernel16Ideal.Gen.frame (F := Bits) m ρ

/-- The call over the extended reals. -/
theorem frame_ideal16 : Cert.quiescent_Kernel16Ideal := fun m ρ _ => Cert.Kernel16Ideal.Gen.frame (F := Ideal) m ρ

/-- The reference over the extended reals. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- Kernel and reference end with equal results. -/
theorem equal16 : Cert.algebraic_Kernel16Ideal_Reference16Ideal := by
  intro m g m' g' _ hagree
  refine ⟨fun c => (Cert.Kernel16Ideal.Gen.dats m 0 c).arrAt 2 (Cert.Kernel16Ideal.cfgs 0).N, ?_, ?_⟩
  · exact Cert.Kernel16Ideal.Value.run_blocks (F := Ideal) m g
  · refine (θ_run Cert.Reference16Ideal.defs _ _).mono (fun r h c => ?_) (Cert.Reference16Ideal.Value.run (F := Ideal) m' g')
    obtain ⟨h0, hr⟩ := h c
    obtain ⟨a0, a1, a2⟩ := hagree c
    refine ⟨?_, hr⟩
    rw [h0, a0, a2]
    exact (Cert.Kernel16Ideal.Hand.same (extf .f32 _ Cert.Kernel16Ideal.Gen.bitsLt_bf16_f32) _).trans (Cert.Kernel16Ideal.Hand.final m c).symm

end Cert.Proof
end
-- ==== Proof.Proj.QWeights.lean ====
/-
  The gradient of the weights of a product that keeps the layer's width (`d_w_q`, `d_w_ple_gate`): its frames and its value.
-/
module

public import proofs.«01_k».proof.Defs
public import proofs.«01_k».proof.Proof.Gen.Kernel15
public import proofs.«01_k».proof.Proof.Gen.Kernel15Ideal.Value
public import proofs.«01_k».proof.Proof.Gen.Reference15Ideal.Run
public import proofs.«01_k».proof.Proof.Proj.OutWeights

@[expose] public section
set_option maxRecDepth 16384
noncomputable section

namespace Cert.Kernel15Ideal.Hand
open Idealize.ShloMosaic Idealize.ShloMosaic.TcCoe Idealize.SL.Sem
open Cert.Kernel15Ideal Cert.Kernel15Ideal.Gen
open Idealize.ShloMosaic.Pipeline (Dat)
open Cert.Kernel2Ideal.Hand (normed)
open Cert.Kernel16Ideal.Hand (grad)

variable (m : (ℓ : Loc nD τ sig) → Buf (Elt Ideal) ℓ)

/-- The windows' block indices. -/
theorem idx : ∀ t : Fin cfg0.N, win0_0.index t = ![0, t.val] ∧ win0_1.index t = ![0, 0] ∧ win0_2.index t = ![t.val, 0] :=
  (by decide +kernel : ∀ t : Fin grid0.N, _)

/-- The normed input as the call finds it. -/
theorem inp (c : Dev nD) : V m c main_v13 = truncf .bf16 (normed (m ((c : Thread nD τ).loc main_arg0)) (m ((c : Thread nD τ).loc main_arg1))) bitsLt_bf16_f32 := by
  entry_read
  rfl

/-- The normed input's block at a grid point, entry by entry. -/
theorem inp_block (c : Dev nD) (t : Fin cfg0.N) (k : Fin 2048) (y : S512x1024.Idx) : (iblk m c 0 t : FVec Ideal S2048x512 .bf16) (ix2 k (y 0))
    = (normed (m ((c : Thread nD τ).loc main_arg0)) (m ((c : Thread nD τ).loc main_arg1))) (ix2 k ((((cfg0.win 2).blk t).view.emb y) 0)) := by
  blk_simp [iblk]
  rw [inp]
  exact congrArg (fun i => (normed _ _ i : EReal)) (by blk_ext [idx t])

/-- The copied cotangent's entries, at a grid point that copies it. -/
theorem cot (c : Dev nD) (t : Fin cfg0.N) (y : S2048x1024.Idx) : (k0_pay1 (iblk m c 1 t : FVec Ideal S2048x1024 .bf16) y : EReal) = m ((c : Thread nD τ).loc main_arg3) y := by
  pointwise [k0_pay1]
  blk_ext [iblk, V, idx t]

/-- After every grid point the scratch holds the cotangent, which the first one copies into it. -/
theorem scratch (c : Dev nD) : ∀ (n : ℕ) (h : n < cfg0.N) (y : S2048x1024.Idx), ((outsAt0 m c n h).2 y : EReal) = m ((c : Thread nD τ).loc main_arg3) y
  | 0, h, y => by
    rw [outsAt0_A m c ⟨0, h⟩ (Nat.zero_mod _)]
    frame_out
    exact cot m c ⟨0, h⟩ y
  | n + 1, h, y => by
    have hN := lt_of_lt_of_eq h (show cfg0.N = 2 from N_0)
    rw [outsAt0_B m c ⟨n + 1, h⟩ (by show ¬ (n + 1) % 2 = 0; omega)]
    frame_out
    exact scratch c n _ y

/-- The result array after the run. -/
theorem final (c : Dev nD) : (dats m 0 c).arrAt 2 (cfgs 0).N = grad (normed (m ((c : Thread nD τ).loc main_arg0)) (m ((c : Thread nD τ).loc main_arg1))) (m ((c : Thread nD τ).loc main_arg3)) := by
  refine (dats m 0 c).arrAt_eq_of_covers 2 _ (by decide +kernel) fun t _ y => ?_
  blk_simp
  rw [after0_2]
  by_cases h : t.val % 2 = 0
  · rw [outsAt0_A m c t h]
    frame_out
    pointwise [k0_pay2, grad]
    refine Fin.sum_fin_congr fun k => ?_
    rw [cot, inp_block m c t k y]
    exact congrArg (HMul.hMul (α := EReal) _) (congrArg (m ((c : Thread nD τ).loc main_arg3)) (by blk_ext [idx t]))
  · rw [outsAt0_B m c t h]
    frame_out
    pointwise [k0_pay2, grad]
    refine Fin.sum_fin_congr fun k => ?_
    rw [Idealize.ShloMosaic.read_unread_whole, scratch, inp_block m c t k y]
    exact congrArg (HMul.hMul (α := EReal) _) (congrArg (m ((c : Thread nD τ).loc main_arg3)) (by blk_ext [idx t]))

end Cert.Kernel15Ideal.Hand

namespace Cert.Proof
open Idealize.ShloMosaic Idealize.ShloMosaic.TcCoe Idealize.SL.Sem

/-- The two texts name the same kernel body. -/
theorem body_same15 {F : FTy → Type} [FloatOps F] : Cert.Kernel15.defs₀ (F := F) = Cert.Kernel15Ideal.defs₀ (F := F) := by
  refine congrArg Defs.onTc ?_
  funext l x
  match l, x with
  | 0, (t, s) => rfl

/-- The two texts have the same definitions. -/
theorem defs_same15 {F : FTy → Type} [FloatOps F] : Cert.Kernel15.defs (F := F) = Cert.Kernel15Ideal.defs (F := F) :=
  congrArg (Pipeline.defs (Cert.Kernel15Ideal.pcfgs (F := F))) body_same15

/-- The call as printed, on words. -/
theorem frame_kernel15 : Cert.quiescent_Kernel15 := by
  intro m ρ _
  rw [defs_same15]
  exact Cert.Kernel15Ideal.Gen.frame (F := Bits) m ρ

/-- The call over the extended reals. -/
theorem frame_ideal15 : Cert.quiescent_Kernel15Ideal := fun m ρ _ => Cert.Kernel15Ideal.Gen.frame (F := Ideal) m ρ

/-- The reference over the extended reals. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- Kernel and reference end with equal results. -/
theorem equal15 : Cert.algebraic_Kernel15Ideal_Reference15Ideal := by
  intro m g m' g' _ hagree
  refine ⟨fun c => (Cert.Kernel15Ideal.Gen.dats m 0 c).arrAt 2 (Cert.Kernel15Ideal.cfgs 0).N, ?_, ?_⟩
  · exact Cert.Kernel15Ideal.Value.run_blocks (F := Ideal) m g
  · refine (θ_run Cert.Reference15Ideal.defs _ _).mono (fun r h c => ?_) (Cert.Reference15Ideal.Value.run (F := Ideal) m' g')
    obtain ⟨h0, hr⟩ := h c
    obtain ⟨a0, a1, a2, a3⟩ := hagree c
    refine ⟨?_, hr⟩
    rw [h0, a0, a1, a3]
    exact (Cert.Kernel16Ideal.Hand.same (Cert.Kernel2Ideal.Hand.normed _ _) (extf .f32 _ Cert.Kernel16Ideal.Gen.bitsLt_bf16_f32)).trans (Cert.Kernel15Ideal.Hand.final m c).symm

end Cert.Proof
end
-- ==== Proof.Proj.MixOutBack.lean ====
/-
  The gradient through the spatial mixer's last product (`d_sgu_out`): its frames and its value.
-/
module

public import proofs.«01_k».proof.Defs
public import proofs.«01_k».proof.Proof.Gen.Kernel18
public import proofs.«01_k».proof.Proof.Gen.Kernel18Ideal.Value
public import proofs.«01_k».proof.Proof.Gen.Reference18Ideal.Run
public import proofs.«01_k».proof.Proof.Mlp.Act

@[expose] public section
set_option maxRecDepth 16384
noncomputable section

namespace Cert.Kernel18Ideal.Hand
open Idealize.ShloMosaic Idealize.ShloMosaic.TcCoe Idealize.SL.Sem
open Cert.Kernel18Ideal Cert.Kernel18Ideal.Gen
open Idealize.ShloMosaic.Pipeline (Dat)

/-- The gradient through a product: the cotangent times the weights, transposed. -/
def back (w : FVec Ideal S1024x1024 .f32) (d : FVec Ideal S2048x1024 .f32) : FVec Ideal S2048x1024 .f32 :=
  Host.dotGeneral Cert.Reference18Ideal.dot_S2048x1024_S1024x1024_S2048x1024_1_1_0_0_n_n none d w

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The weights as the call finds them. -/
theorem weights (c : Dev nD) : V m c main_v0 = (truncf .bf16 (m ((c : Thread nD τ).loc main_arg1) : FVec Ideal S1024x1024 .f32) bitsLt_bf16_f32 : FVec Ideal S1024x1024 .bf16) := by
  entry_read
  rfl

/-- The array's row that a block's row is. -/
abbrev rowAt (t : Fin cfg0.N) (i : Fin 512) : Fin 2048 := ⟨t.val * 512 + i.val, by have h := lt_of_lt_of_eq t.isLt N_0; have := i.isLt; omega⟩

/-- A block of the cotangent, entry by entry. -/
theorem d_block (c : Dev nD) (t : Fin cfg0.N) (i : Fin 512) (k : Fin 1024) : (iblk m c 0 t : FVec Ideal S512x1024 .f32) (ix2 i k) = m ((c : Thread nD τ).loc main_arg2) (ix2 (rowAt t i) k) := by
  blk_ext [iblk, V, idx t]

/-- A block of the weights, entry by entry. -/
theorem w_block (c : Dev nD) (t : Fin cfg0.N) (j k : Fin 1024) : ((iblk m c 1 t : FVec Ideal S1024x1024 .bf16) (ix2 j k) : EReal) = m ((c : Thread nD τ).loc main_arg1) (ix2 j k) := by
  blk_simp [iblk]
  rw [weights]
  exact congrArg (m ((c : Thread nD τ).loc main_arg1)) (by blk_ext [idx t])

/-- What a grid point leaves of the result. -/
theorem point (c : Dev nD) (t : Fin cfg0.N) (i : Fin 512) (k : Fin 1024) : (k0_pay1 (F := Ideal) (iblk m c 0 t) (iblk m c 1 t) (ix2 i k) : EReal)
    = back (m ((c : Thread nD τ).loc main_arg1)) (m ((c : Thread nD τ).loc main_arg2)) (ix2 (rowAt t i) k) := by
  pointwise [k0_pay1, back]
  simp only [d_block, w_block]

/-- The result array after the run. -/
theorem final (c : Dev nD) : (dats m 0 c).arrAt 2 (cfgs 0).N = back (m ((c : Thread nD τ).loc main_arg1)) (m ((c : Thread nD τ).loc main_arg2)) := by
  refine (dats m 0 c).arrAt_eq_of_covers 2 _ (by decide +kernel) fun t _ y => ?_
  blk_simp
  rw [after0_2]
  frame_out
  refine (congrArg _ (ix2_eta y).symm).trans ((point m c t (y 0) (y 1)).trans ?_)
  exact congrArg (back _ _) (by blk_ext [idx t])

end Cert.Kernel18Ideal.Hand

namespace Cert.Proof
open Idealize.ShloMosaic Idealize.ShloMosaic.TcCoe Idealize.SL.Sem

/-- The two texts name the same kernel body. -/
theorem body_same18 {F : FTy → Type} [FloatOps F] : Cert.Kernel18.defs₀ (F := F) = Cert.Kernel18Ideal.defs₀ (F := F) := by
  refine congrArg Defs.onTc ?_
  funext l x
  match l, x with
  | 0, (t, s) => rfl

/-- The two texts have the same definitions. -/
theorem defs_same18 {F : FTy → Type} [FloatOps F] : Cert.Kernel18.defs (F := F) = Cert.Kernel18Ideal.defs (F := F) :=
  congrArg (Pipeline.defs (Cert.Kernel18Ideal.pcfgs (F := F))) body_same18

/-- The call as printed, on words. -/
theorem frame_kernel18 : Cert.quiescent_Kernel18 := by
  intro m ρ _
  rw [defs_same18]
  exact Cert.Kernel18Ideal.Gen.frame (F := Bits) m ρ

/-- The call over the extended reals. -/
theorem frame_ideal18 : Cert.quiescent_Kernel18Ideal := fun m ρ _ => Cert.Kernel18Ideal.Gen.frame (F := Ideal) m ρ

/-- The reference over the extended reals. -/
theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- Kernel and reference end with equal results. -/
theorem equal18 : Cert.algebraic_Kernel18Ideal_Reference18Ideal := by
  intro m g m' g' _ hagree
  refine ⟨fun c => (Cert.Kernel18Ideal.Gen.dats m 0 c).arrAt 2 (Cert.Kernel18Ideal.cfgs 0).N, ?_, ?_⟩
  · exact Cert.Kernel18Ideal.Value.run_blocks (F := Ideal) m g
  · refine (θ_run Cert.Reference18Ideal.defs _ _).mono (fun r h c => ?_) (Cert.Reference18Ideal.Value.run (F := Ideal) m' g')
    obtain ⟨h0, hr⟩ := h c
    obtain ⟨a0, a1, a2⟩ := hagree c
    refine ⟨?_, hr⟩
    rw [h0, a1, a2]
    exact (Cert.Kernel18Ideal.Hand.final m c).symm

end Cert.Proof
end
-- ==== Proof.Proj.OutBack.lean ====
/-
  The gradient through the attention's last product (`d_sb_out`): its frames and its value.
-/
module

public import proofs.«01_k».proof.Defs
public import proofs.«01_k».proof.Proof.Gen.Kernel17
public import proofs.«01_k».proof.Proof.Gen.Kernel17Ideal.Value
public import proofs.«01_k».proof.Proof.Gen.Reference17Ideal.Run
public import proofs.«01_k».proof.Proof.Proj.MixOutBack

@[expose] public section
set_option maxRecDepth 16384
noncomputable section

namespace Cert.Kernel17Ideal.Hand
open Idealize.ShloMosaic Idealize.ShloMosaic.TcCoe Idealize.SL.Sem
open Cert.Kernel17Ideal Cert.Kernel17Ideal.Gen
open Idealize.ShloMosaic.Pipeline (Dat)
open Cert.Kernel18Ideal.Hand (back)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The weights as the call finds them. -/
theorem weights (c : Dev nD) : V m c main_v0 = (truncf .bf16 (m ((c : Thread nD τ).loc main_arg1) : FVec Ideal S1024x1024 .f32) bitsLt_bf16_f32 : FVec Ideal S1024x1024 .bf16) := by
  entry_read
  rfl

/-- The array's row that a block's row is. -/
abbrev rowAt (t : Fin cfg0.N) (i : Fin 512) : Fin 2048 := ⟨t.val * 512 + i.val, by have h := lt_of_lt_of_eq t.isLt N_0; have := i.isLt; omega⟩

/-- A block of the cotangent, entry by entry. -/
theorem d_block (c : Dev nD) (t : Fin cfg0.N) (i : Fin 512) (k : Fin 1024) : (iblk m c 0 t : FVec Ideal S512x1024 .f32) (ix2 i k) = m ((c : Thread nD τ).loc main_arg2) (ix2 (rowAt t i) k) := by
  blk_ext [iblk, V, idx t]

/-- A block of the weights, entry by entry. -/
theorem w_block (c : Dev nD) (t : Fin cfg0.N) (j k : Fin 1024) : ((iblk m c 1 t : FVec Ideal S1024x1024 .bf16) (ix2 j k) : EReal) = m ((c : Thread nD τ).loc main_arg1) (ix2 j k) := by
  blk_simp [iblk]
  rw [weights]
  exact congrArg (m ((c : Thread nD τ).loc main_arg1)) (by blk_ext [idx t])

/-- What a grid point leaves of the result. -/
theorem point (c : Dev nD) (t : Fin cfg0.N) (i : Fin 512) (k : Fin 1024) : (k0_pay1 (F := Ideal) (iblk m c 0 t) (iblk m c 1 t) (ix2 i k) : EReal)
    = back (m ((c : Thread nD τ).loc main_arg1)) (m ((c : Thread nD τ).loc main_arg2)) (ix2 (rowAt t i) k) := by
  pointwise [k0_pay1, back]
  simp only [d_block, w_block]

/-- The result array after the run. -/
theorem final (c : Dev nD) : (dats m 0 c).arrAt 2 (cfgs 0).N = truncf .bf16 (back (m ((c : Thread nD τ).loc main_arg1)) (m ((c : Thread nD τ).loc main_arg2))) bitsLt_bf16_f32 := by
  refine (dats m 0 c).arrAt_eq_of_covers 2 _ (by decide +kernel) fun t _ y => ?_
  blk_simp
  rw [after0_2]
  frame_out
  refine (congrArg _ (ix2_eta y).symm).trans ((point m c t (y 0) (y 1)).trans ?_)
  exact congrArg (back _ _) (by blk_ext [idx t])

end Cert.Kernel17Ideal.Hand

namespace Cert.Proof
open Idealize.ShloMosaic Idealize.ShloMosaic.TcCoe Idealize.SL.Sem

/-- The two texts name the same kernel body. -/
theorem body_same17 {F : FTy → Type} [FloatOps F] : Cert.Kernel17.defs₀ (F := F) = Cert.Kernel17Ideal.defs₀ (F := F) := by
  refine congrArg Defs.onTc ?_
  funext l x
  match l, x with
  | 0, (t, s) => rfl

/-- The two texts have the same definitions. -/
theorem defs_same17 {F : FTy → Type} [FloatOps F] : Cert.Kernel17.defs (F := F) = Cert.Kernel17Ideal.defs (F := F) :=
  congrArg (Pipeline.defs (Cert.Kernel17Ideal.pcfgs (F := F))) body_same17

/-- The call as printed, on words. -/
theorem frame_kernel17 : Cert.quiescent_Kernel17 := by
  intro m ρ _
  rw [defs_same17]
  exact Cert.Kernel17Ideal.Gen.frame (F := Bits) m ρ

/-- The call over the extended reals. -/
theorem frame_ideal17 : Cert.quiescent_Kernel17Ideal := fun m ρ _ => Cert.Kernel17Ideal.Gen.frame (F := Ideal) m ρ

/-- The reference over the extended reals. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- Kernel and reference end with equal results. -/
theorem equal17 : Cert.algebraic_Kernel17Ideal_Reference17Ideal := by
  intro m g m' g' _ hagree
  refine ⟨fun c => (Cert.Kernel17Ideal.Gen.dats m 0 c).arrAt 2 (Cert.Kernel17Ideal.cfgs 0).N, ?_, ?_⟩
  · exact Cert.Kernel17Ideal.Value.run_blocks (F := Ideal) m g
  · refine (θ_run Cert.Reference17Ideal.defs _ _).mono (fun r h c => ?_) (Cert.Reference17Ideal.Value.run (F := Ideal) m' g')
    obtain ⟨h0, hr⟩ := h c
    obtain ⟨a0, a1, a2⟩ := hagree c
    refine ⟨?_, hr⟩
    rw [h0, a1, a2]
    exact (Cert.Kernel17Ideal.Hand.final m c).symm

end Cert.Proof
end
-- ==== Proof.Proj.Out.lean ====
/-
  The product of a layer's last weights, added to the layer's input (`sb_out`, `sgu_out`): its frames and its value.
-/
module

public import proofs.«01_k».proof.Defs
public import proofs.«01_k».proof.Proof.Gen.Kernel19
public import proofs.«01_k».proof.Proof.Gen.Kernel19Ideal.Value
public import proofs.«01_k».proof.Proof.Gen.Reference19Ideal.Run
public import proofs.«01_k».proof.Proof.Mlp.Act

@[expose] public section
set_option maxRecDepth 16384
noncomputable section

namespace Cert.Kernel19Ideal.Hand
open Idealize.ShloMosaic Idealize.ShloMosaic.TcCoe Idealize.SL.Sem
open Cert.Kernel19Ideal Cert.Kernel19Ideal.Gen
open Idealize.ShloMosaic.Pipeline (Dat)

variable (m : (ℓ : Loc nD τ sig) → Buf (Elt Ideal) ℓ)

/-- The result: the layer's input, and the branch's value times the weights. -/
def out (o : FVec Ideal S2048x1024 .bf16) (w : FVec Ideal S1024x1024 .f32) (x : FVec Ideal S2048x1024 .f32) : FVec Ideal S2048x1024 .f32 :=
  addf x (Host.dotGeneral Cert.Reference19Ideal.dot_S2048x1024_S1024x1024_S2048x1024_1_0_0_1_n_n none (extf .f32 o bitsLt_bf16_f32) w)

/-- The windows' block indices. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The weights as the call finds them. -/
theorem weights (c : Dev nD) : V m c main_v0 = (truncf .bf16 (m ((c : Thread nD τ).loc main_arg1) : FVec Ideal S1024x1024 .f32) bitsLt_bf16_f32 : FVec Ideal S1024x1024 .bf16) := by
  entry_read
  rfl

/-- The array's row that a block's row is. -/
abbrev rowAt (t : Fin cfg0.N) (i : Fin 512) : Fin 2048 := ⟨t.val * 512 + i.val, by have h := lt_of_lt_of_eq t.isLt N_0; have := i.isLt; omega⟩

/-- A block of the branch's value, entry by entry. -/
theorem o_block (c : Dev nD) (t : Fin cfg0.N) (i : Fin 512) (k : Fin 1024) : (iblk m c 0 t : FVec Ideal S512x1024 .bf16) (ix2 i k) = m ((c : Thread nD τ).loc main_arg0) (ix2 (rowAt t i) k) := by
  blk_ext [iblk, V, idx t]

/-- A block of the weights, entry by entry. -/
theorem w_block (c : Dev nD) (t : Fin cfg0.N) (j k : Fin 1024) : ((iblk m c 1 t : FVec Ideal S1024x1024 .bf16) (ix2 j k) : EReal) = m ((c : Thread nD τ).loc main_arg1) (ix2 j k) := by
  blk_simp [iblk]
  rw [weights]
  exact congrArg (m ((c : Thread nD τ).loc main_arg1)) (by blk_ext [idx t])

/-- A block of the layer's input, entry by entry. -/
theorem x_block (c : Dev nD) (t : Fin cfg0.N) (i : Fin 512) (k : Fin 1024) : (iblk m c 2 t : FVec Ideal S512x1024 .f32) (ix2 i k) = m ((c : Thread nD τ).loc main_arg2) (ix2 (rowAt t i) k) := by
  blk_ext [iblk, V, idx t]

/-- What a grid point leaves of the result. -/
theorem point (c : Dev nD) (t : Fin cfg0.N) (i : Fin 512) (k : Fin 1024) : (k0_pay1 (F := Ideal) (iblk m c 2 t) (iblk m c 0 t) (iblk m c 1 t) (ix2 i k) : EReal)
    = out (m ((c : Thread nD τ).loc main_arg0)) (m ((c : Thread nD τ).loc main_arg1)) (m ((c : Thread nD τ).loc main_arg2)) (ix2 (rowAt t i) k) := by
  pointwise [k0_pay1, out]
  simp only [o_block, w_block, x_block]

/-- The result array after the run. -/
theorem final (c : Dev nD) : (dats m 0 c).arrAt 3 (cfgs 0).N = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  refine (congrArg _ (ix2_eta y).symm).trans ((point m c t (y 0) (y 1)).trans ?_)
  exact congrArg (out _ _ _) (by blk_ext [idx t])

end Cert.Kernel19Ideal.Hand

namespace Cert.Proof
open Idealize.ShloMosaic Idealize.ShloMosaic.TcCoe Idealize.SL.Sem

/-- The two texts name the same kernel body. -/
theorem body_same19 {F : FTy → Type} [FloatOps F] : Cert.Kernel19.defs₀ (F := F) = Cert.Kernel19Ideal.defs₀ (F := F) := by
  refine congrArg Defs.onTc ?_
  funext l x
  match l, x with
  | 0, (t, s) => rfl

/-- The two texts have the same definitions. -/
theorem defs_same19 {F : FTy → Type} [FloatOps F] : Cert.Kernel19.defs (F := F) = Cert.Kernel19Ideal.defs (F := F) :=
  congrArg (Pipeline.defs (Cert.Kernel19Ideal.pcfgs (F := F))) body_same19

/-- The call as printed, on words. -/
theorem frame_kernel19 : Cert.quiescent_Kernel19 := by
  intro m ρ _
  rw [defs_same19]
  exact Cert.Kernel19Ideal.Gen.frame (F := Bits) m ρ

/-- The call over the extended reals. -/
theorem frame_ideal19 : Cert.quiescent_Kernel19Ideal := fun m ρ _ => Cert.Kernel19Ideal.Gen.frame (F := Ideal) m ρ

/-- The reference over the extended reals. -/
theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- Kernel and reference end with equal results. -/
theorem equal19 : Cert.algebraic_Kernel19Ideal_Reference19Ideal := by
  intro m g m' g' _ hagree
  refine ⟨fun c => (Cert.Kernel19Ideal.Gen.dats m 0 c).arrAt 3 (Cert.Kernel19Ideal.cfgs 0).N, ?_, ?_⟩
  · exact Cert.Kernel19Ideal.Value.run_blocks (F := Ideal) m g
  · refine (θ_run Cert.Reference19Ideal.defs _ _).mono (fun r h c => ?_) (Cert.Reference19Ideal.Value.run (F := Ideal) m' g')
    obtain ⟨h0, hr⟩ := h c
    obtain ⟨a0, a1, a2⟩ := hagree c
    refine ⟨?_, hr⟩
    rw [h0, a0, a1, a2]
    exact (Cert.Kernel19Ideal.Hand.final m c).symm

end Cert.Proof
end
-- ==== Proof.Attn.Body.lean ====
/-
  The attention's forward kernel, one grid point: what the run leaves in the output's buffer, as a function of the
  blocks of queries, keys and values it finds.
-/
module

public import proofs.«01_k».proof.Defs
public import proofs.«01_k».proof.Proof.Gen.Kernel23
public import proofs.«01_k».proof.Proof.Gen.Kernel23Ideal
public import proofs.«01_k».proof.Proof.Gen.Kernel23Ideal.Skeleton
public import proofs.«01_k».proof.Proof.Gen.Kernel23Ideal.Frame
public import proofs.«01_k».proof.Proof.Gen.Kernel23Ideal.Launch
public import proofs.«01_k».proof.Proof.Gen.Kernel23Ideal.Points
public import proofs.«01_k».proof.Proof.Gen.Reference23Ideal.Run
public import proofs.«01_k».proof.Proof.Value.Grads

@[expose] public section
set_option maxRecDepth 16384
noncomputable section

namespace Cert.Kernel23Ideal.Hand
open Idealize.ShloMosaic Idealize.ShloMosaic.TcCoe Idealize.SL.Sem
open Cert.Kernel23Ideal Cert.Kernel23Ideal.Gen
open Cert.KernelIdeal.Hand (blk blk_inb)

variable {F : FTy → Type} [FloatOps F]

/-! ## The point's values by name -/

section Model
variable (X : Vec F S512x128 .bf16) (K V : ℕ → Vec F S256x128 .bf16) (i : ℕ)

/-- The row sums after the last block of keys. -/
def sumA : FVec F S1024x1 .f32 :=
  k0_pay44 k0_pay35 k0_pay37 (k0_pay38 X (K (2 * i + 1))) (k0_pay39 X (K (2 * i + 1))) (k0_pay40 X (K (2 * i + 1)))
/-- The weighted values of the last block. -/
def accA : FVec F S1024x128 .f32 :=
  k0_pay43 k0_pay33 k0_pay35 k0_pay36 k0_pay37 (k0_pay38 X (K (2 * i + 1))) (k0_pay39 X (K (2 * i + 1))) (k0_pay40 X (K (2 * i + 1))) (V (2 * i + 1))
/-- The running row sums and weighted values before block `2 i - 1 - n`. -/
def st : ℕ → FVec F S1024x1 .f32 × FVec F S1024x128 .f32
  | 0 => (k0_pay52 (sumA X K i) k0_pay45 (k0_pay46 (k0_pay34 X) (K (2 * i))) (k0_pay47 (k0_pay34 X) (K (2 * i))) (k0_pay48 (k0_pay34 X) (K (2 * i))) (Scalar.ofBits .f32 0x00000000#32),
      k0_pay51 k0_pay33 (accA X K V i) (sumA X K i) k0_pay45 (k0_pay46 (k0_pay34 X) (K (2 * i))) (k0_pay47 (k0_pay34 X) (K (2 * i))) (k0_pay48 (k0_pay34 X) (K (2 * i))) (Scalar.ofBits .f32 0x00000000#32) (V (2 * i)))
  | n + 1 => (k0_pay24 (k0_pay34 X) (st n).1 (K (2 * i - 1 - n)),
      k0_pay23 k0_pay33 (k0_pay34 X) (st n).1 (st n).2 (K (2 * i - 1 - n)) (V (2 * i - 1 - n)))
/-- What the point stores. -/
def out : FVec F S512x128 .bf16 := k0_pay19 k0_pay32 (st X K V i (2 * i)).2
end Model

/-! ## The loops' numbers -/

/-- The loop over pairs of blocks makes one trip for each row block before the point's. -/
theorem t1_trips : ∀ i : grid0.Coords, (k0_t1_loop i).trips = (i 1).val := by decide +kernel
/-- The loops over what is left make no trip. -/
theorem t2_zero : ∀ i : grid0.Coords, (k0_t2_loop i).trips = 0 := by decide +kernel
/-- So does the next. -/
theorem t3_zero : ∀ i : grid0.Coords, (k0_t3_loop i).trips = 0 := by decide +kernel
/-- So does the last. -/
theorem t4_zero : ∀ i : grid0.Coords, (k0_t4_loop i).trips = 0 := by decide +kernel
/-- The later block of a trip. -/
theorem off2_1 : ∀ (i : grid0.Coords) (k : Fin (k0_t1_loop i).trips), k0_off2 i k 1#32 = ![256 * (2 * (i 1).val - 1 - 2 * k.val), 0] := by decide +kernel
/-- The earlier block of a trip. -/
theorem off2_2 : ∀ (i : grid0.Coords) (k : Fin (k0_t1_loop i).trips), k0_off2 i k 2#32 = ![256 * (2 * (i 1).val - 2 - 2 * k.val), 0] := by decide +kernel
/-- The first diagonal block. -/
theorem off1_0 : ∀ (i : grid0.Coords), k0_off1 i 0#32 = ![256 * (2 * (i 1).val), 0] := by decide +kernel
/-- The second diagonal block. -/
theorem off1_1 : ∀ (i : grid0.Coords), k0_off1 i 1#32 = ![256 * (2 * (i 1).val + 1), 0] := by decide +kernel

/-- A load of 256 rows of a buffer holding `x` reads a block of `x`. -/
theorem load_blk {κ : Kind} {sp : Space} (v : View sig κ sp S2048x128 .bf16) (f : v.ty.Contents (Elt F)) (x : Vec F S2048x128 .bf16)
    (hx : v.read (Elt F) f = x) {off : Fin 2 → ℕ} (inb) {j : ℕ} (h : off = ![256 * j, 0]) (hj : j < 8) :
    v.readAt (Elt F) (Rect.unit (s := S2048x128) off S256x128.size inb).toLoadRect f = blk x j := by
  subst hx
  exact View.readAt_unit v f inb (by rw [h, Nat.mod_eq_of_lt hj]) (blk_inb j)

section Run
variable (c : Dev nD) (i : grid0.Coords) (arg2 : Memref sig .tc .vmem S512x128 .bf16) (harg2 : arg2.IsWhole)
  (arg3 : Memref sig .tc .vmem S2048x128 .bf16) (harg3 : arg3.IsWhole) (arg4 : Memref sig .tc .vmem S2048x128 .bf16) (harg4 : arg4.IsWhole)
  (arg5 : Memref sig .tc .vmem S512x128 .bf16) (harg5 : arg5.IsWhole) (X : Vec F S512x128 .bf16) (k v : Vec F S2048x128 .bf16)

/-- A load of the whole buffer of queries. -/
theorem load_all : arg2.view.readAt (Elt F) (Rect.unit (s := S512x128) ![0, 0] S512x128.size inb_S512x128_S512x128_0_0).toLoadRect (harg2.unread X) = X :=
  (View.readAt_full arg2.view _ _).trans (harg2.read_unread X)

/-- One trip: the two blocks in turn. -/
theorem trip (v109 c0 : BitVec 32) (a : FVec F S1024x1 .f32 × FVec F S1024x128 .f32) (n : Fin (k0_t1_loop i).trips)
    (ha : a = st X (blk k) (blk v) (i 1).val (2 * n.val)) :
    tripR_k0_t1 Variants.none c none i arg2 harg2 arg3 harg3 arg4 harg4 arg5 harg5 k0_pay33 (k0_pay34 X) v109 c0 (harg3.unread k) (harg4.unread v) n a
      = st X (blk k) (blk v) (i 1).val (2 * (n.val + 1)) := by
  subst ha
  have hn : n.val < (i 1).val := t1_trips i ▸ n.isLt
  have h4 : (i 1).val < 4 := (i 1).isLt
  unfold tripR_k0_t1 trip_k0_t1
  dsimp only
  unfold trip_k0_t1.sl.r trip_k0_t1.sl.r_1 trip_k0_t1.sl.r_2 trip_k0_t1.sl.cst_75
  rw [load_blk _ _ k (harg3.read_unread _) _ (off2_1 i n) (by omega), load_blk _ _ v (harg4.read_unread _) _ (off2_1 i n) (by omega),
    load_blk _ _ k (harg3.read_unread _) _ (off2_2 i n) (by omega), load_blk _ _ v (harg4.read_unread _) _ (off2_2 i n) (by omega)]
  rw [show 2 * (n.val + 1) = 2 * n.val + 1 + 1 from rfl]
  simp only [st, show 2 * (i 1).val - 1 - (2 * n.val + 1) = 2 * (i 1).val - 2 - 2 * n.val by omega]
  rfl

/-- The loop's first `n` trips. -/
theorem trips (v109 c0 : BitVec 32) : ∀ n ≤ (i 1).val,
    st_k0_t1 Variants.none c none i arg2 harg2 arg3 harg3 arg4 harg4 arg5 harg5 k0_pay33 (k0_pay34 X) v109 c0 (harg3.unread k) (harg4.unread v) (st X (blk k) (blk v) (i 1).val 0) n
      = st X (blk k) (blk v) (i 1).val (2 * n)
  | 0, _ => rfl
  | n + 1, h => (st_k0_t1_succ Variants.none c none i arg2 harg2 arg3 harg3 arg4 harg4 arg5 harg5 k0_pay33 (k0_pay34 X) v109 c0 (harg3.unread k) (harg4.unread v) (st X (blk k) (blk v) (i 1).val 0) ⟨n, (t1_trips i).symm ▸ h⟩).trans
      (trip c i arg2 harg2 arg3 harg3 arg4 harg4 arg5 harg5 X k v v109 c0 _ ⟨n, (t1_trips i).symm ▸ h⟩ (trips v109 c0 n (by omega)))

/-- The block of queries is loaded whole. -/
theorem queries : kernelRun0_A.sl.r c arg2 harg2 X = k0_pay34 X := by
  unfold kernelRun0_A.sl.r
  exact congrArg k0_pay34 (load_all arg2 harg2 X)

/-- What the two diagonal blocks leave. -/
theorem start : (kernelRun0_A.sl.r_10 c i arg2 harg2 arg3 harg3 X k, kernelRun0_A.sl.r_9 c i arg2 harg2 arg3 harg3 arg4 harg4 X k v) = st X (blk k) (blk v) (i 1).val 0 := by
  have h4 : (i 1).val < 4 := (i 1).isLt
  unfold kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.cst_26
  rw [load_blk _ _ k (harg3.read_unread _) _ (off1_0 i) (by omega), load_blk _ _ v (harg4.read_unread _) _ (off1_0 i) (by omega),
    load_blk _ _ k (harg3.read_unread _) _ (off1_1 i) (by omega), load_blk _ _ v (harg4.read_unread _) _ (off1_1 i) (by omega), queries, load_all]
  rfl

/-- What the run stores. -/
theorem pieces : (kernelRun0_A c i arg2 harg2 arg3 harg3 arg4 harg4 arg5 harg5 X k v).1
    = [⟨Rect.unit (s := S512x128) ![0, 0] S512x128.size inb_S512x128_S512x128_0_0, out X (blk k) (blk v) (i 1).val⟩] := by
  unfold kernelRun0_A
  dsimp only
  refine congrArg (fun a : FVec F S1024x1 .f32 × FVec F S1024x128 .f32 => [(⟨Rect.unit (s := S512x128) ![0, 0] S512x128.size inb_S512x128_S512x128_0_0, k0_pay19 k0_pay32 a.2⟩ : View.Piece (Elt F) S512x128 .bf16)]) (?_ : _ = st X (blk k) (blk v) (i 1).val (2 * (i 1).val))
  have e4 : (k0_t4_loop i).trips = 0 := t4_zero i
  have e3 : (k0_t3_loop i).trips = 0 := t3_zero i
  have e2 : (k0_t2_loop i).trips = 0 := t2_zero i
  refine (congrArg _ (e4 : Scf.trips _ _ _ = 0)).trans ((st_k0_t4_zero ..).trans ?_)
  refine (congrArg _ (e3 : Scf.trips _ _ _ = 0)).trans ((st_k0_t3_zero ..).trans ?_)
  refine (congrArg _ (e2 : Scf.trips _ _ _ = 0)).trans ((st_k0_t2_zero ..).trans ?_)
  rw [queries, start]
  exact (congrArg (st_k0_t1 Variants.none c none i arg2 harg2 arg3 harg3 arg4 harg4 arg5 harg5 k0_pay33 (k0_pay34 X) (kernelRun0_A.sl.v17 i) 0#32 (harg3.unread k) (harg4.unread v) (st X (blk k) (blk v) (i 1).val 0)) (t1_trips i)).trans
    (trips c i arg2 harg2 arg3 harg3 arg4 harg4 arg5 harg5 X k v _ _ _ le_rfl)
end Run

end Cert.Kernel23Ideal.Hand
end
-- ==== Proof.Attn.Value.lean ====
/-
  The attention's forward kernel over the reals: what a grid point stores.
-/
module

public import proofs.«01_k».proof.Proof.Attn.Body
public import proofs.«01_k».proof.Proof.Value.Final

@[expose] public section
set_option maxRecDepth 16384
noncomputable section

namespace Cert.Kernel23Ideal.Hand
open Idealize.ShloMosaic Idealize.ShloMosaic.TcCoe Idealize.SL.Sem
open Cert.Kernel23Ideal Cert.Kernel23Ideal.Gen Cert.Sb
open Cert.KernelIdeal.Hand (blk i0 i1 carA car sV Holds colsum lt_word)
open Finset (range Ico mem_range mem_Ico sum_congr sum_Ico_consecutive)

section Same
variable (X : Vec Ideal S512x128 .bf16) (K V : ℕ → Vec Ideal S256x128 .bf16) (i : ℕ)

/-- The two passes stack the queries alike. -/
theorem same_stack : k0_pay34 X = Cert.KernelIdeal.Gen.k0_pay58 X := rfl

/-- The row sums after the last block are those of the backward kernel's first pass. -/
theorem sumA_eq : sumA X K i = carA (k0_pay34 X) K i := rfl

/-- So are the running row sums. -/
theorem sums_eq : ∀ n, (st X K V i n).1 = car (k0_pay34 X) K i n
  | 0 => rfl
  | n + 1 => congrArg (fun a => k0_pay24 (k0_pay34 X) a (K (2 * i - 1 - n))) (sums_eq n)

/-- An earlier block's step of the weighted values. -/
theorem low_step (Q : FVec Ideal S1024x128 .bf16) (s : FVec Ideal S1024x1 .f32) (a : FVec Ideal S1024x128 .f32) (Kj Vj : Vec Ideal S256x128 .bf16) (r : Fin 1024) (l : Fin 128) :
    k0_pay23 k0_pay33 Q s a Kj Vj (ix2 r l)
      = a (ix2 r l) + ∑ x : Fin 256, Cert.KernelIdeal.Gen.k0_pay13 (Cert.KernelIdeal.Gen.k0_pay4 Cert.KernelIdeal.Gen.k0_pay56 Q s Kj) (ix2 r x) * Vj (ix2 x l) := by
  pointwise [k0_pay23, k0_pay22, k0_pay21, k0_pay20, k0_pay33, Cert.KernelIdeal.Gen.k0_pay13, Cert.KernelIdeal.Gen.k0_pay4, Cert.KernelIdeal.Gen.k0_pay3, Cert.KernelIdeal.Gen.k0_pay2, Cert.KernelIdeal.Gen.k0_pay1, Cert.KernelIdeal.Gen.k0_pay56]

/-- The step of the last block but one. -/
theorem first_step (Q : FVec Ideal S1024x128 .bf16) (s : FVec Ideal S1024x1 .f32) (a : FVec Ideal S1024x128 .f32) (Kj Vj : Vec Ideal S256x128 .bf16) (r : Fin 1024) (l : Fin 128) :
    k0_pay51 k0_pay33 a s k0_pay45 (k0_pay46 Q Kj) (k0_pay47 Q Kj) (k0_pay48 Q Kj) (Scalar.ofBits .f32 0x00000000#32) Vj (ix2 r l)
      = a (ix2 r l) + ∑ x : Fin 256, Cert.KernelIdeal.Gen.k0_pay108 (Cert.KernelIdeal.Gen.k0_pay72 Cert.KernelIdeal.Gen.k0_pay56 Q s i0 i1 0#32 Kj) (ix2 r x) * Vj (ix2 x l) := by
  pointwise [k0_pay51, k0_pay50, k0_pay49, k0_pay48, k0_pay47, k0_pay46, k0_pay45, k0_pay33, i0, i1, Cert.KernelIdeal.Gen.k0_pay108, Cert.KernelIdeal.Gen.k0_pay107, Cert.KernelIdeal.Gen.k0_pay72, Cert.KernelIdeal.Gen.k0_pay71, Cert.KernelIdeal.Gen.k0_pay70, Cert.KernelIdeal.Gen.k0_pay69, Cert.KernelIdeal.Gen.k0_pay56]

/-- The step of the last block. -/
theorem last_step (Kj Vj : Vec Ideal S256x128 .bf16) (r : Fin 1024) (l : Fin 128) :
    k0_pay43 k0_pay33 k0_pay35 k0_pay36 k0_pay37 (k0_pay38 X Kj) (k0_pay39 X Kj) (k0_pay40 X Kj) Vj (ix2 r l)
      = ∑ x : Fin 256, Cert.KernelIdeal.Gen.k0_pay116 (Cert.KernelIdeal.Gen.k0_pay66 Cert.KernelIdeal.Gen.k0_pay56 (k0_pay34 X) Cert.KernelIdeal.Gen.k0_pay60 i0 Cert.KernelIdeal.Gen.k0_pay61 Cert.KernelIdeal.Gen.k0_pay62 Kj) (ix2 r x) * Vj (ix2 x l) := by
  pointwise [k0_pay43, k0_pay42, k0_pay41, k0_pay40, k0_pay39, k0_pay38, k0_pay37, k0_pay36, k0_pay35, k0_pay33, i0, Cert.KernelIdeal.Gen.k0_pay116, Cert.KernelIdeal.Gen.k0_pay115, Cert.KernelIdeal.Gen.k0_pay66, Cert.KernelIdeal.Gen.k0_pay65, Cert.KernelIdeal.Gen.k0_pay64, Cert.KernelIdeal.Gen.k0_pay63, Cert.KernelIdeal.Gen.k0_pay62, Cert.KernelIdeal.Gen.k0_pay61, Cert.KernelIdeal.Gen.k0_pay60, Cert.KernelIdeal.Gen.k0_pay56]
end Same

section At
variable {q k u o : ℕ → ℕ → ℝ} {v : ℕ → ℕ → EReal} {p i : ℕ} {X : Vec Ideal S512x128 .bf16} {D : FVec Ideal S1024x128 .bf16} {K U V : ℕ → Vec Ideal S256x128 .bf16}
variable (H : Holds q k u o p i (k0_pay34 X) D K U)
variable (W : ∀ j, j < 8 → ∀ (r : Fin 256) (l : Fin 128), V j (ix2 r l) = v (256 * j + r.val) (128 * p + l.val))
include W

/-- A block of weights times the block of values. -/
theorem byValues (F : Fin 256 → EReal) (j : ℕ) (hj : j < 8) (r : Fin 1024) (l : Fin 128)
    (hF : ∀ x : Fin 256, F x = ((A q k (2 * p + r.val / 512) (512 * i + r.val % 512) (256 * j + x.val) : ℝ) : EReal)) :
    ∑ x, F x * V j (ix2 x l) = ∑ b ∈ Ico (256 * j) (256 * (j + 1)), (A q k (2 * p + r.val / 512) (512 * i + r.val % 512) b : EReal) * v b (128 * p + l.val) := by
  rw [Finset.sum_Ico_eq_sum_range, show 256 * (j + 1) - 256 * j = 256 by omega, Finset.sum_range]
  exact sum_congr rfl fun x _ => by rw [hF, W j hj]

include H

/-- The weighted values of the last block. -/
theorem accA_at (r : Fin 1024) (l : Fin 128) : accA X K V i (ix2 r l)
    = ∑ b ∈ Ico (256 * (2 * i + 1)) 2048, (A q k (2 * p + r.val / 512) (512 * i + r.val % 512) b : EReal) * v b (128 * p + l.val) := by
  have := H.hi
  rw [← sum_Ico_consecutive _ (show 256 * (2 * i + 1) ≤ 256 * (2 * i + 1 + 1) by omega) (show 256 * (2 * i + 1 + 1) ≤ 2048 by omega),
    Finset.sum_eq_zero (s := Ico (256 * (2 * i + 1 + 1)) 2048) (fun b hb => by rw [mem_Ico] at hb; rw [A_zero q k _ _ _ (by omega), EReal.coe_zero, zero_mul]), add_zero]
  refine (last_step X _ _ r l).trans ?_
  refine byValues W _ (2 * i + 1) (by omega) r l fun x => ?_
  rw [← H.a_last r x, sV, if_pos rfl]

/-- The weighted values so far: all the later keys. -/
theorem st_at (r : Fin 1024) (l : Fin 128) (n : ℕ) (hn : n ≤ 2 * i) : (st X K V i n).2 (ix2 r l)
    = ∑ b ∈ Ico (256 * (2 * i - n)) 2048, (A q k (2 * p + r.val / 512) (512 * i + r.val % 512) b : EReal) * v b (128 * p + l.val) := by
  have := H.hi
  induction n with
  | zero =>
    rw [← sum_Ico_consecutive _ (show 256 * (2 * i - 0) ≤ 256 * (2 * i + 1) by omega) (show 256 * (2 * i + 1) ≤ 2048 by omega),
      add_comm (∑ b ∈ Ico _ _, _), ← accA_at H W r l, Nat.sub_zero]
    refine (first_step (k0_pay34 X) (sumA X K i) (accA X K V i) _ _ r l).trans (congrArg _ ?_)
    refine byValues W _ (2 * i) (by omega) r l fun x => ?_
    rw [← H.a_first r x, sV, if_neg (by omega), if_pos rfl, sumA_eq]
  | succ n ih =>
    rw [← sum_Ico_consecutive _ (show 256 * (2 * i - (n + 1)) ≤ 256 * (2 * i - n) by omega) (show 256 * (2 * i - n) ≤ 2048 by omega),
      add_comm (∑ b ∈ Ico _ _, _), ← ih (by omega), show 2 * i - n = (2 * i - 1 - n) + 1 by omega, show 2 * i - (n + 1) = 2 * i - 1 - n by omega]
    refine (low_step (k0_pay34 X) (st X K V i n).1 (st X K V i n).2 _ _ r l).trans (congrArg _ ?_)
    refine byValues W _ (2 * i - 1 - n) (by omega) r l fun x => ?_
    rw [← H.a_low (2 * i - 1 - n) (by omega) r x, sV, if_neg (by omega), if_neg (by omega), sums_eq, show 2 * i - 1 - (2 * i - 1 - n) = n by omega]

/-- What the point stores. -/
theorem out_at (r : Fin 512) (l : Fin 128) : out X K V i (ix2 r l)
    = ∑ b ∈ range 2048, (A q k (2 * p + l.val / 64) (512 * i + r.val) b : EReal) * v b (128 * p + l.val) := by
  have hr := r.isLt
  have hl := l.isLt
  have e : out X K V i (ix2 r l) = Scalar.select (if l.val < 64 then 1#1 else 0#1)
      ((st X K V i (2 * i)).2 (ix2 (⟨r.val, by omega⟩ : Fin 1024) l)) ((st X K V i (2 * i)).2 (ix2 (⟨512 + r.val, by omega⟩ : Fin 1024) l)) := by
    rw [← lt_word l.val 64 (by omega) (by omega)]
    pointwise [out, k0_pay19, k0_pay32]
  rw [e, st_at H W _ _ _ le_rfl, st_at H W _ _ _ le_rfl, Nat.sub_self, mul_zero, Nat.Ico_zero_eq_range]
  by_cases h : l.val < 64
  · rw [if_pos h, show l.val / 64 = 0 by omega]
    refine Eq.trans (show Scalar.select 1#1 _ _ = _ from if_pos rfl) ?_
    simp only [show r.val / 512 = 0 by omega, show r.val % 512 = r.val by omega]
  · rw [if_neg h, show l.val / 64 = 1 by omega]
    refine Eq.trans (show Scalar.select 0#1 _ _ = _ from if_neg (by decide)) ?_
    simp only [show (512 + r.val) / 512 = 1 by omega, show (512 + r.val) % 512 = r.val by omega]
end At

end Cert.Kernel23Ideal.Hand
end
-- ==== Proof.Attn.Final.lean ====
/-
  The attention's output after the run, over the reals.
-/
module

public import proofs.«01_k».proof.Proof.Attn.Value

@[expose] public section
set_option maxRecDepth 16384
noncomputable section

namespace Cert.Kernel23Ideal.Hand
open Idealize.ShloMosaic Idealize.ShloMosaic.TcCoe Idealize.SL.Sem
open Cert.Kernel23Ideal Cert.Kernel23Ideal.Gen Cert.Sb
open Cert.KernelIdeal.Hand (blk blk_apply rd AllReal Holds stack58 blk_real)
open Finset (range)
open Idealize.ShloMosaic.Pipeline (Dat)

/-- The windows' block indices. -/
theorem idx : ∀ t : Fin cfg0.N, win0_0.index t = ![t.val % 4, t.val / 4] ∧ win0_1.index t = ![0, t.val / 4] ∧ win0_2.index t = ![0, t.val / 4]
    ∧ win0_3.index t = ![t.val % 4, t.val / 4] :=
  (by decide +kernel : ∀ t : Fin grid0.N, _)

/-- The row block of a point. -/
theorem coord1 : ∀ t : Fin grid0.N, (grid0.coords t 1).val = t.val % 4 := by decide +kernel

variable (m : (ℓ : Loc nD τ sig) → Buf (Elt Ideal) ℓ) (c : Dev nD)

/-- The queries. -/
abbrev opQ : FVec Ideal S2048x1024 .bf16 := m ((c : Thread nD τ).loc main_arg0)
/-- The keys. -/
abbrev opK : FVec Ideal S2048x1024 .bf16 := m ((c : Thread nD τ).loc main_arg1)
/-- The values. -/
abbrev opV : FVec Ideal S2048x1024 .bf16 := m ((c : Thread nD τ).loc main_arg2)

/-- The entries of the queries and keys are real numbers. -/
structure Fine : Prop where
  q : AllReal (opQ m c)
  k : AllReal (opK m c)

/-- The rows of `q` at a point. -/
theorem read0 (f : Fine m c) (t : Fin grid0.N) (r : Fin 512) (l : Fin 128) :
    iblk m c 0 t (ix2 r l) = ((rd (opQ m c) (512 * (t.val % 4) + r.val) (128 * (t.val / 4) + l.val) : ℝ) : EReal) := by
  refine Eq.trans ?_ (f.q.eq (((cfg0.win 0).blk t).view.emb (ix2 r l)) _ _ ?_ ?_)
  · blk_simp [iblk]
  all_goals blk_simp [idx t]
  all_goals omega

/-- The columns of `k` at a point. -/
theorem read1 (f : Fine m c) (t : Fin grid0.N) (r : Fin 2048) (l : Fin 128) :
    iblk m c 1 t (ix2 r l) = ((rd (opK m c) r.val (128 * (t.val / 4) + l.val) : ℝ) : EReal) := by
  refine Eq.trans ?_ (f.k.eq (((cfg0.win 1).blk t).view.emb (ix2 r l)) _ _ ?_ ?_)
  · blk_simp [iblk]
  all_goals blk_simp [idx t]
  all_goals omega

/-- The values by natural-number indices. -/
def val (X : FVec Ideal S2048x1024 .bf16) (a b : ℕ) : EReal :=
  X (ix2 (⟨a % 2048, Nat.mod_lt _ (by decide)⟩ : Fin 2048) (⟨b % 1024, Nat.mod_lt _ (by decide)⟩ : Fin 1024))

/-- The columns of `v` at a point. -/
theorem read2 (t : Fin grid0.N) (r : Fin 2048) (l : Fin 128) :
    iblk m c 2 t (ix2 r l) = val (opV m c) r.val (128 * (t.val / 4) + l.val) := by
  have ht : t.val < 32 := t.isLt
  have hl := l.isLt
  have hr := r.isLt
  unfold val
  blk_simp [iblk]
  refine congrArg (opV m c) (funext fun a => Fin.ext ?_)
  match a with
  | 0 => refine Eq.trans ?_ (Nat.mod_eq_of_lt (by omega : r.val < 2048)).symm; blk_simp [idx t]
  | 1 => refine Eq.trans ?_ (Nat.mod_eq_of_lt (by omega : 128 * (t.val / 4) + l.val < 1024)).symm; blk_simp [idx t]; omega

/-- A block of the values at an index. -/
theorem values (t : Fin grid0.N) (j : ℕ) (hj : j < 8) (r : Fin 256) (l : Fin 128) :
    blk (iblk m c 2 t) j (ix2 r l) = val (opV m c) (256 * j + r.val) (128 * (t.val / 4) + l.val) := by
  rw [← read2 m c t ⟨256 * j + r.val, by omega⟩ l]
  exact blk_apply _ j _ _ (by show 256 * j + r.val = 256 * (j % 8) + r.val; omega) rfl

/-- Zeros are the real number 0. -/
theorem zeros (j : ℕ) (_ : j < 8) (r : Fin 256) (l : Fin 128) : (fun _ _ => 0 : ℕ → Vec Ideal S256x128 .bf16) j (ix2 r l) = ((0 : ℝ) : EReal) :=
  EReal.coe_zero.symm

/-- What the point finds, of the queries and the keys. -/
theorem holds (f : Fine m c) (t : Fin grid0.N) :
    Holds (rd (opQ m c)) (rd (opK m c)) (fun _ _ => 0) (rd (opQ m c)) (t.val / 4) (grid0.coords t 1).val
      (k0_pay34 (iblk m c 0 t)) (k0_pay34 (iblk m c 0 t)) (blk (iblk m c 1 t)) (fun _ _ => 0) := by
  rw [coord1]
  exact ⟨Nat.mod_lt _ (by omega), fun r l => stack58 _ (rd (opQ m c)) _ _ (read0 m c f t) r l, fun r l => stack58 _ (rd (opQ m c)) _ _ (read0 m c f t) r l,
    fun j hj r l => blk_real _ (rd (opK m c)) _ (read1 m c f t) j hj r l,
    zeros⟩

/-- What the output's buffer holds after a point. -/
theorem left_by (t : Fin cfg0.N) : outsAt0 m c t = out (iblk m c 0 t) (blk (iblk m c 1 t)) (blk (iblk m c 2 t)) (grid0.coords t 1).val := by
  unfold outsAt0 out0_A_3
  rw [pieces]
  exact View.read_writes_full _ _ _ _ _

/-- The attention's output. -/
def attn : FVec Ideal S2048x1024 .bf16 := fun x =>
  ∑ b ∈ range 2048, (A (rd (opQ m c)) (rd (opK m c)) ((x 1).val / 64) (x 0).val b : EReal) * val (opV m c) b (x 1).val

/-- The result array after the run. -/
theorem final (f : Fine m c) : (dats m 0 c).arrAt 3 (cfgs 0).N = attn m c := by
  refine (dats m 0 c).arrAt_eq_of_covers 3 _ (by decide +kernel) fun t hf y => ?_
  blk_simp
  rw [after0_3, left_by]
  obtain ⟨r, l, rfl⟩ : ∃ (r : Fin 512) (l : Fin 128), y = ix2 r l := ⟨y 0, y 1, by funext a; match a with | 0 => rfl | 1 => rfl⟩
  have hl := l.isLt
  refine (out_at (holds m c f t) (values m c t) r l).trans ?_
  rw [coord1]
  unfold attn
  have e0 : ((((cfg0.win 3).blk t).view.emb (ix2 r l)) 0 : ℕ) = 512 * (t.val % 4) + r.val := by blk_simp [idx t]; omega
  have e1 : ((((cfg0.win 3).blk t).view.emb (ix2 r l)) 1 : ℕ) = 128 * (t.val / 4) + l.val := by blk_simp [idx t]; omega
  rw [e0, e1, show (128 * (t.val / 4) + l.val) / 64 = 2 * (t.val / 4) + l.val / 64 by omega]

end Cert.Kernel23Ideal.Hand
end
-- ==== Proof.Attn.Equal.lean ====
/-
  The attention's forward call leaves the reference's output.
-/
module

public import proofs.«01_k».proof.Proof.Attn.Final
public import proofs.«01_k».proof.Proof.Value.Equal

@[expose] public section
set_option maxRecDepth 16384
noncomputable section

namespace Cert.Reference23Ideal.Hand
open Idealize.ShloMosaic Idealize.ShloMosaic.TcCoe Idealize.SL.Sem
open Cert.Reference23Ideal Cert.Reference23Ideal.Gen Cert.Sb
open Cert.KernelIdeal.Hand (rd AllReal)
open Cert.Kernel23Ideal.Hand (val)
open Cert.ReferenceIdeal.Hand (heads scores weights join expo onward left soft zeros mask weights_at)
open Finset (range)

/-- The attention of bf16 operands. -/
def refO (q k v : FVec Ideal S2048x1024 .bf16) : FVec Ideal S2048x1024 .bf16 :=
  truncf .bf16 (join (Host.dotGeneral dot_S16x2048x2048_S16x2048x64_S16x2048x64_2_1_1_2_0_0 none (weights (scores q k)) (heads v))) bitsLt_bf16_f32

/-- The reference's result is the attention. -/
theorem out0 (m : (ℓ : Loc nD τ sig) → Buf (Elt Ideal) ℓ) (c : Dev nD) :
    Value.res_main_v29 m c = refO (m ((c.tc : Thread nD τ).loc main_arg0)) (m ((c.tc : Thread nD τ).loc main_arg1)) (m ((c.tc : Thread nD τ).loc main_arg2)) := by
  delta refO join weights expo onward left soft zeros mask scores heads Value.res_main_v29
  rfl

/-- The attention at an index. -/
theorem refO_at (q k v : FVec Ideal S2048x1024 .bf16) (hq : AllReal q) (hk : AllReal k) (a : Fin 2048) (l : Fin 1024) :
    refO q k v (ix2 a l) = ∑ b ∈ range 2048, (A (rd q) (rd k) (l.val / 64) a.val b : EReal) * val v b l.val := by
  have hl := l.isLt
  pointwise [refO, join]
  rw [Finset.sum_range]
  refine Finset.sum_congr rfl fun b _ => ?_
  have hb := b.isLt
  rw [weights_at _ a b q k hq hk]
  refine congrArg _ ?_
  pointwise [heads, val]
  refine congrArg v (funext fun i => Fin.ext ?_)
  match i with
  | 0 => exact (Nat.mod_eq_of_lt hb).symm
  | 1 => exact (Nat.mod_eq_of_lt hl).symm

end Cert.Reference23Ideal.Hand

namespace Cert.Proof
open Idealize.ShloMosaic Idealize.ShloMosaic.TcCoe Idealize.SL.Sem
open Cert.Kernel23Ideal.Hand (Fine attn opQ opK opV)

/-- The two texts name the same kernel body. -/
theorem body_same23 {F : FTy → Type} [FloatOps F] : Cert.Kernel23.defs₀ (F := F) = Cert.Kernel23Ideal.defs₀ (F := F) := by
  refine congrArg Defs.onTc ?_
  funext l x
  match l, x with
  | 0, (t, s) => rfl

/-- The two texts have the same definitions. -/
theorem defs_same23 {F : FTy → Type} [FloatOps F] : Cert.Kernel23.defs (F := F) = Cert.Kernel23Ideal.defs (F := F) :=
  congrArg (Pipeline.defs (Cert.Kernel23Ideal.pcfgs (F := F))) body_same23

/-- The call as printed, on words. -/
theorem frame_kernel23 : Cert.quiescent_Kernel23 := by
  intro m ρ _
  rw [defs_same23]
  exact Cert.Kernel23Ideal.Gen.frame (F := Bits) m ρ

/-- The call over the extended reals. -/
theorem frame_ideal23 : Cert.quiescent_Kernel23Ideal := fun m ρ _ => Cert.Kernel23Ideal.Gen.frame (F := Ideal) m ρ

/-- The reference over the extended reals. -/
theorem frame_reference23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- The side condition of the forward call's precondition. -/
theorem operands_facts : Cert.Pre_finite_operands.Facts := ⟨by decide⟩

attribute [local instance] operands_facts

/-- The precondition makes the queries' and keys' entries real numbers. -/
theorem fine23 (m : (ℓ : Loc Cert.Kernel23Ideal.nD Cert.Kernel23Ideal.τ Cert.Kernel23Ideal.sig) → Buf (Elt Ideal) ℓ) (h : Cert.Pre_Kernel23Ideal_finite_operands m) (c : Dev Cert.Kernel23Ideal.nD) : Fine m c := by
  obtain ⟨h0, h1⟩ := h c
  exact ⟨fun y => between _ (congrFun h0 y), fun y => between _ (congrFun h1 y)⟩

/-- The reference's output is the kernel's. -/
theorem same_o (m : (ℓ : Loc Cert.Kernel23Ideal.nD Cert.Kernel23Ideal.τ Cert.Kernel23Ideal.sig) → Buf (Elt Ideal) ℓ) (c : Dev Cert.Kernel23Ideal.nD) (f : Fine m c) :
    Cert.Reference23Ideal.Hand.refO (opQ m c) (opK m c) (opV m c) = attn m c := by
  funext x
  obtain ⟨a, l, rfl⟩ : ∃ (a : Fin 2048) (l : Fin 1024), x = ix2 a l := ⟨x 0, x 1, by funext i; match i with | 0 => rfl | 1 => rfl⟩
  exact Cert.Reference23Ideal.Hand.refO_at _ _ _ f.q f.k a l

/-- Kernel and reference end with equal results. -/
theorem equal23 : Cert.algebraic_Kernel23Ideal_Reference23Ideal_pre_finite_operands := by
  intro m g m' g' hpre hagree
  refine ⟨fun c => attn m c, ?_, ?_⟩
  · run_from Cert.Kernel23Ideal.Gen.run_main (F := Ideal) m g
    exact Cert.Kernel23Ideal.Hand.final m c (fine23 m hpre c)
  · refine (θ_run Cert.Reference23Ideal.defs _ _).mono (fun r h c => ?_) (Cert.Reference23Ideal.Value.run (F := Ideal) m' g')
    obtain ⟨h0, hr⟩ := h c
    obtain ⟨a0, a1, a2⟩ := hagree c
    refine ⟨?_, hr⟩
    rw [h0, Cert.Reference23Ideal.Hand.out0, a0, a1, a2]
    exact same_o m c (fine23 m hpre c)

end Cert.Proof
end
-- ==== Proof.Proj.PleWeights.lean ====
/-
  The gradient of the embedding's projection (`d_w_ple_proj`): its frames and its value.
-/
module

public import proofs.«01_k».proof.Defs
public import proofs.«01_k».proof.Proof.Gen.Kernel22
public import proofs.«01_k».proof.Proof.Gen.Kernel22Ideal.Value
public import proofs.«01_k».proof.Proof.Gen.Reference22Ideal.Run
public import proofs.«01_k».proof.Proof.Mlp.Act

@[expose] public section
set_option maxRecDepth 16384
noncomputable section

namespace Cert.Kernel22Ideal.Hand
open Idealize.ShloMosaic Idealize.ShloMosaic.TcCoe Idealize.SL.Sem
open Cert.Kernel22Ideal Cert.Kernel22Ideal.Gen
open Idealize.ShloMosaic.Pipeline (Dat)

variable (m : (ℓ : Loc nD τ sig) → Buf (Elt Ideal) ℓ)

/-- The gradient, in four blocks of columns: the embedding, transposed, times the cotangent. -/
def grad (x : FVec Ideal S2048x256 .f32) (d : FVec Ideal S2048x1024 .bf16) : FVec Ideal S4x256x256 .f32 :=
  fun i => ∑ k : Fin 2048, x (ix2 k (i 1)) * d (ix2 k (⟨(i 0).val * 256 + (i 2).val, by have h0 : (i 0).val < 4 := (i 0).isLt; have h2 : (i 2).val < 256 := (i 2).isLt; omega⟩ : Fin 1024))

/-- The windows' block indices. -/
theorem idx : ∀ t : Fin cfg0.N, win0_0.index t = ![0, 0] ∧ win0_1.index t = ![0, t.val] ∧ win0_2.index t = ![t.val, 0, 0] :=
  (by decide +kernel : ∀ t : Fin grid0.N, _)

/-- The result array after the run. -/
theorem final2 (c : Dev nD) : (dats m 0 c).arrAt 2 (cfgs 0).N = grad (m ((c : Thread nD τ).loc main_arg0)) (m ((c : Thread nD τ).loc main_arg2)) := by
  refine (dats m 0 c).arrAt_eq_of_covers 2 _ (by decide +kernel) fun t _ y => ?_
  blk_simp
  rw [after0_2]
  frame_out
  pointwise [k0_pay1, grad]
  refine Fin.sum_fin_congr fun k => ?_
  blk_point [iblk, V, idx t]

/-- The reference's formula is the same gradient. -/
theorem same (x : FVec Ideal S2048x256 .f32) (d : FVec Ideal S2048x1024 .bf16) :
    transpose S4x256x256 [1, 0, 2] (shapeCast _ (transpose S256x1024 [1, 0] (Host.dotGeneral Cert.Reference22Ideal.dot_S2048x1024_S2048x256_S1024x256_0_0_1_1_n_n none (extf .f32 d Cert.Kernel22Ideal.Gen.bitsLt_bf16_f32) x)
      Cert.Reference22Ideal.Gen.transposes_S1024x256_S256x1024_1_0) Cert.Reference22Ideal.Gen.shapeCasts_S256x1024_S256x4x256) Cert.Reference22Ideal.Gen.transposes_S256x4x256_S4x256x256_1_0_2 = grad x d := by
  funext i
  pointwise [grad]
  exact Finset.sum_congr rfl fun k _ => mul_comm _ _

end Cert.Kernel22Ideal.Hand

namespace Cert.Proof
open Idealize.ShloMosaic Idealize.ShloMosaic.TcCoe Idealize.SL.Sem

/-- The two texts name the same kernel body. -/
theorem body_same22 {F : FTy → Type} [FloatOps F] : Cert.Kernel22.defs₀ (F := F) = Cert.Kernel22Ideal.defs₀ (F := F) := by
  refine congrArg Defs.onTc ?_
  funext l x
  match l, x with
  | 0, (t, s) => rfl

/-- The two texts have the same definitions. -/
theorem defs_same22 {F : FTy → Type} [FloatOps F] : Cert.Kernel22.defs (F := F) = Cert.Kernel22Ideal.defs (F := F) :=
  congrArg (Pipeline.defs (Cert.Kernel22Ideal.pcfgs (F := F))) body_same22

/-- The call as printed, on words. -/
theorem frame_kernel22 : Cert.quiescent_Kernel22 := by
  intro m ρ _
  rw [defs_same22]
  exact Cert.Kernel22Ideal.Gen.frame (F := Bits) m ρ

/-- The call over the extended reals. -/
theorem frame_ideal22 : Cert.quiescent_Kernel22Ideal := fun m ρ _ => Cert.Kernel22Ideal.Gen.frame (F := Ideal) m ρ

/-- The reference over the extended reals. -/
theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- Kernel and reference end with equal results. -/
theorem equal22 : Cert.algebraic_Kernel22Ideal_Reference22Ideal := by
  intro m g m' g' _ hagree
  refine ⟨fun c => (Cert.Kernel22Ideal.Gen.dats m 0 c).arrAt 2 (Cert.Kernel22Ideal.cfgs 0).N, ?_, ?_⟩
  · exact Cert.Kernel22Ideal.Value.run_blocks (F := Ideal) m g
  · refine (θ_run Cert.Reference22Ideal.defs _ _).mono (fun r h c => ?_) (Cert.Reference22Ideal.Value.run (F := Ideal) m' g')
    obtain ⟨h0, hr⟩ := h c
    obtain ⟨a0, a1, a2⟩ := hagree c
    refine ⟨?_, hr⟩
    · rw [h0, a0, a2]
      exact (Cert.Kernel22Ideal.Hand.same _ _).trans (Cert.Kernel22Ideal.Hand.final2 m c).symm

end Cert.Proof
end
-- ==== Proof.Proj.Ple.lean ====
/-
  The gated embedding's call, forward (`ple`): its frames and its values.
-/
module

public import proofs.«01_k».proof.Defs
public import proofs.«01_k».proof.Proof.Gen.Kernel20
public import proofs.«01_k».proof.Proof.Gen.Kernel20Ideal.Value
public import proofs.«01_k».proof.Proof.Gen.Reference20Ideal.Run
public import proofs.«01_k».proof.Proof.Mlp.Norm
public import proofs.«01_k».proof.Proof.Proj.QHeads

@[expose] public section
set_option maxRecDepth 16384
noncomputable section

namespace Cert.Kernel20Ideal.Hand
open Idealize.ShloMosaic Idealize.ShloMosaic.TcCoe Idealize.SL.Sem
open Cert.Kernel20Ideal Cert.Kernel20Ideal.Gen
open Idealize.ShloMosaic.Pipeline (Dat)
open Cert.Kernel2Ideal.Hand (normed)
open Cert.Kernel5Ideal.Hand (rs)
open Cert.Kernel13Ideal.Hand (pre)

variable (m : (ℓ : Loc nD τ sig) → Buf (Elt Ideal) ℓ)

/-- The gate: the logistic function of a value. -/
def gate (z : FVec Ideal S2048x1024 .f32) : FVec Ideal S2048x1024 .f32 :=
  Host.divf (broadcastInDim Cert.Reference20Ideal.S2048x1024 ![] Cert.Reference20Ideal.Gen.bcast_S_S2048x1024 (constant Cert.Reference20Ideal.S_ .f32 0x3F800000#32))
    (addf (broadcastInDim Cert.Reference20Ideal.S2048x1024 ![] Cert.Reference20Ideal.Gen.bcast_S_S2048x1024 (constant Cert.Reference20Ideal.S_ .f32 0x3F800000#32)) (Host.exp (Host.negf z)))

/-- The embedding's projection. -/
def proj (p : FVec Ideal S2048x256 .f32) (w : FVec Ideal S256x1024 .f32) : FVec Ideal S2048x1024 .f32 :=
  Host.dotGeneral Cert.Reference20Ideal.dot_S2048x256_S256x1024_S2048x1024_1_0_0_1_n_n none p w

/-- The windows' block indices. -/
theorem idx : ∀ t : Fin cfg0.N, win0_0.index t = ![t.val, 0] ∧ win0_1.index t = ![0, 0] ∧ win0_2.index t = ![0, 0] ∧ win0_3.index t = ![t.val, 0] ∧ win0_4.index t = ![0, 0, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- The gate's weights as the call finds them. -/
theorem weights (c : Dev nD) : V m c main_v1 = (truncf .bf16 (m ((c : Thread nD τ).loc main_arg2) : FVec Ideal S1024x1024 .f32) bitsLt_bf16_f32 : FVec Ideal S1024x1024 .bf16) := by
  entry_read
  rfl

/-- The projection's weights as the call finds them, in four blocks of columns. -/
theorem columns (c : Dev nD) (s : Fin 4) (k : Fin 256) (j : Fin 256) : (V m c main_v4 : FVec Ideal S4x256x256 .bf16) (ix3 s k j)
    = m ((c : Thread nD τ).loc main_arg4) (ix2 k (⟨s.val * 256 + j.val, by have := s.isLt; have := j.isLt; omega⟩ : Fin 1024)) := by
  entry_read
  pointwise
  blk_ext

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The array's row that a block's row is. -/
abbrev rowAt (t : Fin cfg0.N) (i : Fin 256) : Fin 2048 := ⟨t.val * 256 + i.val, by have h := lt_of_lt_of_eq t.isLt N_0; have := i.isLt; omega⟩

/-- A block of the input, entry by entry. -/
theorem x_block (c : Dev nD) (t : Fin cfg0.N) (i : Fin 256) (k : Fin 1024) : (iblk m c 0 t : FVec Ideal S256x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- The gate's weights' block, entry by entry. -/
theorem w_block (c : Dev nD) (t : Fin cfg0.N) (j k : Fin 1024) : ((iblk m c 2 t : FVec Ideal S1024x1024 .bf16) (ix2 j k) : EReal) = m ((c : Thread nD τ).loc main_arg2) (ix2 j k) := by
  blk_simp [iblk]
  rw [weights]
  exact congrArg (m ((c : Thread nD τ).loc main_arg2)) (by blk_ext [idx t])

/-- A block of the embedding, entry by entry. -/
theorem p_block (c : Dev nD) (t : Fin cfg0.N) (i : Fin 256) (k : Fin 256) : (iblk m c 3 t : FVec Ideal S256x256 .f32) (ix2 i k) = (m ((c : Thread nD τ).loc main_arg3)) (ix2 (rowAt t i) k) := by
  blk_ext [iblk, V, idx t]

/-- A block of the projection's weights, entry by entry. -/
theorem c_block (c : Dev nD) (t : Fin cfg0.N) (s : Fin 4) (k : Fin 256) (j : Fin 256) : (iblk m c 4 t : FVec Ideal S4x256x256 .bf16) (ix3 s k j)
    = (m ((c : Thread nD τ).loc main_arg4)) (ix2 k (⟨s.val * 256 + j.val, by have := s.isLt; have := j.isLt; omega⟩ : Fin 1024)) := by
  rw [← columns m c s k j]
  blk_ext [iblk, idx t]

/-- The scales of a block's rows. -/
theorem scale_block (c : Dev nD) (t : Fin cfg0.N) (i : Fin 256) : (k0_pay4 (F := Ideal) (iblk m c 0 t) (ix2 i 0) : EReal)
    = rs (m ((c : Thread nD τ).loc main_arg0)) (ix2 (rowAt t i) 0) := by
  pointwise [k0_pay4, rs]
  simp only [x_block]

/-- The normed rows of a block. -/
theorem norm_block (c : Dev nD) (t : Fin cfg0.N) (i : Fin 256) (k : Fin 1024) : (k0_pay5 (F := Ideal) (iblk m c 0 t) (iblk m c 1 t) (ix2 i k) : EReal)
    = normed (m ((c : Thread nD τ).loc main_arg0)) (m ((c : Thread nD τ).loc main_arg1)) (ix2 (rowAt t i) k) := by
  pointwise [k0_pay5, normed]
  rw [scale_block, x_block, g_block]
  pointwise [rs]

/-- The gate at a row of a block. -/
theorem gate_block (c : Dev nD) (t : Fin cfg0.N) (i : Fin 256) (k : Fin 1024) : (k0_pay6 (F := Ideal) (iblk m c 0 t) (iblk m c 1 t) (iblk m c 2 t) (ix2 i k) : EReal)
    = gate (pre (m ((c : Thread nD τ).loc main_arg0)) (m ((c : Thread nD τ).loc main_arg1)) (m ((c : Thread nD τ).loc main_arg2))) (ix2 (rowAt t i) k) := by
  pointwise [k0_pay6, gate, pre]
  simp only [norm_block, w_block, zero_sub]

/-- The projection's product with the `s`-th block of the weights' columns, at a row and a column of it. -/
theorem proj_block (c : Dev nD) (t : Fin cfg0.N) (s : Fin 4) (v : FVec Ideal S1x256x256 .bf16) (hv : ∀ k j, v (ix3 0 k j) = (iblk m c 4 t : FVec Ideal S4x256x256 .bf16) (ix3 s k j))
    (i : Fin 256) (j : Fin 256) (j' : Fin 1024) (hj : j'.val = s.val * 256 + j.val) : (k0_pay1 (F := Ideal) (k0_pay7 (iblk m c 3 t)) v (ix2 i j) : EReal)
    = proj (m ((c : Thread nD τ).loc main_arg3)) (m ((c : Thread nD τ).loc main_arg4)) (ix2 (rowAt t i) j') := by
  rw [show j' = ⟨s.val * 256 + j.val, by have := s.isLt; have := j.isLt; omega⟩ from Fin.ext hj]
  pointwise [k0_pay1, k0_pay7, proj]
  simp only [hv, p_block, c_block]

/-- The same at an index of the block and the place in the row where it lies. -/
theorem proj_at (c : Dev nD) (t : Fin cfg0.N) (s : Fin 4) (v : FVec Ideal S1x256x256 .bf16) (hv : ∀ k j, v (ix3 0 k j) = (iblk m c 4 t : FVec Ideal S4x256x256 .bf16) (ix3 s k j))
    (x : S256x256.Idx) (r : Fin 256) (j : Fin 1024) (hr : r.val = (x 0).val) (hj : j.val = s.val * 256 + (x 1).val) :
    (k0_pay1 (F := Ideal) (k0_pay18 (iblk m c 0 t) (iblk m c 1 t) (iblk m c 2 t) (iblk m c 3 t) (iblk m c 4 t)) v x : EReal) = proj (m ((c : Thread nD τ).loc main_arg3)) (m ((c : Thread nD τ).loc main_arg4)) (ix2 (rowAt t r) j) := by
  obtain rfl : r = x 0 := Fin.ext hr
  have e : k0_pay18 (F := Ideal) (iblk m c 0 t) (iblk m c 1 t) (iblk m c 2 t) (iblk m c 3 t) (iblk m c 4 t) = k0_pay7 (F := Ideal) (iblk m c 3 t) :=
    congrArg k0_pay7 (View.ld_unit_lit (S := S256x256) _ _ (by decide))
  rw [e]
  exact (congrArg _ (ix2_eta x).symm).trans (proj_block m c t s v hv (x 0) (x 1) j hj)

/-- The layer's result: the input plus the gated projection. -/
def out (x : FVec Ideal S2048x1024 .f32) (p g : FVec Ideal S2048x1024 .f32) : FVec Ideal S2048x1024 .f32 := addf x (mulf p g)

/-- A slice of 256 columns, entry by entry. -/
theorem slice_at (a : FVec Ideal S256x1024 .f32) (o : ℕ) (h : S256x1024.Slices ![0, 256 * o] S256x256) (i k : Fin 256) (j : Fin 1024) (hj : j.val = 256 * o + k.val) :
    (extractStridedSlice S256x256 ![0, 256 * o] a h (ix2 i k) : EReal) = a (ix2 i j) := by
  rw [show j = ⟨256 * o + k.val, by have := j.isLt; omega⟩ from Fin.ext hj]
  exact congrArg a (by blk_ext <;> rfl)

/-- A block of 256 columns of the result at an index of it and the place in the block where it lies. -/
theorem out_at (c : Dev nD) (t : Fin cfg0.N) (s : Fin 4) (v : FVec Ideal S1x256x256 .bf16) (hv : ∀ k j, v (ix3 0 k j) = (iblk m c 4 t : FVec Ideal S4x256x256 .bf16) (ix3 s k j))
    (o : ℕ) (ho : o = s.val) (h : S256x1024.Slices ![0, 256 * o] S256x256) (x : S256x256.Idx) (r : Fin 256) (j : Fin 1024) (hr : r.val = (x 0).val) (hj : j.val = s.val * 256 + (x 1).val) :
    (addf (extractStridedSlice S256x256 ![0, 256 * o] (View.ld (iblk m c 0 t) r0_0) h) (mulf (k0_pay1 (F := Ideal) (k0_pay18 (iblk m c 0 t) (iblk m c 1 t) (iblk m c 2 t) (iblk m c 3 t) (iblk m c 4 t)) v)
      (extractStridedSlice S256x256 ![0, 256 * o] (k0_pay17 (iblk m c 0 t) (iblk m c 1 t) (iblk m c 2 t) (iblk m c 3 t) (iblk m c 4 t)) h)) x : EReal)
    = out (m ((c : Thread nD τ).loc main_arg0)) (proj (m ((c : Thread nD τ).loc main_arg3)) (m ((c : Thread nD τ).loc main_arg4))) (gate (pre (m ((c : Thread nD τ).loc main_arg0)) (m ((c : Thread nD τ).loc main_arg1)) (m ((c : Thread nD τ).loc main_arg2)))) (ix2 (rowAt t r) j) := by
  obtain rfl : r = x 0 := Fin.ext hr
  have e : k0_pay17 (F := Ideal) (iblk m c 0 t) (iblk m c 1 t) (iblk m c 2 t) (iblk m c 3 t) (iblk m c 4 t) = k0_pay6 (F := Ideal) (iblk m c 0 t) (iblk m c 1 t) (iblk m c 2 t) := by
    have e2 : (View.ld (iblk m c 2 t) r0_3 : FVec Ideal S1024x1024 .bf16) = iblk m c 2 t := View.ld_unit_lit (S := S1024x1024) _ _ (by decide)
    exact (congrArg (k0_pay6 (F := Ideal) (View.ld (iblk m c 0 t) r0_0) (View.ld (iblk m c 1 t) r0_1)) e2).trans
      (congrArg₂ (fun a b => k0_pay6 (F := Ideal) a b (iblk m c 2 t)) (View.ld_unit_lit (S := S256x1024) _ _ (by decide)) (View.ld_unit_lit (S := S1x1024) _ _ (by decide)))
  have hx : ∀ a : FVec Ideal S256x1024 .f32, (extractStridedSlice S256x256 ![0, 256 * o] a h x : EReal) = a (ix2 (x 0) j) := fun a =>
    (congrArg (extractStridedSlice S256x256 ![0, 256 * o] a h) (ix2_eta x).symm).trans (slice_at a o h (x 0) (x 1) j (by omega))
  refine congrArg₂ (HAdd.hAdd (α := EReal)) ((hx _).trans ?_) (congrArg₂ (HMul.hMul (α := EReal)) (proj_at m c t s v hv x (x 0) j rfl hj) ((hx _).trans ?_))
  · rw [View.ld_unit_lit (S := S256x1024) _ _ (by decide)]
    exact x_block m c t (x 0) j
  · rw [e]
    exact gate_block m c t (x 0) j

/-- The first of the weights' blocks. -/
theorem load0 (c : Dev nD) (t : Fin cfg0.N) (k : Fin 256) (j : Fin 256) : (View.ld (iblk m c 4 t) r0_5 : FVec Ideal S1x256x256 .bf16) (ix3 0 k j) = (iblk m c 4 t : FVec Ideal S4x256x256 .bf16) (ix3 0 k j) := by
  pointwise

/-- The second of the weights' blocks. -/
theorem load1 (c : Dev nD) (t : Fin cfg0.N) (k : Fin 256) (j : Fin 256) : (View.ld (iblk m c 4 t) r0_7 : FVec Ideal S1x256x256 .bf16) (ix3 0 k j) = (iblk m c 4 t : FVec Ideal S4x256x256 .bf16) (ix3 1 k j) := by
  pointwise

/-- The third of the weights' blocks. -/
theorem load2 (c : Dev nD) (t : Fin cfg0.N) (k : Fin 256) (j : Fin 256) : (View.ld (iblk m c 4 t) r0_9 : FVec Ideal S1x256x256 .bf16) (ix3 0 k j) = (iblk m c 4 t : FVec Ideal S4x256x256 .bf16) (ix3 2 k j) := by
  pointwise

/-- The fourth of the weights' blocks. -/
theorem load3 (c : Dev nD) (t : Fin cfg0.N) (k : Fin 256) (j : Fin 256) : (View.ld (iblk m c 4 t) r0_11 : FVec Ideal S1x256x256 .bf16) (ix3 0 k j) = (iblk m c 4 t : FVec Ideal S4x256x256 .bf16) (ix3 3 k j) := by
  pointwise

/-- The normed input's array after the run. -/
theorem final5 (c : Dev nD) : (dats m 0 c).arrAt 5 (cfgs 0).N = truncf .bf16 (normed (m ((c : Thread nD τ).loc main_arg0)) (m ((c : Thread nD τ).loc main_arg1))) bitsLt_bf16_f32 := by
  refine (dats m 0 c).arrAt_eq_of_covers 5 _ (by decide +kernel) fun t _ y => ?_
  blk_simp
  rw [after0_5]
  frame_out
  refine (congrArg _ (ix2_eta y).symm).trans ((norm_block m c t (y 0) (y 1)).trans ?_)
  exact congrArg (normed _ _) (by blk_ext [idx t])

/-- The scales' array after the run. -/
theorem final6 (c : Dev nD) : (dats m 0 c).arrAt 6 (cfgs 0).N = rs (m ((c : Thread nD τ).loc main_arg0)) := by
  refine (dats m 0 c).arrAt_eq_of_covers 6 _ (by decide +kernel) fun t _ y => ?_
  blk_simp
  rw [after0_6]
  frame_out
  have e : y = ix2 (y 0) 0 := by rw [← ix2_eta y]; blk_ext
  refine (congrArg _ e).trans ((scale_block m c t (y 0)).trans ?_)
  exact congrArg (rs _) (by blk_ext [idx t])

/-- The gate's array after the run. -/
theorem final7 (c : Dev nD) : (dats m 0 c).arrAt 7 (cfgs 0).N = gate (pre (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  rw [after0_7]
  frame_out
  refine (congrArg _ (ix2_eta y).symm).trans ((gate_block m c t (y 0) (y 1)).trans ?_)
  exact congrArg (gate _) (by blk_ext [idx t])

/-- The projection's array after the run. -/
theorem final8 (c : Dev nD) : (dats m 0 c).arrAt 8 (cfgs 0).N = truncf .bf16 (proj (m ((c : Thread nD τ).loc main_arg3)) (m ((c : Thread nD τ).loc main_arg4))) bitsLt_bf16_f32 := by
  refine (dats m 0 c).arrAt_eq_of_covers 8 _ (by decide +kernel) fun t _ y => ?_
  blk_simp
  rw [after0_8]
  refine Eq.trans ?_ (congrArg (proj (m ((c : Thread nD τ).loc main_arg3)) (m ((c : Thread nD τ).loc main_arg4))) (show ix2 (rowAt t (y 0)) (y 1) = ((cfg0.win 8).blk t).view.emb y by blk_ext [idx t]))
  canon_tiles x h
  · exact proj_at m c t 3 _ (load3 m c t) x _ _ h0 h1
  · exact proj_at m c t 2 _ (load2 m c t) x _ _ h0 h1
  · exact proj_at m c t 1 _ (load1 m c t) x _ _ h0 h1
  · exact proj_at m c t 0 _ (load0 m c t) x _ _ h0 (h1.trans (by simp))

/-- The layer's result's array after the run. -/
theorem final9 (c : Dev nD) : (dats m 0 c).arrAt 9 (cfgs 0).N = out (m ((c : Thread nD τ).loc main_arg0)) (proj (m ((c : Thread nD τ).loc main_arg3)) (m ((c : Thread nD τ).loc main_arg4))) (gate (pre (m ((c : Thread nD τ).loc main_arg0)) (m ((c : Thread nD τ).loc main_arg1)) (m ((c : Thread nD τ).loc main_arg2)))) := by
  refine (dats m 0 c).arrAt_eq_of_covers 9 _ (by decide +kernel) fun t _ y => ?_
  blk_simp
  rw [after0_9]
  refine Eq.trans ?_ (congrArg (out (m ((c : Thread nD τ).loc main_arg0)) (proj (m ((c : Thread nD τ).loc main_arg3)) (m ((c : Thread nD τ).loc main_arg4))) (gate (pre (m ((c : Thread nD τ).loc main_arg0)) (m ((c : Thread nD τ).loc main_arg1)) (m ((c : Thread nD τ).loc main_arg2))))) (show ix2 (rowAt t (y 0)) (y 1) = ((cfg0.win 9).blk t).view.emb y by blk_ext [idx t]))
  canon_tiles x h
  · exact out_at m c t 3 _ (load3 m c t) 3 rfl slices_S256x1024_o0_768_S256x256 x _ _ h0 h1
  · exact out_at m c t 2 _ (load2 m c t) 2 rfl slices_S256x1024_o0_512_S256x256 x _ _ h0 h1
  · exact out_at m c t 1 _ (load1 m c t) 1 rfl slices_S256x1024_o0_256_S256x256 x _ _ h0 h1
  · exact out_at m c t 0 _ (load0 m c t) 0 rfl slices_S256x1024_o0_0_S256x256 x _ _ h0 (h1.trans (by simp))

end Cert.Kernel20Ideal.Hand

namespace Cert.Proof
open Idealize.ShloMosaic Idealize.ShloMosaic.TcCoe Idealize.SL.Sem

/-- The two texts name the same kernel body. -/
theorem body_same20 {F : FTy → Type} [FloatOps F] : Cert.Kernel20.defs₀ (F := F) = Cert.Kernel20Ideal.defs₀ (F := F) := by
  refine congrArg Defs.onTc ?_
  funext l x
  match l, x with
  | 0, (t, s) => rfl

/-- The two texts have the same definitions. -/
theorem defs_same20 {F : FTy → Type} [FloatOps F] : Cert.Kernel20.defs (F := F) = Cert.Kernel20Ideal.defs (F := F) :=
  congrArg (Pipeline.defs (Cert.Kernel20Ideal.pcfgs (F := F))) body_same20

/-- The call as printed, on words. -/
theorem frame_kernel20 : Cert.quiescent_Kernel20 := by
  intro m ρ _
  rw [defs_same20]
  exact Cert.Kernel20Ideal.Gen.frame (F := Bits) m ρ

/-- The call over the extended reals. -/
theorem frame_ideal20 : Cert.quiescent_Kernel20Ideal := fun m ρ _ => Cert.Kernel20Ideal.Gen.frame (F := Ideal) m ρ

/-- The reference over the extended reals. -/
theorem frame_reference20 : Cert.quiescent_Reference20Ideal := fun m ρ _ =>
  (θ_run Cert.Reference20Ideal.defs _ _).mono (fun r h => ⟨fun c => (h c).2.2.2.2.2, sem_eq_zero_of_no_sems (by decide) r.2⟩)
    (Cert.Reference20Ideal.Value.run (F := Ideal) m ρ)

/-- Kernel and reference end with equal results. -/
theorem equal20 : Cert.algebraic_Kernel20Ideal_Reference20Ideal := by
  intro m g m' g' _ hagree
  refine ⟨fun c => (Cert.Kernel20Ideal.Gen.dats m 0 c).arrAt 5 (Cert.Kernel20Ideal.cfgs 0).N,
    fun c => (Cert.Kernel20Ideal.Gen.dats m 0 c).arrAt 6 (Cert.Kernel20Ideal.cfgs 0).N,
    fun c => (Cert.Kernel20Ideal.Gen.dats m 0 c).arrAt 7 (Cert.Kernel20Ideal.cfgs 0).N,
    fun c => (Cert.Kernel20Ideal.Gen.dats m 0 c).arrAt 8 (Cert.Kernel20Ideal.cfgs 0).N,
    fun c => (Cert.Kernel20Ideal.Gen.dats m 0 c).arrAt 9 (Cert.Kernel20Ideal.cfgs 0).N, ?_, ?_⟩
  · exact Cert.Kernel20Ideal.Value.run_blocks (F := Ideal) m g
  · refine (θ_run Cert.Reference20Ideal.defs _ _).mono (fun r h c => ?_) (Cert.Reference20Ideal.Value.run (F := Ideal) m' g')
    obtain ⟨h0, h1, h2, h3, h4, hr⟩ := h c
    obtain ⟨a0, a1, a2, a3, a4⟩ := hagree c
    refine ⟨?_, ?_, ?_, ?_, ?_, hr⟩
    · rw [h0, a0, a1]
      exact (Cert.Kernel20Ideal.Hand.final5 m c).symm
    · rw [h1, a0]
      exact (Cert.Kernel20Ideal.Hand.final6 m c).symm
    · rw [h2, a0, a1, a2]
      exact (Cert.Kernel20Ideal.Hand.final7 m c).symm
    · rw [h3, a3, a4]
      exact (Cert.Kernel20Ideal.Hand.final8 m c).symm
    · rw [h4, a0, a1, a2, a3, a4]
      exact (Cert.Kernel20Ideal.Hand.final9 m c).symm

end Cert.Proof
end
-- ==== Proof.Proj.PleBack.lean ====
/-
  The gated embedding's call, backward (`d_ple`): its frames and its values.
-/
module

public import proofs.«01_k».proof.Defs
public import proofs.«01_k».proof.Proof.Gen.Kernel21
public import proofs.«01_k».proof.Proof.Gen.Kernel21Ideal.Value
public import proofs.«01_k».proof.Proof.Gen.Reference21Ideal.Run
public import proofs.«01_k».proof.Proof.Mlp.Norm
public import proofs.«01_k».proof.Proof.Proj.OutWeights
public import proofs.«01_k».proof.Proof.Proj.Ple

@[expose] public section
set_option maxRecDepth 16384
noncomputable section

namespace Cert.Reference21Ideal.Hand
open Idealize.ShloMosaic Idealize.ShloMosaic.TcCoe Idealize.SL.Sem
open Cert.Reference21Ideal Cert.Reference21Ideal.Gen
open Cert.Kernel5Ideal.Hand (hid rs nrm dx dg)
open Cert.Kernel13Ideal.Hand (pre)
open Cert.Kernel20Ideal.Hand (gate proj)

/-- The cotangent of the gate before its logistic function, from the value there, the projection and the result's cotangent. -/
def dz (z p b : FVec Ideal S2048x1024 .f32) : FVec Ideal S2048x1024 .f32 :=
  mulf (mulf p b) (mulf (gate z) (subf (broadcastInDim S2048x1024 ![] bcast_S_S2048x1024 (constant S_ .f32 0x3F800000#32)) (gate z)))

/-- The cotangent of the gate's product, brought back to the normed input. -/
def hidden (z : FVec Ideal S2048x1024 .f32) (w : FVec Ideal S1024x1024 .f32) : FVec Ideal S2048x1024 .f32 :=
  Host.dotGeneral dot_S2048x1024_S1024x1024_S2048x1024_1_1_0_0_n_n none z w

/-- What the derivative of the norm makes of the cotangent `h` of the normed input, added to what passes it by, `b`. -/
def comes (x : FVec Ideal S2048x1024 .f32) (g : FVec Ideal S1024 .f32) (h b : FVec Ideal S2048x1024 .f32) : FVec Ideal S2048x1024 .f32 :=
  addf (addf (addf b (mulf (mulf h (broadcastInDim S2048x1024 ![0, 1] bcast_S1x1024_S2048x1024_0_1 (broadcastInDim S1x1024 ![1] bcast_S1024_S1x1024_1 g))) (broadcastInDim S2048x1024 ![0, 1] bcast_S2048x1_S2048x1024_0_1 (rs x)))) (mulf x (broadcastInDim S2048x1024 ![0] bcast_S2048_S2048x1024_0 (Host.reduceAdd (Host.divf (mulf (shapeCast _ (Host.reduceAdd (mulf x (mulf h (broadcastInDim S2048x1024 ![0, 1] bcast_S1x1024_S2048x1024_0_1 (broadcastInDim S1x1024 ![1] bcast_S1024_S1x1024_1 g)))) (constant S_ .f32 0x00000000#32) reducesTo_S2048x1024_S2048_d1 h_S_) shapeCasts_S2048_S2048x1) (mulf (broadcastInDim S2048x1 ![] bcast_S_S2048x1 (constant S_ .f32 0xBF000000#32)) (Host.divf (rs x) (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1 ![] bcast_S_S2048x1 (constant S_ .f32 0x44800000#32))) (constant S_ .f32 0x00000000#32) reducesTo_S2048x1_S2048_d1 h_S_)))) (mulf (broadcastInDim S2048x1024 ![0] bcast_S2048_S2048x1024_0 (Host.reduceAdd (Host.divf (mulf (shapeCast _ (Host.reduceAdd (mulf x (mulf h (broadcastInDim S2048x1024 ![0, 1] bcast_S1x1024_S2048x1024_0_1 (broadcastInDim S1x1024 ![1] bcast_S1024_S1x1024_1 g)))) (constant S_ .f32 0x00000000#32) reducesTo_S2048x1024_S2048_d1 h_S_) shapeCasts_S2048_S2048x1) (mulf (broadcastInDim S2048x1 ![] bcast_S_S2048x1 (constant S_ .f32 0xBF000000#32)) (Host.divf (rs x) (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1 ![] bcast_S_S2048x1 (constant S_ .f32 0x44800000#32))) (constant S_ .f32 0x00000000#32) reducesTo_S2048x1_S2048_d1 h_S_)) x)

/-- It is the layer's formula for the gradient of its input. -/
theorem comes_eq (x : FVec Ideal S2048x1024 .f32) (g : FVec Ideal S1024 .f32) (w : FVec Ideal S1024x1024 .f32) (z b : FVec Ideal S2048x1024 .f32) :
    comes x g (hidden z w) b = dx x g (hid w (truncf .bf16 z Cert.Kernel16Ideal.Gen.bitsLt_bf16_f32)) b := by
  funext i
  rw [eq_ix2 i]
  pointwise [comes, hidden, dx, hid, nrm, rs]
  simp only [Finset.univ_unique, Finset.sum_singleton]
  exact Cert.Mlp.back (fun k => x (ix2 (i 0) k)) (fun k => g (ix1 k)) (hid w (truncf .bf16 z Cert.Kernel16Ideal.Gen.bitsLt_bf16_f32) (i 0)) _ _ _

/-- The gradient of the norm's weights as the reference writes it. -/
theorem gains_eq (x : FVec Ideal S2048x1024 .f32) (w : FVec Ideal S1024x1024 .f32) (z : FVec Ideal S2048x1024 .f32) :
    shapeCast _ (Host.reduceAdd (shapeCast _ (Host.reduceAdd (mulf (mulf x (broadcastInDim S2048x1024 ![0, 1] bcast_S2048x1_S2048x1024_0_1 (rs x))) (hidden z w)) (constant S_ .f32 0x00000000#32) reducesTo_S2048x1024_S1024_d0 h_S_) shapeCasts_S1024_S1x1024)
      (constant S_ .f32 0x00000000#32) reducesTo_S1x1024_S1024_d0 h_S_) shapeCasts_S1024_S1x1024 = dg x (hid w (truncf .bf16 z Cert.Kernel16Ideal.Gen.bitsLt_bf16_f32)) := by
  funext i
  pointwise [hidden, dg, hid, nrm]
  simp only [Finset.univ_unique, Finset.sum_singleton]
  exact Finset.sum_congr rfl fun k _ => mul_comm _ _

/-- A cotangent reshaped to its own shape is itself. -/
theorem cast_eq (b : FVec Ideal S2048x1024 .f32) : shapeCast S2048x1024 b shapeCasts_S2048x1024_S2048x1024 = b := by
  funext i
  pointwise

variable (m : (ℓ : Loc nD τ sig) → Buf (Elt Ideal) ℓ)

/-- The cotangent before the logistic function, of the reference's arguments. -/
def ref (c : Dev nD) : FVec Ideal S2048x1024 .f32 :=
  dz (pre (m ((c.tc : Thread nD τ).loc main_arg0)) (m ((c.tc : Thread nD τ).loc main_arg1)) (m ((c.tc : Thread nD τ).loc main_arg2))) (proj (m ((c.tc : Thread nD τ).loc main_arg3)) (m ((c.tc : Thread nD τ).loc main_arg4)))
    (shapeCast S2048x1024 (m ((c.tc : Thread nD τ).loc main_arg5)) shapeCasts_S2048x1024_S2048x1024)

/-- The reference's first result, in those words. -/
theorem res_eq (c : Dev nD) : Value.res_main_v67 m c = comes (m ((c.tc : Thread nD τ).loc main_arg0)) (m ((c.tc : Thread nD τ).loc main_arg1)) (hidden (ref m c) (m ((c.tc : Thread nD τ).loc main_arg2))) (m ((c.tc : Thread nD τ).loc main_arg5)) := rfl

end Cert.Reference21Ideal.Hand

namespace Cert.Kernel21Ideal.Hand
open Idealize.ShloMosaic Idealize.ShloMosaic.TcCoe Idealize.SL.Sem
open Cert.Kernel21Ideal Cert.Kernel21Ideal.Gen
open Idealize.ShloMosaic.Pipeline (Dat)
open Cert.Kernel5Ideal.Hand (hid rs nrm dx dg)
open Cert.Kernel13Ideal.Hand (pre)
open Cert.Kernel20Ideal.Hand (gate proj)
open Cert.Reference21Ideal.Hand (dz)

variable (m : (ℓ : Loc nD τ sig) → Buf (Elt Ideal) ℓ)

/-- The windows' block indices. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0]
    ∧ win0_6.index t = ![t.val, 0] ∧ win0_7.index t = ![t.val, 0] ∧ win0_8.index t = ![0, 0] ∧ win0_9.index t = ![t.val, 0] ∧ win0_10.index t = ![t.val, 0] :=
  (by decide +kernel : ∀ t : Fin grid0.N, _)

/-- The gate's value before its logistic function, of the call's arguments. -/
abbrev zz (c : Dev nD) : FVec Ideal S2048x1024 .f32 := pre (m ((c : Thread nD τ).loc main_arg0)) (m ((c : Thread nD τ).loc main_arg1)) (m ((c : Thread nD τ).loc main_arg2))

/-- The projection, of the call's arguments. -/
abbrev pp (c : Dev nD) : FVec Ideal S2048x1024 .f32 := proj (m ((c : Thread nD τ).loc main_arg3)) (m ((c : Thread nD τ).loc main_arg4))

/-- The cotangent of the gate before its logistic function, as the product takes it. -/
abbrev dd (c : Dev nD) : FVec Ideal S2048x1024 .bf16 := truncf .bf16 (dz (zz m c) (pp m c) (m ((c : Thread nD τ).loc main_arg5))) bitsLt_bf16_f32

/-- The gate as the call finds it. -/
theorem gates (c : Dev nD) : V m c main_v19 = gate (zz m c) := by
  entry_read
  rfl

/-- The projection as the call finds it. -/
theorem projs (c : Dev nD) : V m c main_v21 = truncf .bf16 (pp m c) bitsLt_bf16_f32 := by
  entry_read
  rfl

/-- The scales as the call finds them. -/
theorem scales (c : Dev nD) : V m c main_v31 = rs (m ((c : Thread nD τ).loc main_arg0)) := by
  entry_read
  rfl

/-- The weights as the call finds them. -/
theorem weights (c : Dev nD) : V m c main_v22 = (truncf .bf16 (m ((c : Thread nD τ).loc main_arg2) : FVec Ideal S1024x1024 .f32) bitsLt_bf16_f32 : FVec Ideal S1024x1024 .bf16) := by
  entry_read
  rfl

/-- The norm's weights as the call finds them. -/
theorem gains (c : Dev nD) (k : Fin 1024) : (V m c main_v23 : FVec Ideal S1x1024 .f32) (ix2 0 k) = m ((c : Thread nD τ).loc main_arg1) (ix1 k) := by
  entry_read
  pointwise
  blk_ext

/-- The array's row that a block's row is. -/
abbrev rowAt (t : Fin cfg0.N) (i : Fin 512) : Fin 2048 := ⟨t.val * 512 + i.val, by have h := lt_of_lt_of_eq t.isLt N_0; have := i.isLt; omega⟩

/-- A block of the result's cotangent, entry by entry. -/
theorem b_block (c : Dev nD) (t : Fin cfg0.N) (i : Fin 512) (k : Fin 1024) : (iblk m c 0 t : FVec Ideal S512x1024 .f32) (ix2 i k) = (m ((c : Thread nD τ).loc main_arg5)) (ix2 (rowAt t i) k) := by
  blk_ext [iblk, V, idx t]

/-- A block of the gate, entry by entry. -/
theorem gate_block (c : Dev nD) (t : Fin cfg0.N) (i : Fin 512) (k : Fin 1024) : (iblk m c 1 t : FVec Ideal S512x1024 .f32) (ix2 i k) = gate (zz m c) (ix2 (rowAt t i) k) := by
  blk_simp [iblk]
  rw [gates]
  exact congrArg (gate (zz m c)) (by blk_ext [idx t])

/-- A block of the projection, entry by entry. -/
theorem proj_block (c : Dev nD) (t : Fin cfg0.N) (i : Fin 512) (k : Fin 1024) : ((iblk m c 2 t : FVec Ideal S512x1024 .bf16) (ix2 i k) : EReal) = pp m c (ix2 (rowAt t i) k) := by
  blk_simp [iblk]
  rw [projs]
  exact congrArg (pp m c) (by blk_ext [idx t])

/-- A block of the weights, entry by entry. -/
theorem w_block (c : Dev nD) (t : Fin cfg0.N) (j k : Fin 1024) : ((iblk m c 3 t : FVec Ideal S1024x1024 .bf16) (ix2 j k) : EReal) = m ((c : Thread nD τ).loc main_arg2) (ix2 j k) := by
  blk_simp [iblk]
  rw [weights]
  exact congrArg (m ((c : Thread nD τ).loc main_arg2)) (by blk_ext [idx t])

/-- A block of the input, entry by entry. -/
theorem x_block (c : Dev nD) (t : Fin cfg0.N) (i : Fin 512) (k : Fin 1024) : (iblk m c 4 t : FVec Ideal S512x1024 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 5 t : FVec Ideal S1x1024 .f32) (ix2 0 k) = (m ((c : Thread nD τ).loc main_arg1)) (ix1 k) := by
  rw [← gains m c k]
  blk_ext [iblk, idx t]

/-- A block of the scales, entry by entry. -/
theorem rs_block (c : Dev nD) (t : Fin cfg0.N) (i : Fin 512) : (iblk m c 6 t : FVec Ideal S512x1 .f32) (ix2 i 0) = rs (m ((c : Thread nD τ).loc main_arg0)) (ix2 (rowAt t i) 0) := by
  blk_simp [iblk]
  rw [scales]
  blk_ext [idx t]

/-- The gate's cotangent of a block, entry by entry. -/
theorem dz_block (c : Dev nD) (t : Fin cfg0.N) (i : Fin 512) (k : Fin 1024) : (k0_pay4 (F := Ideal) (iblk m c 0 t) (iblk m c 1 t) (iblk m c 2 t) (ix2 i k) : EReal)
    = dd m c (ix2 (rowAt t i) k) := by
  pointwise [k0_pay4, k0_pay3, dz]
  rw [b_block, gate_block, proj_block]
  exact congrArg (fun r : EReal => r * (gate (zz m c) (ix2 (rowAt t i) k) * (1 - gate (zz m c) (ix2 (rowAt t i) k)))) (mul_comm (G := EReal) _ _)

/-- The projection's cotangent of a block, entry by entry. -/
theorem dp_block (c : Dev nD) (t : Fin cfg0.N) (i : Fin 512) (k : Fin 1024) : (k0_pay5 (F := Ideal) (iblk m c 0 t) (iblk m c 1 t) (ix2 i k) : EReal)
    = (truncf .bf16 (mulf (m ((c : Thread nD τ).loc main_arg5)) (gate (zz m c))) bitsLt_bf16_f32 : FVec Ideal S2048x1024 .bf16) (ix2 (rowAt t i) k) := by
  pointwise [k0_pay5, k0_pay3]
  rw [b_block, gate_block]

/-- The normed input's block, entry by entry. -/
theorem xn_block (c : Dev nD) (t : Fin cfg0.N) (i : Fin 512) (k : Fin 1024) : k0_pay8 (F := Ideal) (iblk m c 6 t) (iblk m c 4 t) (ix2 i k)
    = nrm (m ((c : Thread nD τ).loc main_arg0)) (rowAt t i) k := by
  pointwise [k0_pay8, k0_pay7]
  rw [x_block, rs_block]
  rfl

/-- One block of the cotangent of the normed input, entry by entry. -/
theorem hid_block (c : Dev nD) (t : Fin cfg0.N) (i : Fin 512) (k : Fin 1024) : (k0_pay6 (F := Ideal) (iblk m c 0 t) (iblk m c 1 t) (iblk m c 2 t) (iblk m c 3 t) (ix2 i k) : EReal)
    = hid (m ((c : Thread nD τ).loc main_arg2)) (dd m c) (rowAt t i) k := by
  pointwise [k0_pay6, hid]
  simp only [dz_block, w_block]
  rfl

/-- What a grid point leaves of the first result. -/
theorem point (c : Dev nD) (t : Fin cfg0.N) (i : Fin 512) (k : Fin 1024) :
    (k0_pay1 (F := Ideal) (iblk m c 0 t) (k0_pay6 (iblk m c 0 t) (iblk m c 1 t) (iblk m c 2 t) (iblk m c 3 t)) (k0_pay7 (iblk m c 6 t)) (k0_pay8 (iblk m c 6 t) (iblk m c 4 t)) (iblk m c 5 t) (ix2 i k) : EReal)
    = dx (m ((c : Thread nD τ).loc main_arg0)) (m ((c : Thread nD τ).loc main_arg1)) (hid (m ((c : Thread nD τ).loc main_arg2)) (dd m c)) (m ((c : Thread nD τ).loc main_arg5)) (ix2 (rowAt t i) k) := by
  pointwise [k0_pay1, k0_pay7, dx]
  simp only [hid_block, xn_block, rs_block, g_block, b_block]

/-- The first result's array after the run. -/
theorem final7 (c : Dev nD) : (dats m 0 c).arrAt 7 (cfgs 0).N = dx (m ((c : Thread nD τ).loc main_arg0)) (m ((c : Thread nD τ).loc main_arg1)) (hid (m ((c : Thread nD τ).loc main_arg2)) (dd m c)) (m ((c : Thread nD τ).loc main_arg5)) := by
  refine (dats m 0 c).arrAt_eq_of_covers 7 _ (by decide +kernel) fun t _ y => ?_
  blk_simp
  rw [after0_7]
  refine Eq.trans ?_ (congrArg (dx _ _ _ _) (show ix2 (rowAt t (y 0)) (y 1) = ((cfg0.win 7).blk t).view.emb y by blk_ext [idx t]))
  by_cases h : t.val % 4 = 0
  · rw [outsAt0_A m c t h]
    frame_out
    exact (congrArg _ (ix2_eta y).symm).trans (point m c t (y 0) (y 1))
  · rw [outsAt0_B m c t h]
    frame_out
    exact (congrArg _ (ix2_eta y).symm).trans (point m c t (y 0) (y 1))

/-- The gradient of the norm's weights, its array after the run. -/
theorem final8 (c : Dev nD) : (dats m 0 c).arrAt 8 (cfgs 0).N = dg (m ((c : Thread nD τ).loc main_arg0)) (hid (m ((c : Thread nD τ).loc main_arg2)) (dd m c)) := by
  refine (dats m 0 c).arrAt_eq_of_after_last 8 t0_3 (by decide +kernel) _ fun j => ?_
  blk_simp
  rw [after0_8, Pipeline.eq_sum_fin_of_reset_step_apply_last (fun n h => (outsAt0 m c n h).2.1) 4 (fun _ => 0) (fun (t : Fin cfg0.N) (j : S1x1024.Idx) => ∑ k : Fin 512, k0_pay6 (F := Ideal) (iblk m c 0 t) (iblk m c 1 t) (iblk m c 2 t) (iblk m c 3 t) (ix2 k (j 1)) * k0_pay8 (F := Ideal) (iblk m c 6 t) (iblk m c 4 t) (ix2 k (j 1)))
    (fun t h j => by rw [outsAt0_A m c t h]; frame_out; pointwise [k0_pay2, k0_pay9]) (fun t h j => by rw [outsAt0_B m c t h]; frame_out; pointwise [k0_pay9])
    (le_of_eq N_0) t0_3 rfl j, zero_add]
  refine Fin.sum_mul_add_congr (f := fun l : Fin 2048 => hid (m ((c : Thread nD τ).loc main_arg2)) (dd m c) l (j 1) * nrm (m ((c : Thread nD τ).loc main_arg0)) l (j 1)) (fun p k _ => ?_) (by rw [show cfg0.N = 4 from N_0])
  exact congrArg₂ (HMul.hMul (α := EReal)) (hid_block m c p k (j 1)) (xn_block m c p k (j 1))

/-- The gate's cotangent's array after the run. -/
theorem final9 (c : Dev nD) : (dats m 0 c).arrAt 9 (cfgs 0).N = dd m c := by
  refine (dats m 0 c).arrAt_eq_of_covers 9 _ (by decide +kernel) fun t _ y => ?_
  blk_simp
  rw [after0_9]
  refine Eq.trans ?_ (congrArg (dd m c) (show ix2 (rowAt t (y 0)) (y 1) = ((cfg0.win 9).blk t).view.emb y by blk_ext [idx t]))
  by_cases h : t.val % 4 = 0
  · rw [outsAt0_A m c t h]
    frame_out
    exact (congrArg _ (ix2_eta y).symm).trans (dz_block m c t (y 0) (y 1))
  · rw [outsAt0_B m c t h]
    frame_out
    exact (congrArg _ (ix2_eta y).symm).trans (dz_block m c t (y 0) (y 1))

/-- The projection's cotangent's array after the run. -/
theorem final10 (c : Dev nD) : (dats m 0 c).arrAt 10 (cfgs 0).N = truncf .bf16 (mulf (m ((c : Thread nD τ).loc main_arg5)) (gate (zz m c))) bitsLt_bf16_f32 := by
  refine (dats m 0 c).arrAt_eq_of_covers 10 _ (by decide +kernel) fun t _ y => ?_
  blk_simp
  rw [after0_10]
  refine Eq.trans ?_ (congrArg (truncf .bf16 (mulf (m ((c : Thread nD τ).loc main_arg5)) (gate (zz m c))) bitsLt_bf16_f32 : FVec Ideal S2048x1024 .bf16) (show ix2 (rowAt t (y 0)) (y 1) = ((cfg0.win 10).blk t).view.emb y by blk_ext [idx t]))
  by_cases h : t.val % 4 = 0
  · rw [outsAt0_A m c t h]
    frame_out
    exact (congrArg _ (ix2_eta y).symm).trans (dp_block m c t (y 0) (y 1))
  · rw [outsAt0_B m c t h]
    frame_out
    exact (congrArg _ (ix2_eta y).symm).trans (dp_block m c t (y 0) (y 1))

end Cert.Kernel21Ideal.Hand

namespace Cert.Proof
open Idealize.ShloMosaic Idealize.ShloMosaic.TcCoe Idealize.SL.Sem

/-- The two texts name the same kernel body. -/
theorem body_same21 {F : FTy → Type} [FloatOps F] : Cert.Kernel21.defs₀ (F := F) = Cert.Kernel21Ideal.defs₀ (F := F) := by
  refine congrArg Defs.onTc ?_
  funext l x
  match l, x with
  | 0, (t, s) => rfl

/-- The two texts have the same definitions. -/
theorem defs_same21 {F : FTy → Type} [FloatOps F] : Cert.Kernel21.defs (F := F) = Cert.Kernel21Ideal.defs (F := F) :=
  congrArg (Pipeline.defs (Cert.Kernel21Ideal.pcfgs (F := F))) body_same21

set_option maxHeartbeats 2000000 in
/-- The call as printed, on words. -/
theorem frame_kernel21 : Cert.quiescent_Kernel21 := by
  intro m ρ _
  rw [defs_same21]
  exact Cert.Kernel21Ideal.Gen.frame (F := Bits) m ρ

/-- The call over the extended reals. -/
theorem frame_ideal21 : Cert.quiescent_Kernel21Ideal := fun m ρ _ => Cert.Kernel21Ideal.Gen.frame (F := Ideal) m ρ

/-- The reference over the extended reals. -/
theorem frame_reference21 : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

set_option maxHeartbeats 2000000 in
/-- Kernel and reference end with equal results. -/
theorem equal21 : Cert.algebraic_Kernel21Ideal_Reference21Ideal := by
  intro m g m' g' _ hagree
  refine ⟨fun c => (Cert.Kernel21Ideal.Gen.dats m 0 c).arrAt 7 (Cert.Kernel21Ideal.cfgs 0).N,
    fun c => (Cert.Kernel21Ideal.Gen.dats m 0 c).arrAt 8 (Cert.Kernel21Ideal.cfgs 0).N,
    fun c => (Cert.Kernel21Ideal.Gen.dats m 0 c).arrAt 9 (Cert.Kernel21Ideal.cfgs 0).N,
    fun c => (Cert.Kernel21Ideal.Gen.dats m 0 c).arrAt 10 (Cert.Kernel21Ideal.cfgs 0).N, ?_, ?_⟩
  · exact Cert.Kernel21Ideal.Value.run_blocks (F := Ideal) m g
  · refine (θ_run Cert.Reference21Ideal.defs _ _).mono (fun r h c => ?_) (Cert.Reference21Ideal.Value.run (F := Ideal) m' g')
    obtain ⟨h0, h1, h2, h3, hr⟩ := h c
    obtain ⟨a0, a1, a2, a3, a4, a5⟩ := hagree c
    have e : Cert.Reference21Ideal.Hand.ref m' c = Cert.Reference21Ideal.Hand.dz (Cert.Kernel21Ideal.Hand.zz m c) (Cert.Kernel21Ideal.Hand.pp m c) (m ((c.tc : Thread Cert.Kernel21Ideal.nD Cert.Kernel21Ideal.τ).loc Cert.Kernel21Ideal.main_arg5)) := by
      rw [Cert.Reference21Ideal.Hand.ref, Cert.Reference21Ideal.Hand.cast_eq, a0, a1, a2, a3, a4, a5]
    refine ⟨?_, ?_, ?_, ?_, hr⟩
    · rw [h0, Cert.Reference21Ideal.Hand.res_eq m' c, Cert.Reference21Ideal.Hand.comes_eq, e, a0, a1, a2, a5]
      exact (Cert.Kernel21Ideal.Hand.final7 m c).symm
    · refine h1.trans ((Cert.Reference21Ideal.Hand.gains_eq (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg2)) (Cert.Reference21Ideal.Hand.ref m' c)).trans ?_)
      rw [e, a0, a2]
      exact (Cert.Kernel21Ideal.Hand.final8 m c).symm
    · rw [h2, a0, a1, a2, a3, a4, a5]
      exact (Cert.Kernel21Ideal.Hand.final9 m c).symm
    · rw [h3, a0, a1, a2, a5]
      exact (Cert.Kernel21Ideal.Hand.final10 m c).symm

end Cert.Proof
end
-- ==== Proof.Mlp.HeadsBack.lean ====
/-
  The gradient through the norm of the heads, on one row, over the extended reals: two heads of 64 lanes side by side, each summed under a mask.
-/
module

public import proofs.«01_k».proof.Proof.Mlp.Heads

@[expose] public section
noncomputable section

namespace Cert.Mlp
open Idealize.ShloMosaic

/-- The mean square of a head plus the norm's constant. -/
abbrev headSpread (f : Fin 64 → EReal) : EReal := Ideal.div (∑ k, f k * f k) (Ideal.ofBits FTy.f32 1115684864#32) + Ideal.ofBits FTy.f32 897988541#32

/-- Division by the literal 64. -/
theorem div_head (x : EReal) : Ideal.div x (Ideal.ofBits FTy.f32 1115684864#32) = x * ((64⁻¹ : ℝ) : EReal) := by
  have h : Ideal.ofBits FTy.f32 1115684864#32 = ((64 : ℝ) : EReal) := by
    have : Ideal.ofBits FTy.f32 1115684864#32 = ((8388608 : ℝ) : EReal) * (((2 ^ 17)⁻¹ : ℝ) : EReal) := by simp [Ideal.ofBits, Ideal.ieee]
    rw [this, ← EReal.coe_mul, show (8388608 : ℝ) * (2 ^ 17)⁻¹ = 64 by norm_num]
  rw [h, Ideal.div, if_neg (by exact_mod_cast (by norm_num : (64 : ℝ) ≠ 0)), ← EReal.coe_inv]

/-- A head's mean square plus the norm's constant is positive. -/
theorem head_pos (f : Fin 64 → EReal) : 0 < headSpread f := by
  have h : (0 : EReal) < Ideal.ofBits FTy.f32 897988541#32 := by
    have h' : Ideal.ofBits FTy.f32 897988541#32 = ((8796093 : ℝ) : EReal) * (((2 ^ 43)⁻¹ : ℝ) : EReal) := by simp [Ideal.ofBits, Ideal.ieee]
    rw [h', ← EReal.coe_mul]
    exact_mod_cast (by positivity : (0 : ℝ) < 8796093 * (2 ^ 43)⁻¹)
  refine h.trans_le (le_add_of_nonneg_left ?_)
  rw [div_head]
  exact mul_nonneg (Finset.sum_nonneg fun k _ => mul_self_nonneg _) (by exact_mod_cast (by norm_num : (0 : ℝ) ≤ 64⁻¹))

/-- One entry of the gradient through the norm of the head `X` with weights `G`, for the normed head's cotangent `H`, with the projection on the normed head. -/
def headBack (X G H : Fin 64 → EReal) (x u : EReal) : EReal :=
  Ideal.rsqrt (headSpread X) * (u - x * Ideal.rsqrt (headSpread X) * Ideal.div (∑ k, H k * G k * (X k * Ideal.rsqrt (headSpread X))) (Ideal.ofBits FTy.f32 1115684864#32))

/-- What the derivative of the printed forward comes to is the same. -/
theorem head_back (X G H : Fin 64 → EReal) (x u : EReal) :
    u * Ideal.rsqrt (headSpread X)
        + x * Ideal.div ((∑ k, X k * (H k * G k)) * (Ideal.ofBits FTy.f32 3204448256#32 * Ideal.div (Ideal.rsqrt (headSpread X)) (headSpread X))) (Ideal.ofBits FTy.f32 1115684864#32)
        + Ideal.div ((∑ k, X k * (H k * G k)) * (Ideal.ofBits FTy.f32 3204448256#32 * Ideal.div (Ideal.rsqrt (headSpread X)) (headSpread X))) (Ideal.ofBits FTy.f32 1115684864#32) * x
      = headBack X G H x u := by
  have h := row (fun k => X k * (H k * G k)) x u 0 (Ideal.rsqrt (headSpread X)) (headSpread X)
    (Ideal.div ((∑ k, X k * (H k * G k)) * (Ideal.ofBits FTy.f32 3204448256#32 * Ideal.div (Ideal.rsqrt (headSpread X)) (headSpread X))) (Ideal.ofBits FTy.f32 1115684864#32))
    (64⁻¹) (head_pos X) rfl (by rw [div_head, minus_half_word]) (Ideal.div (∑ k, H k * G k * (X k * Ideal.rsqrt (headSpread X))) (Ideal.ofBits FTy.f32 1115684864#32))
    (by rw [div_head]; exact congrArg (fun y : EReal => y * _) (Finset.sum_congr rfl fun k _ => by ac_rfl))
  rw [zero_add, zero_add] at h
  exact h.symm

/-- The lane of a lane's head that lies at a place in the head. -/
abbrev laneAt (l : Fin 128) (k : Fin 64) : Fin 128 := ⟨l.val / 64 * 64 + k.val, by have := l.isLt; have := k.isLt; omega⟩

/-- The sum over the lanes of a lane's head. -/
def half (f : Fin 128 → EReal) (l : Fin 128) : EReal := ∑ k : Fin 64, f (laneAt l k)

/-- The two masked sums, the one of the lane's own head chosen. -/
theorem pick (f : Fin 128 → EReal) (l : Fin 128) : Scalar.select (IntOp.cmpi .slt (BitVec.ofNat 32 l.val) 64#32)
      (∑ k : Fin 128, Scalar.select (IntOp.cmpi .slt (BitVec.ofNat 32 k.val) 64#32) (f k) 0)
      (∑ k : Fin 128, Scalar.select (IntOp.cmpi .slt (BitVec.ofNat 32 k.val) 64#32) 0 (f k)) = half f l := by
  have hl := l.isLt
  rw [low_half, high_half, low_word, half]
  by_cases h : l.val < 64
  · rw [if_pos h]
    show (∑ k : Fin 64, f ⟨k.val, by omega⟩) = _
    refine Finset.sum_congr rfl fun (k : Fin 64) _ => congrArg f (Fin.ext ?_)
    show k.val = l.val / 64 * 64 + k.val
    omega
  · rw [if_neg h]
    show (∑ k : Fin 64, f ⟨64 + k.val, by omega⟩) = _
    refine Finset.sum_congr rfl fun (k : Fin 64) _ => congrArg f (Fin.ext ?_)
    show 64 + k.val = l.val / 64 * 64 + k.val
    omega

/-- The scale of a lane's head. -/
theorem half_scale (a : Fin 128 → EReal) (l : Fin 128) : Ideal.rsqrt (half (fun k => a k * a k) l * Ideal.ofBits FTy.f32 1015021568#32 + Ideal.ofBits FTy.f32 897988541#32)
    = Ideal.rsqrt (headSpread fun k => a (laneAt l k)) := by
  rw [head_width]
  rfl

/-- A lane's head is that of every lane in it. -/
theorem laneAt_laneAt (l : Fin 128) (j k : Fin 64) : laneAt (laneAt l j) k = laneAt l k :=
  Fin.ext (by have := j.isLt; have := l.isLt; show (l.val / 64 * 64 + j.val) / 64 * 64 + k.val = l.val / 64 * 64 + k.val; omega)

/-- What the kernel computes on the lanes of two heads. -/
theorem lane_back (a d g r : Fin 128 → EReal) (hr : ∀ l, r l = Ideal.rsqrt (headSpread fun k => a (laneAt l k))) (l : Fin 128) :
    r l * (d l * g l - a l * r l * (half (fun k => d k * g k * (a k * r k)) l * Ideal.ofBits FTy.f32 1015021568#32))
      = headBack (fun k => a (laneAt l k)) (fun k => g (laneAt l k)) (fun k => d (laneAt l k)) (a l) (d l * g l) := by
  have e : half (fun k => d k * g k * (a k * r k)) l = ∑ k : Fin 64, d (laneAt l k) * g (laneAt l k) * (a (laneAt l k) * Ideal.rsqrt (headSpread fun k => a (laneAt l k))) :=
    Finset.sum_congr rfl fun k _ => by simp only [hr, laneAt_laneAt]
  rw [head_width, e, hr l, headBack]

/-- The host's sum over the first two of four axes, at an index. -/
theorem sum_two {n0 n1 n2 n3 : Nat} (h : (⟨4, ![n0, n1, n2, n3]⟩ : Shape).ReducesTo [0, 1] ⟨2, ![n2, n3]⟩) (v : (⟨4, ![n0, n1, n2, n3]⟩ : Shape).Idx → EReal) (init : EReal) (a : Fin n2) (b : Fin n3) :
    Ideal.hostReduceAdd h v init (ix2 a b) = init + ∑ i : Fin n0, ∑ j : Fin n1, v (ix4 i j a b) := by
  have d : ∀ i : (⟨4, ![n0, n1, n2, n3]⟩ : Shape).Idx, h.drop i = ix2 (i 2) (i 3) := fun i => funext fun x => by
    fin_cases x <;> rfl
  have e : ∀ i : (⟨4, ![n0, n1, n2, n3]⟩ : Shape).Idx, i = ix4 (i 0) (i 1) (i 2) (i 3) := fun i => funext fun x => by
    fin_cases x <;> rfl
  refine congrArg (init + ·) ?_
  rw [← Finset.sum_product']
  refine Finset.sum_nbij' (fun i => (i 0, i 1)) (fun p => ix4 p.1 p.2 a b) (fun i _ => Finset.mem_univ _) (fun p _ => Finset.mem_filter.mpr ⟨Finset.mem_univ _, d _⟩) (fun i hi => ?_) (fun p _ => rfl) (fun i hi => ?_)
  all_goals
    have hi' := (d i).symm.trans (Finset.mem_filter.mp hi).2
    have h2 : i 2 = a := congrFun hi' 0
    have h3 : i 3 = b := congrFun hi' 1
    subst h2
    subst h3
  · exact (e i).symm
  · exact congrArg v (e i)

end Cert.Mlp
end
-- ==== Proof.Proj.QHeadsBack.lean ====
/-
  The gradient through the norm of the queries' heads (`d_q_norm`): its frames and its values.
-/
module

public import proofs.«01_k».proof.Defs
public import proofs.«01_k».proof.Proof.Gen.Kernel24
public import proofs.«01_k».proof.Proof.Gen.Kernel24Ideal.Value
public import proofs.«01_k».proof.Proof.Gen.Reference24Ideal.Run
public import proofs.«01_k».proof.Proof.Mlp.HeadsBack

@[expose] public section
set_option maxRecDepth 16384
noncomputable section

namespace Cert.Kernel24Ideal.Hand
open Idealize.ShloMosaic Idealize.ShloMosaic.TcCoe Idealize.SL.Sem
open Cert.Kernel24Ideal Cert.Kernel24Ideal.Gen
open Idealize.ShloMosaic.Pipeline (Dat)
open Cert.Mlp (headBack headSpread laneAt half pick half_scale lane_back)

variable (m : (ℓ : Loc nD τ sig) → Buf (Elt Ideal) ℓ)

/-- The scale of the heads of a tile. -/
theorem scale (x : FVec Ideal S512x128 .f32) (i : Fin 512) (l : Fin 128) : (k0_pay3 (F := Ideal) x (ix2 i l) : EReal) = Ideal.rsqrt (headSpread fun k => x (ix2 i (laneAt l k))) := by
  rw [← half_scale (fun k => x (ix2 i k))]
  pointwise [k0_pay3]
  simp only [pick]

/-- The gradient of a tile of two heads. -/
def piece (g : FVec Ideal S1x128 .f32) (x d : FVec Ideal S512x128 .f32) : FVec Ideal S512x128 .bf16 :=
  k0_pay9 (k0_pay3 x) (k0_pay4 x) (mulf d (broadcastTo S512x128 g broadcasts_S1x128_S512x128)) (mulf (mulf d (broadcastTo S512x128 g broadcasts_S1x128_S512x128)) (k0_pay4 x))

/-- The tile's gradient, entry by entry. -/
theorem piece_at (g : FVec Ideal S1x128 .f32) (x d : FVec Ideal S512x128 .f32) (i : Fin 512) (l : Fin 128) : (piece g x d (ix2 i l) : EReal)
    = headBack (fun k => x (ix2 i (laneAt l k))) (fun k => g (ix2 0 (laneAt l k))) (fun k => d (ix2 i (laneAt l k))) (x (ix2 i l)) (d (ix2 i l) * g (ix2 0 l)) := by
  rw [← lane_back (fun k => x (ix2 i k)) (fun k => d (ix2 i k)) (fun k => g (ix2 0 k)) (fun k => k0_pay3 (F := Ideal) x (ix2 i k)) (scale x i)]
  have e : ∀ l, k0_pay4 (F := Ideal) x (ix2 i l) = x (ix2 i l) * k0_pay3 (F := Ideal) x (ix2 i l) := fun l => rfl
  pointwise [piece, k0_pay9]
  simp only [pick, e]

/-- What a tile adds to the gradient of the heads' weights. -/
def part (x d : FVec Ideal S512x128 .f32) : FVec Ideal S1x128 .f32 :=
  shapeCast S1x128 (multiReduction .add [0] S128 (mulf d (k0_pay4 x)) 0x00000000#32 reduces_S512x128_S128 (.inl rfl) rfl) shapeCasts_S128_S1x128

/-- It, entry by entry. -/
theorem part_at (x d : FVec Ideal S512x128 .f32) (l : Fin 128) : (part x d (ix2 0 l) : EReal)
    = ∑ i : Fin 512, d (ix2 i l) * (x (ix2 i l) * Ideal.rsqrt (headSpread fun k => x (ix2 i (laneAt l k)))) := by
  have e : ∀ i l, k0_pay4 (F := Ideal) x (ix2 i l) = x (ix2 i l) * k0_pay3 (F := Ideal) x (ix2 i l) := fun i l => rfl
  pointwise [part]
  simp only [e, scale]

/-- The array's row that a block's row is. -/
abbrev rowAt (t : Fin cfg0.N) (i : Fin 512) : Fin 2048 := ⟨t.val * 512 + i.val, by have h := lt_of_lt_of_eq t.isLt N_0; have := i.isLt; omega⟩

/-- The array's column that a tile's lane is. -/
abbrev colAt (s : Fin 8) (l : Fin 128) : Fin 1024 := ⟨s.val * 128 + l.val, by have := s.isLt; have := l.isLt; omega⟩

/-- A place in the head of a column. -/
abbrev headAt (j : Fin 1024) (k : Fin 64) : Fin 1024 := ⟨j.val / 64 * 64 + k.val, by have := j.isLt; have := k.isLt; omega⟩

/-- The place in the head of a tile's lane. -/
theorem colAt_laneAt (s : Fin 8) (l : Fin 128) (k : Fin 64) : colAt s (laneAt l k) = headAt (colAt s l) k :=
  Fin.ext (by have := s.isLt; have := l.isLt; show s.val * 128 + (l.val / 64 * 64 + k.val) = (s.val * 128 + l.val) / 64 * 64 + k.val; omega)

/-- The windows' block indices. -/
theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

/-- The heads' weights as the call finds them, for two heads side by side. -/
theorem gains (c : Dev nD) (k : Fin 128) : (V m c main_v3 : FVec Ideal S1x128 .f32) (ix2 0 k) = m ((c : Thread nD τ).loc main_arg1) (ix1 ⟨k.val % 64, by omega⟩) := by
  entry_read
  pointwise
  blk_ext

/-- The heads' weights' block, entry by entry. -/
theorem g_block (c : Dev nD) (t : Fin cfg0.N) (k : Fin 128) : (k0_pay2 (F := Ideal) (iblk m c 2 t) (ix2 0 k) : EReal) = m ((c : Thread nD τ).loc main_arg1) (ix1 ⟨k.val % 64, by omega⟩) := by
  rw [← gains m c k]
  pointwise [k0_pay2]
  blk_ext [iblk, idx t]

/-- A block of the heads, entry by entry. -/
theorem x_block (c : Dev nD) (t : Fin cfg0.N) (i : Fin 512) (k : Fin 1024) : (iblk m c 1 t : FVec Ideal S512x1024 .f32) (ix2 i k) = (m ((c : Thread nD τ).loc main_arg0)) (ix2 (rowAt t i) k) := by
  blk_ext [iblk, V, idx t]

/-- A block of the cotangent, entry by entry. -/
theorem d_block (c : Dev nD) (t : Fin cfg0.N) (i : Fin 512) (k : Fin 1024) : (iblk m c 0 t : FVec Ideal S512x1024 .f32) (ix2 i k) = (m ((c : Thread nD τ).loc main_arg2)) (ix2 (rowAt t i) k) := by
  blk_ext [iblk, V, idx t]

/-- The cotangent of the normed heads, scaled. -/
def cot (d : FVec Ideal S2048x1024 .f32) : FVec Ideal S2048x1024 .f32 := fun y => d y * Ideal.ofBits FTy.f32 1040187392#32

/-- The gradient of the heads `p` with weights `w`, for the normed heads' cotangent `q`. -/
def heads (p q : FVec Ideal S2048x1024 .f32) (w : FVec Ideal S64 .f32) : FVec Ideal S2048x1024 .bf16 := fun y =>
  headBack (fun k => p (ix2 (y 0) (headAt (y 1) k))) (fun k => w (ix1 k)) (fun k => q (ix2 (y 0) (headAt (y 1) k))) (p y) (q y * w (ix1 ⟨(y 1).val % 64, by omega⟩))

/-- A tile's columns lie in the block. -/
theorem inside (s : Fin 8) : ∀ a, (![0, s.val * 128] : Fin 2 → Nat) a + (![512, 128] : Fin 2 → Nat) a ≤ S512x1024.size a := by
  fin_cases s <;> decide

/-- A tile of a block. -/
def cut (x : FVec Ideal S512x1024 .f32) (s : Fin 8) : FVec Ideal S512x128 .f32 := View.ld (Val := Elt Ideal) (e' := .f32) x (Rect.unit (s := S512x1024) ![0, s.val * 128] ![512, 128] (inside s))

/-- A tile, entry by entry. -/
theorem cut_at (x : FVec Ideal S512x1024 .f32) (s : Fin 8) (i : Fin 512) (l : Fin 128) : cut x s (ix2 i l) = x (ix2 i (colAt s l)) := by
  pointwise [cut]
  blk_ext

/-- A tile's cotangent, scaled. -/
theorem cot_at (c : Dev nD) (t : Fin cfg0.N) (s : Fin 8) (i : Fin 512) (l : Fin 128) : (k0_pay5 (F := Ideal) (cut (iblk m c 0 t) s) (ix2 i l) : EReal)
    = cot (m ((c : Thread nD τ).loc main_arg2)) (ix2 (rowAt t i) (colAt s l)) := by
  rw [cot, ← d_block m c t, ← cut_at (iblk m c 0 t)]
  pointwise [k0_pay5]

/-- A tile's gradient at a row and a lane of it. -/
theorem tile (c : Dev nD) (t : Fin cfg0.N) (s : Fin 8) (i : Fin 512) (l : Fin 128) :
    (piece (k0_pay2 (iblk m c 2 t)) (cut (iblk m c 1 t) s) (k0_pay5 (cut (iblk m c 0 t) s)) (ix2 i l) : EReal)
    = heads (m ((c : Thread nD τ).loc main_arg0)) (cot (m ((c : Thread nD τ).loc main_arg2))) (m ((c : Thread nD τ).loc main_arg1)) (ix2 (rowAt t i) (colAt s l)) := by
  have w : ∀ l k, (⟨(laneAt l k).val % 64, Nat.mod_lt _ (by decide)⟩ : Fin 64) = k := fun l k => Fin.ext (by have := k.isLt; show (l.val / 64 * 64 + k.val) % 64 = k.val; omega)
  rw [piece_at]
  simp only [cot_at, cut_at, x_block, g_block, colAt_laneAt, w]
  have w' : (⟨l.val % 64, Nat.mod_lt _ (by decide)⟩ : Fin 64) = ⟨(colAt s l).val % 64, Nat.mod_lt _ (by decide)⟩ := Fin.ext (by show l.val % 64 = (s.val * 128 + l.val) % 64; omega)
  rw [w']
  rfl

/-- The same at an index of the tile and the place in the array where it lies. -/
theorem tile_at (c : Dev nD) (t : Fin cfg0.N) (s : Fin 8) (z : S512x128.Idx) (y : S2048x1024.Idx) (h0 : (y 0).val = t.val * 512 + (z 0).val) (h1 : (y 1).val = s.val * 128 + (z 1).val) :
    (piece (k0_pay2 (iblk m c 2 t)) (cut (iblk m c 1 t) s) (k0_pay5 (cut (iblk m c 0 t) s)) z : EReal)
    = heads (m ((c : Thread nD τ).loc main_arg0)) (cot (m ((c : Thread nD τ).loc main_arg2))) (m ((c : Thread nD τ).loc main_arg1)) y := by
  have e : y = ix2 (rowAt t (z 0)) (colAt s (z 1)) := (ix2_eta y).symm.trans (congrArg₂ ix2 (Fin.ext h0) (Fin.ext h1))
  rw [e]
  exact (congrArg _ (ix2_eta z).symm).trans (tile m c t s (z 0) (z 1))

/-- The gradient's array after the run. -/
theorem final3 (c : Dev nD) : (dats m 0 c).arrAt 3 (cfgs 0).N = heads (m ((c : Thread nD τ).loc main_arg0)) (cot (m ((c : Thread nD τ).loc main_arg2))) (m ((c : Thread nD τ).loc main_arg1)) := by
  refine (dats m 0 c).arrAt_eq_of_covers 3 _ (by decide +kernel) fun t _ y => ?_
  blk_simp
  rw [after0_3]
  by_cases h0 : t.val % 4 = 0
  on_goal 1 => rw [outsAt0_A m c t h0]
  on_goal 2 => rw [outsAt0_B m c t h0]
  all_goals
    frame_out
    canon_tiles x h
    case piece0 => refine tile_at m c t 7 x _ ?_ ?_ <;> (blk_simp [idx t] <;> try omega)
    case piece1 => refine tile_at m c t 6 x _ ?_ ?_ <;> (blk_simp [idx t] <;> try omega)
    case piece2 => refine tile_at m c t 5 x _ ?_ ?_ <;> (blk_simp [idx t] <;> try omega)
    case piece3 => refine tile_at m c t 4 x _ ?_ ?_ <;> (blk_simp [idx t] <;> try omega)
    case piece4 => refine tile_at m c t 3 x _ ?_ ?_ <;> (blk_simp [idx t] <;> try omega)
    case piece5 => refine tile_at m c t 2 x _ ?_ ?_ <;> (blk_simp [idx t] <;> try omega)
    case piece6 => refine tile_at m c t 1 x _ ?_ ?_ <;> (blk_simp [idx t] <;> try omega)
    case piece7 => refine tile_at m c t 0 x _ ?_ ?_ <;> (blk_simp [idx t] <;> try omega)

/-- What a point adds to the gradient of the heads' weights, tile by tile. -/
def sums (x d : Fin 8 → FVec Ideal S512x128 .f32) : FVec Ideal S1x128 .f32 :=
  addf (addf (addf (addf (addf (addf (addf (addf (broadcast S1x128 (Scalar.ofBits .f32 0x00000000#32)) (part (x 0) (d 0))) (part (x 1) (d 1))) (part (x 2) (d 2))) (part (x 3) (d 3))) (part (x 4) (d 4))) (part (x 5) (d 5))) (part (x 6) (d 6))) (part (x 7) (d 7))

/-- It, entry by entry. -/
theorem sums_at (x d : Fin 8 → FVec Ideal S512x128 .f32) (l : Fin 128) : (sums x d (ix2 0 l) : EReal)
    = ∑ s : Fin 8, ∑ i : Fin 512, d s (ix2 i l) * (x s (ix2 i l) * Ideal.rsqrt (headSpread fun k => x s (ix2 i (laneAt l k)))) := by
  rw [Fin.sum_univ_eight]
  pointwise [sums]
  simp only [part_at, zero_add]

/-- What a point adds. -/
def point (c : Dev nD) (t : Fin cfg0.N) : FVec Ideal S1x128 .f32 := sums (cut (iblk m c 1 t)) (fun s => k0_pay5 (cut (iblk m c 0 t) s))

/-- One product of the weights' gradient. -/
def term (p q : FVec Ideal S2048x1024 .f32) (i : Fin 2048) (j : Fin 1024) : EReal := q (ix2 i j) * (p (ix2 i j) * Ideal.rsqrt (headSpread fun k => p (ix2 i (headAt j k))))

/-- A point's sum, entry by entry. -/
theorem point_at (c : Dev nD) (t : Fin cfg0.N) (l : Fin 128) : (point m c t (ix2 0 l) : EReal)
    = ∑ s : Fin 8, ∑ i : Fin 512, term (m ((c : Thread nD τ).loc main_arg0)) (cot (m ((c : Thread nD τ).loc main_arg2))) (rowAt t i) (colAt s l) := by
  rw [point, sums_at]
  simp only [cot_at, cut_at, x_block, colAt_laneAt]
  rfl

/-- What a later point leaves in the weights' gradient. -/
theorem later4 (c : Dev nD) (t : Fin cfg0.N) (h0 : ¬ t.val % 4 = 0) (j : S1x128.Idx) : ((outsAt0 m c t.val t.isLt).2 j : EReal)
    = (outsAt0 m c (t.val - 1) (Nat.lt_of_le_of_lt (Nat.sub_le _ _) t.isLt)).2 j + point m c t j := by
  rw [outsAt0_B m c t h0]
  frame_out
  refine Eq.trans (b := addf (shapeCast S1x128 (outsAt0 m c (t.val - 1) (Nat.lt_of_le_of_lt (Nat.sub_le _ _) t.isLt)).2 shapeCasts_S1x128_S1x128) (point m c t) j) rfl ?_
  pointwise

/-- What the first point leaves in it. -/
theorem first4 (c : Dev nD) (t : Fin cfg0.N) (h0 : t.val % 4 = 0) (j : S1x128.Idx) : ((outsAt0 m c t.val t.isLt).2 j : EReal)
    = 0 + point m c t j := by
  rw [outsAt0_A m c t h0]
  frame_out
  refine Eq.trans (b := addf (shapeCast S1x128 (k0_pay1 (F := Ideal)) shapeCasts_S1x128_S1x128) (point m c t) j) rfl ?_
  pointwise [k0_pay1]

/-- The gradient of the heads' weights, for two heads side by side. -/
def gain (p q : FVec Ideal S2048x1024 .f32) : FVec Ideal S1x128 .f32 := fun y => ∑ i : Fin 2048, ∑ s : Fin 8, term p q i (colAt s (y 1))

/-- The weights' gradient's array after the run. -/
theorem final4 (c : Dev nD) : (dats m 0 c).arrAt 4 (cfgs 0).N = gain (m ((c : Thread nD τ).loc main_arg0)) (cot (m ((c : Thread nD τ).loc main_arg2))) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0) (fun (t : Fin cfg0.N) (j : S1x128.Idx) => point m c t j)
    (first4 m c) (later4 m c) (le_of_eq N_0) t0_3 rfl j, zero_add]
  refine (Fin.sum_fin_congr fun t => ?_).trans (Fin.sum_mul_add_congr (f := fun i : Fin 2048 => ∑ s : Fin 8, term (m ((c : Thread nD τ).loc main_arg0)) (cot (m ((c : Thread nD τ).loc main_arg2))) i (colAt s (j 1))) (F := fun t i => ∑ s : Fin 8, term (m ((c : Thread nD τ).loc main_arg0)) (cot (m ((c : Thread nD τ).loc main_arg2))) (rowAt t i) (colAt s (j 1))) (fun p k _ => rfl) (by rw [show cfg0.N = 4 from N_0]))
  have hj : j = ix2 (0 : Fin 1) (j 1) := (eq_ix2 j).trans (congrArg₂ ix2 (Fin.ext (by have : (j 0).val < 1 := (j 0).isLt; show (j 0).val = 0; omega)) rfl)
  rw [hj]
  exact (point_at m c t (j 1)).trans Finset.sum_comm

/-- The reference's first result is the same gradient. -/
theorem same3 (m' : (ℓ : Loc Cert.Reference24Ideal.nD Cert.Reference24Ideal.τ Cert.Reference24Ideal.sig) → Buf (Elt Ideal) ℓ) (c : Dev Cert.Reference24Ideal.nD) :
    Cert.Reference24Ideal.Value.res_main_v47 m' c = heads (m' ((c.tc : Thread Cert.Reference24Ideal.nD Cert.Reference24Ideal.τ).loc Cert.Reference24Ideal.main_arg0)) (cot (m' ((c.tc : Thread Cert.Reference24Ideal.nD Cert.Reference24Ideal.τ).loc Cert.Reference24Ideal.main_arg2))) (m' ((c.tc : Thread Cert.Reference24Ideal.nD Cert.Reference24Ideal.τ).loc Cert.Reference24Ideal.main_arg1)) := by
  funext i
  have e : ∀ (x : Fin 64) (h : (i 1).val / 128 * 128 + (i 1).val / 64 % 2 * 64 + x.val < 1024), (⟨(i 1).val / 128 * 128 + (i 1).val / 64 % 2 * 64 + x.val, h⟩ : Fin 1024) = headAt (i 1) x :=
    fun x h => Fin.ext (by show (i 1).val / 128 * 128 + (i 1).val / 64 % 2 * 64 + x.val = (i 1).val / 64 * 64 + x.val; omega)
  pointwise [Cert.Reference24Ideal.Value.res_main_v47]
  simp only [Finset.univ_unique, Finset.sum_singleton, e, dite_eq_ite, ite_self]
  split_ifs
  all_goals
    exact Cert.Mlp.head_back (fun k => (m' ((c.tc : Thread Cert.Reference24Ideal.nD Cert.Reference24Ideal.τ).loc Cert.Reference24Ideal.main_arg0)) (ix2 (i 0) (headAt (i 1) k)))
      (fun k => (m' ((c.tc : Thread Cert.Reference24Ideal.nD Cert.Reference24Ideal.τ).loc Cert.Reference24Ideal.main_arg1)) (ix1 k))
      (fun k => cot (m' ((c.tc : Thread Cert.Reference24Ideal.nD Cert.Reference24Ideal.τ).loc Cert.Reference24Ideal.main_arg2)) (ix2 (i 0) (headAt (i 1) k))) _ _

/-- The reference's second result is the same weights' gradient. -/
theorem same4 (p d : FVec Ideal S2048x1024 .f32) :
    shapeCast Cert.Reference24Ideal.S1x128 (Host.reduceAdd (shapeCast Cert.Reference24Ideal.S1x1x2x64 (Host.reduceAdd (mulf (mulf (shapeCast Cert.Reference24Ideal.S2048x8x2x64 p Cert.Reference24Ideal.Gen.shapeCasts_S2048x1024_S2048x8x2x64) (broadcastInDim Cert.Reference24Ideal.S2048x8x2x64 ![0, 1, 2, 3] Cert.Reference24Ideal.Gen.bcast_S2048x8x2x1_S2048x8x2x64_0_1_2_3 (Host.rsqrt (addf (Host.divf (broadcastInDim Cert.Reference24Ideal.S2048x8x2x1 ![0, 1, 2] Cert.Reference24Ideal.Gen.bcast_S2048x8x2_S2048x8x2x1_0_1_2 (Host.reduceAdd (mulf (shapeCast Cert.Reference24Ideal.S2048x8x2x64 p Cert.Reference24Ideal.Gen.shapeCasts_S2048x1024_S2048x8x2x64) (shapeCast Cert.Reference24Ideal.S2048x8x2x64 p Cert.Reference24Ideal.Gen.shapeCasts_S2048x1024_S2048x8x2x64)) (constant Cert.Reference24Ideal.S_ .f32 0x00000000#32) Cert.Reference24Ideal.Gen.reducesTo_S2048x8x2x64_S2048x8x2_d3 Cert.Reference24Ideal.Gen.h_S_)) (broadcastInDim Cert.Reference24Ideal.S2048x8x2x1 ![] Cert.Reference24Ideal.Gen.bcast_S_S2048x8x2x1 (constant Cert.Reference24Ideal.S_ .f32 0x42800000#32))) (broadcastInDim Cert.Reference24Ideal.S2048x8x2x1 ![] Cert.Reference24Ideal.Gen.bcast_S_S2048x8x2x1 (constant Cert.Reference24Ideal.S_ .f32 0x358637BD#32)))))) (shapeCast Cert.Reference24Ideal.S2048x8x2x64 (mulf d (broadcastInDim Cert.Reference24Ideal.S2048x1024 ![] Cert.Reference24Ideal.Gen.bcast_S_S2048x1024 (constant Cert.Reference24Ideal.S_ .f32 0x3E000000#32))) Cert.Reference24Ideal.Gen.shapeCasts_S2048x1024_S2048x8x2x64)) (constant Cert.Reference24Ideal.S_ .f32 0x00000000#32) Cert.Reference24Ideal.Gen.reducesTo_S2048x8x2x64_S2x64_d0_1 Cert.Reference24Ideal.Gen.h_S_) Cert.Reference24Ideal.Gen.shapeCasts_S2x64_S1x1x2x64) (constant Cert.Reference24Ideal.S_ .f32 0x00000000#32) Cert.Reference24Ideal.Gen.reducesTo_S1x1x2x64_S2x64_d0_1 Cert.Reference24Ideal.Gen.h_S_) Cert.Reference24Ideal.Gen.shapeCasts_S2x64_S1x128 = gain p (cot d) := by
  funext i
  pointwise [gain]
  rw [Cert.Mlp.sum_two]
  pointwise
  rw [Cert.Mlp.sum_two]
  pointwise
  simp only [Finset.univ_unique, Finset.sum_singleton]
  refine Finset.sum_congr rfl fun x _ => Finset.sum_congr rfl fun s _ => ?_
  have e : ∀ h : s.val * 128 + (i 1).val / 64 * 64 + (i 1).val % 64 < 1024, (⟨s.val * 128 + (i 1).val / 64 * 64 + (i 1).val % 64, h⟩ : Fin 1024) = colAt s (i 1) :=
    fun h => Fin.ext (by show s.val * 128 + (i 1).val / 64 * 64 + (i 1).val % 64 = s.val * 128 + (i 1).val; omega)
  have e' : ∀ (k : Fin 64) (h : s.val * 128 + (i 1).val / 64 * 64 + k.val < 1024), (⟨s.val * 128 + (i 1).val / 64 * 64 + k.val, h⟩ : Fin 1024) = headAt (colAt s (i 1)) k :=
    fun k h => Fin.ext (by show s.val * 128 + (i 1).val / 64 * 64 + k.val = (s.val * 128 + (i 1).val) / 64 * 64 + k.val; omega)
  simp only [e, e']
  exact mul_comm _ _

end Cert.Kernel24Ideal.Hand

namespace Cert.Proof
open Idealize.ShloMosaic Idealize.ShloMosaic.TcCoe Idealize.SL.Sem

/-- The two texts of the body are the same. -/
theorem body_same24 {F : FTy → Type} [FloatOps F] : Cert.Kernel24.defs₀ (F := F) = Cert.Kernel24Ideal.defs₀ (F := F) := by
  refine congrArg Defs.onTc ?_
  funext l x
  match l, x with
  | 0, (t, s) => rfl

/-- The two texts have the same definitions. -/
theorem defs_same24 {F : FTy → Type} [FloatOps F] : Cert.Kernel24.defs (F := F) = Cert.Kernel24Ideal.defs (F := F) :=
  congrArg (Pipeline.defs (Cert.Kernel24Ideal.pcfgs (F := F))) body_same24

/-- The call as printed, on words. -/
theorem frame_kernel24 : Cert.quiescent_Kernel24 := by
  intro m ρ _
  rw [defs_same24]
  exact Cert.Kernel24Ideal.Gen.frame (F := Bits) m ρ

/-- The call over the extended reals. -/
theorem frame_ideal24 : Cert.quiescent_Kernel24Ideal := fun m ρ _ => Cert.Kernel24Ideal.Gen.frame (F := Ideal) m ρ

/-- The reference over the extended reals. -/
theorem frame_reference24 : Cert.quiescent_Reference24Ideal := fun m ρ _ =>
  (θ_run Cert.Reference24Ideal.defs _ _).mono (fun r h => ⟨fun c => (h c).2.2, sem_eq_zero_of_no_sems (by decide) r.2⟩)
    (Cert.Reference24Ideal.Value.run (F := Ideal) m ρ)

/-- Kernel and reference end with equal results. -/
theorem equal24 : Cert.algebraic_Kernel24Ideal_Reference24Ideal := by
  intro m g m' g' _ hagree
  refine ⟨fun c => (Cert.Kernel24Ideal.Gen.dats m 0 c).arrAt 3 (Cert.Kernel24Ideal.cfgs 0).N, fun c => (Cert.Kernel24Ideal.Gen.dats m 0 c).arrAt 4 (Cert.Kernel24Ideal.cfgs 0).N, ?_, ?_⟩
  · exact Cert.Kernel24Ideal.Value.run_blocks (F := Ideal) m g
  · refine (θ_run Cert.Reference24Ideal.defs _ _).mono (fun r h c => ?_) (Cert.Reference24Ideal.Value.run (F := Ideal) m' g')
    obtain ⟨h0, h1, hr⟩ := h c
    obtain ⟨a0, a1, a2⟩ := hagree c
    refine ⟨?_, ?_, hr⟩
    · rw [h0, Cert.Kernel24Ideal.Hand.same3 m' c, a0, a1, a2]
      exact (Cert.Kernel24Ideal.Hand.final3 m c).symm
    · rw [h1, a0, a2]
      exact (Cert.Kernel24Ideal.Hand.same4 _ _).trans (Cert.Kernel24Ideal.Hand.final4 m c).symm

end Cert.Proof
end
-- ==== Proof.Proj.KHeadsBack.lean ====
/-
  The gradient through the norm of the keys' heads, with the values' cotangent passed through (`d_k_norm`): its frames and its values.
-/
module

public import proofs.«01_k».proof.Defs
public import proofs.«01_k».proof.Proof.Gen.Kernel25
public import proofs.«01_k».proof.Proof.Gen.Kernel25Ideal.Value
public import proofs.«01_k».proof.Proof.Gen.Reference25Ideal.Run
public import proofs.«01_k».proof.Proof.Proj.QHeadsBack

@[expose] public section
set_option maxRecDepth 16384
noncomputable section

namespace Cert.Kernel25Ideal.Hand
open Idealize.ShloMosaic Idealize.ShloMosaic.TcCoe Idealize.SL.Sem
open Cert.Kernel25Ideal Cert.Kernel25Ideal.Gen
open Idealize.ShloMosaic.Pipeline (Dat)
open Cert.Mlp (headSpread laneAt)
open Cert.Kernel24Ideal.Hand (piece piece_at cut cut_at sums sums_at heads term gain colAt colAt_laneAt headAt)

variable (m : (ℓ : Loc nD τ sig) → Buf (Elt Ideal) ℓ)

/-- The left half of the heads' array: the keys. -/
def keys (p : FVec Ideal S2048x2048 .f32) : FVec Ideal S2048x1024 .f32 := fun y => p (ix2 (y 0) (⟨(y 1).val, by have : (y 1).val < 1024 := (y 1).isLt; omega⟩ : Fin 2048))

/-- The array's row that a block's row is. -/
abbrev rowAt (t : Fin cfg0.N) (i : Fin 512) : Fin 2048 := ⟨t.val * 512 + i.val, by have h := lt_of_lt_of_eq t.isLt N_0; have := i.isLt; omega⟩

/-- The windows' block indices. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

/-- The heads' weights as the call finds them, for two heads side by side. -/
theorem gains (c : Dev nD) (k : Fin 128) : (V m c main_v3 : FVec Ideal S1x128 .f32) (ix2 0 k) = m ((c : Thread nD τ).loc main_arg1) (ix1 ⟨k.val % 64, by omega⟩) := by
  entry_read
  pointwise
  blk_ext

/-- The heads' weights' block, entry by entry. -/
theorem g_block (c : Dev nD) (t : Fin cfg0.N) (k : Fin 128) : (k0_pay3 (F := Ideal) (iblk m c 2 t) (ix2 0 k) : EReal) = m ((c : Thread nD τ).loc main_arg1) (ix1 ⟨k.val % 64, by omega⟩) := by
  rw [← gains m c k]
  pointwise [k0_pay3]
  blk_ext [iblk, idx t]

/-- A block of the heads, entry by entry. -/
theorem x_block (c : Dev nD) (t : Fin cfg0.N) (i : Fin 512) (k : Fin 1024) : (iblk m c 1 t : FVec Ideal S512x1024 .f32) (ix2 i k) = keys (m ((c : Thread nD τ).loc main_arg0)) (ix2 (rowAt t i) k) := by
  blk_ext [iblk, V, idx t, keys]

/-- A block of the cotangent, entry by entry. -/
theorem d_block (c : Dev nD) (t : Fin cfg0.N) (i : Fin 512) (k : Fin 1024) : (iblk m c 0 t : FVec Ideal S512x1024 .f32) (ix2 i k) = (m ((c : Thread nD τ).loc main_arg2)) (ix2 (rowAt t i) k) := by
  blk_ext [iblk, V, idx t]

/-- A tile's cotangent. -/
theorem cot_at (c : Dev nD) (t : Fin cfg0.N) (s : Fin 8) (i : Fin 512) (l : Fin 128) : (k0_pay7 (F := Ideal) (cut (iblk m c 0 t) s) (ix2 i l) : EReal)
    = m ((c : Thread nD τ).loc main_arg2) (ix2 (rowAt t i) (colAt s l)) := by
  rw [← d_block m c t, ← cut_at (iblk m c 0 t)]
  pointwise [k0_pay7]

/-- The keys' gradient beside the values' cotangent. -/
def both (p : FVec Ideal S2048x2048 .f32) (q v : FVec Ideal S2048x1024 .f32) (w : FVec Ideal S64 .f32) : FVec Ideal S2048x2048 .bf16 := fun y =>
  if h : (y 1).val < 1024 then heads (keys p) q w (ix2 (y 0) (⟨(y 1).val, h⟩ : Fin 1024)) else v (ix2 (y 0) (⟨(y 1).val - 1024, by have : (y 1).val < 2048 := (y 1).isLt; omega⟩ : Fin 1024))

/-- Its left half. -/
theorem both_left (p : FVec Ideal S2048x2048 .f32) (q v : FVec Ideal S2048x1024 .f32) (w : FVec Ideal S64 .f32) (y : S2048x2048.Idx) (r : Fin 2048) (j : Fin 1024) (h0 : (y 0).val = r.val) (h1 : (y 1).val = j.val) :
    both p q v w y = heads (keys p) q w (ix2 r j) := by
  have e : y = ix2 r (⟨j.val, by have := j.isLt; omega⟩ : Fin 2048) := (ix2_eta y).symm.trans (congrArg₂ ix2 (Fin.ext h0) (Fin.ext h1))
  rw [e]
  exact dif_pos j.isLt

/-- Its right half. -/
theorem both_right (p : FVec Ideal S2048x2048 .f32) (q v : FVec Ideal S2048x1024 .f32) (w : FVec Ideal S64 .f32) (y : S2048x2048.Idx) (r : Fin 2048) (j : Fin 1024) (h0 : (y 0).val = r.val) (h1 : (y 1).val = 1024 + j.val) :
    both p q v w y = v (ix2 r j) := by
  have e : y = ix2 r (⟨1024 + j.val, by have := j.isLt; omega⟩ : Fin 2048) := (ix2_eta y).symm.trans (congrArg₂ ix2 (Fin.ext h0) (Fin.ext h1))
  rw [e]
  refine (dif_neg (by show ¬ 1024 + j.val < 1024; omega)).trans (congrArg v (congrArg₂ ix2 rfl (Fin.ext ?_)))
  show 1024 + j.val - 1024 = j.val
  omega

/-- A block of the values' cotangent, entry by entry. -/
theorem v_block (c : Dev nD) (t : Fin cfg0.N) (i : Fin 512) (k : Fin 1024) : (iblk m c 3 t : FVec Ideal S512x1024 .f32) (ix2 i k) = (m ((c : Thread nD τ).loc main_arg3)) (ix2 (rowAt t i) k) := by
  blk_ext [iblk, V, idx t]

/-- The values' cotangent at an index of the block and the place in the array where it lies. -/
theorem pass_at (c : Dev nD) (t : Fin cfg0.N) (z : S512x1024.Idx) (y : S2048x2048.Idx) (h0 : (y 0).val = t.val * 512 + (z 0).val) (h1 : (y 1).val = 1024 + (z 1).val) :
    (k0_pay1 (F := Ideal) (iblk m c 3 t) z : EReal)
    = both (m ((c : Thread nD τ).loc main_arg0)) (m ((c : Thread nD τ).loc main_arg2)) (m ((c : Thread nD τ).loc main_arg3)) (m ((c : Thread nD τ).loc main_arg1)) y := by
  rw [both_right _ _ _ _ y (rowAt t (z 0)) (z 1) h0 h1]
  exact (congrArg _ (ix2_eta z).symm).trans (v_block m c t (z 0) (z 1))

/-- A tile's gradient at a row and a lane of it. -/
theorem tile (c : Dev nD) (t : Fin cfg0.N) (s : Fin 8) (i : Fin 512) (l : Fin 128) :
    (piece (k0_pay3 (iblk m c 2 t)) (cut (iblk m c 1 t) s) (k0_pay7 (cut (iblk m c 0 t) s)) (ix2 i l) : EReal)
    = heads (keys (m ((c : Thread nD τ).loc main_arg0))) (m ((c : Thread nD τ).loc main_arg2)) (m ((c : Thread nD τ).loc main_arg1)) (ix2 (rowAt t i) (colAt s l)) := by
  have w : ∀ l k, (⟨(laneAt l k).val % 64, Nat.mod_lt _ (by decide)⟩ : Fin 64) = k := fun l k => Fin.ext (by have := k.isLt; show (l.val / 64 * 64 + k.val) % 64 = k.val; omega)
  rw [piece_at]
  simp only [cot_at, cut_at, x_block, g_block, colAt_laneAt, w]
  have w' : (⟨l.val % 64, Nat.mod_lt _ (by decide)⟩ : Fin 64) = ⟨(colAt s l).val % 64, Nat.mod_lt _ (by decide)⟩ := Fin.ext (by show l.val % 64 = (s.val * 128 + l.val) % 64; omega)
  rw [w']
  rfl

/-- The same at an index of the tile and the place in the array where it lies. -/
theorem tile_at (c : Dev nD) (t : Fin cfg0.N) (s : Fin 8) (z : S512x128.Idx) (y : S2048x2048.Idx) (h0 : (y 0).val = t.val * 512 + (z 0).val) (h1 : (y 1).val = s.val * 128 + (z 1).val) :
    (piece (k0_pay3 (iblk m c 2 t)) (cut (iblk m c 1 t) s) (k0_pay7 (cut (iblk m c 0 t) s)) z : EReal)
    = both (m ((c : Thread nD τ).loc main_arg0)) (m ((c : Thread nD τ).loc main_arg2)) (m ((c : Thread nD τ).loc main_arg3)) (m ((c : Thread nD τ).loc main_arg1)) y := by
  rw [both_left _ _ _ _ y (rowAt t (z 0)) (colAt s (z 1)) h0 h1]
  exact (congrArg _ (ix2_eta z).symm).trans (tile m c t s (z 0) (z 1))

/-- The gradient's array after the run. -/
theorem final4 (c : Dev nD) : (dats m 0 c).arrAt 4 (cfgs 0).N = both (m ((c : Thread nD τ).loc main_arg0)) (m ((c : Thread nD τ).loc main_arg2)) (m ((c : Thread nD τ).loc main_arg3)) (m ((c : Thread nD τ).loc main_arg1)) := by
  refine (dats m 0 c).arrAt_eq_of_covers 4 _ (by decide +kernel) fun t _ y => ?_
  blk_simp
  rw [after0_4]
  by_cases h0 : t.val % 4 = 0
  on_goal 1 => rw [outsAt0_A m c t h0]
  on_goal 2 => rw [outsAt0_B m c t h0]
  all_goals
    frame_out
    canon_tiles x h using View.cover_of_tiledBy _ ![512, 128] (by sl_kernel_rfl) y
    case piece0 => refine tile_at m c t 7 x _ ?_ ?_ <;> (blk_simp [idx t] <;> try omega)
    case piece1 => refine tile_at m c t 6 x _ ?_ ?_ <;> (blk_simp [idx t] <;> try omega)
    case piece2 => refine tile_at m c t 5 x _ ?_ ?_ <;> (blk_simp [idx t] <;> try omega)
    case piece3 => refine tile_at m c t 4 x _ ?_ ?_ <;> (blk_simp [idx t] <;> try omega)
    case piece4 => refine tile_at m c t 3 x _ ?_ ?_ <;> (blk_simp [idx t] <;> try omega)
    case piece5 => refine tile_at m c t 2 x _ ?_ ?_ <;> (blk_simp [idx t] <;> try omega)
    case piece6 => refine tile_at m c t 1 x _ ?_ ?_ <;> (blk_simp [idx t] <;> try omega)
    case piece7 => refine tile_at m c t 0 x _ ?_ ?_ <;> (blk_simp [idx t] <;> try omega)
    case piece8 => refine pass_at m c t x _ ?_ ?_ <;> (blk_simp [idx t] <;> try omega)

/-- What a point adds to the weights' gradient. -/
def point (c : Dev nD) (t : Fin cfg0.N) : FVec Ideal S1x128 .f32 := sums (cut (iblk m c 1 t)) (fun s => k0_pay7 (cut (iblk m c 0 t) s))

/-- A point's sum, entry by entry. -/
theorem point_at (c : Dev nD) (t : Fin cfg0.N) (l : Fin 128) : (point m c t (ix2 0 l) : EReal)
    = ∑ s : Fin 8, ∑ i : Fin 512, term (keys (m ((c : Thread nD τ).loc main_arg0))) (m ((c : Thread nD τ).loc main_arg2)) (rowAt t i) (colAt s l) := by
  rw [point, sums_at]
  simp only [cot_at, cut_at, x_block, colAt_laneAt]
  rfl

/-- What a later point leaves in the weights' gradient. -/
theorem later5 (c : Dev nD) (t : Fin cfg0.N) (h0 : ¬ t.val % 4 = 0) (j : S1x128.Idx) : ((outsAt0 m c t.val t.isLt).2 j : EReal)
    = (outsAt0 m c (t.val - 1) (Nat.lt_of_le_of_lt (Nat.sub_le _ _) t.isLt)).2 j + point m c t j := by
  rw [outsAt0_B m c t h0]
  frame_out
  refine Eq.trans (b := addf (shapeCast S1x128 (outsAt0 m c (t.val - 1) (Nat.lt_of_le_of_lt (Nat.sub_le _ _) t.isLt)).2 shapeCasts_S1x128_S1x128) (point m c t) j) rfl ?_
  pointwise

/-- What the first point leaves in it. -/
theorem first5 (c : Dev nD) (t : Fin cfg0.N) (h0 : t.val % 4 = 0) (j : S1x128.Idx) : ((outsAt0 m c t.val t.isLt).2 j : EReal)
    = 0 + point m c t j := by
  rw [outsAt0_A m c t h0]
  frame_out
  refine Eq.trans (b := addf (shapeCast S1x128 (k0_pay2 (F := Ideal)) shapeCasts_S1x128_S1x128) (point m c t) j) rfl ?_
  pointwise [k0_pay2]

/-- The weights' gradient's array after the run. -/
theorem final5 (c : Dev nD) : (dats m 0 c).arrAt 5 (cfgs 0).N = gain (keys (m ((c : Thread nD τ).loc main_arg0))) (m ((c : Thread nD τ).loc main_arg2)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0) (fun (t : Fin cfg0.N) (j : S1x128.Idx) => point m c t j)
    (first5 m c) (later5 m c) (le_of_eq N_0) t0_3 rfl j, zero_add]
  refine (Fin.sum_fin_congr fun t => ?_).trans (Fin.sum_mul_add_congr (f := fun i : Fin 2048 => ∑ s : Fin 8, term (keys (m ((c : Thread nD τ).loc main_arg0))) (m ((c : Thread nD τ).loc main_arg2)) i (colAt s (j 1))) (F := fun t i => ∑ s : Fin 8, term (keys (m ((c : Thread nD τ).loc main_arg0))) (m ((c : Thread nD τ).loc main_arg2)) (rowAt t i) (colAt s (j 1))) (fun p k _ => rfl) (by rw [show cfg0.N = 4 from N_0]))
  have hj : j = ix2 (0 : Fin 1) (j 1) := (eq_ix2 j).trans (congrArg₂ ix2 (Fin.ext (by have : (j 0).val < 1 := (j 0).isLt; show (j 0).val = 0; omega)) rfl)
  rw [hj]
  exact (point_at m c t (j 1)).trans Finset.sum_comm

/-- A lane's head, counted by pairs of heads. -/
theorem spot (n x : Nat) : n / 128 * 128 + n / 64 % 2 * 64 + x = n / 64 * 64 + x := by omega

/-- A lane, counted by pairs of heads. -/
theorem own (n : Nat) : n / 128 * 128 + n / 64 % 2 * 64 + n % 64 = n := by omega

/-- A column of the right half lies in the values. -/
theorem back_lt (n : Nat) (h : n < 2048) : n - 1024 < 1024 := by omega

/-- A column of the right half is its place in the values moved by the keys' width. -/
theorem back_at (n : Nat) (h : ¬ n < 1024) : n = 1024 + (n - 1024) := by omega

/-- The reference's first result is the same gradient. -/
theorem same4_at (m' : (ℓ : Loc Cert.Reference25Ideal.nD Cert.Reference25Ideal.τ Cert.Reference25Ideal.sig) → Buf (Elt Ideal) ℓ) (c : Dev Cert.Reference25Ideal.nD) (i : S2048x2048.Idx) :
    Cert.Reference25Ideal.Value.res_main_v46 m' c i = both (m' ((c.tc : Thread Cert.Reference25Ideal.nD Cert.Reference25Ideal.τ).loc Cert.Reference25Ideal.main_arg0))
      (m' ((c.tc : Thread Cert.Reference25Ideal.nD Cert.Reference25Ideal.τ).loc Cert.Reference25Ideal.main_arg2)) (m' ((c.tc : Thread Cert.Reference25Ideal.nD Cert.Reference25Ideal.τ).loc Cert.Reference25Ideal.main_arg3))
      (m' ((c.tc : Thread Cert.Reference25Ideal.nD Cert.Reference25Ideal.τ).loc Cert.Reference25Ideal.main_arg1)) i := by
  pointwise [Cert.Reference25Ideal.Value.res_main_v46]
  by_cases h : (i 1).val < 1024
  · refine Eq.trans ?_ (both_left _ _ _ _ i (i 0) ⟨(i 1).val, h⟩ rfl rfl).symm
    rw [dif_pos h]
    simp only [Finset.univ_unique, Finset.sum_singleton, dite_eq_ite, ite_self]
    have e : ∀ (x : Fin 64) (b : (i 1).val / 128 * 128 + (i 1).val / 64 % 2 * 64 + x.val < 1024), (⟨(i 1).val / 128 * 128 + (i 1).val / 64 % 2 * 64 + x.val, b⟩ : Fin 1024) = headAt ⟨(i 1).val, h⟩ x :=
      fun x _ => Fin.ext (spot (i 1).val x.val)
    have e' : ∀ (x : Fin 64) (b : (i 1).val / 128 * 128 + (i 1).val / 64 % 2 * 64 + x.val < 2048), (⟨(i 1).val / 128 * 128 + (i 1).val / 64 % 2 * 64 + x.val, b⟩ : Fin 2048) = ⟨(headAt ⟨(i 1).val, h⟩ x).val, lt_trans (headAt ⟨(i 1).val, h⟩ x).isLt (by decide)⟩ :=
      fun x _ => Fin.ext (spot (i 1).val x.val)
    have f : ∀ (b : (i 1).val / 128 * 128 + (i 1).val / 64 % 2 * 64 + (i 1).val % 64 < 1024), (⟨(i 1).val / 128 * 128 + (i 1).val / 64 % 2 * 64 + (i 1).val % 64, b⟩ : Fin 1024) = ⟨(i 1).val, h⟩ :=
      fun _ => Fin.ext (own (i 1).val)
    have f' : ∀ (b : (i 1).val / 128 * 128 + (i 1).val / 64 % 2 * 64 + (i 1).val % 64 < 2048), (⟨(i 1).val / 128 * 128 + (i 1).val / 64 % 2 * 64 + (i 1).val % 64, b⟩ : Fin 2048) = ⟨(i 1).val, lt_trans h (by decide)⟩ :=
      fun _ => Fin.ext (own (i 1).val)
    simp only [e, e', f, f']
    split_ifs
    all_goals
      exact Cert.Mlp.head_back (fun k => keys (m' ((c.tc : Thread Cert.Reference25Ideal.nD Cert.Reference25Ideal.τ).loc Cert.Reference25Ideal.main_arg0)) (ix2 (i 0) (headAt ⟨(i 1).val, h⟩ k)))
        (fun k => (m' ((c.tc : Thread Cert.Reference25Ideal.nD Cert.Reference25Ideal.τ).loc Cert.Reference25Ideal.main_arg1)) (ix1 k))
        (fun k => (m' ((c.tc : Thread Cert.Reference25Ideal.nD Cert.Reference25Ideal.τ).loc Cert.Reference25Ideal.main_arg2)) (ix2 (i 0) (headAt ⟨(i 1).val, h⟩ k))) _ _
  · refine Eq.trans ?_ (both_right _ _ _ _ i (i 0) ⟨(i 1).val - 1024, back_lt _ (i 1).isLt⟩ rfl (back_at _ h)).symm
    rw [dif_neg h]

/-- The reference's left half is the keys. -/
theorem slice_keys (p : FVec Ideal S2048x2048 .f32) :
    extractStridedSlice S2048x1024 ![0, 0] p Cert.Reference25Ideal.Gen.slices_S2048x2048_S2048x1024_0_0 = keys p := by
  funext i
  pointwise [keys]

/-- The reference's second result, of the keys and their cotangent. -/
theorem same5 (p d : FVec Ideal S2048x1024 .f32) :
    shapeCast Cert.Reference25Ideal.S1x128 (Host.reduceAdd (shapeCast Cert.Reference25Ideal.S1x1x2x64 (Host.reduceAdd (mulf (mulf (shapeCast Cert.Reference25Ideal.S2048x8x2x64 p Cert.Reference25Ideal.Gen.shapeCasts_S2048x1024_S2048x8x2x64) (broadcastInDim Cert.Reference25Ideal.S2048x8x2x64 ![0, 1, 2, 3] Cert.Reference25Ideal.Gen.bcast_S2048x8x2x1_S2048x8x2x64_0_1_2_3 (Host.rsqrt (addf (Host.divf (broadcastInDim Cert.Reference25Ideal.S2048x8x2x1 ![0, 1, 2] Cert.Reference25Ideal.Gen.bcast_S2048x8x2_S2048x8x2x1_0_1_2 (Host.reduceAdd (mulf (shapeCast Cert.Reference25Ideal.S2048x8x2x64 p Cert.Reference25Ideal.Gen.shapeCasts_S2048x1024_S2048x8x2x64) (shapeCast Cert.Reference25Ideal.S2048x8x2x64 p Cert.Reference25Ideal.Gen.shapeCasts_S2048x1024_S2048x8x2x64)) (constant Cert.Reference25Ideal.S_ .f32 0x00000000#32) Cert.Reference25Ideal.Gen.reducesTo_S2048x8x2x64_S2048x8x2_d3 Cert.Reference25Ideal.Gen.h_S_)) (broadcastInDim Cert.Reference25Ideal.S2048x8x2x1 ![] Cert.Reference25Ideal.Gen.bcast_S_S2048x8x2x1 (constant Cert.Reference25Ideal.S_ .f32 0x42800000#32))) (broadcastInDim Cert.Reference25Ideal.S2048x8x2x1 ![] Cert.Reference25Ideal.Gen.bcast_S_S2048x8x2x1 (constant Cert.Reference25Ideal.S_ .f32 0x358637BD#32)))))) (shapeCast Cert.Reference25Ideal.S2048x8x2x64 d Cert.Reference25Ideal.Gen.shapeCasts_S2048x1024_S2048x8x2x64)) (constant Cert.Reference25Ideal.S_ .f32 0x00000000#32) Cert.Reference25Ideal.Gen.reducesTo_S2048x8x2x64_S2x64_d0_1 Cert.Reference25Ideal.Gen.h_S_) Cert.Reference25Ideal.Gen.shapeCasts_S2x64_S1x1x2x64) (constant Cert.Reference25Ideal.S_ .f32 0x00000000#32) Cert.Reference25Ideal.Gen.reducesTo_S1x1x2x64_S2x64_d0_1 Cert.Reference25Ideal.Gen.h_S_) Cert.Reference25Ideal.Gen.shapeCasts_S2x64_S1x128 = gain p d := by
  funext i
  pointwise [gain]
  rw [Cert.Mlp.sum_two]
  pointwise
  rw [Cert.Mlp.sum_two]
  pointwise
  simp only [Finset.univ_unique, Finset.sum_singleton]
  refine Finset.sum_congr rfl fun x _ => Finset.sum_congr rfl fun s _ => ?_
  have e : ∀ h : s.val * 128 + (i 1).val / 64 * 64 + (i 1).val % 64 < 1024, (⟨s.val * 128 + (i 1).val / 64 * 64 + (i 1).val % 64, h⟩ : Fin 1024) = colAt s (i 1) :=
    fun h => Fin.ext (by show s.val * 128 + (i 1).val / 64 * 64 + (i 1).val % 64 = s.val * 128 + (i 1).val; omega)
  have e' : ∀ (k : Fin 64) (h : s.val * 128 + (i 1).val / 64 * 64 + k.val < 1024), (⟨s.val * 128 + (i 1).val / 64 * 64 + k.val, h⟩ : Fin 1024) = headAt (colAt s (i 1)) k :=
    fun k h => Fin.ext (by show s.val * 128 + (i 1).val / 64 * 64 + k.val = (s.val * 128 + (i 1).val) / 64 * 64 + k.val; omega)
  simp only [e, e']
  exact mul_comm _ _

end Cert.Kernel25Ideal.Hand

namespace Cert.Proof
open Idealize.ShloMosaic Idealize.ShloMosaic.TcCoe Idealize.SL.Sem

/-- The two texts of the body are the same. -/
theorem body_same25 {F : FTy → Type} [FloatOps F] : Cert.Kernel25.defs₀ (F := F) = Cert.Kernel25Ideal.defs₀ (F := F) := by
  refine congrArg Defs.onTc ?_
  funext l x
  match l, x with
  | 0, (t, s) => rfl

/-- The two texts have the same definitions. -/
theorem defs_same25 {F : FTy → Type} [FloatOps F] : Cert.Kernel25.defs (F := F) = Cert.Kernel25Ideal.defs (F := F) :=
  congrArg (Pipeline.defs (Cert.Kernel25Ideal.pcfgs (F := F))) body_same25

/-- The call as printed, on words. -/
theorem frame_kernel25 : Cert.quiescent_Kernel25 := by
  intro m ρ _
  rw [defs_same25]
  exact Cert.Kernel25Ideal.Gen.frame (F := Bits) m ρ

/-- The call over the extended reals. -/
theorem frame_ideal25 : Cert.quiescent_Kernel25Ideal := fun m ρ _ => Cert.Kernel25Ideal.Gen.frame (F := Ideal) m ρ

/-- The reference over the extended reals. -/
theorem frame_reference25 : Cert.quiescent_Reference25Ideal := fun m ρ _ =>
  (θ_run Cert.Reference25Ideal.defs _ _).mono (fun r h => ⟨fun c => (h c).2.2, sem_eq_zero_of_no_sems (by decide) r.2⟩)
    (Cert.Reference25Ideal.Value.run (F := Ideal) m ρ)

/-- Kernel and reference end with equal results. -/
theorem equal25 : Cert.algebraic_Kernel25Ideal_Reference25Ideal := by
  intro m g m' g' _ hagree
  refine ⟨fun c => (Cert.Kernel25Ideal.Gen.dats m 0 c).arrAt 4 (Cert.Kernel25Ideal.cfgs 0).N, fun c => (Cert.Kernel25Ideal.Gen.dats m 0 c).arrAt 5 (Cert.Kernel25Ideal.cfgs 0).N, ?_, ?_⟩
  · exact Cert.Kernel25Ideal.Value.run_blocks (F := Ideal) m g
  · refine (θ_run Cert.Reference25Ideal.defs _ _).mono (fun r h c => ?_) (Cert.Reference25Ideal.Value.run (F := Ideal) m' g')
    obtain ⟨h0, h1, hr⟩ := h c
    obtain ⟨a0, a1, a2, a3⟩ := hagree c
    refine ⟨?_, ?_, hr⟩
    · rw [h0, funext (Cert.Kernel25Ideal.Hand.same4_at m' c), a0, a1, a2, a3]
      exact (Cert.Kernel25Ideal.Hand.final4 m c).symm
    · rw [h1, a0, a2, Cert.Kernel25Ideal.Hand.slice_keys]
      exact (Cert.Kernel25Ideal.Hand.same5 (Cert.Kernel25Ideal.Hand.keys (m ((c : Thread Cert.Kernel25Ideal.nD Cert.Kernel25Ideal.τ).loc Cert.Kernel25Ideal.main_arg0))) (m ((c : Thread Cert.Kernel25Ideal.nD Cert.Kernel25Ideal.τ).loc Cert.Kernel25Ideal.main_arg2))).trans (Cert.Kernel25Ideal.Hand.final5 m c).symm

end Cert.Proof
end
-- ==== Proof.Gate.Forward.lean ====
/-
  The spatial gating call, forward (`sgu_mix`): its frames and its values.
-/
module

public import proofs.«01_k».proof.Defs
public import proofs.«01_k».proof.Proof.Gen.Kernel27
public import proofs.«01_k».proof.Proof.Gen.Kernel27Ideal.Value
public import proofs.«01_k».proof.Proof.Gen.Reference27Ideal.Run
public import proofs.«01_k».proof.Proof.Mlp.Heads

@[expose] public section
set_option maxRecDepth 16384
noncomputable section

namespace Cert.Gate
open Idealize.ShloMosaic

/-- The activation (the tanh form of the Gaussian error linear unit) of one value. -/
def gel (x : EReal) : EReal :=
  x * (Ideal.ofBits FTy.f32 1056964608#32 * (1
    + Ideal.tanh (Ideal.ofBits FTy.f32 1061962282#32 * (x + Ideal.ofBits FTy.f32 1027024659#32 * (x * x * x)))))

/-- The same as the call writes it, the factor 1/2 first. -/
theorem half_gel (x : EReal) : Ideal.ofBits FTy.f32 1056964608#32 * x * (1
    + Ideal.tanh (Ideal.ofBits FTy.f32 1061962282#32 * (x + Ideal.ofBits FTy.f32 1027024659#32 * (x * x * x)))) = gel x := by
  rw [gel, mul_comm _ x, mul_assoc]

/-- The causal mask's word, the later row against the earlier one, as the call compares them. -/
theorem word_le (i s : Fin 128) : IntOp.cmpi .sle (BitVec.ofNat 32 s.val) (BitVec.ofNat 32 i.val) = if s.val ≤ i.val then 1#1 else 0#1 := by
  have := i.isLt
  have := s.isLt
  rw [WordCmp.cmpi_sle_ofNat (a := s.val) (b := i.val) (by omega) (by omega)]
  by_cases h : s.val ≤ i.val <;> simp [h]

/-- The same as the reference compares them. -/
theorem word_ge (i s : Fin 128) : IntOp.cmpi .sge (BitVec.ofNat 32 i.val) (BitVec.ofNat 32 s.val) = if s.val ≤ i.val then 1#1 else 0#1 := by
  have := i.isLt
  have := s.isLt
  rw [WordCmp.cmpi_sge_ofNat (a := i.val) (b := s.val) (by omega) (by omega)]
  by_cases h : s.val ≤ i.val <;> simp [h]

/-- A masked product, as the reference writes it. -/
theorem masked (n : ℕ) (hn : n < 128) (k : Fin 128) (v w : EReal) : Scalar.select (IntOp.cmpi .sge (IntOp.addi (BitVec.ofNat 32 n) 0#32) (BitVec.ofNat 32 k.val)) (v * w) 0
    = (if k.val ≤ n then w else 0) * v := by
  rw [show IntOp.addi (BitVec.ofNat 32 n) 0#32 = BitVec.ofNat 32 n from BitVec.add_zero _, word_ge ⟨n, hn⟩ k]
  by_cases h : k.val ≤ n
  · rw [if_pos h, if_pos h]
    exact mul_comm v w
  · rw [if_neg h, if_neg h, zero_mul]
    rfl

/-- The scale of a row: the inverse root of its mean square. -/
def scale (a : Fin 1024 → EReal) : EReal :=
  Ideal.rsqrt (Ideal.div (∑ k : Fin 1024, a k * a k) (Ideal.ofBits FTy.f32 1149239296#32) + Ideal.ofBits FTy.f32 897988541#32)

end Cert.Gate

namespace Cert.Kernel27Ideal.Hand
open Idealize.ShloMosaic Idealize.ShloMosaic.TcCoe Idealize.SL.Sem
open Cert.Kernel27Ideal Cert.Kernel27Ideal.Gen
open Idealize.ShloMosaic.Pipeline (Dat)
open Cert.Gate

variable (m : (ℓ : Loc nD τ sig) → Buf (Elt Ideal) ℓ)

/-- The half that gates, after the activation. -/
def left (p : FVec Ideal S2048x2048 .f32) (i : Fin 2048) (j : Fin 1024) : EReal := gel (p (ix2 i ⟨j.val, by have := j.isLt; omega⟩))

/-- The half that is mixed, after the activation. -/
def right (p : FVec Ideal S2048x2048 .f32) (i : Fin 2048) (j : Fin 1024) : EReal := gel (p (ix2 i ⟨1024 + j.val, by have := j.isLt; omega⟩))

/-- The half that is mixed, after its norm. -/
def val (p : FVec Ideal S2048x2048 .f32) (g : FVec Ideal S1024 .f32) (i : Fin 2048) (j : Fin 1024) : EReal :=
  right p i j * scale (right p i) * g (ix1 j)

/-- The masked weights of a group. -/
def tri (w : FVec Ideal S8x128x128 .f32) (s : Fin 8) (i k : Fin 128) : EReal := if k.val ≤ i.val then w (ix3 s i k) else 0

/-- The mixed half at a row and a column: a sum over the rows of the chunk, with the weights and the bias of the column's group. -/
def mixed (v : Fin 2048 → Fin 1024 → EReal) (w : FVec Ideal S8x128x128 .f32) (b : FVec Ideal S8x128 .f32) (i : Fin 2048) (j : Fin 1024) : EReal :=
  (∑ k : Fin 128, tri w ⟨j.val / 128, by have := j.isLt; omega⟩ ⟨i.val % 128, by omega⟩ k * v ⟨i.val / 128 * 128 + k.val, by have := i.isLt; have := k.isLt; omega⟩ j)
    + b (ix2 ⟨j.val / 128, by have := j.isLt; omega⟩ ⟨i.val % 128, by omega⟩)

/-- The call's result. -/
def out (p : FVec Ideal S2048x2048 .f32) (g : FVec Ideal S1024 .f32) (w : FVec Ideal S8x128x128 .f32) (b : FVec Ideal S8x128 .f32) : FVec Ideal S2048x1024 .bf16 :=
  fun y => left p (y 0) (y 1) * mixed (val p g) w b (y 0) (y 1)

/-- The windows' block indices. -/
theorem idx : ∀ t : Fin cfg0.N, win0_0.index t = ![t.val, 0] ∧ win0_1.index t = ![0, 0] ∧ win0_2.index t = ![0, 0, 0] ∧ win0_3.index t = ![0, 0] ∧ win0_4.index t = ![t.val, 0] :=
  (by decide +kernel : ∀ t : Fin grid0.N, _)

/-- The norm's weights as the call finds them. -/
theorem gains (c : Dev nD) (k : Fin 1024) : (V m c main_v0 : FVec Ideal S1x1024 .f32) (ix2 0 k) = m ((c : Thread nD τ).loc main_arg1) (ix1 k) := by
  entry_read
  pointwise
  blk_ext

/-- The bias as the call finds it: a group's column of it repeated for each of the group's columns. -/
theorem biases (c : Dev nD) (i : Fin 128) (j : Fin 1024) : (V m c main_v3 : FVec Ideal S128x1024 .f32) (ix2 i j)
    = m ((c : Thread nD τ).loc main_arg3) (ix2 ⟨j.val / 128, by have := j.isLt; omega⟩ i) := by
  entry_read
  pointwise
  blk_ext

/-- The array's row that a block's row is. -/
abbrev rowAt (t : Fin cfg0.N) (i : Fin 128) : Fin 2048 := ⟨t.val * 128 + i.val, by have h := lt_of_lt_of_eq t.isLt N_0; have := i.isLt; omega⟩

/-- A block of the input, entry by entry. -/
theorem x_block (c : Dev nD) (t : Fin cfg0.N) (i : Fin 128) (k : Fin 2048) : (iblk m c 0 t : FVec Ideal S128x2048 .f32) (ix2 i k) = (m ((c : Thread nD τ).loc main_arg0)) (ix2 (rowAt t i) k) := by
  blk_ext [iblk, V, idx t]

/-- The norm's weights' block, entry by entry. -/
theorem g_block (c : Dev nD) (t : Fin cfg0.N) (k : Fin 1024) : (iblk m c 1 t : FVec Ideal S1x1024 .f32) (ix2 0 k) = (m ((c : Thread nD τ).loc main_arg1)) (ix1 k) := by
  rw [← gains m c k]
  blk_ext [iblk, idx t]

/-- The weights' block, entry by entry. -/
theorem w_block (c : Dev nD) (t : Fin cfg0.N) (s : Fin 8) (i k : Fin 128) : (iblk m c 2 t : FVec Ideal S8x128x128 .f32) (ix3 s i k) = (m ((c : Thread nD τ).loc main_arg2)) (ix3 s i k) := by
  blk_ext [iblk, V, idx t]

/-- The bias's block, entry by entry. -/
theorem b_block (c : Dev nD) (t : Fin cfg0.N) (i : Fin 128) (j : Fin 1024) : (iblk m c 3 t : FVec Ideal S128x1024 .f32) (ix2 i j)
    = (m ((c : Thread nD τ).loc main_arg3)) (ix2 ⟨j.val / 128, by have := j.isLt; omega⟩ i) := by
  rw [← biases m c i j]
  blk_ext [iblk, idx t]

/-- The gating half of a block. -/
theorem u_block (c : Dev nD) (t : Fin cfg0.N) (i : Fin 128) (j : Fin 1024) : (k0_pay2 (F := Ideal) (iblk m c 0 t) (ix2 i j) : EReal) = left (m ((c : Thread nD τ).loc main_arg0)) (rowAt t i) j := by
  pointwise [k0_pay2, left]
  simp only [x_block, half_gel]

/-- The mixed half of a block, after its norm. -/
theorem v_block (c : Dev nD) (t : Fin cfg0.N) (i : Fin 128) (j : Fin 1024) : (k0_pay3 (F := Ideal) (iblk m c 0 t) (iblk m c 1 t) (ix2 i j) : EReal)
    = val (m ((c : Thread nD τ).loc main_arg0)) (m ((c : Thread nD τ).loc main_arg1)) (rowAt t i) j := by
  pointwise [k0_pay3]
  simp only [x_block, g_block, half_gel]
  rfl

/-- The reference's result is the same. -/
theorem same (m' : (ℓ : Loc Cert.Reference27Ideal.nD Cert.Reference27Ideal.τ Cert.Reference27Ideal.sig) → Buf (Elt Ideal) ℓ) (c : Dev Cert.Reference27Ideal.nD) :
    Cert.Reference27Ideal.Value.res_main_v42 m' c = out (m' ((c.tc : Thread Cert.Reference27Ideal.nD Cert.Reference27Ideal.τ).loc Cert.Reference27Ideal.main_arg0)) (m' ((c.tc : Thread Cert.Reference27Ideal.nD Cert.Reference27Ideal.τ).loc Cert.Reference27Ideal.main_arg1))
      (m' ((c.tc : Thread Cert.Reference27Ideal.nD Cert.Reference27Ideal.τ).loc Cert.Reference27Ideal.main_arg2)) (m' ((c.tc : Thread Cert.Reference27Ideal.nD Cert.Reference27Ideal.τ).loc Cert.Reference27Ideal.main_arg3)) := by
  funext y
  rw [eq_ix2 y]
  pointwise [Cert.Reference27Ideal.Value.res_main_v42, out]
  refine congrArg₂ (HMul.hMul (α := EReal)) rfl (congrArg₂ (HAdd.hAdd (α := EReal)) (Finset.sum_congr rfl fun k _ => ?_) rfl)
  exact masked _ (Nat.mod_lt _ (by decide)) k _ _

/-- The masked weights of a group, entry by entry. -/
theorem tri_block (c : Dev nD) (t : Fin cfg0.N) (s : Fin 8) (v : FVec Ideal S1x128x128 .f32) (hv : ∀ i k, v (ix3 0 i k) = (iblk m c 2 t : FVec Ideal S8x128x128 .f32) (ix3 s i k)) (i k : Fin 128) :
    (k0_pay5 (F := Ideal) v (ix2 i k) : EReal) = tri (m ((c : Thread nD τ).loc main_arg2)) s i k := by
  pointwise [k0_pay5, k0_pay4]
  rw [hv, w_block, word_le, tri]
  by_cases h : k.val ≤ i.val
  · rw [if_pos h, if_pos h]; rfl
  · rw [if_neg h, if_neg h]; rfl

/-- The gating half as the tiles read it. -/
theorem u_whole (c : Dev nD) (t : Fin cfg0.N) (i : Fin 128) (j : Fin 1024) : (k0_pay20 (F := Ideal) (iblk m c 0 t) (iblk m c 1 t) (iblk m c 2 t) (iblk m c 3 t) (ix2 i j) : EReal)
    = left (m ((c : Thread nD τ).loc main_arg0)) (rowAt t i) j := by
  rw [← u_block]
  exact congrFun (congrArg k0_pay2 (View.ld_unit_lit (S := S128x2048) _ _ (by decide))) (ix2 i j)

/-- The mixed half as the tiles read it. -/
theorem v_whole (c : Dev nD) (t : Fin cfg0.N) (i : Fin 128) (j : Fin 1024) : (k0_pay21 (F := Ideal) (iblk m c 0 t) (iblk m c 1 t) (iblk m c 2 t) (iblk m c 3 t) (ix2 i j) : EReal)
    = val (m ((c : Thread nD τ).loc main_arg0)) (m ((c : Thread nD τ).loc main_arg1)) (rowAt t i) j := by
  rw [← v_block]
  exact congrFun (congrArg₂ k0_pay3 (View.ld_unit_lit (S := S128x2048) _ _ (by decide)) (View.ld_unit_lit (S := S1x1024) _ _ (by decide))) (ix2 i j)

/-- A slice of the columns of a group, entry by entry. -/
theorem slice_at {f : FTy} (a : FVec Ideal S128x1024 f) (s : ℕ) (h : S128x1024.Slices ![0, 128 * s] S128x128) (i l : Fin 128) (j : Fin 1024) (hj : j.val = 128 * s + l.val) :
    (extractStridedSlice S128x128 ![0, 128 * s] a h (ix2 i l) : EReal) = a (ix2 i j) := by
  rw [show j = ⟨128 * s + l.val, by have := j.isLt; omega⟩ from Fin.ext hj]
  exact congrArg a (by blk_ext <;> rfl)

/-- What the call writes for one group, from the two halves' columns, the masked weights and the bias's columns. -/
def piece (u : FVec Ideal S128x128 .f32) (v : FVec Ideal S128x128 .bf16) (w : FVec Ideal S128x128 .bf16) (b : FVec Ideal S128x128 .f32) : FVec Ideal S128x128 .bf16 :=
  truncf .bf16 (mulf u (addf (matmul dot_S128x128_S128x128_S128x128_1_0_0_1_n_n none w v (constant S128x128 .f32 0x00000000#32)) (shapeCast S128x128 b shapeCasts_S128x128_S128x128))) bitsLt_bf16_f32

/-- A group's columns of the result, entry by entry. -/
theorem tile (c : Dev nD) (t : Fin cfg0.N) (s : ℕ) (hs : s < 8) (h : S128x1024.Slices ![0, 128 * s] S128x128)
    (v : FVec Ideal S1x128x128 .f32) (hv : ∀ i k, v (ix3 0 i k) = (iblk m c 2 t : FVec Ideal S8x128x128 .f32) (ix3 ⟨s, hs⟩ i k))
    (b : FVec Ideal S128x128 .f32) (hb : ∀ i l : Fin 128, b (ix2 i l) = (iblk m c 3 t : FVec Ideal S128x1024 .f32) (ix2 i ⟨128 * s + l.val, by have := l.isLt; omega⟩))
    (i l : Fin 128) (j : Fin 1024) (hj : j.val = 128 * s + l.val) :
    (piece (extractStridedSlice S128x128 ![0, 128 * s] (k0_pay20 (F := Ideal) (iblk m c 0 t) (iblk m c 1 t) (iblk m c 2 t) (iblk m c 3 t)) h)
      (extractStridedSlice S128x128 ![0, 128 * s] (k0_pay21 (F := Ideal) (iblk m c 0 t) (iblk m c 1 t) (iblk m c 2 t) (iblk m c 3 t)) h) (k0_pay5 v) b (ix2 i l) : EReal)
    = out (m ((c : Thread nD τ).loc main_arg0)) (m ((c : Thread nD τ).loc main_arg1)) (m ((c : Thread nD τ).loc main_arg2)) (m ((c : Thread nD τ).loc main_arg3)) (ix2 (rowAt t i) j) := by
  have hl := l.isLt
  have hi := i.isLt
  have hu := (slice_at (k0_pay20 (F := Ideal) (iblk m c 0 t) (iblk m c 1 t) (iblk m c 2 t) (iblk m c 3 t)) s h i l j hj).trans (u_whole m c t i j)
  have hv' := fun k : Fin 128 => (slice_at (k0_pay21 (F := Ideal) (iblk m c 0 t) (iblk m c 1 t) (iblk m c 2 t) (iblk m c 3 t)) s h k l j hj).trans (v_whole m c t k j)
  generalize extractStridedSlice S128x128 ![0, 128 * s] (k0_pay20 (F := Ideal) (iblk m c 0 t) (iblk m c 1 t) (iblk m c 2 t) (iblk m c 3 t)) h = u at hu ⊢
  generalize extractStridedSlice S128x128 ![0, 128 * s] (k0_pay21 (F := Ideal) (iblk m c 0 t) (iblk m c 1 t) (iblk m c 2 t) (iblk m c 3 t)) h = q at hv' ⊢
  have hw := tri_block m c t ⟨s, hs⟩ v hv
  generalize k0_pay5 (F := Ideal) v = w at hw ⊢
  pointwise [piece]
  simp only [hw, hv', hb, b_block]
  rw [hu]
  have e1 : (⟨(128 * s + l.val) / 128, by omega⟩ : Fin 8) = ⟨j.val / 128, by omega⟩ := Fin.ext (by show (128 * s + l.val) / 128 = j.val / 128; omega)
  have e2 : (⟨s, hs⟩ : Fin 8) = ⟨j.val / 128, by omega⟩ := Fin.ext (by show s = j.val / 128; omega)
  have e3 : (i : Fin 128) = ⟨(rowAt t i).val % 128, by omega⟩ := Fin.ext (by show i.val = (t.val * 128 + i.val) % 128; omega)
  have e4 : ∀ k : Fin 128, rowAt t k = ⟨(rowAt t i).val / 128 * 128 + k.val, by have := (rowAt t i).isLt; have := k.isLt; omega⟩ :=
    fun k => Fin.ext (by show t.val * 128 + k.val = (t.val * 128 + i.val) / 128 * 128 + k.val; omega)
  refine congrArg₂ (HMul.hMul (α := EReal)) rfl (congrArg₂ (HAdd.hAdd (α := EReal)) (Finset.sum_congr rfl fun k _ => ?_) ?_)
  · exact congrArg₂ (HMul.hMul (α := EReal)) (congrArg₂ (fun a b => tri _ a b k) e2 e3) (congrArg (fun a => val _ _ a j) (e4 k))
  · exact congrArg₂ (fun a b => m ((c : Thread nD τ).loc main_arg3) (ix2 a b)) e1 e3

/-- A group's columns of the result at an index of them and the place in the block where it lies. -/
theorem tile_at (c : Dev nD) (t : Fin cfg0.N) (s : ℕ) (hs : s < 8) (h : S128x1024.Slices ![0, 128 * s] S128x128)
    (v : FVec Ideal S1x128x128 .f32) (hv : ∀ i k, v (ix3 0 i k) = (iblk m c 2 t : FVec Ideal S8x128x128 .f32) (ix3 ⟨s, hs⟩ i k))
    (b : FVec Ideal S128x128 .f32) (hb : ∀ i l : Fin 128, b (ix2 i l) = (iblk m c 3 t : FVec Ideal S128x1024 .f32) (ix2 i ⟨128 * s + l.val, by have := l.isLt; omega⟩))
    (x : S128x128.Idx) (r : Fin 128) (j : Fin 1024) (hr : r.val = (x 0).val) (hj : j.val = 128 * s + (x 1).val) :
    (piece (extractStridedSlice S128x128 ![0, 128 * s] (k0_pay20 (F := Ideal) (iblk m c 0 t) (iblk m c 1 t) (iblk m c 2 t) (iblk m c 3 t)) h)
      (extractStridedSlice S128x128 ![0, 128 * s] (k0_pay21 (F := Ideal) (iblk m c 0 t) (iblk m c 1 t) (iblk m c 2 t) (iblk m c 3 t)) h) (k0_pay5 v) b x : EReal)
    = out (m ((c : Thread nD τ).loc main_arg0)) (m ((c : Thread nD τ).loc main_arg1)) (m ((c : Thread nD τ).loc main_arg2)) (m ((c : Thread nD τ).loc main_arg3)) (ix2 (rowAt t r) j) := by
  obtain rfl : r = x 0 := Fin.ext hr
  exact (congrArg _ (ix2_eta x).symm).trans (tile m c t s hs h v hv b hb (x 0) (x 1) j hj)

/-- A group's weights. -/
theorem w_load (x : FVec Ideal S8x128x128 .f32) (s : ℕ) (hs : s < 8) (h : ∀ d, (![s, 0, 0] : Fin 3 → ℕ) d + S1x128x128.size d ≤ S8x128x128.size d) (i k : Fin 128) :
    (View.ld (Val := Elt Ideal) (e' := .f32) x (Rect.unit (s := S8x128x128) ![s, 0, 0] S1x128x128.size h) : FVec Ideal S1x128x128 .f32) (ix3 0 i k) = x (ix3 ⟨s, hs⟩ i k) := by
  pointwise

/-- A group's columns of the bias. -/
theorem load_bias (x : FVec Ideal S128x1024 .f32) (s : ℕ) (hs : s < 8) (h : ∀ d, (![0, 128 * s] : Fin 2 → ℕ) d + S128x128.size d ≤ S128x1024.size d) (i l : Fin 128) :
    (View.ld (Val := Elt Ideal) (e' := .f32) x (Rect.unit (s := S128x1024) ![0, 128 * s] S128x128.size h) : FVec Ideal S128x128 .f32) (ix2 i l) = x (ix2 i ⟨128 * s + l.val, by have := l.isLt; omega⟩) := by
  pointwise

/-- The result's array after the run. -/
theorem final4 (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine Eq.trans ?_ (congrArg (out _ _ _ _) (show ix2 (rowAt t (y 0)) (y 1) = ((cfg0.win 4).blk t).view.emb y by blk_ext [idx t]))
  canon_tiles x h
  · exact tile_at m c t 7 (by decide) slices_S128x1024_o0_896_S128x128 _ (w_load _ 7 (by decide) _) _ (load_bias _ 7 (by decide) _) x _ _ h0 h1
  · exact tile_at m c t 6 (by decide) slices_S128x1024_o0_768_S128x128 _ (w_load _ 6 (by decide) _) _ (load_bias _ 6 (by decide) _) x _ _ h0 h1
  · exact tile_at m c t 5 (by decide) slices_S128x1024_o0_640_S128x128 _ (w_load _ 5 (by decide) _) _ (load_bias _ 5 (by decide) _) x _ _ h0 h1
  · exact tile_at m c t 4 (by decide) slices_S128x1024_o0_512_S128x128 _ (w_load _ 4 (by decide) _) _ (load_bias _ 4 (by decide) _) x _ _ h0 h1
  · exact tile_at m c t 3 (by decide) slices_S128x1024_o0_384_S128x128 _ (w_load _ 3 (by decide) _) _ (load_bias _ 3 (by decide) _) x _ _ h0 h1
  · exact tile_at m c t 2 (by decide) slices_S128x1024_o0_256_S128x128 _ (w_load _ 2 (by decide) _) _ (load_bias _ 2 (by decide) _) x _ _ h0 h1
  · exact tile_at m c t 1 (by decide) slices_S128x1024_o0_128_S128x128 _ (w_load _ 1 (by decide) _) _ (load_bias _ 1 (by decide) _) x _ _ h0 h1
  · exact tile_at m c t 0 (by decide) slices_S128x1024_o0_0_S128x128 _ (w_load _ 0 (by decide) _) _ (load_bias _ 0 (by decide) _) x _ _ h0 (h1.trans (by omega))

end Cert.Kernel27Ideal.Hand

namespace Cert.Proof
open Idealize.ShloMosaic Idealize.ShloMosaic.TcCoe Idealize.SL.Sem

/-- The two texts name the same kernel body. -/
theorem body_same27 {F : FTy → Type} [FloatOps F] : Cert.Kernel27.defs₀ (F := F) = Cert.Kernel27Ideal.defs₀ (F := F) := by
  refine congrArg Defs.onTc ?_
  funext l x
  match l, x with
  | 0, (t, s) => rfl

/-- The two texts have the same definitions. -/
theorem defs_same27 {F : FTy → Type} [FloatOps F] : Cert.Kernel27.defs (F := F) = Cert.Kernel27Ideal.defs (F := F) :=
  congrArg (Pipeline.defs (Cert.Kernel27Ideal.pcfgs (F := F))) body_same27

/-- The call as printed, on words. -/
theorem frame_kernel27 : Cert.quiescent_Kernel27 := by
  intro m ρ _
  rw [defs_same27]
  exact Cert.Kernel27Ideal.Gen.frame (F := Bits) m ρ

/-- The call over the extended reals. -/
theorem frame_ideal27 : Cert.quiescent_Kernel27Ideal := fun m ρ _ => Cert.Kernel27Ideal.Gen.frame (F := Ideal) m ρ

/-- The reference over the extended reals. -/
theorem frame_reference27 : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- Kernel and reference end with equal results. -/
theorem equal27 : Cert.algebraic_Kernel27Ideal_Reference27Ideal := by
  intro m g m' g' _ hagree
  refine ⟨fun c => (Cert.Kernel27Ideal.Gen.dats m 0 c).arrAt 4 (Cert.Kernel27Ideal.cfgs 0).N, ?_, ?_⟩
  · exact Cert.Kernel27Ideal.Value.run_blocks (F := Ideal) m g
  · refine (θ_run Cert.Reference27Ideal.defs _ _).mono (fun r h c => ?_) (Cert.Reference27Ideal.Value.run (F := Ideal) m' g')
    obtain ⟨h0, hr⟩ := h c
    obtain ⟨a0, a1, a2, a3⟩ := hagree c
    refine ⟨?_, hr⟩
    rw [h0, Cert.Kernel27Ideal.Hand.same m' c, a0, a1, a2, a3]
    exact (Cert.Kernel27Ideal.Hand.final4 m c).symm

end Cert.Proof
end
-- ==== Proof.Loss.lean ====
/-
  The loss and its gradient in the last layer's output (`loss`): its frames and its values.
-/
module

public import proofs.«01_k».proof.Defs
public import proofs.«01_k».proof.Proof.Gen.Kernel26
public import proofs.«01_k».proof.Proof.Gen.Kernel26Ideal.Value
public import proofs.«01_k».proof.Proof.Gen.Reference26Ideal.Run
public import proofs.«01_k».proof.Proof.Mlp.Row

@[expose] public section
set_option maxRecDepth 16384
noncomputable section

namespace Cert.Kernel26Ideal.Hand
open Idealize.ShloMosaic Idealize.ShloMosaic.TcCoe Idealize.SL.Sem
open Cert.Kernel26Ideal Cert.Kernel26Ideal.Gen
open Idealize.ShloMosaic.Pipeline (Dat)
open Cert.Mlp (div_width two_word real_mul_sum)

variable (m : (ℓ : Loc nD τ sig) → Buf (Elt Ideal) ℓ)

/-- The word of one half. -/
theorem half_word : Ideal.ofBits FTy.f32 1056964608#32 = ((1 / 2 : ℝ) : EReal) := by
  have h : Ideal.ofBits FTy.f32 1056964608#32 = ((8388608 : ℝ) : EReal) * (((2 ^ 24)⁻¹ : ℝ) : EReal) := by simp [Ideal.ofBits, Ideal.ieee]
  rw [h, ← EReal.coe_mul, show (8388608 : ℝ) * (2 ^ 24)⁻¹ = 1 / 2 by norm_num]

/-- The word of one over the width. -/
theorem inv_word : Ideal.ofBits FTy.f32 981467136#32 = ((1024⁻¹ : ℝ) : EReal) := by
  have h : Ideal.ofBits FTy.f32 981467136#32 = ((8388608 : ℝ) : EReal) * (((2 ^ 33)⁻¹ : ℝ) : EReal) := by simp [Ideal.ofBits, Ideal.ieee]
  rw [h, ← EReal.coe_mul, show (8388608 : ℝ) * (2 ^ 33)⁻¹ = 1024⁻¹ by norm_num]

/-- One half goes through a sum. -/
theorem half_sum {n : Nat} (s : Finset (Fin n)) (f : Fin n → EReal) : Ideal.ofBits FTy.f32 1056964608#32 * ∑ i ∈ s, f i = ∑ i ∈ s, Ideal.ofBits FTy.f32 1056964608#32 * f i := by
  rw [half_word]
  exact real_mul_sum s f _ (by norm_num)

/-- A row's mean squared error. -/
def err (x y : FVec Ideal S2048x1024 .f32) (r : Fin 2048) : EReal := Ideal.div (∑ k : Fin 1024, (x (ix2 r k) - y (ix2 r k)) * (x (ix2 r k) - y (ix2 r k))) (Ideal.ofBits FTy.f32 1149239296#32)

/-- The loss at every entry of the result's block. -/
def total (x y : FVec Ideal S2048x1024 .f32) : FVec Ideal S8x128 .f32 := fun _ => ∑ r : Fin 2048, Ideal.ofBits FTy.f32 1056964608#32 * err x y r

/-- The loss's gradient in the layer's output. -/
def slope (x y : FVec Ideal S2048x1024 .f32) : FVec Ideal S2048x1024 .f32 := fun i => (x i - y i) * Ideal.ofBits FTy.f32 981467136#32

/-- The windows' block indices. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The array's row that a block's row is. -/
abbrev rowAt (t : Fin cfg0.N) (i : Fin 512) : Fin 2048 := ⟨t.val * 512 + i.val, by have h := lt_of_lt_of_eq t.isLt N_0; have := i.isLt; omega⟩

/-- A block of the layer's output, entry by entry. -/
theorem x_block (c : Dev nD) (t : Fin cfg0.N) (i : Fin 512) (k : Fin 1024) : (iblk m c 0 t : FVec Ideal S512x1024 .f32) (ix2 i k) = (m ((c : Thread nD τ).loc main_arg0)) (ix2 (rowAt t i) k) := by
  blk_ext [iblk, V, idx t]

/-- A block of the target, entry by entry. -/
theorem y_block (c : Dev nD) (t : Fin cfg0.N) (i : Fin 512) (k : Fin 1024) : (iblk m c 1 t : FVec Ideal S512x1024 .f32) (ix2 i k) = (m ((c : Thread nD τ).loc main_arg1)) (ix2 (rowAt t i) k) := by
  blk_ext [iblk, V, idx t]

/-- A block of the gradient, entry by entry. -/
theorem slope_block (c : Dev nD) (t : Fin cfg0.N) (i : Fin 512) (k : Fin 1024) : (k0_pay3 (F := Ideal) (iblk m c 0 t) (iblk m c 1 t) (ix2 i k) : EReal)
    = slope (m ((c : Thread nD τ).loc main_arg0)) (m ((c : Thread nD τ).loc main_arg1)) (ix2 (rowAt t i) k) := by
  pointwise [k0_pay3, k0_pay2, slope]
  rw [x_block, y_block]

/-- What a point adds to the loss. -/
theorem add_block (c : Dev nD) (t : Fin cfg0.N) (p : FVec Ideal S8x128 .f32) (j : S8x128.Idx) : (k0_pay4 (F := Ideal) (iblk m c 0 t) (iblk m c 1 t) p j : EReal)
    = p j + ∑ i : Fin 512, Ideal.ofBits FTy.f32 1056964608#32 * err (m ((c : Thread nD τ).loc main_arg0)) (m ((c : Thread nD τ).loc main_arg1)) (rowAt t i) := by
  pointwise [k0_pay4, k0_pay2]
  rw [← half_sum]
  refine congrArg (fun e : EReal => p j + Ideal.ofBits FTy.f32 1056964608#32 * e) (Finset.sum_congr rfl fun i _ => ?_)
  simp only [Finset.univ_unique, Finset.sum_singleton, x_block, y_block]
  rfl

/-- The gradient's array after the run. -/
theorem final3 (c : Dev nD) : (dats m 0 c).arrAt 3 (cfgs 0).N = slope (m ((c : Thread nD τ).loc main_arg0)) (m ((c : Thread nD τ).loc main_arg1)) := by
  refine (dats m 0 c).arrAt_eq_of_covers 3 _ (by decide +kernel) fun t _ y => ?_
  blk_simp
  rw [after0_3]
  refine Eq.trans ?_ (congrArg (slope _ _) (show ix2 (rowAt t (y 0)) (y 1) = ((cfg0.win 3).blk t).view.emb y by blk_ext [idx t]))
  by_cases h : t.val % 4 = 0
  · rw [outsAt0_A m c t h]
    frame_out
    exact (congrArg _ (ix2_eta y).symm).trans (slope_block m c t (y 0) (y 1))
  · rw [outsAt0_B m c t h]
    frame_out
    exact (congrArg _ (ix2_eta y).symm).trans (slope_block m c t (y 0) (y 1))

/-- The loss's array after the run. -/
theorem final2 (c : Dev nD) : (dats m 0 c).arrAt 2 (cfgs 0).N = total (m ((c : Thread nD τ).loc main_arg0)) (m ((c : Thread nD τ).loc main_arg1)) := by
  refine (dats m 0 c).arrAt_eq_of_after_last 2 t0_3 (by decide +kernel) _ fun j => ?_
  blk_simp
  rw [after0_2, Pipeline.eq_sum_fin_of_reset_step_apply_last (fun n h => (outsAt0 m c n h).1) 4 (fun _ => 0)
    (fun (t : Fin cfg0.N) (j : S8x128.Idx) => ∑ i : Fin 512, Ideal.ofBits FTy.f32 1056964608#32 * err (m ((c : Thread nD τ).loc main_arg0)) (m ((c : Thread nD τ).loc main_arg1)) (rowAt t i))
    (fun t h j => by rw [outsAt0_A m c t h]; frame_out; exact (add_block m c t _ j).trans (by pointwise [k0_pay1])) (fun t h j => by rw [outsAt0_B m c t h]; frame_out; exact add_block m c t _ j)
    (le_of_eq N_0) t0_3 rfl j, zero_add]
  exact Fin.sum_mul_add_congr (f := fun r : Fin 2048 => Ideal.ofBits FTy.f32 1056964608#32 * err (m ((c : Thread nD τ).loc main_arg0)) (m ((c : Thread nD τ).loc main_arg1)) r) (fun p k _ => rfl) (by rw [show cfg0.N = 4 from N_0])

/-- The reference's loss is the same. -/
theorem same2 (x y : FVec Ideal S2048x1024 .f32) :
    broadcastInDim Cert.Reference26Ideal.S8x128 ![] Cert.Reference26Ideal.Gen.bcast_S_S8x128 (mulf (constant Cert.Reference26Ideal.S_ .f32 0x3F000000#32) (Host.reduceAdd (Host.divf (Host.reduceAdd (mulf (subf x y) (subf x y)) (constant Cert.Reference26Ideal.S_ .f32 0x00000000#32) Cert.Reference26Ideal.Gen.reducesTo_S2048x1024_S2048_d1 Cert.Reference26Ideal.Gen.h_S_) (broadcastInDim Cert.Reference26Ideal.S2048 ![] Cert.Reference26Ideal.Gen.bcast_S_S2048 (constant Cert.Reference26Ideal.S_ .f32 0x44800000#32))) (constant Cert.Reference26Ideal.S_ .f32 0x00000000#32) Cert.Reference26Ideal.Gen.reducesTo_S2048_S_d0 Cert.Reference26Ideal.Gen.h_S_)) = total x y := by
  funext i
  pointwise [total, err]
  exact half_sum _ _

/-- The reference's gradient is the same. -/
theorem same3 (x y : FVec Ideal S2048x1024 .f32) :
    mulf (broadcastInDim Cert.Reference26Ideal.S2048x1024 ![0] Cert.Reference26Ideal.Gen.bcast_S2048_S2048x1024_0 (Host.divf (broadcastInDim Cert.Reference26Ideal.S2048 ![] Cert.Reference26Ideal.Gen.bcast_S_S2048 (mulf (constant Cert.Reference26Ideal.S_ .f32 0x3F000000#32) (constant Cert.Reference26Ideal.S_ .f32 0x3F800000#32))) (broadcastInDim Cert.Reference26Ideal.S2048 ![] Cert.Reference26Ideal.Gen.bcast_S_S2048 (constant Cert.Reference26Ideal.S_ .f32 0x44800000#32)))) (mulf (broadcastInDim Cert.Reference26Ideal.S2048x1024 ![] Cert.Reference26Ideal.Gen.bcast_S_S2048x1024 (constant Cert.Reference26Ideal.S_ .f32 0x40000000#32)) (subf x y)) = slope x y := by
  funext i
  pointwise [slope]
  rw [div_width, half_word, inv_word, two_word, mul_comm (x i - y i) _, ← mul_assoc]
  refine congrArg (fun e : EReal => e * (x i - y i)) ?_
  rw [show (2 : EReal) = ((2 : ℝ) : EReal) from rfl, ← EReal.coe_mul, ← EReal.coe_mul]
  exact congrArg _ (by norm_num)

end Cert.Kernel26Ideal.Hand

namespace Cert.Proof
open Idealize.ShloMosaic Idealize.ShloMosaic.TcCoe Idealize.SL.Sem

/-- The two texts of the body are the same. -/
theorem body_same26 {F : FTy → Type} [FloatOps F] : Cert.Kernel26.defs₀ (F := F) = Cert.Kernel26Ideal.defs₀ (F := F) := by
  refine congrArg Defs.onTc ?_
  funext l x
  match l, x with
  | 0, (t, s) => rfl

/-- The two texts have the same definitions. -/
theorem defs_same26 {F : FTy → Type} [FloatOps F] : Cert.Kernel26.defs (F := F) = Cert.Kernel26Ideal.defs (F := F) :=
  congrArg (Pipeline.defs (Cert.Kernel26Ideal.pcfgs (F := F))) body_same26

/-- The call as printed, on words. -/
theorem frame_kernel26 : Cert.quiescent_Kernel26 := by
  intro m ρ _
  rw [defs_same26]
  exact Cert.Kernel26Ideal.Gen.frame (F := Bits) m ρ

/-- The call over the extended reals. -/
theorem frame_ideal26 : Cert.quiescent_Kernel26Ideal := fun m ρ _ => Cert.Kernel26Ideal.Gen.frame (F := Ideal) m ρ

/-- The reference over the extended reals. -/
theorem frame_reference26 : Cert.quiescent_Reference26Ideal := fun m ρ _ =>
  (θ_run Cert.Reference26Ideal.defs _ _).mono (fun r h => ⟨fun c => (h c).2.2, sem_eq_zero_of_no_sems (by decide) r.2⟩)
    (Cert.Reference26Ideal.Value.run (F := Ideal) m ρ)

/-- Kernel and reference end with equal results. -/
theorem equal26 : Cert.algebraic_Kernel26Ideal_Reference26Ideal := by
  intro m g m' g' _ hagree
  refine ⟨fun c => (Cert.Kernel26Ideal.Gen.dats m 0 c).arrAt 2 (Cert.Kernel26Ideal.cfgs 0).N, fun c => (Cert.Kernel26Ideal.Gen.dats m 0 c).arrAt 3 (Cert.Kernel26Ideal.cfgs 0).N, ?_, ?_⟩
  · exact Cert.Kernel26Ideal.Value.run_blocks (F := Ideal) m g
  · refine (θ_run Cert.Reference26Ideal.defs _ _).mono (fun r h c => ?_) (Cert.Reference26Ideal.Value.run (F := Ideal) m' g')
    obtain ⟨h0, h1, hr⟩ := h c
    obtain ⟨a0, a1⟩ := hagree c
    refine ⟨?_, ?_, hr⟩
    · rw [h0, a0, a1]
      exact (Cert.Kernel26Ideal.Hand.same2 _ _).trans (Cert.Kernel26Ideal.Hand.final2 m c).symm
    · rw [h1, a0, a1]
      exact (Cert.Kernel26Ideal.Hand.same3 _ _).trans (Cert.Kernel26Ideal.Hand.final3 m c).symm

end Cert.Proof
end
-- ==== Proof.lean ====
/-
  The proof of `Cert.Claim`: the frames of the kernel on words and over the extended reals and of the reference, and the
  equality of the attention backward's three gradients with the reference's; the same
  for the attention's forward call and for each call of the channel mixer, of the mixers' projections and of the per-layer embedding, forward and backward,
  for the head norms' backward calls, for the gate's forward call and for the loss.
-/
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal.Run
public import proofs.«01_k».proof.Proof.Gen.Kernel24
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25Ideal.Value
public import proofs.«01_k».proof.Proof.Gen.Reference25Ideal.Run
public import proofs.«01_k».proof.Proof.Gen.Kernel27
public import proofs.«01_k».proof.Proof.Gen.Kernel27Ideal.Value
public import proofs.«01_k».proof.Proof.Gen.Reference27Ideal.Run
public import proofs.«01_k».proof.Proof.Frames
public import proofs.«01_k».proof.Proof.Value.Equal
public import proofs.«01_k».proof.Proof.Mlp.Act
public import proofs.«01_k».proof.Proof.Mlp.Down
public import proofs.«01_k».proof.Proof.Mlp.Up
public import proofs.«01_k».proof.Proof.Mlp.Norm
public import proofs.«01_k».proof.Proof.Mlp.Fused
public import proofs.«01_k».proof.Proof.Proj.KvIn
public import proofs.«01_k».proof.Proof.Proj.KvWeights
public import proofs.«01_k».proof.Proof.Proj.MixIn
public import proofs.«01_k».proof.Proof.Proj.KvHeads
public import proofs.«01_k».proof.Proof.Proj.QHeads
public import proofs.«01_k».proof.Proof.Proj.QIn
public import proofs.«01_k».proof.Proof.Proj.QWeights
public import proofs.«01_k».proof.Proof.Proj.OutWeights
public import proofs.«01_k».proof.Proof.Proj.OutBack
public import proofs.«01_k».proof.Proof.Proj.MixOutBack
public import proofs.«01_k».proof.Proof.Proj.Out
public import proofs.«01_k».proof.Proof.Attn.Equal
public import proofs.«01_k».proof.Proof.Proj.PleWeights
public import proofs.«01_k».proof.Proof.Proj.PleBack
public import proofs.«01_k».proof.Proof.Proj.Ple
public import proofs.«01_k».proof.Proof.Proj.QHeadsBack
public import proofs.«01_k».proof.Proof.Proj.KHeadsBack
public import proofs.«01_k».proof.Proof.Gate.Forward
public import proofs.«01_k».proof.Proof.Loss

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel27.Gen.facts, Cert.Kernel27Ideal.Gen.facts, Cert.Reference27Ideal.Gen.facts,
    Cert.Kernel26.Gen.facts, Cert.Kernel26Ideal.Gen.facts, Cert.Reference26Ideal.Gen.facts,
    pre_facts, operands_facts, frame_kernel, frame_ideal, fun m ρ _ => frame_ideal m ρ trivial, frame_reference, fun m ρ _ => frame_reference m ρ trivial,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, frame_reference19,
    frame_kernel20, frame_ideal20, frame_reference20,
    frame_kernel21, frame_ideal21, frame_reference21,
    frame_kernel22, frame_ideal22, frame_reference22,
    frame_kernel23, frame_ideal23, fun m ρ _ => frame_ideal23 m ρ trivial, frame_reference23, fun m ρ _ => frame_reference23 m ρ trivial,
    frame_kernel24, frame_ideal24, frame_reference24,
    frame_kernel25, frame_ideal25, frame_reference25,
    frame_kernel27, frame_ideal27, frame_reference27,
    frame_kernel26, frame_ideal26, frame_reference26,
    trivial, equal, trivial, equal2, trivial, equal3, trivial, equal4, trivial, equal5, trivial, equal6, trivial, equal7, trivial, equal8, trivial, equal9, trivial, equal10, trivial, equal11, trivial, equal12, trivial, equal13, trivial, equal14, trivial, equal15, trivial, equal16, trivial, equal17, trivial, equal18, trivial, equal19, trivial, equal20, trivial, equal21, trivial, equal22, trivial, equal23, trivial, equal24, trivial, equal25, trivial, equal27, trivial, equal26⟩

end Cert.Proof

end
